-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_scores_finite [hPre_scores_finite : Cert.Pre_scores_finite.Facts] (m : (ℓ : Loc Cert.KernelIdeal.nD Cert.KernelIdeal.τ Cert.KernelIdeal.sig) → Buf (Elt Ideal) ℓ) : Prop :=
  ∀ c : Dev Cert.KernelIdeal.nD,
    (Cert.Pre_scores_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_scores_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_scores_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.1 = (fun _ => 1#1)
    ∧ (Cert.Pre_scores_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_scores_finite [hPre_scores_finite : Cert.Pre_scores_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_scores_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_scores_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_scores_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.1 = (fun _ => 1#1)
    ∧ (Cert.Pre_scores_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_scores_finite [hKernelIdeal : Cert.KernelIdeal.Facts] [hPre_scores_finite : Cert.Pre_scores_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_scores_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_scores_finite [hReferenceIdeal : Cert.ReferenceIdeal.Facts] [hPre_scores_finite : Cert.Pre_scores_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_scores_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5)
      ∧ r.2.mem ((c.tc : Thread Cert.Kernel6.nD Cert.Kernel6.τ).loc Cert.Kernel6.main_arg6) = m ((c.tc : Thread Cert.Kernel6.nD Cert.Kernel6.τ).loc Cert.Kernel6.main_arg6)
      ∧ r.2.mem ((c.tc : Thread Cert.Kernel6.nD Cert.Kernel6.τ).loc Cert.Kernel6.main_arg7) = m ((c.tc : Thread Cert.Kernel6.nD Cert.Kernel6.τ).loc Cert.Kernel6.main_arg7)
      ∧ r.2.mem ((c.tc : Thread Cert.Kernel6.nD Cert.Kernel6.τ).loc Cert.Kernel6.main_arg8) = m ((c.tc : Thread Cert.Kernel6.nD Cert.Kernel6.τ).loc Cert.Kernel6.main_arg8)
      ∧ r.2.mem ((c.tc : Thread Cert.Kernel6.nD Cert.Kernel6.τ).loc Cert.Kernel6.main_arg9) = m ((c.tc : Thread Cert.Kernel6.nD Cert.Kernel6.τ).loc Cert.Kernel6.main_arg9))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
      ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
      ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8)
      ∧ r.2.mem ((c.tc : Thread Cert.Kernel6Ideal.nD Cert.Kernel6Ideal.τ).loc Cert.Kernel6Ideal.main_arg9) = m ((c.tc : Thread Cert.Kernel6Ideal.nD Cert.Kernel6Ideal.τ).loc Cert.Kernel6Ideal.main_arg9))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6)
      ∧ r.2.mem ((c.tc : Thread Cert.Reference6Ideal.nD Cert.Reference6Ideal.τ).loc Cert.Reference6Ideal.main_arg7) = m ((c.tc : Thread Cert.Reference6Ideal.nD Cert.Reference6Ideal.τ).loc Cert.Reference6Ideal.main_arg7)
      ∧ r.2.mem ((c.tc : Thread Cert.Reference6Ideal.nD Cert.Reference6Ideal.τ).loc Cert.Reference6Ideal.main_arg8) = m ((c.tc : Thread Cert.Reference6Ideal.nD Cert.Reference6Ideal.τ).loc Cert.Reference6Ideal.main_arg8)
      ∧ r.2.mem ((c.tc : Thread Cert.Reference6Ideal.nD Cert.Reference6Ideal.τ).loc Cert.Reference6Ideal.main_arg9) = m ((c.tc : Thread Cert.Reference6Ideal.nD Cert.Reference6Ideal.τ).loc Cert.Reference6Ideal.main_arg9))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4)
      ∧ r.2.mem ((c.tc : Thread Cert.Kernel7.nD Cert.Kernel7.τ).loc Cert.Kernel7.main_arg5) = m ((c.tc : Thread Cert.Kernel7.nD Cert.Kernel7.τ).loc Cert.Kernel7.main_arg5)
      ∧ r.2.mem ((c.tc : Thread Cert.Kernel7.nD Cert.Kernel7.τ).loc Cert.Kernel7.main_arg6) = m ((c.tc : Thread Cert.Kernel7.nD Cert.Kernel7.τ).loc Cert.Kernel7.main_arg6)
      ∧ r.2.mem ((c.tc : Thread Cert.Kernel7.nD Cert.Kernel7.τ).loc Cert.Kernel7.main_arg7) = m ((c.tc : Thread Cert.Kernel7.nD Cert.Kernel7.τ).loc Cert.Kernel7.main_arg7))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
      ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
      ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5)
      ∧ r.2.mem ((c.tc : Thread Cert.Reference7Ideal.nD Cert.Reference7Ideal.τ).loc Cert.Reference7Ideal.main_arg6) = m ((c.tc : Thread Cert.Reference7Ideal.nD Cert.Reference7Ideal.τ).loc Cert.Reference7Ideal.main_arg6)
      ∧ r.2.mem ((c.tc : Thread Cert.Reference7Ideal.nD Cert.Reference7Ideal.τ).loc Cert.Reference7Ideal.main_arg7) = m ((c.tc : Thread Cert.Reference7Ideal.nD Cert.Reference7Ideal.τ).loc Cert.Reference7Ideal.main_arg7))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3)
      ∧ r.2.mem ((c.tc : Thread Cert.Kernel9.nD Cert.Kernel9.τ).loc Cert.Kernel9.main_arg4) = m ((c.tc : Thread Cert.Kernel9.nD Cert.Kernel9.τ).loc Cert.Kernel9.main_arg4))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3)
      ∧ r.2.mem ((c.tc : Thread Cert.Kernel10.nD Cert.Kernel10.τ).loc Cert.Kernel10.main_arg4) = m ((c.tc : Thread Cert.Kernel10.nD Cert.Kernel10.τ).loc Cert.Kernel10.main_arg4)
      ∧ r.2.mem ((c.tc : Thread Cert.Kernel10.nD Cert.Kernel10.τ).loc Cert.Kernel10.main_arg5) = m ((c.tc : Thread Cert.Kernel10.nD Cert.Kernel10.τ).loc Cert.Kernel10.main_arg5)
      ∧ r.2.mem ((c.tc : Thread Cert.Kernel10.nD Cert.Kernel10.τ).loc Cert.Kernel10.main_arg6) = m ((c.tc : Thread Cert.Kernel10.nD Cert.Kernel10.τ).loc Cert.Kernel10.main_arg6)
      ∧ r.2.mem ((c.tc : Thread Cert.Kernel10.nD Cert.Kernel10.τ).loc Cert.Kernel10.main_arg7) = m ((c.tc : Thread Cert.Kernel10.nD Cert.Kernel10.τ).loc Cert.Kernel10.main_arg7)
      ∧ r.2.mem ((c.tc : Thread Cert.Kernel10.nD Cert.Kernel10.τ).loc Cert.Kernel10.main_arg8) = m ((c.tc : Thread Cert.Kernel10.nD Cert.Kernel10.τ).loc Cert.Kernel10.main_arg8)
      ∧ r.2.mem ((c.tc : Thread Cert.Kernel10.nD Cert.Kernel10.τ).loc Cert.Kernel10.main_arg9) = m ((c.tc : Thread Cert.Kernel10.nD Cert.Kernel10.τ).loc Cert.Kernel10.main_arg9))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
      ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4)
      ∧ r.2.mem ((c.tc : Thread Cert.Kernel10Ideal.nD Cert.Kernel10Ideal.τ).loc Cert.Kernel10Ideal.main_arg5) = m ((c.tc : Thread Cert.Kernel10Ideal.nD Cert.Kernel10Ideal.τ).loc Cert.Kernel10Ideal.main_arg5)
      ∧ r.2.mem ((c.tc : Thread Cert.Kernel10Ideal.nD Cert.Kernel10Ideal.τ).loc Cert.Kernel10Ideal.main_arg6) = m ((c.tc : Thread Cert.Kernel10Ideal.nD Cert.Kernel10Ideal.τ).loc Cert.Kernel10Ideal.main_arg6)
      ∧ r.2.mem ((c.tc : Thread Cert.Kernel10Ideal.nD Cert.Kernel10Ideal.τ).loc Cert.Kernel10Ideal.main_arg7) = m ((c.tc : Thread Cert.Kernel10Ideal.nD Cert.Kernel10Ideal.τ).loc Cert.Kernel10Ideal.main_arg7)
      ∧ r.2.mem ((c.tc : Thread Cert.Kernel10Ideal.nD Cert.Kernel10Ideal.τ).loc Cert.Kernel10Ideal.main_arg8) = m ((c.tc : Thread Cert.Kernel10Ideal.nD Cert.Kernel10Ideal.τ).loc Cert.Kernel10Ideal.main_arg8)
      ∧ r.2.mem ((c.tc : Thread Cert.Kernel10Ideal.nD Cert.Kernel10Ideal.τ).loc Cert.Kernel10Ideal.main_arg9) = m ((c.tc : Thread Cert.Kernel10Ideal.nD Cert.Kernel10Ideal.τ).loc Cert.Kernel10Ideal.main_arg9))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3)
      ∧ r.2.mem ((c.tc : Thread Cert.Reference10Ideal.nD Cert.Reference10Ideal.τ).loc Cert.Reference10Ideal.main_arg4) = m ((c.tc : Thread Cert.Reference10Ideal.nD Cert.Reference10Ideal.τ).loc Cert.Reference10Ideal.main_arg4)
      ∧ r.2.mem ((c.tc : Thread Cert.Reference10Ideal.nD Cert.Reference10Ideal.τ).loc Cert.Reference10Ideal.main_arg5) = m ((c.tc : Thread Cert.Reference10Ideal.nD Cert.Reference10Ideal.τ).loc Cert.Reference10Ideal.main_arg5)
      ∧ r.2.mem ((c.tc : Thread Cert.Reference10Ideal.nD Cert.Reference10Ideal.τ).loc Cert.Reference10Ideal.main_arg6) = m ((c.tc : Thread Cert.Reference10Ideal.nD Cert.Reference10Ideal.τ).loc Cert.Reference10Ideal.main_arg6)
      ∧ r.2.mem ((c.tc : Thread Cert.Reference10Ideal.nD Cert.Reference10Ideal.τ).loc Cert.Reference10Ideal.main_arg7) = m ((c.tc : Thread Cert.Reference10Ideal.nD Cert.Reference10Ideal.τ).loc Cert.Reference10Ideal.main_arg7)
      ∧ r.2.mem ((c.tc : Thread Cert.Reference10Ideal.nD Cert.Reference10Ideal.τ).loc Cert.Reference10Ideal.main_arg8) = m ((c.tc : Thread Cert.Reference10Ideal.nD Cert.Reference10Ideal.τ).loc Cert.Reference10Ideal.main_arg8)
      ∧ r.2.mem ((c.tc : Thread Cert.Reference10Ideal.nD Cert.Reference10Ideal.τ).loc Cert.Reference10Ideal.main_arg9) = m ((c.tc : Thread Cert.Reference10Ideal.nD Cert.Reference10Ideal.τ).loc Cert.Reference10Ideal.main_arg9))
      ∧ r.2.sem = fun _ => 0)

def preserves_Kernel_KernelIdeal : Prop :=
  True

def algebraic_KernelIdeal_ReferenceIdeal_pre_scores_finite [hKernelIdeal : Cert.KernelIdeal.Facts] [hReferenceIdeal : Cert.ReferenceIdeal.Facts] [hPre_scores_finite : Cert.Pre_scores_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_scores_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)) →
    ∃ (v0 : (c : Dev Cert.Kernel2Ideal.nD) → Buf (Elt Ideal) ((c.tc : Thread Cert.Kernel2Ideal.nD Cert.Kernel2Ideal.τ).loc Cert.Kernel2Ideal.main_v12_0)) (v1 : (c : Dev Cert.Kernel2Ideal.nD) → Buf (Elt Ideal) ((c.tc : Thread Cert.Kernel2Ideal.nD Cert.Kernel2Ideal.τ).loc Cert.Kernel2Ideal.main_v12_1)) (v2 : (c : Dev Cert.Kernel2Ideal.nD) → Buf (Elt Ideal) ((c.tc : Thread Cert.Kernel2Ideal.nD Cert.Kernel2Ideal.τ).loc Cert.Kernel2Ideal.main_v12_2)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v12_0) = v0 c
          ∧ r.2.mem ((c.tc : Thread Cert.Kernel2Ideal.nD Cert.Kernel2Ideal.τ).loc Cert.Kernel2Ideal.main_v12_1) = v1 c
          ∧ r.2.mem ((c.tc : Thread Cert.Kernel2Ideal.nD Cert.Kernel2Ideal.τ).loc Cert.Kernel2Ideal.main_v12_2) = v2 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v62) = v0 c
          ∧ r.2.mem ((c.tc : Thread Cert.Reference2Ideal.nD Cert.Reference2Ideal.τ).loc Cert.Reference2Ideal.main_v63) = v1 c
          ∧ r.2.mem ((c.tc : Thread Cert.Reference2Ideal.nD Cert.Reference2Ideal.τ).loc Cert.Reference2Ideal.main_v64) = v2 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) →
    ∃ (v0 : (c : Dev Cert.Kernel3Ideal.nD) → Buf (Elt Ideal) ((c.tc : Thread Cert.Kernel3Ideal.nD Cert.Kernel3Ideal.τ).loc Cert.Kernel3Ideal.main_v5)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v5) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v7) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)) →
    ∃ (v0 : (c : Dev Cert.Kernel4Ideal.nD) → Buf (Elt Ideal) ((c.tc : Thread Cert.Kernel4Ideal.nD Cert.Kernel4Ideal.τ).loc Cert.Kernel4Ideal.main_v9)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v9) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v8) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)) →
    ∃ (v0 : (c : Dev Cert.Kernel5Ideal.nD) → Buf (Elt Ideal) ((c.tc : Thread Cert.Kernel5Ideal.nD Cert.Kernel5Ideal.τ).loc Cert.Kernel5Ideal.main_v19)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v19) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v42) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)
      ∧ m' ((c.tc : Thread Cert.Reference6Ideal.nD Cert.Reference6Ideal.τ).loc Cert.Reference6Ideal.main_arg6) = m ((c.tc : Thread Cert.Kernel6Ideal.nD Cert.Kernel6Ideal.τ).loc Cert.Kernel6Ideal.main_arg6)
      ∧ m' ((c.tc : Thread Cert.Reference6Ideal.nD Cert.Reference6Ideal.τ).loc Cert.Reference6Ideal.main_arg7) = m ((c.tc : Thread Cert.Kernel6Ideal.nD Cert.Kernel6Ideal.τ).loc Cert.Kernel6Ideal.main_arg7)
      ∧ m' ((c.tc : Thread Cert.Reference6Ideal.nD Cert.Reference6Ideal.τ).loc Cert.Reference6Ideal.main_arg8) = m ((c.tc : Thread Cert.Kernel6Ideal.nD Cert.Kernel6Ideal.τ).loc Cert.Kernel6Ideal.main_arg8)
      ∧ m' ((c.tc : Thread Cert.Reference6Ideal.nD Cert.Reference6Ideal.τ).loc Cert.Reference6Ideal.main_arg9) = m ((c.tc : Thread Cert.Kernel6Ideal.nD Cert.Kernel6Ideal.τ).loc Cert.Kernel6Ideal.main_arg9)) →
    ∃ (v0 : (c : Dev Cert.Kernel6Ideal.nD) → Buf (Elt Ideal) ((c.tc : Thread Cert.Kernel6Ideal.nD Cert.Kernel6Ideal.τ).loc Cert.Kernel6Ideal.main_v75_0)) (v1 : (c : Dev Cert.Kernel6Ideal.nD) → Buf (Elt Ideal) ((c.tc : Thread Cert.Kernel6Ideal.nD Cert.Kernel6Ideal.τ).loc Cert.Kernel6Ideal.main_v75_1)) (v2 : (c : Dev Cert.Kernel6Ideal.nD) → Buf (Elt Ideal) ((c.tc : Thread Cert.Kernel6Ideal.nD Cert.Kernel6Ideal.τ).loc Cert.Kernel6Ideal.main_v75_2)) (v3 : (c : Dev Cert.Kernel6Ideal.nD) → Buf (Elt Ideal) ((c.tc : Thread Cert.Kernel6Ideal.nD Cert.Kernel6Ideal.τ).loc Cert.Kernel6Ideal.main_v75_3)) (v4 : (c : Dev Cert.Kernel6Ideal.nD) → Buf (Elt Ideal) ((c.tc : Thread Cert.Kernel6Ideal.nD Cert.Kernel6Ideal.τ).loc Cert.Kernel6Ideal.main_v75_4)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v75_0) = v0 c
          ∧ r.2.mem ((c.tc : Thread Cert.Kernel6Ideal.nD Cert.Kernel6Ideal.τ).loc Cert.Kernel6Ideal.main_v75_1) = v1 c
          ∧ r.2.mem ((c.tc : Thread Cert.Kernel6Ideal.nD Cert.Kernel6Ideal.τ).loc Cert.Kernel6Ideal.main_v75_2) = v2 c
          ∧ r.2.mem ((c.tc : Thread Cert.Kernel6Ideal.nD Cert.Kernel6Ideal.τ).loc Cert.Kernel6Ideal.main_v75_3) = v3 c
          ∧ r.2.mem ((c.tc : Thread Cert.Kernel6Ideal.nD Cert.Kernel6Ideal.τ).loc Cert.Kernel6Ideal.main_v75_4) = v4 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
          ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
          ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
          ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8)
          ∧ r.2.mem ((c.tc : Thread Cert.Kernel6Ideal.nD Cert.Kernel6Ideal.τ).loc Cert.Kernel6Ideal.main_arg9) = m ((c.tc : Thread Cert.Kernel6Ideal.nD Cert.Kernel6Ideal.τ).loc Cert.Kernel6Ideal.main_arg9))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v165) = v0 c
          ∧ r.2.mem ((c.tc : Thread Cert.Reference6Ideal.nD Cert.Reference6Ideal.τ).loc Cert.Reference6Ideal.main_v169) = v1 c
          ∧ r.2.mem ((c.tc : Thread Cert.Reference6Ideal.nD Cert.Reference6Ideal.τ).loc Cert.Reference6Ideal.main_v171) = v2 c
          ∧ r.2.mem ((c.tc : Thread Cert.Reference6Ideal.nD Cert.Reference6Ideal.τ).loc Cert.Reference6Ideal.main_v172) = v3 c
          ∧ r.2.mem ((c.tc : Thread Cert.Reference6Ideal.nD Cert.Reference6Ideal.τ).loc Cert.Reference6Ideal.main_v175) = v4 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5)
          ∧ r.2.mem ((c.tc : Thread Cert.Reference6Ideal.nD Cert.Reference6Ideal.τ).loc Cert.Reference6Ideal.main_arg6) = m' ((c.tc : Thread Cert.Reference6Ideal.nD Cert.Reference6Ideal.τ).loc Cert.Reference6Ideal.main_arg6)
          ∧ r.2.mem ((c.tc : Thread Cert.Reference6Ideal.nD Cert.Reference6Ideal.τ).loc Cert.Reference6Ideal.main_arg7) = m' ((c.tc : Thread Cert.Reference6Ideal.nD Cert.Reference6Ideal.τ).loc Cert.Reference6Ideal.main_arg7)
          ∧ r.2.mem ((c.tc : Thread Cert.Reference6Ideal.nD Cert.Reference6Ideal.τ).loc Cert.Reference6Ideal.main_arg8) = m' ((c.tc : Thread Cert.Reference6Ideal.nD Cert.Reference6Ideal.τ).loc Cert.Reference6Ideal.main_arg8)
          ∧ r.2.mem ((c.tc : Thread Cert.Reference6Ideal.nD Cert.Reference6Ideal.τ).loc Cert.Reference6Ideal.main_arg9) = m' ((c.tc : Thread Cert.Reference6Ideal.nD Cert.Reference6Ideal.τ).loc Cert.Reference6Ideal.main_arg9))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)
      ∧ m' ((c.tc : Thread Cert.Reference7Ideal.nD Cert.Reference7Ideal.τ).loc Cert.Reference7Ideal.main_arg5) = m ((c.tc : Thread Cert.Kernel7Ideal.nD Cert.Kernel7Ideal.τ).loc Cert.Kernel7Ideal.main_arg5)
      ∧ m' ((c.tc : Thread Cert.Reference7Ideal.nD Cert.Reference7Ideal.τ).loc Cert.Reference7Ideal.main_arg6) = m ((c.tc : Thread Cert.Kernel7Ideal.nD Cert.Kernel7Ideal.τ).loc Cert.Kernel7Ideal.main_arg6)
      ∧ m' ((c.tc : Thread Cert.Reference7Ideal.nD Cert.Reference7Ideal.τ).loc Cert.Reference7Ideal.main_arg7) = m ((c.tc : Thread Cert.Kernel7Ideal.nD Cert.Kernel7Ideal.τ).loc Cert.Kernel7Ideal.main_arg7)) →
    ∃ (v0 : (c : Dev Cert.Kernel7Ideal.nD) → Buf (Elt Ideal) ((c.tc : Thread Cert.Kernel7Ideal.nD Cert.Kernel7Ideal.τ).loc Cert.Kernel7Ideal.main_v16_0)) (v1 : (c : Dev Cert.Kernel7Ideal.nD) → Buf (Elt Ideal) ((c.tc : Thread Cert.Kernel7Ideal.nD Cert.Kernel7Ideal.τ).loc Cert.Kernel7Ideal.main_v16_1)) (v2 : (c : Dev Cert.Kernel7Ideal.nD) → Buf (Elt Ideal) ((c.tc : Thread Cert.Kernel7Ideal.nD Cert.Kernel7Ideal.τ).loc Cert.Kernel7Ideal.main_v16_2)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v16_0) = v0 c
          ∧ r.2.mem ((c.tc : Thread Cert.Kernel7Ideal.nD Cert.Kernel7Ideal.τ).loc Cert.Kernel7Ideal.main_v16_1) = v1 c
          ∧ r.2.mem ((c.tc : Thread Cert.Kernel7Ideal.nD Cert.Kernel7Ideal.τ).loc Cert.Kernel7Ideal.main_v16_2) = v2 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
          ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
          ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
          ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v62) = v0 c
          ∧ r.2.mem ((c.tc : Thread Cert.Reference7Ideal.nD Cert.Reference7Ideal.τ).loc Cert.Reference7Ideal.main_v63) = v1 c
          ∧ r.2.mem ((c.tc : Thread Cert.Reference7Ideal.nD Cert.Reference7Ideal.τ).loc Cert.Reference7Ideal.main_v64) = v2 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4)
          ∧ r.2.mem ((c.tc : Thread Cert.Reference7Ideal.nD Cert.Reference7Ideal.τ).loc Cert.Reference7Ideal.main_arg5) = m' ((c.tc : Thread Cert.Reference7Ideal.nD Cert.Reference7Ideal.τ).loc Cert.Reference7Ideal.main_arg5)
          ∧ r.2.mem ((c.tc : Thread Cert.Reference7Ideal.nD Cert.Reference7Ideal.τ).loc Cert.Reference7Ideal.main_arg6) = m' ((c.tc : Thread Cert.Reference7Ideal.nD Cert.Reference7Ideal.τ).loc Cert.Reference7Ideal.main_arg6)
          ∧ r.2.mem ((c.tc : Thread Cert.Reference7Ideal.nD Cert.Reference7Ideal.τ).loc Cert.Reference7Ideal.main_arg7) = m' ((c.tc : Thread Cert.Reference7Ideal.nD Cert.Reference7Ideal.τ).loc Cert.Reference7Ideal.main_arg7))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)) →
    ∃ (v0 : (c : Dev Cert.Kernel8Ideal.nD) → Buf (Elt Ideal) ((c.tc : Thread Cert.Kernel8Ideal.nD Cert.Kernel8Ideal.τ).loc Cert.Kernel8Ideal.main_v5)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v5) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v6) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)
      ∧ m' ((c.tc : Thread Cert.Reference9Ideal.nD Cert.Reference9Ideal.τ).loc Cert.Reference9Ideal.main_arg4) = m ((c.tc : Thread Cert.Kernel9Ideal.nD Cert.Kernel9Ideal.τ).loc Cert.Kernel9Ideal.main_arg4)) →
    ∃ (v0 : (c : Dev Cert.Kernel9Ideal.nD) → Buf (Elt Ideal) ((c.tc : Thread Cert.Kernel9Ideal.nD Cert.Kernel9Ideal.τ).loc Cert.Kernel9Ideal.main_v19)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v19) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
          ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v40) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3)
          ∧ r.2.mem ((c.tc : Thread Cert.Reference9Ideal.nD Cert.Reference9Ideal.τ).loc Cert.Reference9Ideal.main_arg4) = m' ((c.tc : Thread Cert.Reference9Ideal.nD Cert.Reference9Ideal.τ).loc Cert.Reference9Ideal.main_arg4))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)
      ∧ m' ((c.tc : Thread Cert.Reference10Ideal.nD Cert.Reference10Ideal.τ).loc Cert.Reference10Ideal.main_arg4) = m ((c.tc : Thread Cert.Kernel10Ideal.nD Cert.Kernel10Ideal.τ).loc Cert.Kernel10Ideal.main_arg4)
      ∧ m' ((c.tc : Thread Cert.Reference10Ideal.nD Cert.Reference10Ideal.τ).loc Cert.Reference10Ideal.main_arg5) = m ((c.tc : Thread Cert.Kernel10Ideal.nD Cert.Kernel10Ideal.τ).loc Cert.Kernel10Ideal.main_arg5)
      ∧ m' ((c.tc : Thread Cert.Reference10Ideal.nD Cert.Reference10Ideal.τ).loc Cert.Reference10Ideal.main_arg6) = m ((c.tc : Thread Cert.Kernel10Ideal.nD Cert.Kernel10Ideal.τ).loc Cert.Kernel10Ideal.main_arg6)
      ∧ m' ((c.tc : Thread Cert.Reference10Ideal.nD Cert.Reference10Ideal.τ).loc Cert.Reference10Ideal.main_arg7) = m ((c.tc : Thread Cert.Kernel10Ideal.nD Cert.Kernel10Ideal.τ).loc Cert.Kernel10Ideal.main_arg7)
      ∧ m' ((c.tc : Thread Cert.Reference10Ideal.nD Cert.Reference10Ideal.τ).loc Cert.Reference10Ideal.main_arg8) = m ((c.tc : Thread Cert.Kernel10Ideal.nD Cert.Kernel10Ideal.τ).loc Cert.Kernel10Ideal.main_arg8)
      ∧ m' ((c.tc : Thread Cert.Reference10Ideal.nD Cert.Reference10Ideal.τ).loc Cert.Reference10Ideal.main_arg9) = m ((c.tc : Thread Cert.Kernel10Ideal.nD Cert.Kernel10Ideal.τ).loc Cert.Kernel10Ideal.main_arg9)) →
    ∃ (v0 : (c : Dev Cert.Kernel10Ideal.nD) → Buf (Elt Ideal) ((c.tc : Thread Cert.Kernel10Ideal.nD Cert.Kernel10Ideal.τ).loc Cert.Kernel10Ideal.main_v75_3)) (v1 : (c : Dev Cert.Kernel10Ideal.nD) → Buf (Elt Ideal) ((c.tc : Thread Cert.Kernel10Ideal.nD Cert.Kernel10Ideal.τ).loc Cert.Kernel10Ideal.main_v75_4)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v75_3) = v0 c
          ∧ r.2.mem ((c.tc : Thread Cert.Kernel10Ideal.nD Cert.Kernel10Ideal.τ).loc Cert.Kernel10Ideal.main_v75_4) = v1 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
          ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4)
          ∧ r.2.mem ((c.tc : Thread Cert.Kernel10Ideal.nD Cert.Kernel10Ideal.τ).loc Cert.Kernel10Ideal.main_arg5) = m ((c.tc : Thread Cert.Kernel10Ideal.nD Cert.Kernel10Ideal.τ).loc Cert.Kernel10Ideal.main_arg5)
          ∧ r.2.mem ((c.tc : Thread Cert.Kernel10Ideal.nD Cert.Kernel10Ideal.τ).loc Cert.Kernel10Ideal.main_arg6) = m ((c.tc : Thread Cert.Kernel10Ideal.nD Cert.Kernel10Ideal.τ).loc Cert.Kernel10Ideal.main_arg6)
          ∧ r.2.mem ((c.tc : Thread Cert.Kernel10Ideal.nD Cert.Kernel10Ideal.τ).loc Cert.Kernel10Ideal.main_arg7) = m ((c.tc : Thread Cert.Kernel10Ideal.nD Cert.Kernel10Ideal.τ).loc Cert.Kernel10Ideal.main_arg7)
          ∧ r.2.mem ((c.tc : Thread Cert.Kernel10Ideal.nD Cert.Kernel10Ideal.τ).loc Cert.Kernel10Ideal.main_arg8) = m ((c.tc : Thread Cert.Kernel10Ideal.nD Cert.Kernel10Ideal.τ).loc Cert.Kernel10Ideal.main_arg8)
          ∧ r.2.mem ((c.tc : Thread Cert.Kernel10Ideal.nD Cert.Kernel10Ideal.τ).loc Cert.Kernel10Ideal.main_arg9) = m ((c.tc : Thread Cert.Kernel10Ideal.nD Cert.Kernel10Ideal.τ).loc Cert.Kernel10Ideal.main_arg9))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v67) = v0 c
          ∧ r.2.mem ((c.tc : Thread Cert.Reference10Ideal.nD Cert.Reference10Ideal.τ).loc Cert.Reference10Ideal.main_v70) = v1 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3)
          ∧ r.2.mem ((c.tc : Thread Cert.Reference10Ideal.nD Cert.Reference10Ideal.τ).loc Cert.Reference10Ideal.main_arg4) = m' ((c.tc : Thread Cert.Reference10Ideal.nD Cert.Reference10Ideal.τ).loc Cert.Reference10Ideal.main_arg4)
          ∧ r.2.mem ((c.tc : Thread Cert.Reference10Ideal.nD Cert.Reference10Ideal.τ).loc Cert.Reference10Ideal.main_arg5) = m' ((c.tc : Thread Cert.Reference10Ideal.nD Cert.Reference10Ideal.τ).loc Cert.Reference10Ideal.main_arg5)
          ∧ r.2.mem ((c.tc : Thread Cert.Reference10Ideal.nD Cert.Reference10Ideal.τ).loc Cert.Reference10Ideal.main_arg6) = m' ((c.tc : Thread Cert.Reference10Ideal.nD Cert.Reference10Ideal.τ).loc Cert.Reference10Ideal.main_arg6)
          ∧ r.2.mem ((c.tc : Thread Cert.Reference10Ideal.nD Cert.Reference10Ideal.τ).loc Cert.Reference10Ideal.main_arg7) = m' ((c.tc : Thread Cert.Reference10Ideal.nD Cert.Reference10Ideal.τ).loc Cert.Reference10Ideal.main_arg7)
          ∧ r.2.mem ((c.tc : Thread Cert.Reference10Ideal.nD Cert.Reference10Ideal.τ).loc Cert.Reference10Ideal.main_arg8) = m' ((c.tc : Thread Cert.Reference10Ideal.nD Cert.Reference10Ideal.τ).loc Cert.Reference10Ideal.main_arg8)
          ∧ r.2.mem ((c.tc : Thread Cert.Reference10Ideal.nD Cert.Reference10Ideal.τ).loc Cert.Reference10Ideal.main_arg9) = m' ((c.tc : Thread Cert.Reference10Ideal.nD Cert.Reference10Ideal.τ).loc Cert.Reference10Ideal.main_arg9))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hPre_scores_finite : Cert.Pre_scores_finite.Facts),
    quiescent_Kernel (hKernel := hKernel)
    ∧ quiescent_KernelIdeal (hKernelIdeal := hKernelIdeal)
    ∧ quiescent_KernelIdeal_pre_scores_finite (hKernelIdeal := hKernelIdeal) (hPre_scores_finite := hPre_scores_finite)
    ∧ quiescent_ReferenceIdeal (hReferenceIdeal := hReferenceIdeal)
    ∧ quiescent_ReferenceIdeal_pre_scores_finite (hReferenceIdeal := hReferenceIdeal) (hPre_scores_finite := hPre_scores_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ preserves_Kernel_KernelIdeal
    ∧ algebraic_KernelIdeal_ReferenceIdeal_pre_scores_finite (hKernelIdeal := hKernelIdeal) (hReferenceIdeal := hReferenceIdeal) (hPre_scores_finite := hPre_scores_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
-- ==== Pre_scores_finite.lean ====
abbrev S4x2048x8x128 : Shape := ⟨4, ![4, 2048, 8, 128]⟩
abbrev S4x2048x8x64 : Shape := ⟨4, ![4, 2048, 8, 64]⟩
abbrev S4x2048x64 : Shape := ⟨3, ![4, 2048, 64]⟩
abbrev S_ : Shape := ⟨0, ![]⟩

class Facts : Prop where
  bcast_S_S4x2048x8x128 : S_.BroadcastsInDim S4x2048x8x128 (![] : Fin 0 → Fin S4x2048x8x128.rank)
  bcast_S_S4x2048x8x64 : S_.BroadcastsInDim S4x2048x8x64 (![] : Fin 0 → Fin S4x2048x8x64.rank)
  bcast_S_S4x2048x64 : S_.BroadcastsInDim S4x2048x64 (![] : Fin 0 → Fin S4x2048x64.rank)

variable [Facts]

def fn {F : FTy → Type} [FloatOps F] (main_arg0 : FVec F S4x2048x8x128 .f32) (main_arg1 : FVec F S4x2048x8x64 .f32) (main_arg2 : FVec F S4x2048x8x128 .f32) (main_arg3 : FVec F S4x2048x64 .f32) (main_arg4 : FVec F S4x2048x8x128 .f32) : IVec S4x2048x8x128 1 × IVec S4x2048x8x64 1 × IVec S4x2048x8x128 1 × IVec S4x2048x64 1 :=
  let main_v0 : FVec F S4x2048x8x128 .f32 := Host.absf main_arg0
  let main_cst : FVec F S_ .f32 := constant S_ .f32 0x7F800000#32
  let main_v1 : FVec F S4x2048x8x128 .f32 := broadcastInDim S4x2048x8x128 ![] bcast_S_S4x2048x8x128 main_cst
  let main_v2 : IVec S4x2048x8x128 1 := cmpf .olt main_v0 main_v1
  let main_v3 : FVec F S4x2048x8x64 .f32 := Host.absf main_arg1
  let main_cst_0 : FVec F S_ .f32 := constant S_ .f32 0x7F800000#32
  let main_v4 : FVec F S4x2048x8x64 .f32 := broadcastInDim S4x2048x8x64 ![] bcast_S_S4x2048x8x64 main_cst_0
  let main_v5 : IVec S4x2048x8x64 1 := cmpf .olt main_v3 main_v4
  let main_v6 : FVec F S4x2048x8x128 .f32 := Host.absf main_arg2
  let main_cst_1 : FVec F S_ .f32 := constant S_ .f32 0x7F800000#32
  let main_v7 : FVec F S4x2048x8x128 .f32 := broadcastInDim S4x2048x8x128 ![] bcast_S_S4x2048x8x128 main_cst_1
  let main_v8 : IVec S4x2048x8x128 1 := cmpf .olt main_v6 main_v7
  let main_v9 : FVec F S4x2048x64 .f32 := Host.absf main_arg3
  let main_cst_2 : FVec F S_ .f32 := constant S_ .f32 0x7F800000#32
  let main_v10 : FVec F S4x2048x64 .f32 := broadcastInDim S4x2048x64 ![] bcast_S_S4x2048x64 main_cst_2
  let main_v11 : IVec S4x2048x64 1 := cmpf .olt main_v9 main_v10
  (main_v2, main_v5, main_v8, main_v11)
-- ==== Kernel.lean ====
abbrev S4x2048x8x128 : Shape := ⟨4, ![4, 2048, 8, 128]⟩
abbrev S4x2048x8x64 : Shape := ⟨4, ![4, 2048, 8, 64]⟩
abbrev S4x2048x64 : Shape := ⟨3, ![4, 2048, 64]⟩
abbrev S_ : Shape := ⟨0, ![]⟩
abbrev S4x2048x8x256 : Shape := ⟨4, ![4, 2048, 8, 256]⟩
abbrev S8192x2048 : Shape := ⟨2, ![8192, 2048]⟩
abbrev S4x2048x1x64 : Shape := ⟨4, ![4, 2048, 1, 64]⟩
abbrev S8192x1024 : Shape := ⟨2, ![8192, 1024]⟩
abbrev S512x1024 : Shape := ⟨2, ![512, 1024]⟩
abbrev S2048x1024 : Shape := ⟨2, ![2048, 1024]⟩
abbrev S2048x512 : Shape := ⟨2, ![2048, 512]⟩
abbrev S512x512 : Shape := ⟨2, ![512, 512]⟩
abbrev S512x256 : Shape := ⟨2, ![512, 256]⟩
abbrev S512x1 : Shape := ⟨2, ![512, 1]⟩
abbrev S512x128 : Shape := ⟨2, ![512, 128]⟩
abbrev S512 : Shape := ⟨1, ![512]⟩

abbrev nBuf : Space → Nat
  | .hbm => 18
  | .vmem => 8
  | .smem => 0
  | _ => 0

abbrev bufTy : (tb : Table) → Fin (tcTables nBuf tb) → BufTy
  | .hbm, ⟨0, _⟩ => ⟨S4x2048x8x128, .f32⟩
  | .hbm, ⟨1, _⟩ => ⟨S4x2048x8x64, .f32⟩
  | .hbm, ⟨2, _⟩ => ⟨S4x2048x8x128, .f32⟩
  | .hbm, ⟨3, _⟩ => ⟨S4x2048x64, .f32⟩
  | .hbm, ⟨4, _⟩ => ⟨S4x2048x8x128, .f32⟩
  | .hbm, ⟨5, _⟩ => ⟨S_, .f32⟩
  | .hbm, ⟨6, _⟩ => ⟨S4x2048x8x64, .f32⟩
  | .hbm, ⟨7, _⟩ => ⟨S4x2048x8x256, .f32⟩
  | .hbm, ⟨8, _⟩ => ⟨S8192x2048, .f32⟩
  | .hbm, ⟨9, _⟩ => ⟨S8192x2048, .bf16⟩
  | .hbm, ⟨10, _⟩ => ⟨S4x2048x1x64, .f32⟩
  | .hbm, ⟨11, _⟩ => ⟨S4x2048x8x64, .f32⟩
  | .hbm, ⟨12, _⟩ => ⟨S4x2048x8x256, .f32⟩
  | .hbm, ⟨13, _⟩ => ⟨S8192x2048, .f32⟩
  | .hbm, ⟨14, _⟩ => ⟨S8192x2048, .bf16⟩
  | .hbm, ⟨15, _⟩ => ⟨S8192x1024, .f32⟩
  | .hbm, ⟨16, _⟩ => ⟨S8192x1024, .bf16⟩
  | .hbm, ⟨17, _⟩ => ⟨S8192x1024, .bf16⟩
  | .local _ .vmem, ⟨0, _⟩ => ⟨S512x1024, .bf16⟩
  | .local _ .vmem, ⟨1, _⟩ => ⟨S512x1024, .bf16⟩
  | .local _ .vmem, ⟨2, _⟩ => ⟨S2048x1024, .bf16⟩
  | .local _ .vmem, ⟨3, _⟩ => ⟨S2048x1024, .bf16⟩
  | .local _ .vmem, ⟨4, _⟩ => ⟨S2048x512, .bf16⟩
  | .local _ .vmem, ⟨5, _⟩ => ⟨S2048x512, .bf16⟩
  | .local _ .vmem, ⟨6, _⟩ => ⟨S512x512, .bf16⟩
  | .local _ .vmem, ⟨7, _⟩ => ⟨S512x512, .bf16⟩
  | _, _ => ⟨S4x2048x8x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 2, 4], ![false, false, false]⟩

def k0_mult1 (i : grid0.Coords) : BitVec 32 :=
  let arg2 : BitVec 32 := BitVec.ofNat 32 (i 2).val
  let c512_i32 : BitVec 32 := 512#32
  let v20 : BitVec 32 := Scalar.muli arg2 c512_i32
  v20
def k0_off1 (i : grid0.Coords) : Fin 2 → Nat :=
  let arg2 : BitVec 32 := BitVec.ofNat 32 (i 2).val
  let c512_i32 : BitVec 32 := 512#32
  let v20 : BitVec 32 := Scalar.muli arg2 c512_i32
  let v21 : BitVec 32 := v20
  let v22 : Index := Scalar.indexCast v21
  let c0_15 : Index := 0#32
  ![v22.toNat, 0]
def k0_off2 (i : grid0.Coords) : Fin 2 → Nat :=
  let arg2 : BitVec 32 := BitVec.ofNat 32 (i 2).val
  let c512_i32 : BitVec 32 := 512#32
  let v20 : BitVec 32 := Scalar.muli arg2 c512_i32
  let v21 : BitVec 32 := v20
  let v28 : Index := Scalar.indexCast v21
  let c256_18 : Index := 256#32
  ![v28.toNat, 256]
def k0_off3 (i : grid0.Coords) : Fin 2 → Nat :=
  let arg2 : BitVec 32 := BitVec.ofNat 32 (i 2).val
  let c512_i32 : BitVec 32 := 512#32
  let v20 : BitVec 32 := Scalar.muli arg2 c512_i32
  let v21 : BitVec 32 := v20
  let v34 : Index := Scalar.indexCast v21
  let c512_21 : Index := 512#32
  ![v34.toNat, 512]
def k0_off4 (i : grid0.Coords) : Fin 2 → Nat :=
  let arg2 : BitVec 32 := BitVec.ofNat 32 (i 2).val
  let c512_i32 : BitVec 32 := 512#32
  let v20 : BitVec 32 := Scalar.muli arg2 c512_i32
  let v21 : BitVec 32 := v20
  let v40 : Index := Scalar.indexCast v21
  let c768_24 : Index := 768#32
  ![v40.toNat, 768]
def k0_off5 (i : grid0.Coords) : Fin 2 → Nat :=
  let arg2 : BitVec 32 := BitVec.ofNat 32 (i 2).val
  let c512_i32 : BitVec 32 := 512#32
  let v20 : BitVec 32 := Scalar.muli arg2 c512_i32
  let v21 : BitVec 32 := v20
  let v72 : Index := Scalar.indexCast v21
  let c0_33 : Index := 0#32
  ![v72.toNat, 0]
def k0_off6 (i : grid0.Coords) : Fin 2 → Nat :=
  let arg2 : BitVec 32 := BitVec.ofNat 32 (i 2).val
  let c512_i32 : BitVec 32 := 512#32
  let v20 : BitVec 32 := Scalar.muli arg2 c512_i32
  let v21 : BitVec 32 := v20
  let v92 : Index := Scalar.indexCast v21
  let c128 : Index := 128#32
  ![v92.toNat, 128]
def k0_off7 (i : grid0.Coords) : Fin 2 → Nat :=
  let arg2 : BitVec 32 := BitVec.ofNat 32 (i 2).val
  let c512_i32 : BitVec 32 := 512#32
  let v20 : BitVec 32 := Scalar.muli arg2 c512_i32
  let v21 : BitVec 32 := v20
  let v112 : Index := Scalar.indexCast v21
  let c256_40 : Index := 256#32
  ![v112.toNat, 256]
def k0_off8 (i : grid0.Coords) : Fin 2 → Nat :=
  let arg2 : BitVec 32 := BitVec.ofNat 32 (i 2).val
  let c512_i32 : BitVec 32 := 512#32
  let v20 : BitVec 32 := Scalar.muli arg2 c512_i32
  let v21 : BitVec 32 := v20
  let v132 : Index := Scalar.indexCast v21
  let c384 : Index := 384#32
  ![v132.toNat, 384]
@[reducible] def k0_t1_loop (i : grid0.Coords) : Scf.Loop 32 :=
  let c0_i32 : BitVec 32 := 0#32
  let arg2 : BitVec 32 := BitVec.ofNat 32 (i 2).val
  let v140 : BitVec 32 := Scalar.subi arg2 c0_i32
  let c1_i32 : BitVec 32 := 1#32
  let v142 : BitVec 32 := Scalar.divsi v140 c1_i32
  let v143 : BitVec 32 := Scalar.muli v142 c1_i32
  let v144 : BitVec 32 := Scalar.addi c0_i32 v143
  let c1_i32_45 : BitVec 32 := 1#32
  ⟨c0_i32, v144, c1_i32_45⟩
def k0_mult2 (i : grid0.Coords) (k0_t1 : Fin (k0_t1_loop i).trips) : BitVec 32 :=
  let c0_i32 : BitVec 32 := 0#32
  let c1_i32_45 : BitVec 32 := 1#32
  let arg7 : BitVec 32 := Scf.iv c0_i32 c1_i32_45 k0_t1
  let c512_i32_55 : BitVec 32 := 512#32
  let v163 : BitVec 32 := Scalar.muli arg7 c512_i32_55
  v163
def k0_off9 (i : grid0.Coords) (k0_t1 : Fin (k0_t1_loop i).trips) : Fin 2 → Nat :=
  let c0_i32 : BitVec 32 := 0#32
  let c1_i32_45 : BitVec 32 := 1#32
  let arg7 : BitVec 32 := Scf.iv c0_i32 c1_i32_45 k0_t1
  let c512_i32_55 : BitVec 32 := 512#32
  let v163 : BitVec 32 := Scalar.muli arg7 c512_i32_55
  let v164 : BitVec 32 := v163
  let v165 : Index := Scalar.indexCast v164
  let c0_56 : Index := 0#32
  ![v165.toNat, 0]
def k0_off10 (i : grid0.Coords) (k0_t1 : Fin (k0_t1_loop i).trips) : Fin 2 → Nat :=
  let c0_i32 : BitVec 32 := 0#32
  let c1_i32_45 : BitVec 32 := 1#32
  let arg7 : BitVec 32 := Scf.iv c0_i32 c1_i32_45 k0_t1
  let c512_i32_55 : BitVec 32 := 512#32
  let v163 : BitVec 32 := Scalar.muli arg7 c512_i32_55
  let v164 : BitVec 32 := v163
  let v171 : Index := Scalar.indexCast v164
  let c256_59 : Index := 256#32
  ![v171.toNat, 256]
def k0_off11 (i : grid0.Coords) (k0_t1 : Fin (k0_t1_loop i).trips) : Fin 2 → Nat :=
  let c0_i32 : BitVec 32 := 0#32
  let c1_i32_45 : BitVec 32 := 1#32
  let arg7 : BitVec 32 := Scf.iv c0_i32 c1_i32_45 k0_t1
  let c512_i32_55 : BitVec 32 := 512#32
  let v163 : BitVec 32 := Scalar.muli arg7 c512_i32_55
  let v164 : BitVec 32 := v163
  let v177 : Index := Scalar.indexCast v164
  let c512_62 : Index := 512#32
  ![v177.toNat, 512]
def k0_off12 (i : grid0.Coords) (k0_t1 : Fin (k0_t1_loop i).trips) : Fin 2 → Nat :=
  let c0_i32 : BitVec 32 := 0#32
  let c1_i32_45 : BitVec 32 := 1#32
  let arg7 : BitVec 32 := Scf.iv c0_i32 c1_i32_45 k0_t1
  let c512_i32_55 : BitVec 32 := 512#32
  let v163 : BitVec 32 := Scalar.muli arg7 c512_i32_55
  let v164 : BitVec 32 := v163
  let v183 : Index := Scalar.indexCast v164
  let c768_65 : Index := 768#32
  ![v183.toNat, 768]
def k0_off13 (i : grid0.Coords) (k0_t1 : Fin (k0_t1_loop i).trips) : Fin 2 → Nat :=
  let c0_i32 : BitVec 32 := 0#32
  let c1_i32_45 : BitVec 32 := 1#32
  let arg7 : BitVec 32 := Scf.iv c0_i32 c1_i32_45 k0_t1
  let c512_i32_55 : BitVec 32 := 512#32
  let v163 : BitVec 32 := Scalar.muli arg7 c512_i32_55
  let v164 : BitVec 32 := v163
  let v201 : Index := Scalar.indexCast v164
  let c0_70 : Index := 0#32
  ![v201.toNat, 0]
def k0_off14 (i : grid0.Coords) (k0_t1 : Fin (k0_t1_loop i).trips) : Fin 2 → Nat :=
  let c0_i32 : BitVec 32 := 0#32
  let c1_i32_45 : BitVec 32 := 1#32
  let arg7 : BitVec 32 := Scf.iv c0_i32 c1_i32_45 k0_t1
  let c512_i32_55 : BitVec 32 := 512#32
  let v163 : BitVec 32 := Scalar.muli arg7 c512_i32_55
  let v164 : BitVec 32 := v163
  let v221 : Index := Scalar.indexCast v164
  let c128_74 : Index := 128#32
  ![v221.toNat, 128]
def k0_off15 (i : grid0.Coords) (k0_t1 : Fin (k0_t1_loop i).trips) : Fin 2 → Nat :=
  let c0_i32 : BitVec 32 := 0#32
  let c1_i32_45 : BitVec 32 := 1#32
  let arg7 : BitVec 32 := Scf.iv c0_i32 c1_i32_45 k0_t1
  let c512_i32_55 : BitVec 32 := 512#32
  let v163 : BitVec 32 := Scalar.muli arg7 c512_i32_55
  let v164 : BitVec 32 := v163
  let v241 : Index := Scalar.indexCast v164
  let c256_78 : Index := 256#32
  ![v241.toNat, 256]
def k0_off16 (i : grid0.Coords) (k0_t1 : Fin (k0_t1_loop i).trips) : Fin 2 → Nat :=
  let c0_i32 : BitVec 32 := 0#32
  let c1_i32_45 : BitVec 32 := 1#32
  let arg7 : BitVec 32 := Scf.iv c0_i32 c1_i32_45 k0_t1
  let c512_i32_55 : BitVec 32 := 512#32
  let v163 : BitVec 32 := Scalar.muli arg7 c512_i32_55
  let v164 : BitVec 32 := v163
  let v261 : Index := Scalar.indexCast v164
  let c384_82 : Index := 384#32
  ![v261.toNat, 384]
@[reducible] def k0_t2_loop (i : grid0.Coords) : Scf.Loop 32 :=
  let c0_i32 : BitVec 32 := 0#32
  let arg2 : BitVec 32 := BitVec.ofNat 32 (i 2).val
  let v140 : BitVec 32 := Scalar.subi arg2 c0_i32
  let c1_i32 : BitVec 32 := 1#32
  let v142 : BitVec 32 := Scalar.divsi v140 c1_i32
  let v143 : BitVec 32 := Scalar.muli v142 c1_i32
  let v144 : BitVec 32 := Scalar.addi c0_i32 v143
  let v141 : BitVec 32 := Scalar.addi c0_i32 v140
  let c1_i32_46 : BitVec 32 := 1#32
  ⟨v144, v141, c1_i32_46⟩
def k0_mult3 (i : grid0.Coords) (k0_t2 : Fin (k0_t2_loop i).trips) : BitVec 32 :=
  let c0_i32 : BitVec 32 := 0#32
  let arg2 : BitVec 32 := BitVec.ofNat 32 (i 2).val
  let v140 : BitVec 32 := Scalar.subi arg2 c0_i32
  let c1_i32 : BitVec 32 := 1#32
  let v142 : BitVec 32 := Scalar.divsi v140 c1_i32
  let v143 : BitVec 32 := Scalar.muli v142 c1_i32
  let v144 : BitVec 32 := Scalar.addi c0_i32 v143
  let c1_i32_46 : BitVec 32 := 1#32
  let arg7 : BitVec 32 := Scf.iv v144 c1_i32_46 k0_t2
  let c512_i32_55 : BitVec 32 := 512#32
  let v163 : BitVec 32 := Scalar.muli arg7 c512_i32_55
  v163
def k0_off17 (i : grid0.Coords) (k0_t2 : Fin (k0_t2_loop i).trips) : Fin 2 → Nat :=
  let c0_i32 : BitVec 32 := 0#32
  let arg2 : BitVec 32 := BitVec.ofNat 32 (i 2).val
  let v140 : BitVec 32 := Scalar.subi arg2 c0_i32
  let c1_i32 : BitVec 32 := 1#32
  let v142 : BitVec 32 := Scalar.divsi v140 c1_i32
  let v143 : BitVec 32 := Scalar.muli v142 c1_i32
  let v144 : BitVec 32 := Scalar.addi c0_i32 v143
  let c1_i32_46 : BitVec 32 := 1#32
  let arg7 : BitVec 32 := Scf.iv v144 c1_i32_46 k0_t2
  let c512_i32_55 : BitVec 32 := 512#32
  let v163 : BitVec 32 := Scalar.muli arg7 c512_i32_55
  let v164 : BitVec 32 := v163
  let v165 : Index := Scalar.indexCast v164
  let c0_56 : Index := 0#32
  ![v165.toNat, 0]
def k0_off18 (i : grid0.Coords) (k0_t2 : Fin (k0_t2_loop i).trips) : Fin 2 → Nat :=
  let c0_i32 : BitVec 32 := 0#32
  let arg2 : BitVec 32 := BitVec.ofNat 32 (i 2).val
  let v140 : BitVec 32 := Scalar.subi arg2 c0_i32
  let c1_i32 : BitVec 32 := 1#32
  let v142 : BitVec 32 := Scalar.divsi v140 c1_i32
  let v143 : BitVec 32 := Scalar.muli v142 c1_i32
  let v144 : BitVec 32 := Scalar.addi c0_i32 v143
  let c1_i32_46 : BitVec 32 := 1#32
  let arg7 : BitVec 32 := Scf.iv v144 c1_i32_46 k0_t2
  let c512_i32_55 : BitVec 32 := 512#32
  let v163 : BitVec 32 := Scalar.muli arg7 c512_i32_55
  let v164 : BitVec 32 := v163
  let v171 : Index := Scalar.indexCast v164
  let c256_59 : Index := 256#32
  ![v171.toNat, 256]
def k0_off19 (i : grid0.Coords) (k0_t2 : Fin (k0_t2_loop i).trips) : Fin 2 → Nat :=
  let c0_i32 : BitVec 32 := 0#32
  let arg2 : BitVec 32 := BitVec.ofNat 32 (i 2).val
  let v140 : BitVec 32 := Scalar.subi arg2 c0_i32
  let c1_i32 : BitVec 32 := 1#32
  let v142 : BitVec 32 := Scalar.divsi v140 c1_i32
  let v143 : BitVec 32 := Scalar.muli v142 c1_i32
  let v144 : BitVec 32 := Scalar.addi c0_i32 v143
  let c1_i32_46 : BitVec 32 := 1#32
  let arg7 : BitVec 32 := Scf.iv v144 c1_i32_46 k0_t2
  let c512_i32_55 : BitVec 32 := 512#32
  let v163 : BitVec 32 := Scalar.muli arg7 c512_i32_55
  let v164 : BitVec 32 := v163
  let v177 : Index := Scalar.indexCast v164
  let c512_62 : Index := 512#32
  ![v177.toNat, 512]
def k0_off20 (i : grid0.Coords) (k0_t2 : Fin (k0_t2_loop i).trips) : Fin 2 → Nat :=
  let c0_i32 : BitVec 32 := 0#32
  let arg2 : BitVec 32 := BitVec.ofNat 32 (i 2).val
  let v140 : BitVec 32 := Scalar.subi arg2 c0_i32
  let c1_i32 : BitVec 32 := 1#32
  let v142 : BitVec 32 := Scalar.divsi v140 c1_i32
  let v143 : BitVec 32 := Scalar.muli v142 c1_i32
  let v144 : BitVec 32 := Scalar.addi c0_i32 v143
  let c1_i32_46 : BitVec 32 := 1#32
  let arg7 : BitVec 32 := Scf.iv v144 c1_i32_46 k0_t2
  let c512_i32_55 : BitVec 32 := 512#32
  let v163 : BitVec 32 := Scalar.muli arg7 c512_i32_55
  let v164 : BitVec 32 := v163
  let v183 : Index := Scalar.indexCast v164
  let c768_65 : Index := 768#32
  ![v183.toNat, 768]
def k0_off21 (i : grid0.Coords) (k0_t2 : Fin (k0_t2_loop i).trips) : Fin 2 → Nat :=
  let c0_i32 : BitVec 32 := 0#32
  let arg2 : BitVec 32 := BitVec.ofNat 32 (i 2).val
  let v140 : BitVec 32 := Scalar.subi arg2 c0_i32
  let c1_i32 : BitVec 32 := 1#32
  let v142 : BitVec 32 := Scalar.divsi v140 c1_i32
  let v143 : BitVec 32 := Scalar.muli v142 c1_i32
  let v144 : BitVec 32 := Scalar.addi c0_i32 v143
  let c1_i32_46 : BitVec 32 := 1#32
  let arg7 : BitVec 32 := Scf.iv v144 c1_i32_46 k0_t2
  let c512_i32_55 : BitVec 32 := 512#32
  let v163 : BitVec 32 := Scalar.muli arg7 c512_i32_55
  let v164 : BitVec 32 := v163
  let v201 : Index := Scalar.indexCast v164
  let c0_70 : Index := 0#32
  ![v201.toNat, 0]
def k0_off22 (i : grid0.Coords) (k0_t2 : Fin (k0_t2_loop i).trips) : Fin 2 → Nat :=
  let c0_i32 : BitVec 32 := 0#32
  let arg2 : BitVec 32 := BitVec.ofNat 32 (i 2).val
  let v140 : BitVec 32 := Scalar.subi arg2 c0_i32
  let c1_i32 : BitVec 32 := 1#32
  let v142 : BitVec 32 := Scalar.divsi v140 c1_i32
  let v143 : BitVec 32 := Scalar.muli v142 c1_i32
  let v144 : BitVec 32 := Scalar.addi c0_i32 v143
  let c1_i32_46 : BitVec 32 := 1#32
  let arg7 : BitVec 32 := Scf.iv v144 c1_i32_46 k0_t2
  let c512_i32_55 : BitVec 32 := 512#32
  let v163 : BitVec 32 := Scalar.muli arg7 c512_i32_55
  let v164 : BitVec 32 := v163
  let v221 : Index := Scalar.indexCast v164
  let c128_74 : Index := 128#32
  ![v221.toNat, 128]
def k0_off23 (i : grid0.Coords) (k0_t2 : Fin (k0_t2_loop i).trips) : Fin 2 → Nat :=
  let c0_i32 : BitVec 32 := 0#32
  let arg2 : BitVec 32 := BitVec.ofNat 32 (i 2).val
  let v140 : BitVec 32 := Scalar.subi arg2 c0_i32
  let c1_i32 : BitVec 32 := 1#32
  let v142 : BitVec 32 := Scalar.divsi v140 c1_i32
  let v143 : BitVec 32 := Scalar.muli v142 c1_i32
  let v144 : BitVec 32 := Scalar.addi c0_i32 v143
  let c1_i32_46 : BitVec 32 := 1#32
  let arg7 : BitVec 32 := Scf.iv v144 c1_i32_46 k0_t2
  let c512_i32_55 : BitVec 32 := 512#32
  let v163 : BitVec 32 := Scalar.muli arg7 c512_i32_55
  let v164 : BitVec 32 := v163
  let v241 : Index := Scalar.indexCast v164
  let c256_78 : Index := 256#32
  ![v241.toNat, 256]
def k0_off24 (i : grid0.Coords) (k0_t2 : Fin (k0_t2_loop i).trips) : Fin 2 → Nat :=
  let c0_i32 : BitVec 32 := 0#32
  let arg2 : BitVec 32 := BitVec.ofNat 32 (i 2).val
  let v140 : BitVec 32 := Scalar.subi arg2 c0_i32
  let c1_i32 : BitVec 32 := 1#32
  let v142 : BitVec 32 := Scalar.divsi v140 c1_i32
  let v143 : BitVec 32 := Scalar.muli v142 c1_i32
  let v144 : BitVec 32 := Scalar.addi c0_i32 v143
  let c1_i32_46 : BitVec 32 := 1#32
  let arg7 : BitVec 32 := Scf.iv v144 c1_i32_46 k0_t2
  let c512_i32_55 : BitVec 32 := 512#32
  let v163 : BitVec 32 := Scalar.muli arg7 c512_i32_55
  let v164 : BitVec 32 := v163
  let v261 : Index := Scalar.indexCast v164
  let c384_82 : Index := 384#32
  ![v261.toNat, 384]
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c0_i32 : BitVec 32 := 0#32
  ![v1.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c0_i32 : BitVec 32 := 0#32
  ![v1.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== ReferenceIdeal.lean ====
abbrev S4x2048x8x128 : Shape := ⟨4, ![4, 2048, 8, 128]⟩
abbrev S4x2048x8x64 : Shape := ⟨4, ![4, 2048, 8, 64]⟩
abbrev S4x2048x64 : Shape := ⟨3, ![4, 2048, 64]⟩
abbrev S4x8x2048x2048 : Shape := ⟨4, ![4, 8, 2048, 2048]⟩
abbrev S4x2048x2048x8 : Shape := ⟨4, ![4, 2048, 2048, 8]⟩
abbrev S_ : Shape := ⟨0, ![]⟩
abbrev S2048 : Shape := ⟨1, ![2048]⟩
abbrev S1x2048 : Shape := ⟨2, ![1, 2048]⟩
abbrev S2048x1 : Shape := ⟨2, ![2048, 1]⟩
abbrev S2048x2048 : Shape := ⟨2, ![2048, 2048]⟩
abbrev S4x8x2048 : Shape := ⟨3, ![4, 8, 2048]⟩
abbrev S4x8x2048x1 : Shape := ⟨4, ![4, 8, 2048, 1]⟩
abbrev S4x8x128x2048 : Shape := ⟨4, ![4, 8, 128, 2048]⟩
abbrev S8192x1024 : Shape := ⟨2, ![8192, 1024]⟩

abbrev nBuf : Space → Nat
  | .hbm => 41
  | .vmem => 0
  | .smem => 0
  | _ => 0

abbrev bufTy : (tb : Table) → Fin (tcTables nBuf tb) → BufTy
  | .hbm, ⟨0, _⟩ => ⟨S4x2048x8x128, .f32⟩
  | .hbm, ⟨1, _⟩ => ⟨S4x2048x8x64, .f32⟩
  | .hbm, ⟨2, _⟩ => ⟨S4x2048x8x128, .f32⟩
  | .hbm, ⟨3, _⟩ => ⟨S4x2048x64, .f32⟩
  | .hbm, ⟨4, _⟩ => ⟨S4x2048x8x128, .f32⟩
  | .hbm, ⟨5, _⟩ => ⟨S4x8x2048x2048, .f32⟩
  | .hbm, ⟨6, _⟩ => ⟨S4x2048x2048x8, .f32⟩
  | .hbm, ⟨7, _⟩ => ⟨S4x8x2048x2048, .f32⟩
  | .hbm, ⟨8, _⟩ => ⟨S4x8x2048x2048, .f32⟩
  | .hbm, ⟨9, _⟩ => ⟨S_, .f32⟩
  | .hbm, ⟨10, _⟩ => ⟨S4x8x2048x2048, .f32⟩
  | .hbm, ⟨11, _⟩ => ⟨S4x8x2048x2048, .f32⟩
  | .hbm, ⟨12, _⟩ => ⟨S2048, .i32⟩
  | .hbm, ⟨13, _⟩ => ⟨S1x2048, .i32⟩
  | .hbm, ⟨14, _⟩ => ⟨S2048x1, .i32⟩
  | .hbm, ⟨15, _⟩ => ⟨S2048x2048, .i32⟩
  | .hbm, ⟨16, _⟩ => ⟨S2048x2048, .i32⟩
  | .hbm, ⟨17, _⟩ => ⟨S2048x2048, .i1⟩
  | .hbm, ⟨18, _⟩ => ⟨S_, .f32⟩
  | .hbm, ⟨19, _⟩ => ⟨S_, .f32⟩
  | .hbm, ⟨20, _⟩ => ⟨S4x8x2048x2048, .i1⟩
  | .hbm, ⟨21, _⟩ => ⟨S4x8x2048x2048, .f32⟩
  | .hbm, ⟨22, _⟩ => ⟨S4x8x2048x2048, .f32⟩
  | .hbm, ⟨23, _⟩ => ⟨S_, .f32⟩
  | .hbm, ⟨24, _⟩ => ⟨S4x8x2048, .f32⟩
  | .hbm, ⟨25, _⟩ => ⟨S_, .f32⟩
  | .hbm, ⟨26, _⟩ => ⟨S4x8x2048, .f32⟩
  | .hbm, ⟨27, _⟩ => ⟨S4x8x2048, .f32⟩
  | .hbm, ⟨28, _⟩ => ⟨S4x8x2048x1, .f32⟩
  | .hbm, ⟨29, _⟩ => ⟨S4x8x2048x2048, .f32⟩
  | .hbm, ⟨30, _⟩ => ⟨S4x8x2048x2048, .f32⟩
  | .hbm, ⟨31, _⟩ => ⟨S4x8x2048x2048, .f32⟩
  | .hbm, ⟨32, _⟩ => ⟨S_, .f32⟩
  | .hbm, ⟨33, _⟩ => ⟨S4x8x2048, .f32⟩
  | .hbm, ⟨34, _⟩ => ⟨S4x8x2048x1, .f32⟩
  | .hbm, ⟨35, _⟩ => ⟨S4x8x2048x2048, .f32⟩
  | .hbm, ⟨36, _⟩ => ⟨S4x8x2048x2048, .f32⟩
  | .hbm, ⟨37, _⟩ => ⟨S4x8x128x2048, .f32⟩
  | .hbm, ⟨38, _⟩ => ⟨S4x2048x8x128, .f32⟩
  | .hbm, ⟨39, _⟩ => ⟨S8192x1024, .f32⟩
  | .hbm, ⟨40, _⟩ => ⟨S8192x1024, .bf16⟩
  | _, _ => ⟨S4x2048x8x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_0 : Ref sig .tc := ⟨.hbm, 18, rfl⟩
abbrev main_call0_v0 : Ref sig .tc := ⟨.hbm, 19, rfl⟩
abbrev main_call0_v1 : Ref sig .tc := ⟨.hbm, 20, rfl⟩
abbrev main_call0_v2 : Ref sig .tc := ⟨.hbm, 21, rfl⟩
abbrev main_v12 : Ref sig .tc := ⟨.hbm, 22, rfl⟩
abbrev main_cst_1 : Ref sig .tc := ⟨.hbm, 23, rfl⟩
abbrev main_v13 : Ref sig .tc := ⟨.hbm, 24, rfl⟩
abbrev main_cst_2 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_3 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩

abbrev nD : Nat := 1
abbrev τ : Topo := Topo.v7x

variable {F : FTy → Type} [FloatOps F]
-- ==== Kernel2.lean ====
abbrev S4x2048x2048 : Shape := ⟨3, ![4, 2048, 2048]⟩
abbrev S4x2048 : Shape := ⟨2, ![4, 2048]⟩
abbrev S4x2048x11264 : Shape := ⟨3, ![4, 2048, 11264]⟩
abbrev S4x3x11264 : Shape := ⟨3, ![4, 3, 11264]⟩
abbrev S4x11264 : Shape := ⟨2, ![4, 11264]⟩
abbrev S8192x2048 : Shape := ⟨2, ![8192, 2048]⟩
abbrev S1x2048 : Shape := ⟨2, ![1, 2048]⟩
abbrev S2048 : Shape := ⟨1, ![2048]⟩
abbrev S4x1x2048 : Shape := ⟨3, ![4, 1, 2048]⟩
abbrev S1x3x11264 : Shape := ⟨3, ![1, 3, 11264]⟩
abbrev S3x11264 : Shape := ⟨2, ![3, 11264]⟩
abbrev S1x11264 : Shape := ⟨2, ![1, 11264]⟩
abbrev S11264 : Shape := ⟨1, ![11264]⟩
abbrev S8192x5632 : Shape := ⟨2, ![8192, 5632]⟩
abbrev S8x8x5632 : Shape := ⟨3, ![8, 8, 5632]⟩
abbrev S1024x2048 : Shape := ⟨2, ![1024, 2048]⟩
abbrev S16x2048 : Shape := ⟨2, ![16, 2048]⟩
abbrev S1x1x2048 : Shape := ⟨3, ![1, 1, 2048]⟩
abbrev S1x2048x512 : Shape := ⟨3, ![1, 2048, 512]⟩
abbrev S3x512 : Shape := ⟨2, ![3, 512]⟩
abbrev S1x512 : Shape := ⟨2, ![1, 512]⟩
abbrev S1024x512 : Shape := ⟨2, ![1024, 512]⟩
abbrev S1x8x512 : Shape := ⟨3, ![1, 8, 512]⟩
abbrev S1040x2048 : Shape := ⟨2, ![1040, 2048]⟩
abbrev S16 : Shape := ⟨1, ![16]⟩
abbrev S16x1 : Shape := ⟨2, ![16, 1]⟩
abbrev S1024 : Shape := ⟨1, ![1024]⟩
abbrev S1024x1 : Shape := ⟨2, ![1024, 1]⟩
abbrev S1040x1 : Shape := ⟨2, ![1040, 1]⟩
abbrev S1x2048x256 : Shape := ⟨3, ![1, 2048, 256]⟩
abbrev S2048x256 : Shape := ⟨2, ![2048, 256]⟩
abbrev S1040x256 : Shape := ⟨2, ![1040, 256]⟩
abbrev S8x256 : Shape := ⟨2, ![8, 256]⟩
abbrev S1x8x256 : Shape := ⟨3, ![1, 8, 256]⟩
abbrev S3x256 : Shape := ⟨2, ![3, 256]⟩
abbrev S1x256 : Shape := ⟨2, ![1, 256]⟩
abbrev S1024x256 : Shape := ⟨2, ![1024, 256]⟩

abbrev nBuf : Space → Nat
  | .hbm => 22
  | .vmem => 28
  | .smem => 0
  | _ => 0

abbrev bufTy : (tb : Table) → Fin (tcTables nBuf tb) → BufTy
  | .hbm, ⟨0, _⟩ => ⟨S4x2048x2048, .f32⟩
  | .hbm, ⟨1, _⟩ => ⟨S4x2048, .f32⟩
  | .hbm, ⟨2, _⟩ => ⟨S4x2048, .f32⟩
  | .hbm, ⟨3, _⟩ => ⟨S4x2048, .f32⟩
  | .hbm, ⟨4, _⟩ => ⟨S4x2048x11264, .f32⟩
  | .hbm, ⟨5, _⟩ => ⟨S4x3x11264, .f32⟩
  | .hbm, ⟨6, _⟩ => ⟨S4x11264, .f32⟩
  | .hbm, ⟨7, _⟩ => ⟨S8192x2048, .f32⟩
  | .hbm, ⟨8, _⟩ => ⟨S1x2048, .f32⟩
  | .hbm, ⟨9, _⟩ => ⟨S2048, .f32⟩
  | .hbm, ⟨10, _⟩ => ⟨S1x2048, .f32⟩
  | .hbm, ⟨11, _⟩ => ⟨S4x1x2048, .f32⟩
  | .hbm, ⟨12, _⟩ => ⟨S4x1x2048, .f32⟩
  | .hbm, ⟨13, _⟩ => ⟨S4x2048x11264, .bf16⟩
  | .hbm, ⟨14, _⟩ => ⟨S1x3x11264, .f32⟩
  | .hbm, ⟨15, _⟩ => ⟨S3x11264, .f32⟩
  | .hbm, ⟨16, _⟩ => ⟨S1x11264, .f32⟩
  | .hbm, ⟨17, _⟩ => ⟨S11264, .f32⟩
  | .hbm, ⟨18, _⟩ => ⟨S1x11264, .f32⟩
  | .hbm, ⟨19, _⟩ => ⟨S8192x5632, .bf16⟩
  | .hbm, ⟨20, _⟩ => ⟨S8x8x5632, .f32⟩
  | .hbm, ⟨21, _⟩ => ⟨S8x8x5632, .f32⟩
  | .local _ .vmem, ⟨0, _⟩ => ⟨S1024x2048, .f32⟩
  | .local _ .vmem, ⟨1, _⟩ => ⟨S1024x2048, .f32⟩
  | .local _ .vmem, ⟨2, _⟩ => ⟨S16x2048, .f32⟩
  | .local _ .vmem, ⟨3, _⟩ => ⟨S16x2048, .f32⟩
  | .local _ .vmem, ⟨4, _⟩ => ⟨S1x2048, .f32⟩
  | .local _ .vmem, ⟨5, _⟩ => ⟨S1x1x2048, .f32⟩
  | .local _ .vmem, ⟨6, _⟩ => ⟨S1x1x2048, .f32⟩
  | .local _ .vmem, ⟨7, _⟩ => ⟨S1x1x2048, .f32⟩
  | .local _ .vmem, ⟨8, _⟩ => ⟨S1x1x2048, .f32⟩
  | .local _ .vmem, ⟨9, _⟩ => ⟨S1x2048x512, .bf16⟩
  | .local _ .vmem, ⟨10, _⟩ => ⟨S1x2048x512, .bf16⟩
  | .local _ .vmem, ⟨11, _⟩ => ⟨S1x2048x512, .bf16⟩
  | .local _ .vmem, ⟨12, _⟩ => ⟨S1x2048x512, .bf16⟩
  | .local _ .vmem, ⟨13, _⟩ => ⟨S3x512, .f32⟩
  | .local _ .vmem, ⟨14, _⟩ => ⟨S3x512, .f32⟩
  | .local _ .vmem, ⟨15, _⟩ => ⟨S3x512, .f32⟩
  | .local _ .vmem, ⟨16, _⟩ => ⟨S3x512, .f32⟩
  | .local _ .vmem, ⟨17, _⟩ => ⟨S1x512, .f32⟩
  | .local _ .vmem, ⟨18, _⟩ => ⟨S1x512, .f32⟩
  | .local _ .vmem, ⟨19, _⟩ => ⟨S1x512, .f32⟩
  | .local _ .vmem, ⟨20, _⟩ => ⟨S1x512, .f32⟩
  | .local _ .vmem, ⟨21, _⟩ => ⟨S1024x512, .bf16⟩
  | .local _ .vmem, ⟨22, _⟩ => ⟨S1024x512, .bf16⟩
  | .local _ .vmem, ⟨23, _⟩ => ⟨S1x8x512, .f32⟩
  | .local _ .vmem, ⟨24, _⟩ => ⟨S1x8x512, .f32⟩
  | .local _ .vmem, ⟨25, _⟩ => ⟨S1x8x512, .f32⟩
  | .local _ .vmem, ⟨26, _⟩ => ⟨S1x8x512, .f32⟩
  | .local _ .vmem, ⟨27, _⟩ => ⟨S1040x2048, .bf16⟩
  | _, _ => ⟨S4x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12_0 : Ref sig .tc := ⟨.hbm, 19, rfl⟩
abbrev main_v12_1 : Ref sig .tc := ⟨.hbm, 20, rfl⟩
abbrev main_v12_2 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg11_1 : Ref sig .tc := ⟨.vmem, 22, rfl⟩
abbrev cc0_stg12_0 : Ref sig .tc := ⟨.vmem, 23, rfl⟩
abbrev cc0_stg12_1 : Ref sig .tc := ⟨.vmem, 24, rfl⟩
abbrev cc0_stg13_0 : Ref sig .tc := ⟨.vmem, 25, rfl⟩
abbrev cc0_stg13_1 : Ref sig .tc := ⟨.vmem, 26, rfl⟩
abbrev cc0_scratch0 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22
abbrev cc0_sem12_0 : DmaSem sig := 23
abbrev cc0_sem12_1 : DmaSem sig := 24
abbrev cc0_sem13_0 : DmaSem sig := 25
abbrev cc0_sem13_1 : DmaSem sig := 26

abbrev nD : Nat := 1
abbrev τ : Topo := Topo.v7x

variable {F : FTy → Type} [FloatOps F]

abbrev grid0 : Pipeline.Grid := ⟨2, ![8, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_4 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_6 (i : grid0.Coords) : Fin 3 → Nat :=
  let arg0 : BitVec 32 := BitVec.ofNat 32 (i 0).val
  let arg1 : BitVec 32 := BitVec.ofNat 32 (i 1).val
  let c11_i32 : BitVec 32 := 11#32
  let v0 : BitVec 32 := Scalar.addi c11_i32 arg1
  let c0_i32 : BitVec 32 := 0#32
  let c0_i32_0 : BitVec 32 := 0#32
  let c0_i32_1 : BitVec 32 := 0#32
  ![c0_i32.toNat, c0_i32_0.toNat, v0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_8 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi c11_i32 arg1
  let c0_i32 : BitVec 32 := 0#32
  let c0_i32_0 : BitVec 32 := 0#32
  ![c0_i32.toNat, v0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_10 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi c11_i32 arg1
  let c0_i32 : BitVec 32 := 0#32
  let c0_i32_0 : BitVec 32 := 0#32
  ![c0_i32.toNat, v0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S16x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x2048x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x2048x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S3x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S3x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S1x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true]

abbrev stage0_10 : Fin 2 → Memref sig .tc .vmem S1x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![false, true]

abbrev stage0_11 : Fin 2 → Memref sig .tc .vmem S1024x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x8x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x8x512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]
-- ==== Reference2Ideal.lean ====
abbrev S4x2048x2048 : Shape := ⟨3, ![4, 2048, 2048]⟩
abbrev S4x2048 : Shape := ⟨2, ![4, 2048]⟩
abbrev S4x2048x11264 : Shape := ⟨3, ![4, 2048, 11264]⟩
abbrev S4x3x11264 : Shape := ⟨3, ![4, 3, 11264]⟩
abbrev S4x11264 : Shape := ⟨2, ![4, 11264]⟩
abbrev S_ : Shape := ⟨0, ![]⟩
abbrev S4x2048x1 : Shape := ⟨3, ![4, 2048, 1]⟩
abbrev S1x2048 : Shape := ⟨2, ![1, 2048]⟩
abbrev S2048 : Shape := ⟨1, ![2048]⟩
abbrev S1x1x2048 : Shape := ⟨3, ![1, 1, 2048]⟩
abbrev S4x1x2048 : Shape := ⟨3, ![4, 1, 2048]⟩
abbrev S1x2048x11264 : Shape := ⟨3, ![1, 2048, 11264]⟩
abbrev S2048x11264 : Shape := ⟨2, ![2048, 11264]⟩
abbrev S4x2x11264 : Shape := ⟨3, ![4, 2, 11264]⟩
abbrev S4x2050x11264 : Shape := ⟨3, ![4, 2050, 11264]⟩
abbrev S1x11264 : Shape := ⟨2, ![1, 11264]⟩
abbrev S11264 : Shape := ⟨1, ![11264]⟩
abbrev S1x1x11264 : Shape := ⟨3, ![1, 1, 11264]⟩
abbrev S4x2048x5632 : Shape := ⟨3, ![4, 2048, 5632]⟩
abbrev S8x1024x11264 : Shape := ⟨3, ![8, 1024, 11264]⟩
abbrev S8x8x11264 : Shape := ⟨3, ![8, 8, 11264]⟩
abbrev S8192x5632 : Shape := ⟨2, ![8192, 5632]⟩
abbrev S8x8x5632 : Shape := ⟨3, ![8, 8, 5632]⟩

abbrev nBuf : Space → Nat
  | .hbm => 86
  | .vmem => 0
  | .smem => 0
  | _ => 0

abbrev bufTy : (tb : Table) → Fin (tcTables nBuf tb) → BufTy
  | .hbm, ⟨0, _⟩ => ⟨S4x2048x2048, .f32⟩
  | .hbm, ⟨1, _⟩ => ⟨S4x2048, .f32⟩
  | .hbm, ⟨2, _⟩ => ⟨S4x2048, .f32⟩
  | .hbm, ⟨3, _⟩ => ⟨S4x2048, .f32⟩
  | .hbm, ⟨4, _⟩ => ⟨S4x2048x11264, .f32⟩
  | .hbm, ⟨5, _⟩ => ⟨S4x3x11264, .f32⟩
  | .hbm, ⟨6, _⟩ => ⟨S4x11264, .f32⟩
  | .hbm, ⟨7, _⟩ => ⟨S4x2048x2048, .f32⟩
  | .hbm, ⟨8, _⟩ => ⟨S_, .f32⟩
  | .hbm, ⟨9, _⟩ => ⟨S4x2048, .f32⟩
  | .hbm, ⟨10, _⟩ => ⟨S4x2048x1, .f32⟩
  | .hbm, ⟨11, _⟩ => ⟨S_, .f32⟩
  | .hbm, ⟨12, _⟩ => ⟨S4x2048x1, .f32⟩
  | .hbm, ⟨13, _⟩ => ⟨S4x2048x1, .f32⟩
  | .hbm, ⟨14, _⟩ => ⟨S_, .f32⟩
  | .hbm, ⟨15, _⟩ => ⟨S4x2048x1, .f32⟩
  | .hbm, ⟨16, _⟩ => ⟨S4x2048x1, .f32⟩
  | .hbm, ⟨17, _⟩ => ⟨S4x2048x1, .f32⟩
  | .hbm, ⟨18, _⟩ => ⟨S4x2048x2048, .f32⟩
  | .hbm, ⟨19, _⟩ => ⟨S4x2048x2048, .f32⟩
  | .hbm, ⟨20, _⟩ => ⟨S1x2048, .f32⟩
  | .hbm, ⟨21, _⟩ => ⟨S2048, .f32⟩
  | .hbm, ⟨22, _⟩ => ⟨S1x1x2048, .f32⟩
  | .hbm, ⟨23, _⟩ => ⟨S4x2048x2048, .f32⟩
  | .hbm, ⟨24, _⟩ => ⟨S4x2048x2048, .f32⟩
  | .hbm, ⟨25, _⟩ => ⟨S4x1x2048, .f32⟩
  | .hbm, ⟨26, _⟩ => ⟨S_, .f32⟩
  | .hbm, ⟨27, _⟩ => ⟨S4x1x2048, .f32⟩
  | .hbm, ⟨28, _⟩ => ⟨S4x1x2048, .f32⟩
  | .hbm, ⟨29, _⟩ => ⟨S4x2048x2048, .f32⟩
  | .hbm, ⟨30, _⟩ => ⟨S4x2048x2048, .f32⟩
  | .hbm, ⟨31, _⟩ => ⟨S4x1x2048, .f32⟩
  | .hbm, ⟨32, _⟩ => ⟨S4x2048x2048, .f32⟩
  | .hbm, ⟨33, _⟩ => ⟨S4x2048x2048, .f32⟩
  | .hbm, ⟨34, _⟩ => ⟨S1x2048x11264, .f32⟩
  | .hbm, ⟨35, _⟩ => ⟨S2048x11264, .f32⟩
  | .hbm, ⟨36, _⟩ => ⟨S4x2048x11264, .f32⟩
  | .hbm, ⟨37, _⟩ => ⟨S_, .f32⟩
  | .hbm, ⟨38, _⟩ => ⟨S4x2x11264, .f32⟩
  | .hbm, ⟨39, _⟩ => ⟨S4x2050x11264, .f32⟩
  | .hbm, ⟨40, _⟩ => ⟨S1x11264, .f32⟩
  | .hbm, ⟨41, _⟩ => ⟨S11264, .f32⟩
  | .hbm, ⟨42, _⟩ => ⟨S4x2048x11264, .f32⟩
  | .hbm, ⟨43, _⟩ => ⟨S1x1x11264, .f32⟩
  | .hbm, ⟨44, _⟩ => ⟨S11264, .f32⟩
  | .hbm, ⟨45, _⟩ => ⟨S1x1x11264, .f32⟩
  | .hbm, ⟨46, _⟩ => ⟨S4x2048x11264, .f32⟩
  | .hbm, ⟨47, _⟩ => ⟨S4x2048x11264, .f32⟩
  | .hbm, ⟨48, _⟩ => ⟨S_, .f32⟩
  | .hbm, ⟨49, _⟩ => ⟨S4x2048x11264, .f32⟩
  | .hbm, ⟨50, _⟩ => ⟨S4x2048x11264, .f32⟩
  | .hbm, ⟨51, _⟩ => ⟨S4x2048x11264, .f32⟩
  | .hbm, ⟨52, _⟩ => ⟨S1x1x11264, .f32⟩
  | .hbm, ⟨53, _⟩ => ⟨S11264, .f32⟩
  | .hbm, ⟨54, _⟩ => ⟨S1x1x11264, .f32⟩
  | .hbm, ⟨55, _⟩ => ⟨S4x2048x11264, .f32⟩
  | .hbm, ⟨56, _⟩ => ⟨S4x2048x11264, .f32⟩
  | .hbm, ⟨57, _⟩ => ⟨S4x2048x11264, .f32⟩
  | .hbm, ⟨58, _⟩ => ⟨S4x2048x11264, .f32⟩
  | .hbm, ⟨59, _⟩ => ⟨S1x1x11264, .f32⟩
  | .hbm, ⟨60, _⟩ => ⟨S11264, .f32⟩
  | .hbm, ⟨61, _⟩ => ⟨S1x1x11264, .f32⟩
  | .hbm, ⟨62, _⟩ => ⟨S4x2048x11264, .f32⟩
  | .hbm, ⟨63, _⟩ => ⟨S4x2048x11264, .f32⟩
  | .hbm, ⟨64, _⟩ => ⟨S4x2048x11264, .f32⟩
  | .hbm, ⟨65, _⟩ => ⟨S1x1x11264, .f32⟩
  | .hbm, ⟨66, _⟩ => ⟨S4x2048x11264, .f32⟩
  | .hbm, ⟨67, _⟩ => ⟨S4x2048x11264, .f32⟩
  | .hbm, ⟨68, _⟩ => ⟨S4x2048x5632, .f32⟩
  | .hbm, ⟨69, _⟩ => ⟨S4x2048x5632, .f32⟩
  | .hbm, ⟨70, _⟩ => ⟨S4x2048x5632, .f32⟩
  | .hbm, ⟨71, _⟩ => ⟨S4x2048x5632, .f32⟩
  | .hbm, ⟨72, _⟩ => ⟨S_, .f32⟩
  | .hbm, ⟨73, _⟩ => ⟨S4x2048x5632, .f32⟩
  | .hbm, ⟨74, _⟩ => ⟨S4x2048x5632, .f32⟩
  | .hbm, ⟨75, _⟩ => ⟨S_, .f32⟩
  | .hbm, ⟨76, _⟩ => ⟨S4x2048x5632, .f32⟩
  | .hbm, ⟨77, _⟩ => ⟨S4x2048x5632, .f32⟩
  | .hbm, ⟨78, _⟩ => ⟨S4x2048x5632, .f32⟩
  | .hbm, ⟨79, _⟩ => ⟨S4x2048x5632, .f32⟩
  | .hbm, ⟨80, _⟩ => ⟨S8x1024x11264, .f32⟩
  | .hbm, ⟨81, _⟩ => ⟨S8x8x11264, .f32⟩
  | .hbm, ⟨82, _⟩ => ⟨S8192x5632, .f32⟩
  | .hbm, ⟨83, _⟩ => ⟨S8192x5632, .bf16⟩
  | .hbm, ⟨84, _⟩ => ⟨S8x8x5632, .f32⟩
  | .hbm, ⟨85, _⟩ => ⟨S8x8x5632, .f32⟩
  | _, _ => ⟨S4x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_2 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_3 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_cst_4 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_call0_v0 : Ref sig .tc := ⟨.hbm, 70, rfl⟩
abbrev main_call0_v1 : Ref sig .tc := ⟨.hbm, 71, rfl⟩
abbrev main_call0_cst : Ref sig .tc := ⟨.hbm, 72, rfl⟩
abbrev main_call0_v2 : Ref sig .tc := ⟨.hbm, 73, rfl⟩
abbrev main_call0_v3 : Ref sig .tc := ⟨.hbm, 74, rfl⟩
abbrev main_call0_cst_0 : Ref sig .tc := ⟨.hbm, 75, rfl⟩
abbrev main_call0_v4 : Ref sig .tc := ⟨.hbm, 76, rfl⟩
abbrev main_call0_v5 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩

abbrev nD : Nat := 1
abbrev τ : Topo := Topo.v7x

variable {F : FTy → Type} [FloatOps F]
-- ==== Kernel3.lean ====
abbrev S4x2048x5632 : Shape := ⟨3, ![4, 2048, 5632]⟩
abbrev S4x2048x2048 : Shape := ⟨3, ![4, 2048, 2048]⟩
abbrev S4x2048 : Shape := ⟨2, ![4, 2048]⟩
abbrev S4x5632x2048 : Shape := ⟨3, ![4, 5632, 2048]⟩
abbrev S8192x5632 : Shape := ⟨2, ![8192, 5632]⟩
abbrev S4x1x2048 : Shape := ⟨3, ![4, 1, 2048]⟩
abbrev S8192x2048 : Shape := ⟨2, ![8192, 2048]⟩
abbrev S1024x5632 : Shape := ⟨2, ![1024, 5632]⟩
abbrev S1x5632x512 : Shape := ⟨3, ![1, 5632, 512]⟩
abbrev S1x1x512 : Shape := ⟨3, ![1, 1, 512]⟩
abbrev S1024x512 : Shape := ⟨2, ![1024, 512]⟩
abbrev S5632x512 : Shape := ⟨2, ![5632, 512]⟩
abbrev S1x512 : Shape := ⟨2, ![1, 512]⟩

abbrev nBuf : Space → Nat
  | .hbm => 10
  | .vmem => 10
  | .smem => 0
  | _ => 0

abbrev bufTy : (tb : Table) → Fin (tcTables nBuf tb) → BufTy
  | .hbm, ⟨0, _⟩ => ⟨S4x2048x5632, .f32⟩
  | .hbm, ⟨1, _⟩ => ⟨S4x2048x2048, .f32⟩
  | .hbm, ⟨2, _⟩ => ⟨S4x2048, .f32⟩
  | .hbm, ⟨3, _⟩ => ⟨S4x5632x2048, .f32⟩
  | .hbm, ⟨4, _⟩ => ⟨S8192x5632, .f32⟩
  | .hbm, ⟨5, _⟩ => ⟨S8192x5632, .bf16⟩
  | .hbm, ⟨6, _⟩ => ⟨S4x5632x2048, .bf16⟩
  | .hbm, ⟨7, _⟩ => ⟨S4x1x2048, .f32⟩
  | .hbm, ⟨8, _⟩ => ⟨S8192x2048, .f32⟩
  | .hbm, ⟨9, _⟩ => ⟨S8192x2048, .f32⟩
  | .local _ .vmem, ⟨0, _⟩ => ⟨S1024x5632, .bf16⟩
  | .local _ .vmem, ⟨1, _⟩ => ⟨S1024x5632, .bf16⟩
  | .local _ .vmem, ⟨2, _⟩ => ⟨S1x5632x512, .bf16⟩
  | .local _ .vmem, ⟨3, _⟩ => ⟨S1x5632x512, .bf16⟩
  | .local _ .vmem, ⟨4, _⟩ => ⟨S1x1x512, .f32⟩
  | .local _ .vmem, ⟨5, _⟩ => ⟨S1x1x512, .f32⟩
  | .local _ .vmem, ⟨6, _⟩ => ⟨S1024x512, .f32⟩
  | .local _ .vmem, ⟨7, _⟩ => ⟨S1024x512, .f32⟩
  | .local _ .vmem, ⟨8, _⟩ => ⟨S1024x512, .f32⟩
  | .local _ .vmem, ⟨9, _⟩ => ⟨S1024x512, .f32⟩
  | _, _ => ⟨S4x2048x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_2 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![v16.toNat, c0_i32_4.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x5632x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference3Ideal.lean ====
abbrev S4x2048x5632 : Shape := ⟨3, ![4, 2048, 5632]⟩
abbrev S4x2048x2048 : Shape := ⟨3, ![4, 2048, 2048]⟩
abbrev S4x2048 : Shape := ⟨2, ![4, 2048]⟩
abbrev S4x5632x2048 : Shape := ⟨3, ![4, 5632, 2048]⟩
abbrev S4x1x2048 : Shape := ⟨3, ![4, 1, 2048]⟩
abbrev S1x5632x2048 : Shape := ⟨3, ![1, 5632, 2048]⟩
abbrev S5632x2048 : Shape := ⟨2, ![5632, 2048]⟩
abbrev S8192x2048 : Shape := ⟨2, ![8192, 2048]⟩

abbrev nBuf : Space → Nat
  | .hbm => 12
  | .vmem => 0
  | .smem => 0
  | _ => 0

abbrev bufTy : (tb : Table) → Fin (tcTables nBuf tb) → BufTy
  | .hbm, ⟨0, _⟩ => ⟨S4x2048x5632, .f32⟩
  | .hbm, ⟨1, _⟩ => ⟨S4x2048x2048, .f32⟩
  | .hbm, ⟨2, _⟩ => ⟨S4x2048, .f32⟩
  | .hbm, ⟨3, _⟩ => ⟨S4x5632x2048, .f32⟩
  | .hbm, ⟨4, _⟩ => ⟨S4x1x2048, .f32⟩
  | .hbm, ⟨5, _⟩ => ⟨S1x5632x2048, .f32⟩
  | .hbm, ⟨6, _⟩ => ⟨S5632x2048, .f32⟩
  | .hbm, ⟨7, _⟩ => ⟨S4x2048x2048, .f32⟩
  | .hbm, ⟨8, _⟩ => ⟨S4x2048x2048, .f32⟩
  | .hbm, ⟨9, _⟩ => ⟨S4x2048x2048, .f32⟩
  | .hbm, ⟨10, _⟩ => ⟨S4x2048x2048, .f32⟩
  | .hbm, ⟨11, _⟩ => ⟨S8192x2048, .f32⟩
  | _, _ => ⟨S4x2048x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]
-- ==== Kernel4.lean ====
abbrev S4x2048x1024 : Shape := ⟨3, ![4, 2048, 1024]⟩
abbrev S4x2048x512 : Shape := ⟨3, ![4, 2048, 512]⟩
abbrev S4x2048x2048 : Shape := ⟨3, ![4, 2048, 2048]⟩
abbrev S4x2048 : Shape := ⟨2, ![4, 2048]⟩
abbrev S8192x1024 : Shape := ⟨2, ![8192, 1024]⟩
abbrev S8192x512 : Shape := ⟨2, ![8192, 512]⟩
abbrev S4x1x2048 : Shape := ⟨3, ![4, 1, 2048]⟩
abbrev S8192x2048 : Shape := ⟨2, ![8192, 2048]⟩
abbrev S1024x1024 : Shape := ⟨2, ![1024, 1024]⟩
abbrev S1024x512 : Shape := ⟨2, ![1024, 512]⟩
abbrev S1x2048x512 : Shape := ⟨3, ![1, 2048, 512]⟩
abbrev S1x1x512 : Shape := ⟨3, ![1, 1, 512]⟩
abbrev S1x1024x512 : Shape := ⟨3, ![1, 1024, 512]⟩
abbrev S1x512x512 : Shape := ⟨3, ![1, 512, 512]⟩
abbrev S512x512 : Shape := ⟨2, ![512, 512]⟩
abbrev S1x512 : Shape := ⟨2, ![1, 512]⟩

abbrev nBuf : Space → Nat
  | .hbm => 16
  | .vmem => 14
  | .smem => 0
  | _ => 0

abbrev bufTy : (tb : Table) → Fin (tcTables nBuf tb) → BufTy
  | .hbm, ⟨0, _⟩ => ⟨S4x2048x1024, .f32⟩
  | .hbm, ⟨1, _⟩ => ⟨S4x2048x512, .f32⟩
  | .hbm, ⟨2, _⟩ => ⟨S4x2048x512, .f32⟩
  | .hbm, ⟨3, _⟩ => ⟨S4x2048x2048, .f32⟩
  | .hbm, ⟨4, _⟩ => ⟨S4x2048, .f32⟩
  | .hbm, ⟨5, _⟩ => ⟨S4x2048x2048, .f32⟩
  | .hbm, ⟨6, _⟩ => ⟨S8192x1024, .f32⟩
  | .hbm, ⟨7, _⟩ => ⟨S8192x1024, .bf16⟩
  | .hbm, ⟨8, _⟩ => ⟨S8192x512, .f32⟩
  | .hbm, ⟨9, _⟩ => ⟨S8192x512, .bf16⟩
  | .hbm, ⟨10, _⟩ => ⟨S8192x512, .f32⟩
  | .hbm, ⟨11, _⟩ => ⟨S8192x512, .bf16⟩
  | .hbm, ⟨12, _⟩ => ⟨S4x2048x2048, .bf16⟩
  | .hbm, ⟨13, _⟩ => ⟨S4x1x2048, .f32⟩
  | .hbm, ⟨14, _⟩ => ⟨S8192x2048, .f32⟩
  | .hbm, ⟨15, _⟩ => ⟨S8192x2048, .f32⟩
  | .local _ .vmem, ⟨0, _⟩ => ⟨S1024x1024, .bf16⟩
  | .local _ .vmem, ⟨1, _⟩ => ⟨S1024x1024, .bf16⟩
  | .local _ .vmem, ⟨2, _⟩ => ⟨S1024x512, .bf16⟩
  | .local _ .vmem, ⟨3, _⟩ => ⟨S1024x512, .bf16⟩
  | .local _ .vmem, ⟨4, _⟩ => ⟨S1024x512, .bf16⟩
  | .local _ .vmem, ⟨5, _⟩ => ⟨S1024x512, .bf16⟩
  | .local _ .vmem, ⟨6, _⟩ => ⟨S1x2048x512, .bf16⟩
  | .local _ .vmem, ⟨7, _⟩ => ⟨S1x2048x512, .bf16⟩
  | .local _ .vmem, ⟨8, _⟩ => ⟨S1x1x512, .f32⟩
  | .local _ .vmem, ⟨9, _⟩ => ⟨S1x1x512, .f32⟩
  | .local _ .vmem, ⟨10, _⟩ => ⟨S1024x512, .f32⟩
  | .local _ .vmem, ⟨11, _⟩ => ⟨S1024x512, .f32⟩
  | .local _ .vmem, ⟨12, _⟩ => ⟨S1024x512, .f32⟩
  | .local _ .vmem, ⟨13, _⟩ => ⟨S1024x512, .f32⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_4 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![v16.toNat, c0_i32_4.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference4Ideal.lean ====
abbrev S4x2048x1024 : Shape := ⟨3, ![4, 2048, 1024]⟩
abbrev S4x2048x512 : Shape := ⟨3, ![4, 2048, 512]⟩
abbrev S4x2048x2048 : Shape := ⟨3, ![4, 2048, 2048]⟩
abbrev S4x2048 : Shape := ⟨2, ![4, 2048]⟩
abbrev S4x1x2048 : Shape := ⟨3, ![4, 1, 2048]⟩
abbrev S1x2048x2048 : Shape := ⟨3, ![1, 2048, 2048]⟩
abbrev S2048x2048 : Shape := ⟨2, ![2048, 2048]⟩
abbrev S8192x2048 : Shape := ⟨2, ![8192, 2048]⟩

abbrev nBuf : Space → Nat
  | .hbm => 15
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S4x2048x512, .f32⟩
  | .hbm, ⟨2, _⟩ => ⟨S4x2048x512, .f32⟩
  | .hbm, ⟨3, _⟩ => ⟨S4x2048x2048, .f32⟩
  | .hbm, ⟨4, _⟩ => ⟨S4x2048, .f32⟩
  | .hbm, ⟨5, _⟩ => ⟨S4x2048x2048, .f32⟩
  | .hbm, ⟨6, _⟩ => ⟨S4x1x2048, .f32⟩
  | .hbm, ⟨7, _⟩ => ⟨S4x2048x2048, .f32⟩
  | .hbm, ⟨8, _⟩ => ⟨S1x2048x2048, .f32⟩
  | .hbm, ⟨9, _⟩ => ⟨S2048x2048, .f32⟩
  | .hbm, ⟨10, _⟩ => ⟨S4x2048x2048, .f32⟩
  | .hbm, ⟨11, _⟩ => ⟨S4x2048x2048, .f32⟩
  | .hbm, ⟨12, _⟩ => ⟨S4x2048x2048, .f32⟩
  | .hbm, ⟨13, _⟩ => ⟨S4x2048x2048, .f32⟩
  | .hbm, ⟨14, _⟩ => ⟨S8192x2048, .f32⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩

abbrev nD : Nat := 1
abbrev τ : Topo := Topo.v7x

variable {F : FTy → Type} [FloatOps F]
-- ==== Kernel5.lean ====
abbrev S4x2048x2048 : Shape := ⟨3, ![4, 2048, 2048]⟩
abbrev S4x2048 : Shape := ⟨2, ![4, 2048]⟩
abbrev S4x2048x3200 : Shape := ⟨3, ![4, 2048, 3200]⟩
abbrev S8192x2048 : Shape := ⟨2, ![8192, 2048]⟩
abbrev S1x2048 : Shape := ⟨2, ![1, 2048]⟩
abbrev S2048 : Shape := ⟨1, ![2048]⟩
abbrev S4x1x2048 : Shape := ⟨3, ![4, 1, 2048]⟩
abbrev S4x2048x512 : Shape := ⟨3, ![4, 2048, 512]⟩
abbrev S4x2048x1024 : Shape := ⟨3, ![4, 2048, 1024]⟩
abbrev S4x2048x96 : Shape := ⟨3, ![4, 2048, 96]⟩
abbrev S_ : Shape := ⟨0, ![]⟩
abbrev S4x2048x32 : Shape := ⟨3, ![4, 2048, 32]⟩
abbrev S4x2048x256 : Shape := ⟨3, ![4, 2048, 256]⟩
abbrev S4x2048x192 : Shape := ⟨3, ![4, 2048, 192]⟩
abbrev S4x2048x64 : Shape := ⟨3, ![4, 2048, 64]⟩
abbrev S4x2048x3328 : Shape := ⟨3, ![4, 2048, 3328]⟩
abbrev S8192x3328 : Shape := ⟨2, ![8192, 3328]⟩
abbrev S512x2048 : Shape := ⟨2, ![512, 2048]⟩
abbrev S1x1x2048 : Shape := ⟨3, ![1, 1, 2048]⟩
abbrev S1x2048x1664 : Shape := ⟨3, ![1, 2048, 1664]⟩
abbrev S512x1664 : Shape := ⟨2, ![512, 1664]⟩
abbrev S512 : Shape := ⟨1, ![512]⟩
abbrev S512x1 : Shape := ⟨2, ![512, 1]⟩
abbrev S2048x1664 : Shape := ⟨2, ![2048, 1664]⟩

abbrev nBuf : Space → Nat
  | .hbm => 28
  | .vmem => 12
  | .smem => 0
  | _ => 0

abbrev bufTy : (tb : Table) → Fin (tcTables nBuf tb) → BufTy
  | .hbm, ⟨0, _⟩ => ⟨S4x2048x2048, .f32⟩
  | .hbm, ⟨1, _⟩ => ⟨S4x2048, .f32⟩
  | .hbm, ⟨2, _⟩ => ⟨S4x2048, .f32⟩
  | .hbm, ⟨3, _⟩ => ⟨S4x2048, .f32⟩
  | .hbm, ⟨4, _⟩ => ⟨S4x2048x3200, .f32⟩
  | .hbm, ⟨5, _⟩ => ⟨S8192x2048, .f32⟩
  | .hbm, ⟨6, _⟩ => ⟨S1x2048, .f32⟩
  | .hbm, ⟨7, _⟩ => ⟨S2048, .f32⟩
  | .hbm, ⟨8, _⟩ => ⟨S1x2048, .f32⟩
  | .hbm, ⟨9, _⟩ => ⟨S4x1x2048, .f32⟩
  | .hbm, ⟨10, _⟩ => ⟨S4x1x2048, .f32⟩
  | .hbm, ⟨11, _⟩ => ⟨S4x2048x512, .f32⟩
  | .hbm, ⟨12, _⟩ => ⟨S4x2048x1024, .f32⟩
  | .hbm, ⟨13, _⟩ => ⟨S4x2048x96, .f32⟩
  | .hbm, ⟨14, _⟩ => ⟨S_, .f32⟩
  | .hbm, ⟨15, _⟩ => ⟨S4x2048x32, .f32⟩
  | .hbm, ⟨16, _⟩ => ⟨S4x2048x96, .f32⟩
  | .hbm, ⟨17, _⟩ => ⟨S_, .f32⟩
  | .hbm, ⟨18, _⟩ => ⟨S4x2048x32, .f32⟩
  | .hbm, ⟨19, _⟩ => ⟨S4x2048x256, .f32⟩
  | .hbm, ⟨20, _⟩ => ⟨S4x2048x512, .f32⟩
  | .hbm, ⟨21, _⟩ => ⟨S4x2048x512, .f32⟩
  | .hbm, ⟨22, _⟩ => ⟨S4x2048x192, .f32⟩
  | .hbm, ⟨23, _⟩ => ⟨S_, .f32⟩
  | .hbm, ⟨24, _⟩ => ⟨S4x2048x64, .f32⟩
  | .hbm, ⟨25, _⟩ => ⟨S4x2048x3328, .f32⟩
  | .hbm, ⟨26, _⟩ => ⟨S4x2048x3328, .bf16⟩
  | .hbm, ⟨27, _⟩ => ⟨S8192x3328, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S1x1x2048, .f32⟩
  | .local _ .vmem, ⟨4, _⟩ => ⟨S1x1x2048, .f32⟩
  | .local _ .vmem, ⟨5, _⟩ => ⟨S1x1x2048, .f32⟩
  | .local _ .vmem, ⟨6, _⟩ => ⟨S1x1x2048, .f32⟩
  | .local _ .vmem, ⟨7, _⟩ => ⟨S1x2048x1664, .bf16⟩
  | .local _ .vmem, ⟨8, _⟩ => ⟨S1x2048x1664, .bf16⟩
  | .local _ .vmem, ⟨9, _⟩ => ⟨S512x1664, .f32⟩
  | .local _ .vmem, ⟨10, _⟩ => ⟨S512x1664, .f32⟩
  | .local _ .vmem, ⟨11, _⟩ => ⟨S512x2048, .bf16⟩
  | _, _ => ⟨S4x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst : Ref sig .tc := ⟨.hbm, 14, rfl⟩
abbrev main_v9 : Ref sig .tc := ⟨.hbm, 15, rfl⟩
abbrev main_v10 : Ref sig .tc := ⟨.hbm, 16, rfl⟩
abbrev main_cst_0 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_1 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![16, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_3 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x2048x1664 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S512x1664 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference5Ideal.lean ====
abbrev S4x2048x2048 : Shape := ⟨3, ![4, 2048, 2048]⟩
abbrev S4x2048 : Shape := ⟨2, ![4, 2048]⟩
abbrev S4x2048x3200 : Shape := ⟨3, ![4, 2048, 3200]⟩
abbrev S_ : Shape := ⟨0, ![]⟩
abbrev S4x2048x1 : Shape := ⟨3, ![4, 2048, 1]⟩
abbrev S1x2048 : Shape := ⟨2, ![1, 2048]⟩
abbrev S2048 : Shape := ⟨1, ![2048]⟩
abbrev S1x1x2048 : Shape := ⟨3, ![1, 1, 2048]⟩
abbrev S4x1x2048 : Shape := ⟨3, ![4, 1, 2048]⟩
abbrev S1x2048x3200 : Shape := ⟨3, ![1, 2048, 3200]⟩
abbrev S2048x3200 : Shape := ⟨2, ![2048, 3200]⟩
abbrev S4x2048x704 : Shape := ⟨3, ![4, 2048, 704]⟩
abbrev S4x2048x1984 : Shape := ⟨3, ![4, 2048, 1984]⟩
abbrev S4x2048x512 : Shape := ⟨3, ![4, 2048, 512]⟩
abbrev S4x2048x128 : Shape := ⟨3, ![4, 2048, 128]⟩
abbrev S4x2048x64 : Shape := ⟨3, ![4, 2048, 64]⟩
abbrev S4x2048x96 : Shape := ⟨3, ![4, 2048, 96]⟩
abbrev S4x2048x256 : Shape := ⟨3, ![4, 2048, 256]⟩
abbrev S4x2048x32 : Shape := ⟨3, ![4, 2048, 32]⟩
abbrev S4x2048x3328 : Shape := ⟨3, ![4, 2048, 3328]⟩
abbrev S8192x3328 : Shape := ⟨2, ![8192, 3328]⟩

abbrev nBuf : Space → Nat
  | .hbm => 55
  | .vmem => 0
  | .smem => 0
  | _ => 0

abbrev bufTy : (tb : Table) → Fin (tcTables nBuf tb) → BufTy
  | .hbm, ⟨0, _⟩ => ⟨S4x2048x2048, .f32⟩
  | .hbm, ⟨1, _⟩ => ⟨S4x2048, .f32⟩
  | .hbm, ⟨2, _⟩ => ⟨S4x2048, .f32⟩
  | .hbm, ⟨3, _⟩ => ⟨S4x2048, .f32⟩
  | .hbm, ⟨4, _⟩ => ⟨S4x2048x3200, .f32⟩
  | .hbm, ⟨5, _⟩ => ⟨S4x2048x2048, .f32⟩
  | .hbm, ⟨6, _⟩ => ⟨S_, .f32⟩
  | .hbm, ⟨7, _⟩ => ⟨S4x2048, .f32⟩
  | .hbm, ⟨8, _⟩ => ⟨S4x2048x1, .f32⟩
  | .hbm, ⟨9, _⟩ => ⟨S_, .f32⟩
  | .hbm, ⟨10, _⟩ => ⟨S4x2048x1, .f32⟩
  | .hbm, ⟨11, _⟩ => ⟨S4x2048x1, .f32⟩
  | .hbm, ⟨12, _⟩ => ⟨S_, .f32⟩
  | .hbm, ⟨13, _⟩ => ⟨S4x2048x1, .f32⟩
  | .hbm, ⟨14, _⟩ => ⟨S4x2048x1, .f32⟩
  | .hbm, ⟨15, _⟩ => ⟨S4x2048x1, .f32⟩
  | .hbm, ⟨16, _⟩ => ⟨S4x2048x2048, .f32⟩
  | .hbm, ⟨17, _⟩ => ⟨S4x2048x2048, .f32⟩
  | .hbm, ⟨18, _⟩ => ⟨S1x2048, .f32⟩
  | .hbm, ⟨19, _⟩ => ⟨S2048, .f32⟩
  | .hbm, ⟨20, _⟩ => ⟨S1x1x2048, .f32⟩
  | .hbm, ⟨21, _⟩ => ⟨S4x2048x2048, .f32⟩
  | .hbm, ⟨22, _⟩ => ⟨S4x2048x2048, .f32⟩
  | .hbm, ⟨23, _⟩ => ⟨S4x1x2048, .f32⟩
  | .hbm, ⟨24, _⟩ => ⟨S_, .f32⟩
  | .hbm, ⟨25, _⟩ => ⟨S4x1x2048, .f32⟩
  | .hbm, ⟨26, _⟩ => ⟨S4x1x2048, .f32⟩
  | .hbm, ⟨27, _⟩ => ⟨S4x2048x2048, .f32⟩
  | .hbm, ⟨28, _⟩ => ⟨S4x2048x2048, .f32⟩
  | .hbm, ⟨29, _⟩ => ⟨S4x1x2048, .f32⟩
  | .hbm, ⟨30, _⟩ => ⟨S4x2048x2048, .f32⟩
  | .hbm, ⟨31, _⟩ => ⟨S4x2048x2048, .f32⟩
  | .hbm, ⟨32, _⟩ => ⟨S1x2048x3200, .f32⟩
  | .hbm, ⟨33, _⟩ => ⟨S2048x3200, .f32⟩
  | .hbm, ⟨34, _⟩ => ⟨S4x2048x3200, .f32⟩
  | .hbm, ⟨35, _⟩ => ⟨S4x2048x704, .f32⟩
  | .hbm, ⟨36, _⟩ => ⟨S4x2048x1984, .f32⟩
  | .hbm, ⟨37, _⟩ => ⟨S4x2048x512, .f32⟩
  | .hbm, ⟨38, _⟩ => ⟨S4x2048x512, .f32⟩
  | .hbm, ⟨39, _⟩ => ⟨S4x2048x128, .f32⟩
  | .hbm, ⟨40, _⟩ => ⟨S4x2048x64, .f32⟩
  | .hbm, ⟨41, _⟩ => ⟨S4x2048x512, .f32⟩
  | .hbm, ⟨42, _⟩ => ⟨S4x2048x96, .f32⟩
  | .hbm, ⟨43, _⟩ => ⟨S4x2048x512, .f32⟩
  | .hbm, ⟨44, _⟩ => ⟨S4x2048x512, .f32⟩
  | .hbm, ⟨45, _⟩ => ⟨S4x2048x96, .f32⟩
  | .hbm, ⟨46, _⟩ => ⟨S4x2048x256, .f32⟩
  | .hbm, ⟨47, _⟩ => ⟨S_, .f32⟩
  | .hbm, ⟨48, _⟩ => ⟨S4x2048x32, .f32⟩
  | .hbm, ⟨49, _⟩ => ⟨S_, .f32⟩
  | .hbm, ⟨50, _⟩ => ⟨S4x2048x32, .f32⟩
  | .hbm, ⟨51, _⟩ => ⟨S_, .f32⟩
  | .hbm, ⟨52, _⟩ => ⟨S4x2048x64, .f32⟩
  | .hbm, ⟨53, _⟩ => ⟨S4x2048x3328, .f32⟩
  | .hbm, ⟨54, _⟩ => ⟨S8192x3328, .f32⟩
  | _, _ => ⟨S4x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_2 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_cst_3 : Ref sig .tc := ⟨.hbm, 47, rfl⟩
abbrev main_v38 : Ref sig .tc := ⟨.hbm, 48, rfl⟩
abbrev main_cst_4 : Ref sig .tc := ⟨.hbm, 49, rfl⟩
abbrev main_v39 : Ref sig .tc := ⟨.hbm, 50, rfl⟩
abbrev main_cst_5 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩

abbrev nD : Nat := 1
abbrev τ : Topo := Topo.v7x

variable {F : FTy → Type} [FloatOps F]
-- ==== Kernel6.lean ====
abbrev S4x2048x704 : Shape := ⟨3, ![4, 2048, 704]⟩
abbrev S4x512 : Shape := ⟨2, ![4, 512]⟩
abbrev S4x512x1536 : Shape := ⟨3, ![4, 512, 1536]⟩
abbrev S4x128 : Shape := ⟨2, ![4, 128]⟩
abbrev S4x128x8x128 : Shape := ⟨4, ![4, 128, 8, 128]⟩
abbrev S4x64 : Shape := ⟨2, ![4, 64]⟩
abbrev S_ : Shape := ⟨0, ![]⟩
abbrev S4x2048x2048 : Shape := ⟨3, ![4, 2048, 2048]⟩
abbrev S4x2048x512 : Shape := ⟨3, ![4, 2048, 512]⟩
abbrev S4x2048x192 : Shape := ⟨3, ![4, 2048, 192]⟩
abbrev S4x2048x64 : Shape := ⟨3, ![4, 2048, 64]⟩
abbrev S4x2048x3328 : Shape := ⟨3, ![4, 2048, 3328]⟩
abbrev S8192x3328 : Shape := ⟨2, ![8192, 3328]⟩
abbrev S2048 : Shape := ⟨1, ![2048]⟩
abbrev S32 : Shape := ⟨1, ![32]⟩
abbrev S2048x1 : Shape := ⟨2, ![2048, 1]⟩
abbrev S1x32 : Shape := ⟨2, ![1, 32]⟩
abbrev S2048x32 : Shape := ⟨2, ![2048, 32]⟩
abbrev S2048x64 : Shape := ⟨2, ![2048, 64]⟩
abbrev S2048x128 : Shape := ⟨2, ![2048, 128]⟩
abbrev S4x512x192 : Shape := ⟨3, ![4, 512, 192]⟩
abbrev S4x512x64 : Shape := ⟨3, ![4, 512, 64]⟩
abbrev S4x512x2048 : Shape := ⟨3, ![4, 512, 2048]⟩
abbrev S4x128x1024 : Shape := ⟨3, ![4, 128, 1024]⟩
abbrev S1x512 : Shape := ⟨2, ![1, 512]⟩
abbrev S512 : Shape := ⟨1, ![512]⟩
abbrev S1x512x2048 : Shape := ⟨3, ![1, 512, 2048]⟩
abbrev S512x2048 : Shape := ⟨2, ![512, 2048]⟩
abbrev S1x128 : Shape := ⟨2, ![1, 128]⟩
abbrev S128 : Shape := ⟨1, ![128]⟩
abbrev S1x128x1024 : Shape := ⟨3, ![1, 128, 1024]⟩
abbrev S128x1024 : Shape := ⟨2, ![128, 1024]⟩
abbrev S8192x2048 : Shape := ⟨2, ![8192, 2048]⟩
abbrev S8192x1024 : Shape := ⟨2, ![8192, 1024]⟩
abbrev S8192x128 : Shape := ⟨2, ![8192, 128]⟩
abbrev S256x512 : Shape := ⟨2, ![256, 512]⟩
abbrev S256x128 : Shape := ⟨2, ![256, 128]⟩
abbrev S256x2048 : Shape := ⟨2, ![256, 2048]⟩
abbrev S256x1024 : Shape := ⟨2, ![256, 1024]⟩
abbrev S256 : Shape := ⟨1, ![256]⟩
abbrev S256x1 : Shape := ⟨2, ![256, 1]⟩

abbrev nBuf : Space → Nat
  | .hbm => 109
  | .vmem => 29
  | .smem => 0
  | _ => 0

abbrev bufTy : (tb : Table) → Fin (tcTables nBuf tb) → BufTy
  | .hbm, ⟨0, _⟩ => ⟨S4x2048x704, .f32⟩
  | .hbm, ⟨1, _⟩ => ⟨S4x512, .f32⟩
  | .hbm, ⟨2, _⟩ => ⟨S4x512x1536, .f32⟩
  | .hbm, ⟨3, _⟩ => ⟨S4x128, .f32⟩
  | .hbm, ⟨4, _⟩ => ⟨S4x128x8x128, .f32⟩
  | .hbm, ⟨5, _⟩ => ⟨S4x128x8x128, .f32⟩
  | .hbm, ⟨6, _⟩ => ⟨S4x128, .f32⟩
  | .hbm, ⟨7, _⟩ => ⟨S4x64, .f32⟩
  | .hbm, ⟨8, _⟩ => ⟨S4x128, .f32⟩
  | .hbm, ⟨9, _⟩ => ⟨S4x64, .f32⟩
  | .hbm, ⟨10, _⟩ => ⟨S_, .f32⟩
  | .hbm, ⟨11, _⟩ => ⟨S4x2048x2048, .f32⟩
  | .hbm, ⟨12, _⟩ => ⟨S4x2048x512, .f32⟩
  | .hbm, ⟨13, _⟩ => ⟨S_, .f32⟩
  | .hbm, ⟨14, _⟩ => ⟨S4x2048x512, .f32⟩
  | .hbm, ⟨15, _⟩ => ⟨S4x2048x192, .f32⟩
  | .hbm, ⟨16, _⟩ => ⟨S_, .f32⟩
  | .hbm, ⟨17, _⟩ => ⟨S4x2048x64, .f32⟩
  | .hbm, ⟨18, _⟩ => ⟨S4x2048x3328, .f32⟩
  | .hbm, ⟨19, _⟩ => ⟨S8192x3328, .f32⟩
  | .hbm, ⟨20, _⟩ => ⟨S2048, .i32⟩
  | .hbm, ⟨21, _⟩ => ⟨S32, .f32⟩
  | .hbm, ⟨22, _⟩ => ⟨S32, .f32⟩
  | .hbm, ⟨23, _⟩ => ⟨S_, .f32⟩
  | .hbm, ⟨24, _⟩ => ⟨S32, .f32⟩
  | .hbm, ⟨25, _⟩ => ⟨S32, .f32⟩
  | .hbm, ⟨26, _⟩ => ⟨S_, .f32⟩
  | .hbm, ⟨27, _⟩ => ⟨S32, .f32⟩
  | .hbm, ⟨28, _⟩ => ⟨S32, .f32⟩
  | .hbm, ⟨29, _⟩ => ⟨S_, .f32⟩
  | .hbm, ⟨30, _⟩ => ⟨S32, .f32⟩
  | .hbm, ⟨31, _⟩ => ⟨S32, .f32⟩
  | .hbm, ⟨32, _⟩ => ⟨S2048, .f32⟩
  | .hbm, ⟨33, _⟩ => ⟨S2048x1, .f32⟩
  | .hbm, ⟨34, _⟩ => ⟨S1x32, .f32⟩
  | .hbm, ⟨35, _⟩ => ⟨S2048x32, .f32⟩
  | .hbm, ⟨36, _⟩ => ⟨S2048x32, .f32⟩
  | .hbm, ⟨37, _⟩ => ⟨S2048x32, .f32⟩
  | .hbm, ⟨38, _⟩ => ⟨S2048x32, .f32⟩
  | .hbm, ⟨39, _⟩ => ⟨S2048x32, .f32⟩
  | .hbm, ⟨40, _⟩ => ⟨S_, .f32⟩
  | .hbm, ⟨41, _⟩ => ⟨S2048x64, .f32⟩
  | .hbm, ⟨42, _⟩ => ⟨S2048x128, .f32⟩
  | .hbm, ⟨43, _⟩ => ⟨S2048x128, .f32⟩
  | .hbm, ⟨44, _⟩ => ⟨S4x512x192, .f32⟩
  | .hbm, ⟨45, _⟩ => ⟨S_, .f32⟩
  | .hbm, ⟨46, _⟩ => ⟨S4x512x64, .f32⟩
  | .hbm, ⟨47, _⟩ => ⟨S4x512x192, .f32⟩
  | .hbm, ⟨48, _⟩ => ⟨S_, .f32⟩
  | .hbm, ⟨49, _⟩ => ⟨S4x512x64, .f32⟩
  | .hbm, ⟨50, _⟩ => ⟨S4x512x192, .f32⟩
  | .hbm, ⟨51, _⟩ => ⟨S_, .f32⟩
  | .hbm, ⟨52, _⟩ => ⟨S4x512x64, .f32⟩
  | .hbm, ⟨53, _⟩ => ⟨S4x512x192, .f32⟩
  | .hbm, ⟨54, _⟩ => ⟨S_, .f32⟩
  | .hbm, ⟨55, _⟩ => ⟨S4x512x64, .f32⟩
  | .hbm, ⟨56, _⟩ => ⟨S4x512x192, .f32⟩
  | .hbm, ⟨57, _⟩ => ⟨S_, .f32⟩
  | .hbm, ⟨58, _⟩ => ⟨S4x512x64, .f32⟩
  | .hbm, ⟨59, _⟩ => ⟨S4x512x192, .f32⟩
  | .hbm, ⟨60, _⟩ => ⟨S_, .f32⟩
  | .hbm, ⟨61, _⟩ => ⟨S4x512x64, .f32⟩
  | .hbm, ⟨62, _⟩ => ⟨S4x512x192, .f32⟩
  | .hbm, ⟨63, _⟩ => ⟨S_, .f32⟩
  | .hbm, ⟨64, _⟩ => ⟨S4x512x64, .f32⟩
  | .hbm, ⟨65, _⟩ => ⟨S4x512x192, .f32⟩
  | .hbm, ⟨66, _⟩ => ⟨S_, .f32⟩
  | .hbm, ⟨67, _⟩ => ⟨S4x512x64, .f32⟩
  | .hbm, ⟨68, _⟩ => ⟨S4x512x2048, .f32⟩
  | .hbm, ⟨69, _⟩ => ⟨S4x512x2048, .bf16⟩
  | .hbm, ⟨70, _⟩ => ⟨S4x128x1024, .f32⟩
  | .hbm, ⟨71, _⟩ => ⟨S4x128x1024, .bf16⟩
  | .hbm, ⟨72, _⟩ => ⟨S4x128x1024, .f32⟩
  | .hbm, ⟨73, _⟩ => ⟨S4x128x1024, .bf16⟩
  | .hbm, ⟨74, _⟩ => ⟨S_, .i32⟩
  | .hbm, ⟨75, _⟩ => ⟨S_, .f32⟩
  | .hbm, ⟨76, _⟩ => ⟨S4x128, .f32⟩
  | .hbm, ⟨77, _⟩ => ⟨S_, .i32⟩
  | .hbm, ⟨78, _⟩ => ⟨S_, .f32⟩
  | .hbm, ⟨79, _⟩ => ⟨S4x128, .f32⟩
  | .hbm, ⟨80, _⟩ => ⟨S1x512, .f32⟩
  | .hbm, ⟨81, _⟩ => ⟨S512, .f32⟩
  | .hbm, ⟨82, _⟩ => ⟨S1x512, .f32⟩
  | .hbm, ⟨83, _⟩ => ⟨S1x512x2048, .bf16⟩
  | .hbm, ⟨84, _⟩ => ⟨S512x2048, .bf16⟩
  | .hbm, ⟨85, _⟩ => ⟨S1x128, .f32⟩
  | .hbm, ⟨86, _⟩ => ⟨S128, .f32⟩
  | .hbm, ⟨87, _⟩ => ⟨S1x128, .f32⟩
  | .hbm, ⟨88, _⟩ => ⟨S1x128, .f32⟩
  | .hbm, ⟨89, _⟩ => ⟨S128, .f32⟩
  | .hbm, ⟨90, _⟩ => ⟨S1x128, .f32⟩
  | .hbm, ⟨91, _⟩ => ⟨S1x128, .f32⟩
  | .hbm, ⟨92, _⟩ => ⟨S128, .f32⟩
  | .hbm, ⟨93, _⟩ => ⟨S1x128, .f32⟩
  | .hbm, ⟨94, _⟩ => ⟨S1x128, .f32⟩
  | .hbm, ⟨95, _⟩ => ⟨S128, .f32⟩
  | .hbm, ⟨96, _⟩ => ⟨S1x128, .f32⟩
  | .hbm, ⟨97, _⟩ => ⟨S1x128, .f32⟩
  | .hbm, ⟨98, _⟩ => ⟨S128, .f32⟩
  | .hbm, ⟨99, _⟩ => ⟨S1x128, .f32⟩
  | .hbm, ⟨100, _⟩ => ⟨S1x128x1024, .bf16⟩
  | .hbm, ⟨101, _⟩ => ⟨S128x1024, .bf16⟩
  | .hbm, ⟨102, _⟩ => ⟨S1x128x1024, .bf16⟩
  | .hbm, ⟨103, _⟩ => ⟨S128x1024, .bf16⟩
  | .hbm, ⟨104, _⟩ => ⟨S8192x2048, .bf16⟩
  | .hbm, ⟨105, _⟩ => ⟨S8192x2048, .bf16⟩
  | .hbm, ⟨106, _⟩ => ⟨S8192x1024, .bf16⟩
  | .hbm, ⟨107, _⟩ => ⟨S8192x128, .f32⟩
  | .hbm, ⟨108, _⟩ => ⟨S8192x128, .f32⟩
  | .local _ .vmem, ⟨0, _⟩ => ⟨S256x512, .f32⟩
  | .local _ .vmem, ⟨1, _⟩ => ⟨S256x512, .f32⟩
  | .local _ .vmem, ⟨2, _⟩ => ⟨S256x128, .f32⟩
  | .local _ .vmem, ⟨3, _⟩ => ⟨S256x128, .f32⟩
  | .local _ .vmem, ⟨4, _⟩ => ⟨S256x128, .f32⟩
  | .local _ .vmem, ⟨5, _⟩ => ⟨S256x128, .f32⟩
  | .local _ .vmem, ⟨6, _⟩ => ⟨S256x128, .f32⟩
  | .local _ .vmem, ⟨7, _⟩ => ⟨S256x128, .f32⟩
  | .local _ .vmem, ⟨8, _⟩ => ⟨S256x128, .f32⟩
  | .local _ .vmem, ⟨9, _⟩ => ⟨S256x128, .f32⟩
  | .local _ .vmem, ⟨10, _⟩ => ⟨S1x512, .f32⟩
  | .local _ .vmem, ⟨11, _⟩ => ⟨S512x2048, .bf16⟩
  | .local _ .vmem, ⟨12, _⟩ => ⟨S1x128, .f32⟩
  | .local _ .vmem, ⟨13, _⟩ => ⟨S1x128, .f32⟩
  | .local _ .vmem, ⟨14, _⟩ => ⟨S1x128, .f32⟩
  | .local _ .vmem, ⟨15, _⟩ => ⟨S1x128, .f32⟩
  | .local _ .vmem, ⟨16, _⟩ => ⟨S1x128, .f32⟩
  | .local _ .vmem, ⟨17, _⟩ => ⟨S128x1024, .bf16⟩
  | .local _ .vmem, ⟨18, _⟩ => ⟨S128x1024, .bf16⟩
  | .local _ .vmem, ⟨19, _⟩ => ⟨S256x2048, .bf16⟩
  | .local _ .vmem, ⟨20, _⟩ => ⟨S256x2048, .bf16⟩
  | .local _ .vmem, ⟨21, _⟩ => ⟨S256x2048, .bf16⟩
  | .local _ .vmem, ⟨22, _⟩ => ⟨S256x2048, .bf16⟩
  | .local _ .vmem, ⟨23, _⟩ => ⟨S256x1024, .bf16⟩
  | .local _ .vmem, ⟨24, _⟩ => ⟨S256x1024, .bf16⟩
  | .local _ .vmem, ⟨25, _⟩ => ⟨S256x128, .f32⟩
  | .local _ .vmem, ⟨26, _⟩ => ⟨S256x128, .f32⟩
  | .local _ .vmem, ⟨27, _⟩ => ⟨S256x128, .f32⟩
  | .local _ .vmem, ⟨28, _⟩ => ⟨S256x128, .f32⟩
  | _, _ => ⟨S4x2048x704, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_v1 : Ref sig .tc := ⟨.hbm, 12, rfl⟩
abbrev main_cst_0 : Ref sig .tc := ⟨.hbm, 13, rfl⟩
abbrev main_v2 : Ref sig .tc := ⟨.hbm, 14, rfl⟩
abbrev main_v3 : Ref sig .tc := ⟨.hbm, 15, rfl⟩
abbrev main_cst_1 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_cst_2 : Ref sig .tc := ⟨.hbm, 23, rfl⟩
abbrev main_v10 : Ref sig .tc := ⟨.hbm, 24, rfl⟩
abbrev main_v11 : Ref sig .tc := ⟨.hbm, 25, rfl⟩
abbrev main_cst_3 : Ref sig .tc := ⟨.hbm, 26, rfl⟩
abbrev main_v12 : Ref sig .tc := ⟨.hbm, 27, rfl⟩
abbrev main_v13 : Ref sig .tc := ⟨.hbm, 28, rfl⟩
abbrev main_cst_4 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_cst_5 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_cst_6 : Ref sig .tc := ⟨.hbm, 45, rfl⟩
abbrev main_v28 : Ref sig .tc := ⟨.hbm, 46, rfl⟩
abbrev main_v29 : Ref sig .tc := ⟨.hbm, 47, rfl⟩
abbrev main_cst_7 : Ref sig .tc := ⟨.hbm, 48, rfl⟩
abbrev main_v30 : Ref sig .tc := ⟨.hbm, 49, rfl⟩
abbrev main_v31 : Ref sig .tc := ⟨.hbm, 50, rfl⟩
abbrev main_cst_8 : Ref sig .tc := ⟨.hbm, 51, rfl⟩
abbrev main_v32 : Ref sig .tc := ⟨.hbm, 52, rfl⟩
abbrev main_v33 : Ref sig .tc := ⟨.hbm, 53, rfl⟩
abbrev main_cst_9 : Ref sig .tc := ⟨.hbm, 54, rfl⟩
abbrev main_v34 : Ref sig .tc := ⟨.hbm, 55, rfl⟩
abbrev main_v35 : Ref sig .tc := ⟨.hbm, 56, rfl⟩
abbrev main_cst_10 : Ref sig .tc := ⟨.hbm, 57, rfl⟩
abbrev main_v36 : Ref sig .tc := ⟨.hbm, 58, rfl⟩
abbrev main_v37 : Ref sig .tc := ⟨.hbm, 59, rfl⟩
abbrev main_cst_11 : Ref sig .tc := ⟨.hbm, 60, rfl⟩
abbrev main_v38 : Ref sig .tc := ⟨.hbm, 61, rfl⟩
abbrev main_v39 : Ref sig .tc := ⟨.hbm, 62, rfl⟩
abbrev main_cst_12 : Ref sig .tc := ⟨.hbm, 63, rfl⟩
abbrev main_v40 : Ref sig .tc := ⟨.hbm, 64, rfl⟩
abbrev main_v41 : Ref sig .tc := ⟨.hbm, 65, rfl⟩
abbrev main_cst_13 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_c : Ref sig .tc := ⟨.hbm, 74, rfl⟩
abbrev main_call0_v0 : Ref sig .tc := ⟨.hbm, 75, rfl⟩
abbrev main_v49 : Ref sig .tc := ⟨.hbm, 76, rfl⟩
abbrev main_c_14 : Ref sig .tc := ⟨.hbm, 77, rfl⟩
abbrev main_call1_v0 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75_0 : Ref sig .tc := ⟨.hbm, 104, rfl⟩
abbrev main_v75_1 : Ref sig .tc := ⟨.hbm, 105, rfl⟩
abbrev main_v75_2 : Ref sig .tc := ⟨.hbm, 106, rfl⟩
abbrev main_v75_3 : Ref sig .tc := ⟨.hbm, 107, rfl⟩
abbrev main_v75_4 : Ref sig .tc := ⟨.hbm, 108, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg13_0 : Ref sig .tc := ⟨.vmem, 18, rfl⟩
abbrev cc0_stg14_0 : Ref sig .tc := ⟨.vmem, 19, rfl⟩
abbrev cc0_stg14_1 : Ref sig .tc := ⟨.vmem, 20, rfl⟩
abbrev cc0_stg15_0 : Ref sig .tc := ⟨.vmem, 21, rfl⟩
abbrev cc0_stg15_1 : Ref sig .tc := ⟨.vmem, 22, rfl⟩
abbrev cc0_stg16_0 : Ref sig .tc := ⟨.vmem, 23, rfl⟩
abbrev cc0_stg16_1 : Ref sig .tc := ⟨.vmem, 24, rfl⟩
abbrev cc0_stg17_0 : Ref sig .tc := ⟨.vmem, 25, rfl⟩
abbrev cc0_stg17_1 : Ref sig .tc := ⟨.vmem, 26, rfl⟩
abbrev cc0_stg18_0 : Ref sig .tc := ⟨.vmem, 27, rfl⟩
abbrev cc0_stg18_1 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem12_0 : DmaSem sig := 17
abbrev cc0_sem13_0 : DmaSem sig := 18
abbrev cc0_sem14_0 : DmaSem sig := 19
abbrev cc0_sem14_1 : DmaSem sig := 20
abbrev cc0_sem15_0 : DmaSem sig := 21
abbrev cc0_sem15_1 : DmaSem sig := 22
abbrev cc0_sem16_0 : DmaSem sig := 23
abbrev cc0_sem16_1 : DmaSem sig := 24
abbrev cc0_sem17_0 : DmaSem sig := 25
abbrev cc0_sem17_1 : DmaSem sig := 26
abbrev cc0_sem18_0 : DmaSem sig := 27
abbrev cc0_sem18_1 : DmaSem sig := 28

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_1 (i : grid0.Coords) : Fin 2 → Nat :=
  let arg0 : BitVec 32 := BitVec.ofNat 32 (i 0).val
  let c24_i32 : BitVec 32 := 24#32
  let c0_i32 : BitVec 32 := 0#32
  ![arg0.toNat, c24_i32.toNat]

def cc0_transform_2 (i : grid0.Coords) : Fin 2 → Nat :=
  let arg0 : BitVec 32 := BitVec.ofNat 32 (i 0).val
  let c25_i32 : BitVec 32 := 25#32
  let c0_i32 : BitVec 32 := 0#32
  ![arg0.toNat, c25_i32.toNat]

def cc0_transform_3 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_4 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S128x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S128x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S256x2048 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S256x2048 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S256x1024 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S256x128 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S256x128 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]
-- ==== Reference6Ideal.lean ====
abbrev S4x2048x704 : Shape := ⟨3, ![4, 2048, 704]⟩
abbrev S4x512 : Shape := ⟨2, ![4, 512]⟩
abbrev S4x512x1536 : Shape := ⟨3, ![4, 512, 1536]⟩
abbrev S4x128 : Shape := ⟨2, ![4, 128]⟩
abbrev S4x128x8x128 : Shape := ⟨4, ![4, 128, 8, 128]⟩
abbrev S4x64 : Shape := ⟨2, ![4, 64]⟩
abbrev S32 : Shape := ⟨1, ![32]⟩
abbrev S_ : Shape := ⟨0, ![]⟩
abbrev S2048 : Shape := ⟨1, ![2048]⟩
abbrev S2048x1 : Shape := ⟨2, ![2048, 1]⟩
abbrev S1x32 : Shape := ⟨2, ![1, 32]⟩
abbrev S2048x32 : Shape := ⟨2, ![2048, 32]⟩
abbrev S4x2048x512 : Shape := ⟨3, ![4, 2048, 512]⟩
abbrev S4x2048x128 : Shape := ⟨3, ![4, 2048, 128]⟩
abbrev S4x2048x64 : Shape := ⟨3, ![4, 2048, 64]⟩
abbrev S1x512 : Shape := ⟨2, ![1, 512]⟩
abbrev S512 : Shape := ⟨1, ![512]⟩
abbrev S4x2048 : Shape := ⟨2, ![4, 2048]⟩
abbrev S4x2048x1 : Shape := ⟨3, ![4, 2048, 1]⟩
abbrev S1x1x512 : Shape := ⟨3, ![1, 1, 512]⟩
abbrev S1x512x1536 : Shape := ⟨3, ![1, 512, 1536]⟩
abbrev S512x1536 : Shape := ⟨2, ![512, 1536]⟩
abbrev S4x2048x1536 : Shape := ⟨3, ![4, 2048, 1536]⟩
abbrev S4x2048x8x192 : Shape := ⟨4, ![4, 2048, 8, 192]⟩
abbrev S4x2048x8x128 : Shape := ⟨4, ![4, 2048, 8, 128]⟩
abbrev S1x128 : Shape := ⟨2, ![1, 128]⟩
abbrev S128 : Shape := ⟨1, ![128]⟩
abbrev S4x2048x8 : Shape := ⟨3, ![4, 2048, 8]⟩
abbrev S4x2048x8x1 : Shape := ⟨4, ![4, 2048, 8, 1]⟩
abbrev S1x1x1x128 : Shape := ⟨4, ![1, 1, 1, 128]⟩
abbrev S4x2048x8x64 : Shape := ⟨4, ![4, 2048, 8, 64]⟩
abbrev S1x64 : Shape := ⟨2, ![1, 64]⟩
abbrev S64 : Shape := ⟨1, ![64]⟩
abbrev S1x1x1x64 : Shape := ⟨4, ![1, 1, 1, 64]⟩
abbrev S2048x1x32 : Shape := ⟨3, ![2048, 1, 32]⟩
abbrev S4x2048x8x32 : Shape := ⟨4, ![4, 2048, 8, 32]⟩
abbrev S1x2048x1x32 : Shape := ⟨4, ![1, 2048, 1, 32]⟩
abbrev S1x1x128 : Shape := ⟨3, ![1, 1, 128]⟩
abbrev S1x1x64 : Shape := ⟨3, ![1, 1, 64]⟩
abbrev S4x2048x32 : Shape := ⟨3, ![4, 2048, 32]⟩
abbrev S1x2048x32 : Shape := ⟨3, ![1, 2048, 32]⟩
abbrev S1x128x8x128 : Shape := ⟨4, ![1, 128, 8, 128]⟩
abbrev S128x8x128 : Shape := ⟨3, ![128, 8, 128]⟩
abbrev S4x2048x1x64 : Shape := ⟨4, ![4, 2048, 1, 64]⟩
abbrev S4x2048x8x256 : Shape := ⟨4, ![4, 2048, 8, 256]⟩
abbrev S8192x2048 : Shape := ⟨2, ![8192, 2048]⟩
abbrev S8192x1024 : Shape := ⟨2, ![8192, 1024]⟩
abbrev S8192x128 : Shape := ⟨2, ![8192, 128]⟩

abbrev nBuf : Space → Nat
  | .hbm => 210
  | .vmem => 0
  | .smem => 0
  | _ => 0

abbrev hbmTy0_0 (i : Nat) : BufTy := match i % 128 with
  | 0 => ⟨S4x2048x704, .f32⟩
  | 1 => ⟨S4x512, .f32⟩
  | 2 => ⟨S4x512x1536, .f32⟩
  | 3 => ⟨S4x128, .f32⟩
  | 4 => ⟨S4x128x8x128, .f32⟩
  | 5 => ⟨S4x128x8x128, .f32⟩
  | 6 => ⟨S4x128, .f32⟩
  | 7 => ⟨S4x64, .f32⟩
  | 8 => ⟨S4x128, .f32⟩
  | 9 => ⟨S4x64, .f32⟩
  | 10 => ⟨S32, .f32⟩
  | 11 => ⟨S32, .f32⟩
  | 12 => ⟨S_, .f32⟩
  | 13 => ⟨S32, .f32⟩
  | 14 => ⟨S32, .f32⟩
  | 15 => ⟨S_, .f32⟩
  | 16 => ⟨S32, .f32⟩
  | 17 => ⟨S32, .f32⟩
  | 18 => ⟨S_, .f32⟩
  | 19 => ⟨S32, .f32⟩
  | 20 => ⟨S32, .f32⟩
  | 21 => ⟨S2048, .i32⟩
  | 22 => ⟨S2048, .f32⟩
  | 23 => ⟨S2048x1, .f32⟩
  | 24 => ⟨S1x32, .f32⟩
  | 25 => ⟨S2048x32, .f32⟩
  | 26 => ⟨S2048x32, .f32⟩
  | 27 => ⟨S2048x32, .f32⟩
  | 28 => ⟨S4x2048x512, .f32⟩
  | 29 => ⟨S4x2048x128, .f32⟩
  | 30 => ⟨S4x2048x64, .f32⟩
  | 31 => ⟨S1x512, .f32⟩
  | 32 => ⟨S512, .f32⟩
  | 33 => ⟨S4x2048x512, .f32⟩
  | 34 => ⟨S_, .f32⟩
  | 35 => ⟨S4x2048, .f32⟩
  | 36 => ⟨S4x2048x1, .f32⟩
  | 37 => ⟨S_, .f32⟩
  | 38 => ⟨S4x2048x1, .f32⟩
  | 39 => ⟨S4x2048x1, .f32⟩
  | 40 => ⟨S_, .f32⟩
  | 41 => ⟨S4x2048x1, .f32⟩
  | 42 => ⟨S4x2048x1, .f32⟩
  | 43 => ⟨S4x2048x1, .f32⟩
  | 44 => ⟨S4x2048x512, .f32⟩
  | 45 => ⟨S4x2048x512, .f32⟩
  | 46 => ⟨S1x1x512, .f32⟩
  | 47 => ⟨S4x2048x512, .f32⟩
  | 48 => ⟨S4x2048x512, .f32⟩
  | 49 => ⟨S1x512x1536, .f32⟩
  | 50 => ⟨S512x1536, .f32⟩
  | 51 => ⟨S4x2048x1536, .f32⟩
  | 52 => ⟨S4x2048x8x192, .f32⟩
  | 53 => ⟨S4x2048x8x128, .f32⟩
  | 54 => ⟨S1x128, .f32⟩
  | 55 => ⟨S128, .f32⟩
  | 56 => ⟨S4x2048x8x128, .f32⟩
  | 57 => ⟨S_, .f32⟩
  | 58 => ⟨S4x2048x8, .f32⟩
  | 59 => ⟨S4x2048x8x1, .f32⟩
  | 60 => ⟨S_, .f32⟩
  | 61 => ⟨S4x2048x8x1, .f32⟩
  | 62 => ⟨S4x2048x8x1, .f32⟩
  | 63 => ⟨S_, .f32⟩
  | 64 => ⟨S4x2048x8x1, .f32⟩
  | 65 => ⟨S4x2048x8x1, .f32⟩
  | 66 => ⟨S4x2048x8x1, .f32⟩
  | 67 => ⟨S4x2048x8x128, .f32⟩
  | 68 => ⟨S4x2048x8x128, .f32⟩
  | 69 => ⟨S1x1x1x128, .f32⟩
  | 70 => ⟨S4x2048x8x128, .f32⟩
  | 71 => ⟨S4x2048x8x128, .f32⟩
  | 72 => ⟨S4x2048x8x64, .f32⟩
  | 73 => ⟨S1x64, .f32⟩
  | 74 => ⟨S64, .f32⟩
  | 75 => ⟨S4x2048x8x64, .f32⟩
  | 76 => ⟨S_, .f32⟩
  | 77 => ⟨S4x2048x8, .f32⟩
  | 78 => ⟨S4x2048x8x1, .f32⟩
  | 79 => ⟨S_, .f32⟩
  | 80 => ⟨S4x2048x8x1, .f32⟩
  | 81 => ⟨S4x2048x8x1, .f32⟩
  | 82 => ⟨S_, .f32⟩
  | 83 => ⟨S4x2048x8x1, .f32⟩
  | 84 => ⟨S4x2048x8x1, .f32⟩
  | 85 => ⟨S4x2048x8x1, .f32⟩
  | 86 => ⟨S4x2048x8x64, .f32⟩
  | 87 => ⟨S4x2048x8x64, .f32⟩
  | 88 => ⟨S1x1x1x64, .f32⟩
  | 89 => ⟨S4x2048x8x64, .f32⟩
  | 90 => ⟨S4x2048x8x64, .f32⟩
  | 91 => ⟨S2048x32, .f32⟩
  | 92 => ⟨S2048x1x32, .f32⟩
  | 93 => ⟨S2048x32, .f32⟩
  | 94 => ⟨S2048x1x32, .f32⟩
  | 95 => ⟨S4x2048x8x32, .f32⟩
  | 96 => ⟨S4x2048x8x32, .f32⟩
  | 97 => ⟨S1x2048x1x32, .f32⟩
  | 98 => ⟨S4x2048x8x32, .f32⟩
  | 99 => ⟨S4x2048x8x32, .f32⟩
  | 100 => ⟨S1x2048x1x32, .f32⟩
  | 101 => ⟨S4x2048x8x32, .f32⟩
  | 102 => ⟨S4x2048x8x32, .f32⟩
  | 103 => ⟨S4x2048x8x32, .f32⟩
  | 104 => ⟨S1x2048x1x32, .f32⟩
  | 105 => ⟨S4x2048x8x32, .f32⟩
  | 106 => ⟨S4x2048x8x32, .f32⟩
  | 107 => ⟨S1x2048x1x32, .f32⟩
  | 108 => ⟨S4x2048x8x32, .f32⟩
  | 109 => ⟨S4x2048x8x32, .f32⟩
  | 110 => ⟨S4x2048x8x32, .f32⟩
  | 111 => ⟨S4x2048x8x64, .f32⟩
  | 112 => ⟨S1x128, .f32⟩
  | 113 => ⟨S128, .f32⟩
  | 114 => ⟨S4x2048x128, .f32⟩
  | 115 => ⟨S_, .f32⟩
  | 116 => ⟨S4x2048, .f32⟩
  | 117 => ⟨S4x2048x1, .f32⟩
  | 118 => ⟨S_, .f32⟩
  | 119 => ⟨S4x2048x1, .f32⟩
  | 120 => ⟨S4x2048x1, .f32⟩
  | 121 => ⟨S_, .f32⟩
  | 122 => ⟨S4x2048x1, .f32⟩
  | 123 => ⟨S4x2048x1, .f32⟩
  | 124 => ⟨S4x2048x1, .f32⟩
  | 125 => ⟨S4x2048x128, .f32⟩
  | 126 => ⟨S4x2048x128, .f32⟩
  | 127 => ⟨S1x1x128, .f32⟩
  | _ => ⟨S4x2048x704, .f32⟩

abbrev hbmTy0_1 (i : Nat) : BufTy := match i % 128 with
  | 0 => ⟨S4x2048x128, .f32⟩
  | 1 => ⟨S4x2048x128, .f32⟩
  | 2 => ⟨S1x64, .f32⟩
  | 3 => ⟨S64, .f32⟩
  | 4 => ⟨S4x2048x64, .f32⟩
  | 5 => ⟨S_, .f32⟩
  | 6 => ⟨S4x2048, .f32⟩
  | 7 => ⟨S4x2048x1, .f32⟩
  | 8 => ⟨S_, .f32⟩
  | 9 => ⟨S4x2048x1, .f32⟩
  | 10 => ⟨S4x2048x1, .f32⟩
  | 11 => ⟨S_, .f32⟩
  | 12 => ⟨S4x2048x1, .f32⟩
  | 13 => ⟨S4x2048x1, .f32⟩
  | 14 => ⟨S4x2048x1, .f32⟩
  | 15 => ⟨S4x2048x64, .f32⟩
  | 16 => ⟨S4x2048x64, .f32⟩
  | 17 => ⟨S1x1x64, .f32⟩
  | 18 => ⟨S4x2048x64, .f32⟩
  | 19 => ⟨S4x2048x64, .f32⟩
  | 20 => ⟨S2048x32, .f32⟩
  | 21 => ⟨S2048x32, .f32⟩
  | 22 => ⟨S4x2048x32, .f32⟩
  | 23 => ⟨S4x2048x32, .f32⟩
  | 24 => ⟨S1x2048x32, .f32⟩
  | 25 => ⟨S4x2048x32, .f32⟩
  | 26 => ⟨S4x2048x32, .f32⟩
  | 27 => ⟨S1x2048x32, .f32⟩
  | 28 => ⟨S4x2048x32, .f32⟩
  | 29 => ⟨S4x2048x32, .f32⟩
  | 30 => ⟨S4x2048x32, .f32⟩
  | 31 => ⟨S1x2048x32, .f32⟩
  | 32 => ⟨S4x2048x32, .f32⟩
  | 33 => ⟨S4x2048x32, .f32⟩
  | 34 => ⟨S1x2048x32, .f32⟩
  | 35 => ⟨S4x2048x32, .f32⟩
  | 36 => ⟨S4x2048x32, .f32⟩
  | 37 => ⟨S4x2048x32, .f32⟩
  | 38 => ⟨S4x2048x64, .f32⟩
  | 39 => ⟨S1x128x8x128, .f32⟩
  | 40 => ⟨S128x8x128, .f32⟩
  | 41 => ⟨S4x2048x8x128, .f32⟩
  | 42 => ⟨S1x128, .f32⟩
  | 43 => ⟨S128, .f32⟩
  | 44 => ⟨S4x2048x8x128, .f32⟩
  | 45 => ⟨S_, .f32⟩
  | 46 => ⟨S4x2048x8, .f32⟩
  | 47 => ⟨S4x2048x8x1, .f32⟩
  | 48 => ⟨S_, .f32⟩
  | 49 => ⟨S4x2048x8x1, .f32⟩
  | 50 => ⟨S4x2048x8x1, .f32⟩
  | 51 => ⟨S_, .f32⟩
  | 52 => ⟨S4x2048x8x1, .f32⟩
  | 53 => ⟨S4x2048x8x1, .f32⟩
  | 54 => ⟨S4x2048x8x1, .f32⟩
  | 55 => ⟨S4x2048x8x128, .f32⟩
  | 56 => ⟨S4x2048x8x128, .f32⟩
  | 57 => ⟨S1x1x1x128, .f32⟩
  | 58 => ⟨S4x2048x8x128, .f32⟩
  | 59 => ⟨S4x2048x8x128, .f32⟩
  | 60 => ⟨S1x128x8x128, .f32⟩
  | 61 => ⟨S128x8x128, .f32⟩
  | 62 => ⟨S4x2048x8x128, .f32⟩
  | 63 => ⟨S4x2048x1x64, .f32⟩
  | 64 => ⟨S4x2048x8x64, .f32⟩
  | 65 => ⟨S_, .f32⟩
  | 66 => ⟨S4x2048x8x64, .f32⟩
  | 67 => ⟨S4x2048x8x256, .f32⟩
  | 68 => ⟨S8192x2048, .f32⟩
  | 69 => ⟨S8192x2048, .bf16⟩
  | 70 => ⟨S_, .f32⟩
  | 71 => ⟨S4x2048x8x64, .f32⟩
  | 72 => ⟨S4x2048x8x256, .f32⟩
  | 73 => ⟨S8192x2048, .f32⟩
  | 74 => ⟨S8192x2048, .bf16⟩
  | 75 => ⟨S8192x1024, .f32⟩
  | 76 => ⟨S8192x1024, .bf16⟩
  | 77 => ⟨S8192x128, .f32⟩
  | 78 => ⟨S_, .f32⟩
  | 79 => ⟨S4x2048x64, .f32⟩
  | 80 => ⟨S4x2048x128, .f32⟩
  | 81 => ⟨S8192x128, .f32⟩
  | _ => ⟨S4x2048x704, .f32⟩

abbrev hbmTy (i : Nat) : BufTy := match i / 128 with
  | 0 => hbmTy0_0 i
  | 1 => hbmTy0_1 i
  | _ => ⟨S4x2048x704, .f32⟩

abbrev bufTy : (tb : Table) → Fin (tcTables nBuf tb) → BufTy
  | .hbm, ⟨i, _⟩ => hbmTy i
  | _, _ => ⟨S4x2048x704, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_cst : Ref sig .tc := ⟨.hbm, 12, rfl⟩
abbrev main_v2 : Ref sig .tc := ⟨.hbm, 13, rfl⟩
abbrev main_v3 : Ref sig .tc := ⟨.hbm, 14, rfl⟩
abbrev main_cst_0 : Ref sig .tc := ⟨.hbm, 15, rfl⟩
abbrev main_v4 : Ref sig .tc := ⟨.hbm, 16, rfl⟩
abbrev main_v5 : Ref sig .tc := ⟨.hbm, 17, rfl⟩
abbrev main_cst_1 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst_2 : Ref sig .tc := ⟨.hbm, 34, rfl⟩
abbrev main_v21 : Ref sig .tc := ⟨.hbm, 35, rfl⟩
abbrev main_v22 : Ref sig .tc := ⟨.hbm, 36, rfl⟩
abbrev main_cst_3 : Ref sig .tc := ⟨.hbm, 37, rfl⟩
abbrev main_v23 : Ref sig .tc := ⟨.hbm, 38, rfl⟩
abbrev main_v24 : Ref sig .tc := ⟨.hbm, 39, rfl⟩
abbrev main_cst_4 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_cst_5 : Ref sig .tc := ⟨.hbm, 57, rfl⟩
abbrev main_v41 : Ref sig .tc := ⟨.hbm, 58, rfl⟩
abbrev main_v42 : Ref sig .tc := ⟨.hbm, 59, rfl⟩
abbrev main_cst_6 : Ref sig .tc := ⟨.hbm, 60, rfl⟩
abbrev main_v43 : Ref sig .tc := ⟨.hbm, 61, rfl⟩
abbrev main_v44 : Ref sig .tc := ⟨.hbm, 62, rfl⟩
abbrev main_cst_7 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_cst_8 : Ref sig .tc := ⟨.hbm, 76, rfl⟩
abbrev main_v57 : Ref sig .tc := ⟨.hbm, 77, rfl⟩
abbrev main_v58 : Ref sig .tc := ⟨.hbm, 78, rfl⟩
abbrev main_cst_9 : Ref sig .tc := ⟨.hbm, 79, rfl⟩
abbrev main_v59 : Ref sig .tc := ⟨.hbm, 80, rfl⟩
abbrev main_v60 : Ref sig .tc := ⟨.hbm, 81, rfl⟩
abbrev main_cst_10 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩
abbrev main_v79 : Ref sig .tc := ⟨.hbm, 101, rfl⟩
abbrev main_v80 : Ref sig .tc := ⟨.hbm, 102, rfl⟩
abbrev main_v81 : Ref sig .tc := ⟨.hbm, 103, rfl⟩
abbrev main_v82 : Ref sig .tc := ⟨.hbm, 104, rfl⟩
abbrev main_v83 : Ref sig .tc := ⟨.hbm, 105, rfl⟩
abbrev main_v84 : Ref sig .tc := ⟨.hbm, 106, rfl⟩
abbrev main_v85 : Ref sig .tc := ⟨.hbm, 107, rfl⟩
abbrev main_v86 : Ref sig .tc := ⟨.hbm, 108, rfl⟩
abbrev main_v87 : Ref sig .tc := ⟨.hbm, 109, rfl⟩
abbrev main_v88 : Ref sig .tc := ⟨.hbm, 110, rfl⟩
abbrev main_v89 : Ref sig .tc := ⟨.hbm, 111, rfl⟩
abbrev main_v90 : Ref sig .tc := ⟨.hbm, 112, rfl⟩
abbrev main_v91 : Ref sig .tc := ⟨.hbm, 113, rfl⟩
abbrev main_v92 : Ref sig .tc := ⟨.hbm, 114, rfl⟩
abbrev main_cst_11 : Ref sig .tc := ⟨.hbm, 115, rfl⟩
abbrev main_v93 : Ref sig .tc := ⟨.hbm, 116, rfl⟩
abbrev main_v94 : Ref sig .tc := ⟨.hbm, 117, rfl⟩
abbrev main_cst_12 : Ref sig .tc := ⟨.hbm, 118, rfl⟩
abbrev main_v95 : Ref sig .tc := ⟨.hbm, 119, rfl⟩
abbrev main_v96 : Ref sig .tc := ⟨.hbm, 120, rfl⟩
abbrev main_cst_13 : Ref sig .tc := ⟨.hbm, 121, rfl⟩
abbrev main_v97 : Ref sig .tc := ⟨.hbm, 122, rfl⟩
abbrev main_v98 : Ref sig .tc := ⟨.hbm, 123, rfl⟩
abbrev main_v99 : Ref sig .tc := ⟨.hbm, 124, rfl⟩
abbrev main_v100 : Ref sig .tc := ⟨.hbm, 125, rfl⟩
abbrev main_v101 : Ref sig .tc := ⟨.hbm, 126, rfl⟩
abbrev main_v102 : Ref sig .tc := ⟨.hbm, 127, rfl⟩
abbrev main_v103 : Ref sig .tc := ⟨.hbm, 128, rfl⟩
abbrev main_v104 : Ref sig .tc := ⟨.hbm, 129, rfl⟩
abbrev main_v105 : Ref sig .tc := ⟨.hbm, 130, rfl⟩
abbrev main_v106 : Ref sig .tc := ⟨.hbm, 131, rfl⟩
abbrev main_v107 : Ref sig .tc := ⟨.hbm, 132, rfl⟩
abbrev main_cst_14 : Ref sig .tc := ⟨.hbm, 133, rfl⟩
abbrev main_v108 : Ref sig .tc := ⟨.hbm, 134, rfl⟩
abbrev main_v109 : Ref sig .tc := ⟨.hbm, 135, rfl⟩
abbrev main_cst_15 : Ref sig .tc := ⟨.hbm, 136, rfl⟩
abbrev main_v110 : Ref sig .tc := ⟨.hbm, 137, rfl⟩
abbrev main_v111 : Ref sig .tc := ⟨.hbm, 138, rfl⟩
abbrev main_cst_16 : Ref sig .tc := ⟨.hbm, 139, rfl⟩
abbrev main_v112 : Ref sig .tc := ⟨.hbm, 140, rfl⟩
abbrev main_v113 : Ref sig .tc := ⟨.hbm, 141, rfl⟩
abbrev main_v114 : Ref sig .tc := ⟨.hbm, 142, rfl⟩
abbrev main_v115 : Ref sig .tc := ⟨.hbm, 143, rfl⟩
abbrev main_v116 : Ref sig .tc := ⟨.hbm, 144, rfl⟩
abbrev main_v117 : Ref sig .tc := ⟨.hbm, 145, rfl⟩
abbrev main_v118 : Ref sig .tc := ⟨.hbm, 146, rfl⟩
abbrev main_v119 : Ref sig .tc := ⟨.hbm, 147, rfl⟩
abbrev main_v120 : Ref sig .tc := ⟨.hbm, 148, rfl⟩
abbrev main_v121 : Ref sig .tc := ⟨.hbm, 149, rfl⟩
abbrev main_v122 : Ref sig .tc := ⟨.hbm, 150, rfl⟩
abbrev main_v123 : Ref sig .tc := ⟨.hbm, 151, rfl⟩
abbrev main_v124 : Ref sig .tc := ⟨.hbm, 152, rfl⟩
abbrev main_v125 : Ref sig .tc := ⟨.hbm, 153, rfl⟩
abbrev main_v126 : Ref sig .tc := ⟨.hbm, 154, rfl⟩
abbrev main_v127 : Ref sig .tc := ⟨.hbm, 155, rfl⟩
abbrev main_v128 : Ref sig .tc := ⟨.hbm, 156, rfl⟩
abbrev main_v129 : Ref sig .tc := ⟨.hbm, 157, rfl⟩
abbrev main_v130 : Ref sig .tc := ⟨.hbm, 158, rfl⟩
abbrev main_v131 : Ref sig .tc := ⟨.hbm, 159, rfl⟩
abbrev main_v132 : Ref sig .tc := ⟨.hbm, 160, rfl⟩
abbrev main_v133 : Ref sig .tc := ⟨.hbm, 161, rfl⟩
abbrev main_v134 : Ref sig .tc := ⟨.hbm, 162, rfl⟩
abbrev main_v135 : Ref sig .tc := ⟨.hbm, 163, rfl⟩
abbrev main_v136 : Ref sig .tc := ⟨.hbm, 164, rfl⟩
abbrev main_v137 : Ref sig .tc := ⟨.hbm, 165, rfl⟩
abbrev main_v138 : Ref sig .tc := ⟨.hbm, 166, rfl⟩
abbrev main_v139 : Ref sig .tc := ⟨.hbm, 167, rfl⟩
abbrev main_v140 : Ref sig .tc := ⟨.hbm, 168, rfl⟩
abbrev main_v141 : Ref sig .tc := ⟨.hbm, 169, rfl⟩
abbrev main_v142 : Ref sig .tc := ⟨.hbm, 170, rfl⟩
abbrev main_v143 : Ref sig .tc := ⟨.hbm, 171, rfl⟩
abbrev main_v144 : Ref sig .tc := ⟨.hbm, 172, rfl⟩
abbrev main_cst_17 : Ref sig .tc := ⟨.hbm, 173, rfl⟩
abbrev main_v145 : Ref sig .tc := ⟨.hbm, 174, rfl⟩
abbrev main_v146 : Ref sig .tc := ⟨.hbm, 175, rfl⟩
abbrev main_cst_18 : Ref sig .tc := ⟨.hbm, 176, rfl⟩
abbrev main_v147 : Ref sig .tc := ⟨.hbm, 177, rfl⟩
abbrev main_v148 : Ref sig .tc := ⟨.hbm, 178, rfl⟩
abbrev main_cst_19 : Ref sig .tc := ⟨.hbm, 179, rfl⟩
abbrev main_v149 : Ref sig .tc := ⟨.hbm, 180, rfl⟩
abbrev main_v150 : Ref sig .tc := ⟨.hbm, 181, rfl⟩
abbrev main_v151 : Ref sig .tc := ⟨.hbm, 182, rfl⟩
abbrev main_v152 : Ref sig .tc := ⟨.hbm, 183, rfl⟩
abbrev main_v153 : Ref sig .tc := ⟨.hbm, 184, rfl⟩
abbrev main_v154 : Ref sig .tc := ⟨.hbm, 185, rfl⟩
abbrev main_v155 : Ref sig .tc := ⟨.hbm, 186, rfl⟩
abbrev main_v156 : Ref sig .tc := ⟨.hbm, 187, rfl⟩
abbrev main_v157 : Ref sig .tc := ⟨.hbm, 188, rfl⟩
abbrev main_v158 : Ref sig .tc := ⟨.hbm, 189, rfl⟩
abbrev main_v159 : Ref sig .tc := ⟨.hbm, 190, rfl⟩
abbrev main_v160 : Ref sig .tc := ⟨.hbm, 191, rfl⟩
abbrev main_v161 : Ref sig .tc := ⟨.hbm, 192, rfl⟩
abbrev main_cst_20 : Ref sig .tc := ⟨.hbm, 193, rfl⟩
abbrev main_v162 : Ref sig .tc := ⟨.hbm, 194, rfl⟩
abbrev main_v163 : Ref sig .tc := ⟨.hbm, 195, rfl⟩
abbrev main_v164 : Ref sig .tc := ⟨.hbm, 196, rfl⟩
abbrev main_v165 : Ref sig .tc := ⟨.hbm, 197, rfl⟩
abbrev main_cst_21 : Ref sig .tc := ⟨.hbm, 198, rfl⟩
abbrev main_v166 : Ref sig .tc := ⟨.hbm, 199, rfl⟩
abbrev main_v167 : Ref sig .tc := ⟨.hbm, 200, rfl⟩
abbrev main_v168 : Ref sig .tc := ⟨.hbm, 201, rfl⟩
abbrev main_v169 : Ref sig .tc := ⟨.hbm, 202, rfl⟩
abbrev main_v170 : Ref sig .tc := ⟨.hbm, 203, rfl⟩
abbrev main_v171 : Ref sig .tc := ⟨.hbm, 204, rfl⟩
abbrev main_v172 : Ref sig .tc := ⟨.hbm, 205, rfl⟩
abbrev main_cst_22 : Ref sig .tc := ⟨.hbm, 206, rfl⟩
abbrev main_v173 : Ref sig .tc := ⟨.hbm, 207, rfl⟩
abbrev main_v174 : Ref sig .tc := ⟨.hbm, 208, rfl⟩
abbrev main_v175 : Ref sig .tc := ⟨.hbm, 209, rfl⟩

abbrev nD : Nat := 1
abbrev τ : Topo := Topo.v7x

variable {F : FTy → Type} [FloatOps F]
-- ==== Kernel7.lean ====
abbrev S128x1x2048 : Shape := ⟨3, ![128, 1, 2048]⟩
abbrev S4x2048 : Shape := ⟨2, ![4, 2048]⟩
abbrev S128x2048 : Shape := ⟨2, ![128, 2048]⟩
abbrev S4x2048x11264 : Shape := ⟨3, ![4, 2048, 11264]⟩
abbrev S4x3x11264 : Shape := ⟨3, ![4, 3, 11264]⟩
abbrev S4x11264 : Shape := ⟨2, ![4, 11264]⟩
abbrev S4x128x2x11264 : Shape := ⟨4, ![4, 128, 2, 11264]⟩
abbrev S1x2048 : Shape := ⟨2, ![1, 2048]⟩
abbrev S2048 : Shape := ⟨1, ![2048]⟩
abbrev S1x128x2048 : Shape := ⟨3, ![1, 128, 2048]⟩
abbrev S1x3x11264 : Shape := ⟨3, ![1, 3, 11264]⟩
abbrev S3x11264 : Shape := ⟨2, ![3, 11264]⟩
abbrev S1x11264 : Shape := ⟨2, ![1, 11264]⟩
abbrev S11264 : Shape := ⟨1, ![11264]⟩
abbrev S1x128x1x11264 : Shape := ⟨4, ![1, 128, 1, 11264]⟩
abbrev S128x11264 : Shape := ⟨2, ![128, 11264]⟩
abbrev S128x5632 : Shape := ⟨2, ![128, 5632]⟩
abbrev S1x2048x512 : Shape := ⟨3, ![1, 2048, 512]⟩
abbrev S3x512 : Shape := ⟨2, ![3, 512]⟩
abbrev S1x512 : Shape := ⟨2, ![1, 512]⟩
abbrev S128x512 : Shape := ⟨2, ![128, 512]⟩
abbrev S128 : Shape := ⟨1, ![128]⟩
abbrev S128x1 : Shape := ⟨2, ![128, 1]⟩
abbrev S2048x512 : Shape := ⟨2, ![2048, 512]⟩

abbrev nBuf : Space → Nat
  | .hbm => 27
  | .vmem => 31
  | .smem => 0
  | _ => 0

abbrev bufTy : (tb : Table) → Fin (tcTables nBuf tb) → BufTy
  | .hbm, ⟨0, _⟩ => ⟨S128x1x2048, .f32⟩
  | .hbm, ⟨1, _⟩ => ⟨S4x2048, .f32⟩
  | .hbm, ⟨2, _⟩ => ⟨S128x2048, .f32⟩
  | .hbm, ⟨3, _⟩ => ⟨S128x2048, .f32⟩
  | .hbm, ⟨4, _⟩ => ⟨S4x2048x11264, .f32⟩
  | .hbm, ⟨5, _⟩ => ⟨S4x3x11264, .f32⟩
  | .hbm, ⟨6, _⟩ => ⟨S4x11264, .f32⟩
  | .hbm, ⟨7, _⟩ => ⟨S4x128x2x11264, .f32⟩
  | .hbm, ⟨8, _⟩ => ⟨S128x2048, .f32⟩
  | .hbm, ⟨9, _⟩ => ⟨S1x2048, .f32⟩
  | .hbm, ⟨10, _⟩ => ⟨S2048, .f32⟩
  | .hbm, ⟨11, _⟩ => ⟨S1x2048, .f32⟩
  | .hbm, ⟨12, _⟩ => ⟨S1x128x2048, .f32⟩
  | .hbm, ⟨13, _⟩ => ⟨S1x128x2048, .f32⟩
  | .hbm, ⟨14, _⟩ => ⟨S4x2048x11264, .bf16⟩
  | .hbm, ⟨15, _⟩ => ⟨S1x3x11264, .f32⟩
  | .hbm, ⟨16, _⟩ => ⟨S3x11264, .f32⟩
  | .hbm, ⟨17, _⟩ => ⟨S1x11264, .f32⟩
  | .hbm, ⟨18, _⟩ => ⟨S11264, .f32⟩
  | .hbm, ⟨19, _⟩ => ⟨S1x11264, .f32⟩
  | .hbm, ⟨20, _⟩ => ⟨S1x128x1x11264, .f32⟩
  | .hbm, ⟨21, _⟩ => ⟨S128x11264, .f32⟩
  | .hbm, ⟨22, _⟩ => ⟨S1x128x1x11264, .f32⟩
  | .hbm, ⟨23, _⟩ => ⟨S128x11264, .f32⟩
  | .hbm, ⟨24, _⟩ => ⟨S128x5632, .bf16⟩
  | .hbm, ⟨25, _⟩ => ⟨S128x5632, .f32⟩
  | .hbm, ⟨26, _⟩ => ⟨S128x5632, .f32⟩
  | .local _ .vmem, ⟨0, _⟩ => ⟨S128x2048, .f32⟩
  | .local _ .vmem, ⟨1, _⟩ => ⟨S1x2048, .f32⟩
  | .local _ .vmem, ⟨2, _⟩ => ⟨S1x128x2048, .f32⟩
  | .local _ .vmem, ⟨3, _⟩ => ⟨S1x128x2048, .f32⟩
  | .local _ .vmem, ⟨4, _⟩ => ⟨S1x2048x512, .bf16⟩
  | .local _ .vmem, ⟨5, _⟩ => ⟨S1x2048x512, .bf16⟩
  | .local _ .vmem, ⟨6, _⟩ => ⟨S1x2048x512, .bf16⟩
  | .local _ .vmem, ⟨7, _⟩ => ⟨S1x2048x512, .bf16⟩
  | .local _ .vmem, ⟨8, _⟩ => ⟨S3x512, .f32⟩
  | .local _ .vmem, ⟨9, _⟩ => ⟨S3x512, .f32⟩
  | .local _ .vmem, ⟨10, _⟩ => ⟨S3x512, .f32⟩
  | .local _ .vmem, ⟨11, _⟩ => ⟨S3x512, .f32⟩
  | .local _ .vmem, ⟨12, _⟩ => ⟨S1x512, .f32⟩
  | .local _ .vmem, ⟨13, _⟩ => ⟨S1x512, .f32⟩
  | .local _ .vmem, ⟨14, _⟩ => ⟨S1x512, .f32⟩
  | .local _ .vmem, ⟨15, _⟩ => ⟨S1x512, .f32⟩
  | .local _ .vmem, ⟨16, _⟩ => ⟨S128x512, .f32⟩
  | .local _ .vmem, ⟨17, _⟩ => ⟨S128x512, .f32⟩
  | .local _ .vmem, ⟨18, _⟩ => ⟨S128x512, .f32⟩
  | .local _ .vmem, ⟨19, _⟩ => ⟨S128x512, .f32⟩
  | .local _ .vmem, ⟨20, _⟩ => ⟨S128x512, .f32⟩
  | .local _ .vmem, ⟨21, _⟩ => ⟨S128x512, .f32⟩
  | .local _ .vmem, ⟨22, _⟩ => ⟨S128x512, .f32⟩
  | .local _ .vmem, ⟨23, _⟩ => ⟨S128x512, .f32⟩
  | .local _ .vmem, ⟨24, _⟩ => ⟨S128x512, .bf16⟩
  | .local _ .vmem, ⟨25, _⟩ => ⟨S128x512, .bf16⟩
  | .local _ .vmem, ⟨26, _⟩ => ⟨S128x512, .f32⟩
  | .local _ .vmem, ⟨27, _⟩ => ⟨S128x512, .f32⟩
  | .local _ .vmem, ⟨28, _⟩ => ⟨S128x512, .f32⟩
  | .local _ .vmem, ⟨29, _⟩ => ⟨S128x512, .f32⟩
  | .local _ .vmem, ⟨30, _⟩ => ⟨S128x2048, .bf16⟩
  | _, _ => ⟨S128x1x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16_0 : Ref sig .tc := ⟨.hbm, 24, rfl⟩
abbrev main_v16_1 : Ref sig .tc := ⟨.hbm, 25, rfl⟩
abbrev main_v16_2 : Ref sig .tc := ⟨.hbm, 26, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_stg14_0 : Ref sig .tc := ⟨.vmem, 24, rfl⟩
abbrev cc0_stg14_1 : Ref sig .tc := ⟨.vmem, 25, rfl⟩
abbrev cc0_stg15_0 : Ref sig .tc := ⟨.vmem, 26, rfl⟩
abbrev cc0_stg15_1 : Ref sig .tc := ⟨.vmem, 27, rfl⟩
abbrev cc0_stg16_0 : Ref sig .tc := ⟨.vmem, 28, rfl⟩
abbrev cc0_stg16_1 : Ref sig .tc := ⟨.vmem, 29, rfl⟩
abbrev cc0_scratch0 : Ref sig .tc := ⟨.vmem, 30, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem4_1 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem13_1 : DmaSem sig := 23
abbrev cc0_sem14_0 : DmaSem sig := 24
abbrev cc0_sem14_1 : DmaSem sig := 25
abbrev cc0_sem15_0 : DmaSem sig := 26
abbrev cc0_sem15_1 : DmaSem sig := 27
abbrev cc0_sem16_0 : DmaSem sig := 28
abbrev cc0_sem16_1 : DmaSem sig := 29

abbrev nD : Nat := 1
abbrev τ : Topo := Topo.v7x

variable {F : FTy → Type} [FloatOps F]

abbrev grid0 : Pipeline.Grid := ⟨1, ![11], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_5 (i : grid0.Coords) : Fin 3 → Nat :=
  let arg0 : BitVec 32 := BitVec.ofNat 32 (i 0).val
  let c11_i32 : BitVec 32 := 11#32
  let v0 : BitVec 32 := Scalar.addi c11_i32 arg0
  let c0_i32 : BitVec 32 := 0#32
  let c0_i32_0 : BitVec 32 := 0#32
  let c0_i32_1 : BitVec 32 := 0#32
  ![c0_i32.toNat, c0_i32_0.toNat, v0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c11_i32 : BitVec 32 := 11#32
  let v0 : BitVec 32 := Scalar.addi c11_i32 arg0
  let c0_i32 : BitVec 32 := 0#32
  let c0_i32_0 : BitVec 32 := 0#32
  ![c0_i32.toNat, v0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let c11_i32 : BitVec 32 := 11#32
  let v0 : BitVec 32 := Scalar.addi c11_i32 arg0
  let c0_i32 : BitVec 32 := 0#32
  let c0_i32_0 : BitVec 32 := 0#32
  ![c0_i32.toNat, v0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_11 (i : grid0.Coords) : Fin 2 → Nat :=
  let arg0 : BitVec 32 := BitVec.ofNat 32 (i 0).val
  let c11_i32 : BitVec 32 := 11#32
  let v0 : BitVec 32 := Scalar.addi c11_i32 arg0
  let c0_i32 : BitVec 32 := 0#32
  let c0_i32_0 : BitVec 32 := 0#32
  ![c0_i32.toNat, v0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_13 (i : grid0.Coords) : Fin 2 → Nat :=
  let arg0 : BitVec 32 := BitVec.ofNat 32 (i 0).val
  let c11_i32 : BitVec 32 := 11#32
  let v0 : BitVec 32 := Scalar.addi c11_i32 arg0
  let c0_i32 : BitVec 32 := 0#32
  let c0_i32_0 : BitVec 32 := 0#32
  ![c0_i32.toNat, v0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_15 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_16 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S128x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x2048x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x2048x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S3x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S3x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S128x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S128x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S128x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S128x512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S128x512 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S128x512 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S128x512 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]
-- ==== Reference7Ideal.lean ====
abbrev S128x1x2048 : Shape := ⟨3, ![128, 1, 2048]⟩
abbrev S4x2048 : Shape := ⟨2, ![4, 2048]⟩
abbrev S128x2048 : Shape := ⟨2, ![128, 2048]⟩
abbrev S4x2048x11264 : Shape := ⟨3, ![4, 2048, 11264]⟩
abbrev S4x3x11264 : Shape := ⟨3, ![4, 3, 11264]⟩
abbrev S4x11264 : Shape := ⟨2, ![4, 11264]⟩
abbrev S4x128x2x11264 : Shape := ⟨4, ![4, 128, 2, 11264]⟩
abbrev S_ : Shape := ⟨0, ![]⟩
abbrev S128x1 : Shape := ⟨2, ![128, 1]⟩
abbrev S128x1x1 : Shape := ⟨3, ![128, 1, 1]⟩
abbrev S1x2048 : Shape := ⟨2, ![1, 2048]⟩
abbrev S2048 : Shape := ⟨1, ![2048]⟩
abbrev S1x1x2048 : Shape := ⟨3, ![1, 1, 2048]⟩
abbrev S1x2048x11264 : Shape := ⟨3, ![1, 2048, 11264]⟩
abbrev S2048x11264 : Shape := ⟨2, ![2048, 11264]⟩
abbrev S128x1x11264 : Shape := ⟨3, ![128, 1, 11264]⟩
abbrev S1x128x2x11264 : Shape := ⟨4, ![1, 128, 2, 11264]⟩
abbrev S128x2x11264 : Shape := ⟨3, ![128, 2, 11264]⟩
abbrev S128x3x11264 : Shape := ⟨3, ![128, 3, 11264]⟩
abbrev S1x11264 : Shape := ⟨2, ![1, 11264]⟩
abbrev S11264 : Shape := ⟨1, ![11264]⟩
abbrev S1x1x11264 : Shape := ⟨3, ![1, 1, 11264]⟩
abbrev S128x1x5632 : Shape := ⟨3, ![128, 1, 5632]⟩
abbrev S128x11264 : Shape := ⟨2, ![128, 11264]⟩
abbrev S128x5632 : Shape := ⟨2, ![128, 5632]⟩

abbrev nBuf : Space → Nat
  | .hbm => 86
  | .vmem => 0
  | .smem => 0
  | _ => 0

abbrev bufTy : (tb : Table) → Fin (tcTables nBuf tb) → BufTy
  | .hbm, ⟨0, _⟩ => ⟨S128x1x2048, .f32⟩
  | .hbm, ⟨1, _⟩ => ⟨S4x2048, .f32⟩
  | .hbm, ⟨2, _⟩ => ⟨S128x2048, .f32⟩
  | .hbm, ⟨3, _⟩ => ⟨S128x2048, .f32⟩
  | .hbm, ⟨4, _⟩ => ⟨S4x2048x11264, .f32⟩
  | .hbm, ⟨5, _⟩ => ⟨S4x3x11264, .f32⟩
  | .hbm, ⟨6, _⟩ => ⟨S4x11264, .f32⟩
  | .hbm, ⟨7, _⟩ => ⟨S4x128x2x11264, .f32⟩
  | .hbm, ⟨8, _⟩ => ⟨S128x1x2048, .f32⟩
  | .hbm, ⟨9, _⟩ => ⟨S_, .f32⟩
  | .hbm, ⟨10, _⟩ => ⟨S128x1, .f32⟩
  | .hbm, ⟨11, _⟩ => ⟨S128x1x1, .f32⟩
  | .hbm, ⟨12, _⟩ => ⟨S_, .f32⟩
  | .hbm, ⟨13, _⟩ => ⟨S128x1x1, .f32⟩
  | .hbm, ⟨14, _⟩ => ⟨S128x1x1, .f32⟩
  | .hbm, ⟨15, _⟩ => ⟨S_, .f32⟩
  | .hbm, ⟨16, _⟩ => ⟨S128x1x1, .f32⟩
  | .hbm, ⟨17, _⟩ => ⟨S128x1x1, .f32⟩
  | .hbm, ⟨18, _⟩ => ⟨S128x1x1, .f32⟩
  | .hbm, ⟨19, _⟩ => ⟨S128x1x2048, .f32⟩
  | .hbm, ⟨20, _⟩ => ⟨S128x1x2048, .f32⟩
  | .hbm, ⟨21, _⟩ => ⟨S1x2048, .f32⟩
  | .hbm, ⟨22, _⟩ => ⟨S2048, .f32⟩
  | .hbm, ⟨23, _⟩ => ⟨S1x1x2048, .f32⟩
  | .hbm, ⟨24, _⟩ => ⟨S128x1x2048, .f32⟩
  | .hbm, ⟨25, _⟩ => ⟨S128x1x2048, .f32⟩
  | .hbm, ⟨26, _⟩ => ⟨S128x1x2048, .f32⟩
  | .hbm, ⟨27, _⟩ => ⟨S_, .f32⟩
  | .hbm, ⟨28, _⟩ => ⟨S128x1x2048, .f32⟩
  | .hbm, ⟨29, _⟩ => ⟨S128x1x2048, .f32⟩
  | .hbm, ⟨30, _⟩ => ⟨S128x1x2048, .f32⟩
  | .hbm, ⟨31, _⟩ => ⟨S128x1x2048, .f32⟩
  | .hbm, ⟨32, _⟩ => ⟨S128x1x2048, .f32⟩
  | .hbm, ⟨33, _⟩ => ⟨S1x2048x11264, .f32⟩
  | .hbm, ⟨34, _⟩ => ⟨S2048x11264, .f32⟩
  | .hbm, ⟨35, _⟩ => ⟨S128x1x11264, .f32⟩
  | .hbm, ⟨36, _⟩ => ⟨S1x128x2x11264, .f32⟩
  | .hbm, ⟨37, _⟩ => ⟨S128x2x11264, .f32⟩
  | .hbm, ⟨38, _⟩ => ⟨S128x3x11264, .f32⟩
  | .hbm, ⟨39, _⟩ => ⟨S1x11264, .f32⟩
  | .hbm, ⟨40, _⟩ => ⟨S11264, .f32⟩
  | .hbm, ⟨41, _⟩ => ⟨S128x1x11264, .f32⟩
  | .hbm, ⟨42, _⟩ => ⟨S1x1x11264, .f32⟩
  | .hbm, ⟨43, _⟩ => ⟨S11264, .f32⟩
  | .hbm, ⟨44, _⟩ => ⟨S1x1x11264, .f32⟩
  | .hbm, ⟨45, _⟩ => ⟨S128x1x11264, .f32⟩
  | .hbm, ⟨46, _⟩ => ⟨S128x1x11264, .f32⟩
  | .hbm, ⟨47, _⟩ => ⟨S_, .f32⟩
  | .hbm, ⟨48, _⟩ => ⟨S128x1x11264, .f32⟩
  | .hbm, ⟨49, _⟩ => ⟨S128x1x11264, .f32⟩
  | .hbm, ⟨50, _⟩ => ⟨S128x1x11264, .f32⟩
  | .hbm, ⟨51, _⟩ => ⟨S1x1x11264, .f32⟩
  | .hbm, ⟨52, _⟩ => ⟨S11264, .f32⟩
  | .hbm, ⟨53, _⟩ => ⟨S1x1x11264, .f32⟩
  | .hbm, ⟨54, _⟩ => ⟨S128x1x11264, .f32⟩
  | .hbm, ⟨55, _⟩ => ⟨S128x1x11264, .f32⟩
  | .hbm, ⟨56, _⟩ => ⟨S128x1x11264, .f32⟩
  | .hbm, ⟨57, _⟩ => ⟨S128x1x11264, .f32⟩
  | .hbm, ⟨58, _⟩ => ⟨S1x1x11264, .f32⟩
  | .hbm, ⟨59, _⟩ => ⟨S11264, .f32⟩
  | .hbm, ⟨60, _⟩ => ⟨S1x1x11264, .f32⟩
  | .hbm, ⟨61, _⟩ => ⟨S128x1x11264, .f32⟩
  | .hbm, ⟨62, _⟩ => ⟨S128x1x11264, .f32⟩
  | .hbm, ⟨63, _⟩ => ⟨S128x1x11264, .f32⟩
  | .hbm, ⟨64, _⟩ => ⟨S1x1x11264, .f32⟩
  | .hbm, ⟨65, _⟩ => ⟨S128x1x11264, .f32⟩
  | .hbm, ⟨66, _⟩ => ⟨S128x1x11264, .f32⟩
  | .hbm, ⟨67, _⟩ => ⟨S128x1x5632, .f32⟩
  | .hbm, ⟨68, _⟩ => ⟨S128x1x5632, .f32⟩
  | .hbm, ⟨69, _⟩ => ⟨S128x1x5632, .f32⟩
  | .hbm, ⟨70, _⟩ => ⟨S128x1x5632, .f32⟩
  | .hbm, ⟨71, _⟩ => ⟨S_, .f32⟩
  | .hbm, ⟨72, _⟩ => ⟨S128x1x5632, .f32⟩
  | .hbm, ⟨73, _⟩ => ⟨S128x1x5632, .f32⟩
  | .hbm, ⟨74, _⟩ => ⟨S_, .f32⟩
  | .hbm, ⟨75, _⟩ => ⟨S128x1x5632, .f32⟩
  | .hbm, ⟨76, _⟩ => ⟨S128x1x5632, .f32⟩
  | .hbm, ⟨77, _⟩ => ⟨S128x1x5632, .f32⟩
  | .hbm, ⟨78, _⟩ => ⟨S128x1x5632, .f32⟩
  | .hbm, ⟨79, _⟩ => ⟨S128x2x11264, .f32⟩
  | .hbm, ⟨80, _⟩ => ⟨S128x1x11264, .f32⟩
  | .hbm, ⟨81, _⟩ => ⟨S128x11264, .f32⟩
  | .hbm, ⟨82, _⟩ => ⟨S128x5632, .f32⟩
  | .hbm, ⟨83, _⟩ => ⟨S128x5632, .bf16⟩
  | .hbm, ⟨84, _⟩ => ⟨S128x5632, .f32⟩
  | .hbm, ⟨85, _⟩ => ⟨S128x5632, .f32⟩
  | _, _ => ⟨S128x1x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_2 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_cst_3 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_call0_v0 : Ref sig .tc := ⟨.hbm, 69, rfl⟩
abbrev main_call0_v1 : Ref sig .tc := ⟨.hbm, 70, rfl⟩
abbrev main_call0_cst : Ref sig .tc := ⟨.hbm, 71, rfl⟩
abbrev main_call0_v2 : Ref sig .tc := ⟨.hbm, 72, rfl⟩
abbrev main_call0_v3 : Ref sig .tc := ⟨.hbm, 73, rfl⟩
abbrev main_call0_cst_0 : Ref sig .tc := ⟨.hbm, 74, rfl⟩
abbrev main_call0_v4 : Ref sig .tc := ⟨.hbm, 75, rfl⟩
abbrev main_call0_v5 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩

abbrev nD : Nat := 1
abbrev τ : Topo := Topo.v7x

variable {F : FTy → Type} [FloatOps F]
-- ==== Kernel8.lean ====
abbrev S128x1x5632 : Shape := ⟨3, ![128, 1, 5632]⟩
abbrev S128x1x2048 : Shape := ⟨3, ![128, 1, 2048]⟩
abbrev S128x2048 : Shape := ⟨2, ![128, 2048]⟩
abbrev S4x5632x2048 : Shape := ⟨3, ![4, 5632, 2048]⟩
abbrev S128x5632 : Shape := ⟨2, ![128, 5632]⟩
abbrev S1x128x2048 : Shape := ⟨3, ![1, 128, 2048]⟩
abbrev S1x5632x512 : Shape := ⟨3, ![1, 5632, 512]⟩
abbrev S1x128x512 : Shape := ⟨3, ![1, 128, 512]⟩
abbrev S128x512 : Shape := ⟨2, ![128, 512]⟩
abbrev S5632x512 : Shape := ⟨2, ![5632, 512]⟩

abbrev nBuf : Space → Nat
  | .hbm => 10
  | .vmem => 9
  | .smem => 0
  | _ => 0

abbrev bufTy : (tb : Table) → Fin (tcTables nBuf tb) → BufTy
  | .hbm, ⟨0, _⟩ => ⟨S128x1x5632, .f32⟩
  | .hbm, ⟨1, _⟩ => ⟨S128x1x2048, .f32⟩
  | .hbm, ⟨2, _⟩ => ⟨S128x2048, .f32⟩
  | .hbm, ⟨3, _⟩ => ⟨S4x5632x2048, .f32⟩
  | .hbm, ⟨4, _⟩ => ⟨S128x5632, .f32⟩
  | .hbm, ⟨5, _⟩ => ⟨S128x5632, .bf16⟩
  | .hbm, ⟨6, _⟩ => ⟨S4x5632x2048, .bf16⟩
  | .hbm, ⟨7, _⟩ => ⟨S1x128x2048, .f32⟩
  | .hbm, ⟨8, _⟩ => ⟨S128x2048, .f32⟩
  | .hbm, ⟨9, _⟩ => ⟨S128x2048, .f32⟩
  | .local _ .vmem, ⟨0, _⟩ => ⟨S128x5632, .bf16⟩
  | .local _ .vmem, ⟨1, _⟩ => ⟨S1x5632x512, .bf16⟩
  | .local _ .vmem, ⟨2, _⟩ => ⟨S1x5632x512, .bf16⟩
  | .local _ .vmem, ⟨3, _⟩ => ⟨S1x128x512, .f32⟩
  | .local _ .vmem, ⟨4, _⟩ => ⟨S1x128x512, .f32⟩
  | .local _ .vmem, ⟨5, _⟩ => ⟨S128x512, .f32⟩
  | .local _ .vmem, ⟨6, _⟩ => ⟨S128x512, .f32⟩
  | .local _ .vmem, ⟨7, _⟩ => ⟨S128x512, .f32⟩
  | .local _ .vmem, ⟨8, _⟩ => ⟨S128x512, .f32⟩
  | _, _ => ⟨S128x1x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![1, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, v26.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S128x5632 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S1x5632x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x128x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S128x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S128x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference8Ideal.lean ====
abbrev S128x1x5632 : Shape := ⟨3, ![128, 1, 5632]⟩
abbrev S128x1x2048 : Shape := ⟨3, ![128, 1, 2048]⟩
abbrev S128x2048 : Shape := ⟨2, ![128, 2048]⟩
abbrev S4x5632x2048 : Shape := ⟨3, ![4, 5632, 2048]⟩
abbrev S1x5632x2048 : Shape := ⟨3, ![1, 5632, 2048]⟩
abbrev S5632x2048 : Shape := ⟨2, ![5632, 2048]⟩

abbrev nBuf : Space → Nat
  | .hbm => 11
  | .vmem => 0
  | .smem => 0
  | _ => 0

abbrev bufTy : (tb : Table) → Fin (tcTables nBuf tb) → BufTy
  | .hbm, ⟨0, _⟩ => ⟨S128x1x5632, .f32⟩
  | .hbm, ⟨1, _⟩ => ⟨S128x1x2048, .f32⟩
  | .hbm, ⟨2, _⟩ => ⟨S128x2048, .f32⟩
  | .hbm, ⟨3, _⟩ => ⟨S4x5632x2048, .f32⟩
  | .hbm, ⟨4, _⟩ => ⟨S128x1x2048, .f32⟩
  | .hbm, ⟨5, _⟩ => ⟨S1x5632x2048, .f32⟩
  | .hbm, ⟨6, _⟩ => ⟨S5632x2048, .f32⟩
  | .hbm, ⟨7, _⟩ => ⟨S128x1x2048, .f32⟩
  | .hbm, ⟨8, _⟩ => ⟨S128x1x2048, .f32⟩
  | .hbm, ⟨9, _⟩ => ⟨S128x1x2048, .f32⟩
  | .hbm, ⟨10, _⟩ => ⟨S128x2048, .f32⟩
  | _, _ => ⟨S128x1x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== Kernel9.lean ====
abbrev S128x1x2048 : Shape := ⟨3, ![128, 1, 2048]⟩
abbrev S4x2048 : Shape := ⟨2, ![4, 2048]⟩
abbrev S128x2048 : Shape := ⟨2, ![128, 2048]⟩
abbrev S4x2048x3200 : Shape := ⟨3, ![4, 2048, 3200]⟩
abbrev S1x2048 : Shape := ⟨2, ![1, 2048]⟩
abbrev S2048 : Shape := ⟨1, ![2048]⟩
abbrev S1x128x2048 : Shape := ⟨3, ![1, 128, 2048]⟩
abbrev S4x2048x512 : Shape := ⟨3, ![4, 2048, 512]⟩
abbrev S4x2048x1024 : Shape := ⟨3, ![4, 2048, 1024]⟩
abbrev S4x2048x96 : Shape := ⟨3, ![4, 2048, 96]⟩
abbrev S_ : Shape := ⟨0, ![]⟩
abbrev S4x2048x32 : Shape := ⟨3, ![4, 2048, 32]⟩
abbrev S4x2048x256 : Shape := ⟨3, ![4, 2048, 256]⟩
abbrev S4x2048x192 : Shape := ⟨3, ![4, 2048, 192]⟩
abbrev S4x2048x64 : Shape := ⟨3, ![4, 2048, 64]⟩
abbrev S4x2048x3328 : Shape := ⟨3, ![4, 2048, 3328]⟩
abbrev S128x3328 : Shape := ⟨2, ![128, 3328]⟩
abbrev S1x2048x1664 : Shape := ⟨3, ![1, 2048, 1664]⟩
abbrev S128x1664 : Shape := ⟨2, ![128, 1664]⟩
abbrev S128 : Shape := ⟨1, ![128]⟩
abbrev S128x1 : Shape := ⟨2, ![128, 1]⟩
abbrev S2048x1664 : Shape := ⟨2, ![2048, 1664]⟩

abbrev nBuf : Space → Nat
  | .hbm => 28
  | .vmem => 9
  | .smem => 0
  | _ => 0

abbrev bufTy : (tb : Table) → Fin (tcTables nBuf tb) → BufTy
  | .hbm, ⟨0, _⟩ => ⟨S128x1x2048, .f32⟩
  | .hbm, ⟨1, _⟩ => ⟨S4x2048, .f32⟩
  | .hbm, ⟨2, _⟩ => ⟨S128x2048, .f32⟩
  | .hbm, ⟨3, _⟩ => ⟨S128x2048, .f32⟩
  | .hbm, ⟨4, _⟩ => ⟨S4x2048x3200, .f32⟩
  | .hbm, ⟨5, _⟩ => ⟨S128x2048, .f32⟩
  | .hbm, ⟨6, _⟩ => ⟨S1x2048, .f32⟩
  | .hbm, ⟨7, _⟩ => ⟨S2048, .f32⟩
  | .hbm, ⟨8, _⟩ => ⟨S1x2048, .f32⟩
  | .hbm, ⟨9, _⟩ => ⟨S1x128x2048, .f32⟩
  | .hbm, ⟨10, _⟩ => ⟨S1x128x2048, .f32⟩
  | .hbm, ⟨11, _⟩ => ⟨S4x2048x512, .f32⟩
  | .hbm, ⟨12, _⟩ => ⟨S4x2048x1024, .f32⟩
  | .hbm, ⟨13, _⟩ => ⟨S4x2048x96, .f32⟩
  | .hbm, ⟨14, _⟩ => ⟨S_, .f32⟩
  | .hbm, ⟨15, _⟩ => ⟨S4x2048x32, .f32⟩
  | .hbm, ⟨16, _⟩ => ⟨S4x2048x96, .f32⟩
  | .hbm, ⟨17, _⟩ => ⟨S_, .f32⟩
  | .hbm, ⟨18, _⟩ => ⟨S4x2048x32, .f32⟩
  | .hbm, ⟨19, _⟩ => ⟨S4x2048x256, .f32⟩
  | .hbm, ⟨20, _⟩ => ⟨S4x2048x512, .f32⟩
  | .hbm, ⟨21, _⟩ => ⟨S4x2048x512, .f32⟩
  | .hbm, ⟨22, _⟩ => ⟨S4x2048x192, .f32⟩
  | .hbm, ⟨23, _⟩ => ⟨S_, .f32⟩
  | .hbm, ⟨24, _⟩ => ⟨S4x2048x64, .f32⟩
  | .hbm, ⟨25, _⟩ => ⟨S4x2048x3328, .f32⟩
  | .hbm, ⟨26, _⟩ => ⟨S4x2048x3328, .bf16⟩
  | .hbm, ⟨27, _⟩ => ⟨S128x3328, .f32⟩
  | .local _ .vmem, ⟨0, _⟩ => ⟨S128x2048, .f32⟩
  | .local _ .vmem, ⟨1, _⟩ => ⟨S1x2048, .f32⟩
  | .local _ .vmem, ⟨2, _⟩ => ⟨S1x128x2048, .f32⟩
  | .local _ .vmem, ⟨3, _⟩ => ⟨S1x128x2048, .f32⟩
  | .local _ .vmem, ⟨4, _⟩ => ⟨S1x2048x1664, .bf16⟩
  | .local _ .vmem, ⟨5, _⟩ => ⟨S1x2048x1664, .bf16⟩
  | .local _ .vmem, ⟨6, _⟩ => ⟨S128x1664, .f32⟩
  | .local _ .vmem, ⟨7, _⟩ => ⟨S128x1664, .f32⟩
  | .local _ .vmem, ⟨8, _⟩ => ⟨S128x2048, .bf16⟩
  | _, _ => ⟨S128x1x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst : Ref sig .tc := ⟨.hbm, 14, rfl⟩
abbrev main_v9 : Ref sig .tc := ⟨.hbm, 15, rfl⟩
abbrev main_v10 : Ref sig .tc := ⟨.hbm, 16, rfl⟩
abbrev main_cst_0 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_1 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg5_0 : Ref sig .tc := ⟨.vmem, 6, rfl⟩
abbrev cc0_stg5_1 : Ref sig .tc := ⟨.vmem, 7, rfl⟩
abbrev cc0_scratch0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem4_1 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨2, ![1, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![v16.toNat, v26.toNat, c0_i32_11.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![v16.toNat, v26.toNat, c0_i32_11.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S128x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x128x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 1 → Memref sig .tc .vmem S1x128x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false]

abbrev stage0_4 : Fin 2 → Memref sig .tc .vmem S1x2048x1664 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S128x1664 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference9Ideal.lean ====
abbrev S128x1x2048 : Shape := ⟨3, ![128, 1, 2048]⟩
abbrev S4x2048 : Shape := ⟨2, ![4, 2048]⟩
abbrev S128x2048 : Shape := ⟨2, ![128, 2048]⟩
abbrev S4x2048x3200 : Shape := ⟨3, ![4, 2048, 3200]⟩
abbrev S_ : Shape := ⟨0, ![]⟩
abbrev S128x1 : Shape := ⟨2, ![128, 1]⟩
abbrev S128x1x1 : Shape := ⟨3, ![128, 1, 1]⟩
abbrev S1x2048 : Shape := ⟨2, ![1, 2048]⟩
abbrev S2048 : Shape := ⟨1, ![2048]⟩
abbrev S1x1x2048 : Shape := ⟨3, ![1, 1, 2048]⟩
abbrev S1x2048x3200 : Shape := ⟨3, ![1, 2048, 3200]⟩
abbrev S2048x3200 : Shape := ⟨2, ![2048, 3200]⟩
abbrev S128x1x3200 : Shape := ⟨3, ![128, 1, 3200]⟩
abbrev S128x1x704 : Shape := ⟨3, ![128, 1, 704]⟩
abbrev S128x1x1984 : Shape := ⟨3, ![128, 1, 1984]⟩
abbrev S128x1x512 : Shape := ⟨3, ![128, 1, 512]⟩
abbrev S128x1x128 : Shape := ⟨3, ![128, 1, 128]⟩
abbrev S128x1x64 : Shape := ⟨3, ![128, 1, 64]⟩
abbrev S128x1x96 : Shape := ⟨3, ![128, 1, 96]⟩
abbrev S128x1x256 : Shape := ⟨3, ![128, 1, 256]⟩
abbrev S128x1x32 : Shape := ⟨3, ![128, 1, 32]⟩
abbrev S128x1x3328 : Shape := ⟨3, ![128, 1, 3328]⟩
abbrev S128x3328 : Shape := ⟨2, ![128, 3328]⟩

abbrev nBuf : Space → Nat
  | .hbm => 53
  | .vmem => 0
  | .smem => 0
  | _ => 0

abbrev bufTy : (tb : Table) → Fin (tcTables nBuf tb) → BufTy
  | .hbm, ⟨0, _⟩ => ⟨S128x1x2048, .f32⟩
  | .hbm, ⟨1, _⟩ => ⟨S4x2048, .f32⟩
  | .hbm, ⟨2, _⟩ => ⟨S128x2048, .f32⟩
  | .hbm, ⟨3, _⟩ => ⟨S128x2048, .f32⟩
  | .hbm, ⟨4, _⟩ => ⟨S4x2048x3200, .f32⟩
  | .hbm, ⟨5, _⟩ => ⟨S128x1x2048, .f32⟩
  | .hbm, ⟨6, _⟩ => ⟨S_, .f32⟩
  | .hbm, ⟨7, _⟩ => ⟨S128x1, .f32⟩
  | .hbm, ⟨8, _⟩ => ⟨S128x1x1, .f32⟩
  | .hbm, ⟨9, _⟩ => ⟨S_, .f32⟩
  | .hbm, ⟨10, _⟩ => ⟨S128x1x1, .f32⟩
  | .hbm, ⟨11, _⟩ => ⟨S128x1x1, .f32⟩
  | .hbm, ⟨12, _⟩ => ⟨S_, .f32⟩
  | .hbm, ⟨13, _⟩ => ⟨S128x1x1, .f32⟩
  | .hbm, ⟨14, _⟩ => ⟨S128x1x1, .f32⟩
  | .hbm, ⟨15, _⟩ => ⟨S128x1x1, .f32⟩
  | .hbm, ⟨16, _⟩ => ⟨S128x1x2048, .f32⟩
  | .hbm, ⟨17, _⟩ => ⟨S128x1x2048, .f32⟩
  | .hbm, ⟨18, _⟩ => ⟨S1x2048, .f32⟩
  | .hbm, ⟨19, _⟩ => ⟨S2048, .f32⟩
  | .hbm, ⟨20, _⟩ => ⟨S1x1x2048, .f32⟩
  | .hbm, ⟨21, _⟩ => ⟨S128x1x2048, .f32⟩
  | .hbm, ⟨22, _⟩ => ⟨S128x1x2048, .f32⟩
  | .hbm, ⟨23, _⟩ => ⟨S128x1x2048, .f32⟩
  | .hbm, ⟨24, _⟩ => ⟨S_, .f32⟩
  | .hbm, ⟨25, _⟩ => ⟨S128x1x2048, .f32⟩
  | .hbm, ⟨26, _⟩ => ⟨S128x1x2048, .f32⟩
  | .hbm, ⟨27, _⟩ => ⟨S128x1x2048, .f32⟩
  | .hbm, ⟨28, _⟩ => ⟨S128x1x2048, .f32⟩
  | .hbm, ⟨29, _⟩ => ⟨S128x1x2048, .f32⟩
  | .hbm, ⟨30, _⟩ => ⟨S1x2048x3200, .f32⟩
  | .hbm, ⟨31, _⟩ => ⟨S2048x3200, .f32⟩
  | .hbm, ⟨32, _⟩ => ⟨S128x1x3200, .f32⟩
  | .hbm, ⟨33, _⟩ => ⟨S128x1x704, .f32⟩
  | .hbm, ⟨34, _⟩ => ⟨S128x1x1984, .f32⟩
  | .hbm, ⟨35, _⟩ => ⟨S128x1x512, .f32⟩
  | .hbm, ⟨36, _⟩ => ⟨S128x1x512, .f32⟩
  | .hbm, ⟨37, _⟩ => ⟨S128x1x128, .f32⟩
  | .hbm, ⟨38, _⟩ => ⟨S128x1x64, .f32⟩
  | .hbm, ⟨39, _⟩ => ⟨S128x1x512, .f32⟩
  | .hbm, ⟨40, _⟩ => ⟨S128x1x96, .f32⟩
  | .hbm, ⟨41, _⟩ => ⟨S128x1x512, .f32⟩
  | .hbm, ⟨42, _⟩ => ⟨S128x1x512, .f32⟩
  | .hbm, ⟨43, _⟩ => ⟨S128x1x96, .f32⟩
  | .hbm, ⟨44, _⟩ => ⟨S128x1x256, .f32⟩
  | .hbm, ⟨45, _⟩ => ⟨S_, .f32⟩
  | .hbm, ⟨46, _⟩ => ⟨S128x1x32, .f32⟩
  | .hbm, ⟨47, _⟩ => ⟨S_, .f32⟩
  | .hbm, ⟨48, _⟩ => ⟨S128x1x32, .f32⟩
  | .hbm, ⟨49, _⟩ => ⟨S_, .f32⟩
  | .hbm, ⟨50, _⟩ => ⟨S128x1x64, .f32⟩
  | .hbm, ⟨51, _⟩ => ⟨S128x1x3328, .f32⟩
  | .hbm, ⟨52, _⟩ => ⟨S128x3328, .f32⟩
  | _, _ => ⟨S128x1x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_2 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_cst_3 : Ref sig .tc := ⟨.hbm, 45, rfl⟩
abbrev main_v36 : Ref sig .tc := ⟨.hbm, 46, rfl⟩
abbrev main_cst_4 : Ref sig .tc := ⟨.hbm, 47, rfl⟩
abbrev main_v37 : Ref sig .tc := ⟨.hbm, 48, rfl⟩
abbrev main_cst_5 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩

abbrev nD : Nat := 1
abbrev τ : Topo := Topo.v7x

variable {F : FTy → Type} [FloatOps F]
-- ==== Kernel10.lean ====
abbrev S128x1x704 : Shape := ⟨3, ![128, 1, 704]⟩
abbrev S4x512 : Shape := ⟨2, ![4, 512]⟩
abbrev S4x512x1536 : Shape := ⟨3, ![4, 512, 1536]⟩
abbrev S4x128 : Shape := ⟨2, ![4, 128]⟩
abbrev S4x128x8x128 : Shape := ⟨4, ![4, 128, 8, 128]⟩
abbrev S4x64 : Shape := ⟨2, ![4, 64]⟩
abbrev S_ : Shape := ⟨0, ![]⟩
abbrev S128x1x2048 : Shape := ⟨3, ![128, 1, 2048]⟩
abbrev S128x1x512 : Shape := ⟨3, ![128, 1, 512]⟩
abbrev S128x1x192 : Shape := ⟨3, ![128, 1, 192]⟩
abbrev S128x1x64 : Shape := ⟨3, ![128, 1, 64]⟩
abbrev S128x1x3328 : Shape := ⟨3, ![128, 1, 3328]⟩
abbrev S128x3328 : Shape := ⟨2, ![128, 3328]⟩
abbrev S128 : Shape := ⟨1, ![128]⟩
abbrev S32 : Shape := ⟨1, ![32]⟩
abbrev S128x1 : Shape := ⟨2, ![128, 1]⟩
abbrev S1x32 : Shape := ⟨2, ![1, 32]⟩
abbrev S128x32 : Shape := ⟨2, ![128, 32]⟩
abbrev S128x64 : Shape := ⟨2, ![128, 64]⟩
abbrev S128x128 : Shape := ⟨2, ![128, 128]⟩
abbrev S4x512x192 : Shape := ⟨3, ![4, 512, 192]⟩
abbrev S4x512x64 : Shape := ⟨3, ![4, 512, 64]⟩
abbrev S4x512x2048 : Shape := ⟨3, ![4, 512, 2048]⟩
abbrev S4x128x1024 : Shape := ⟨3, ![4, 128, 1024]⟩
abbrev S1x512 : Shape := ⟨2, ![1, 512]⟩
abbrev S512 : Shape := ⟨1, ![512]⟩
abbrev S1x512x2048 : Shape := ⟨3, ![1, 512, 2048]⟩
abbrev S512x2048 : Shape := ⟨2, ![512, 2048]⟩
abbrev S1x128 : Shape := ⟨2, ![1, 128]⟩
abbrev S1x128x1024 : Shape := ⟨3, ![1, 128, 1024]⟩
abbrev S128x1024 : Shape := ⟨2, ![128, 1024]⟩
abbrev S128x2048 : Shape := ⟨2, ![128, 2048]⟩
abbrev S128x512 : Shape := ⟨2, ![128, 512]⟩

abbrev nBuf : Space → Nat
  | .hbm => 110
  | .vmem => 19
  | .smem => 0
  | _ => 0

abbrev bufTy : (tb : Table) → Fin (tcTables nBuf tb) → BufTy
  | .hbm, ⟨0, _⟩ => ⟨S128x1x704, .f32⟩
  | .hbm, ⟨1, _⟩ => ⟨S4x512, .f32⟩
  | .hbm, ⟨2, _⟩ => ⟨S4x512x1536, .f32⟩
  | .hbm, ⟨3, _⟩ => ⟨S4x128, .f32⟩
  | .hbm, ⟨4, _⟩ => ⟨S4x128x8x128, .f32⟩
  | .hbm, ⟨5, _⟩ => ⟨S4x128x8x128, .f32⟩
  | .hbm, ⟨6, _⟩ => ⟨S4x128, .f32⟩
  | .hbm, ⟨7, _⟩ => ⟨S4x64, .f32⟩
  | .hbm, ⟨8, _⟩ => ⟨S4x128, .f32⟩
  | .hbm, ⟨9, _⟩ => ⟨S4x64, .f32⟩
  | .hbm, ⟨10, _⟩ => ⟨S_, .f32⟩
  | .hbm, ⟨11, _⟩ => ⟨S128x1x2048, .f32⟩
  | .hbm, ⟨12, _⟩ => ⟨S128x1x512, .f32⟩
  | .hbm, ⟨13, _⟩ => ⟨S_, .f32⟩
  | .hbm, ⟨14, _⟩ => ⟨S128x1x512, .f32⟩
  | .hbm, ⟨15, _⟩ => ⟨S128x1x192, .f32⟩
  | .hbm, ⟨16, _⟩ => ⟨S_, .f32⟩
  | .hbm, ⟨17, _⟩ => ⟨S128x1x64, .f32⟩
  | .hbm, ⟨18, _⟩ => ⟨S128x1x3328, .f32⟩
  | .hbm, ⟨19, _⟩ => ⟨S128x3328, .f32⟩
  | .hbm, ⟨20, _⟩ => ⟨S_, .i32⟩
  | .hbm, ⟨21, _⟩ => ⟨S128, .i32⟩
  | .hbm, ⟨22, _⟩ => ⟨S32, .f32⟩
  | .hbm, ⟨23, _⟩ => ⟨S32, .f32⟩
  | .hbm, ⟨24, _⟩ => ⟨S_, .f32⟩
  | .hbm, ⟨25, _⟩ => ⟨S32, .f32⟩
  | .hbm, ⟨26, _⟩ => ⟨S32, .f32⟩
  | .hbm, ⟨27, _⟩ => ⟨S_, .f32⟩
  | .hbm, ⟨28, _⟩ => ⟨S32, .f32⟩
  | .hbm, ⟨29, _⟩ => ⟨S32, .f32⟩
  | .hbm, ⟨30, _⟩ => ⟨S_, .f32⟩
  | .hbm, ⟨31, _⟩ => ⟨S32, .f32⟩
  | .hbm, ⟨32, _⟩ => ⟨S32, .f32⟩
  | .hbm, ⟨33, _⟩ => ⟨S128, .f32⟩
  | .hbm, ⟨34, _⟩ => ⟨S128x1, .f32⟩
  | .hbm, ⟨35, _⟩ => ⟨S1x32, .f32⟩
  | .hbm, ⟨36, _⟩ => ⟨S128x32, .f32⟩
  | .hbm, ⟨37, _⟩ => ⟨S128x32, .f32⟩
  | .hbm, ⟨38, _⟩ => ⟨S128x32, .f32⟩
  | .hbm, ⟨39, _⟩ => ⟨S128x32, .f32⟩
  | .hbm, ⟨40, _⟩ => ⟨S128x32, .f32⟩
  | .hbm, ⟨41, _⟩ => ⟨S_, .f32⟩
  | .hbm, ⟨42, _⟩ => ⟨S128x64, .f32⟩
  | .hbm, ⟨43, _⟩ => ⟨S128x128, .f32⟩
  | .hbm, ⟨44, _⟩ => ⟨S128x128, .f32⟩
  | .hbm, ⟨45, _⟩ => ⟨S4x512x192, .f32⟩
  | .hbm, ⟨46, _⟩ => ⟨S_, .f32⟩
  | .hbm, ⟨47, _⟩ => ⟨S4x512x64, .f32⟩
  | .hbm, ⟨48, _⟩ => ⟨S4x512x192, .f32⟩
  | .hbm, ⟨49, _⟩ => ⟨S_, .f32⟩
  | .hbm, ⟨50, _⟩ => ⟨S4x512x64, .f32⟩
  | .hbm, ⟨51, _⟩ => ⟨S4x512x192, .f32⟩
  | .hbm, ⟨52, _⟩ => ⟨S_, .f32⟩
  | .hbm, ⟨53, _⟩ => ⟨S4x512x64, .f32⟩
  | .hbm, ⟨54, _⟩ => ⟨S4x512x192, .f32⟩
  | .hbm, ⟨55, _⟩ => ⟨S_, .f32⟩
  | .hbm, ⟨56, _⟩ => ⟨S4x512x64, .f32⟩
  | .hbm, ⟨57, _⟩ => ⟨S4x512x192, .f32⟩
  | .hbm, ⟨58, _⟩ => ⟨S_, .f32⟩
  | .hbm, ⟨59, _⟩ => ⟨S4x512x64, .f32⟩
  | .hbm, ⟨60, _⟩ => ⟨S4x512x192, .f32⟩
  | .hbm, ⟨61, _⟩ => ⟨S_, .f32⟩
  | .hbm, ⟨62, _⟩ => ⟨S4x512x64, .f32⟩
  | .hbm, ⟨63, _⟩ => ⟨S4x512x192, .f32⟩
  | .hbm, ⟨64, _⟩ => ⟨S_, .f32⟩
  | .hbm, ⟨65, _⟩ => ⟨S4x512x64, .f32⟩
  | .hbm, ⟨66, _⟩ => ⟨S4x512x192, .f32⟩
  | .hbm, ⟨67, _⟩ => ⟨S_, .f32⟩
  | .hbm, ⟨68, _⟩ => ⟨S4x512x64, .f32⟩
  | .hbm, ⟨69, _⟩ => ⟨S4x512x2048, .f32⟩
  | .hbm, ⟨70, _⟩ => ⟨S4x512x2048, .bf16⟩
  | .hbm, ⟨71, _⟩ => ⟨S4x128x1024, .f32⟩
  | .hbm, ⟨72, _⟩ => ⟨S4x128x1024, .bf16⟩
  | .hbm, ⟨73, _⟩ => ⟨S4x128x1024, .f32⟩
  | .hbm, ⟨74, _⟩ => ⟨S4x128x1024, .bf16⟩
  | .hbm, ⟨75, _⟩ => ⟨S_, .i32⟩
  | .hbm, ⟨76, _⟩ => ⟨S_, .f32⟩
  | .hbm, ⟨77, _⟩ => ⟨S4x128, .f32⟩
  | .hbm, ⟨78, _⟩ => ⟨S_, .i32⟩
  | .hbm, ⟨79, _⟩ => ⟨S_, .f32⟩
  | .hbm, ⟨80, _⟩ => ⟨S4x128, .f32⟩
  | .hbm, ⟨81, _⟩ => ⟨S1x512, .f32⟩
  | .hbm, ⟨82, _⟩ => ⟨S512, .f32⟩
  | .hbm, ⟨83, _⟩ => ⟨S1x512, .f32⟩
  | .hbm, ⟨84, _⟩ => ⟨S1x512x2048, .bf16⟩
  | .hbm, ⟨85, _⟩ => ⟨S512x2048, .bf16⟩
  | .hbm, ⟨86, _⟩ => ⟨S1x128, .f32⟩
  | .hbm, ⟨87, _⟩ => ⟨S128, .f32⟩
  | .hbm, ⟨88, _⟩ => ⟨S1x128, .f32⟩
  | .hbm, ⟨89, _⟩ => ⟨S1x128, .f32⟩
  | .hbm, ⟨90, _⟩ => ⟨S128, .f32⟩
  | .hbm, ⟨91, _⟩ => ⟨S1x128, .f32⟩
  | .hbm, ⟨92, _⟩ => ⟨S1x128, .f32⟩
  | .hbm, ⟨93, _⟩ => ⟨S128, .f32⟩
  | .hbm, ⟨94, _⟩ => ⟨S1x128, .f32⟩
  | .hbm, ⟨95, _⟩ => ⟨S1x128, .f32⟩
  | .hbm, ⟨96, _⟩ => ⟨S128, .f32⟩
  | .hbm, ⟨97, _⟩ => ⟨S1x128, .f32⟩
  | .hbm, ⟨98, _⟩ => ⟨S1x128, .f32⟩
  | .hbm, ⟨99, _⟩ => ⟨S128, .f32⟩
  | .hbm, ⟨100, _⟩ => ⟨S1x128, .f32⟩
  | .hbm, ⟨101, _⟩ => ⟨S1x128x1024, .bf16⟩
  | .hbm, ⟨102, _⟩ => ⟨S128x1024, .bf16⟩
  | .hbm, ⟨103, _⟩ => ⟨S1x128x1024, .bf16⟩
  | .hbm, ⟨104, _⟩ => ⟨S128x1024, .bf16⟩
  | .hbm, ⟨105, _⟩ => ⟨S128x2048, .f32⟩
  | .hbm, ⟨106, _⟩ => ⟨S128x2048, .bf16⟩
  | .hbm, ⟨107, _⟩ => ⟨S128x1024, .bf16⟩
  | .hbm, ⟨108, _⟩ => ⟨S128x128, .f32⟩
  | .hbm, ⟨109, _⟩ => ⟨S128x128, .f32⟩
  | .local _ .vmem, ⟨0, _⟩ => ⟨S128x512, .f32⟩
  | .local _ .vmem, ⟨1, _⟩ => ⟨S128x128, .f32⟩
  | .local _ .vmem, ⟨2, _⟩ => ⟨S128x128, .f32⟩
  | .local _ .vmem, ⟨3, _⟩ => ⟨S128x128, .f32⟩
  | .local _ .vmem, ⟨4, _⟩ => ⟨S128x128, .f32⟩
  | .local _ .vmem, ⟨5, _⟩ => ⟨S1x512, .f32⟩
  | .local _ .vmem, ⟨6, _⟩ => ⟨S512x2048, .bf16⟩
  | .local _ .vmem, ⟨7, _⟩ => ⟨S1x128, .f32⟩
  | .local _ .vmem, ⟨8, _⟩ => ⟨S1x128, .f32⟩
  | .local _ .vmem, ⟨9, _⟩ => ⟨S1x128, .f32⟩
  | .local _ .vmem, ⟨10, _⟩ => ⟨S1x128, .f32⟩
  | .local _ .vmem, ⟨11, _⟩ => ⟨S1x128, .f32⟩
  | .local _ .vmem, ⟨12, _⟩ => ⟨S128x1024, .bf16⟩
  | .local _ .vmem, ⟨13, _⟩ => ⟨S128x1024, .bf16⟩
  | .local _ .vmem, ⟨14, _⟩ => ⟨S128x2048, .f32⟩
  | .local _ .vmem, ⟨15, _⟩ => ⟨S128x2048, .bf16⟩
  | .local _ .vmem, ⟨16, _⟩ => ⟨S128x1024, .bf16⟩
  | .local _ .vmem, ⟨17, _⟩ => ⟨S128x128, .f32⟩
  | .local _ .vmem, ⟨18, _⟩ => ⟨S128x128, .f32⟩
  | _, _ => ⟨S128x1x704, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_v1 : Ref sig .tc := ⟨.hbm, 12, rfl⟩
abbrev main_cst_0 : Ref sig .tc := ⟨.hbm, 13, rfl⟩
abbrev main_v2 : Ref sig .tc := ⟨.hbm, 14, rfl⟩
abbrev main_v3 : Ref sig .tc := ⟨.hbm, 15, rfl⟩
abbrev main_cst_1 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_c : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_cst_2 : Ref sig .tc := ⟨.hbm, 24, rfl⟩
abbrev main_v10 : Ref sig .tc := ⟨.hbm, 25, rfl⟩
abbrev main_v11 : Ref sig .tc := ⟨.hbm, 26, rfl⟩
abbrev main_cst_3 : Ref sig .tc := ⟨.hbm, 27, rfl⟩
abbrev main_v12 : Ref sig .tc := ⟨.hbm, 28, rfl⟩
abbrev main_v13 : Ref sig .tc := ⟨.hbm, 29, rfl⟩
abbrev main_cst_4 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_cst_5 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_cst_6 : Ref sig .tc := ⟨.hbm, 46, rfl⟩
abbrev main_v28 : Ref sig .tc := ⟨.hbm, 47, rfl⟩
abbrev main_v29 : Ref sig .tc := ⟨.hbm, 48, rfl⟩
abbrev main_cst_7 : Ref sig .tc := ⟨.hbm, 49, rfl⟩
abbrev main_v30 : Ref sig .tc := ⟨.hbm, 50, rfl⟩
abbrev main_v31 : Ref sig .tc := ⟨.hbm, 51, rfl⟩
abbrev main_cst_8 : Ref sig .tc := ⟨.hbm, 52, rfl⟩
abbrev main_v32 : Ref sig .tc := ⟨.hbm, 53, rfl⟩
abbrev main_v33 : Ref sig .tc := ⟨.hbm, 54, rfl⟩
abbrev main_cst_9 : Ref sig .tc := ⟨.hbm, 55, rfl⟩
abbrev main_v34 : Ref sig .tc := ⟨.hbm, 56, rfl⟩
abbrev main_v35 : Ref sig .tc := ⟨.hbm, 57, rfl⟩
abbrev main_cst_10 : Ref sig .tc := ⟨.hbm, 58, rfl⟩
abbrev main_v36 : Ref sig .tc := ⟨.hbm, 59, rfl⟩
abbrev main_v37 : Ref sig .tc := ⟨.hbm, 60, rfl⟩
abbrev main_cst_11 : Ref sig .tc := ⟨.hbm, 61, rfl⟩
abbrev main_v38 : Ref sig .tc := ⟨.hbm, 62, rfl⟩
abbrev main_v39 : Ref sig .tc := ⟨.hbm, 63, rfl⟩
abbrev main_cst_12 : Ref sig .tc := ⟨.hbm, 64, rfl⟩
abbrev main_v40 : Ref sig .tc := ⟨.hbm, 65, rfl⟩
abbrev main_v41 : Ref sig .tc := ⟨.hbm, 66, rfl⟩
abbrev main_cst_13 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_c_14 : Ref sig .tc := ⟨.hbm, 75, rfl⟩
abbrev main_call0_v0 : Ref sig .tc := ⟨.hbm, 76, rfl⟩
abbrev main_v49 : Ref sig .tc := ⟨.hbm, 77, rfl⟩
abbrev main_c_15 : Ref sig .tc := ⟨.hbm, 78, rfl⟩
abbrev main_call1_v0 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75_0 : Ref sig .tc := ⟨.hbm, 105, rfl⟩
abbrev main_v75_1 : Ref sig .tc := ⟨.hbm, 106, rfl⟩
abbrev main_v75_2 : Ref sig .tc := ⟨.hbm, 107, rfl⟩
abbrev main_v75_3 : Ref sig .tc := ⟨.hbm, 108, rfl⟩
abbrev main_v75_4 : Ref sig .tc := ⟨.hbm, 109, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_1 (i : grid0.Coords) : Fin 2 → Nat :=
  let arg0 : BitVec 32 := BitVec.ofNat 32 (i 0).val
  let c24_i32 : BitVec 32 := 24#32
  let c0_i32 : BitVec 32 := 0#32
  ![arg0.toNat, c24_i32.toNat]

def cc0_transform_2 (i : grid0.Coords) : Fin 2 → Nat :=
  let arg0 : BitVec 32 := BitVec.ofNat 32 (i 0).val
  let c25_i32 : BitVec 32 := 25#32
  let c0_i32 : BitVec 32 := 0#32
  ![arg0.toNat, c25_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S128x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S128x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S128x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S128x2048 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![true]

abbrev stage0_15 : Fin 1 → Memref sig .tc .vmem S128x2048 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![true]

abbrev stage0_16 : Fin 1 → Memref sig .tc .vmem S128x1024 .bf16 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![true]

abbrev stage0_17 : Fin 1 → Memref sig .tc .vmem S128x128 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![true]

abbrev stage0_18 : Fin 1 → Memref sig .tc .vmem S128x128 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![true]
-- ==== Reference10Ideal.lean ====
abbrev S128x1x704 : Shape := ⟨3, ![128, 1, 704]⟩
abbrev S4x512 : Shape := ⟨2, ![4, 512]⟩
abbrev S4x512x1536 : Shape := ⟨3, ![4, 512, 1536]⟩
abbrev S4x128 : Shape := ⟨2, ![4, 128]⟩
abbrev S4x128x8x128 : Shape := ⟨4, ![4, 128, 8, 128]⟩
abbrev S4x64 : Shape := ⟨2, ![4, 64]⟩
abbrev S32 : Shape := ⟨1, ![32]⟩
abbrev S_ : Shape := ⟨0, ![]⟩
abbrev S1 : Shape := ⟨1, ![1]⟩
abbrev S1x1 : Shape := ⟨2, ![1, 1]⟩
abbrev S1x32 : Shape := ⟨2, ![1, 32]⟩
abbrev S128x1x128 : Shape := ⟨3, ![128, 1, 128]⟩
abbrev S128x1x64 : Shape := ⟨3, ![128, 1, 64]⟩
abbrev S1x128 : Shape := ⟨2, ![1, 128]⟩
abbrev S128 : Shape := ⟨1, ![128]⟩
abbrev S128x1 : Shape := ⟨2, ![128, 1]⟩
abbrev S128x1x1 : Shape := ⟨3, ![128, 1, 1]⟩
abbrev S1x1x128 : Shape := ⟨3, ![1, 1, 128]⟩
abbrev S1x64 : Shape := ⟨2, ![1, 64]⟩
abbrev S64 : Shape := ⟨1, ![64]⟩
abbrev S1x1x64 : Shape := ⟨3, ![1, 1, 64]⟩
abbrev S128x1x32 : Shape := ⟨3, ![128, 1, 32]⟩
abbrev S1x1x32 : Shape := ⟨3, ![1, 1, 32]⟩
abbrev S128x128 : Shape := ⟨2, ![128, 128]⟩

abbrev nBuf : Space → Nat
  | .hbm => 92
  | .vmem => 0
  | .smem => 0
  | _ => 0

abbrev bufTy : (tb : Table) → Fin (tcTables nBuf tb) → BufTy
  | .hbm, ⟨0, _⟩ => ⟨S128x1x704, .f32⟩
  | .hbm, ⟨1, _⟩ => ⟨S4x512, .f32⟩
  | .hbm, ⟨2, _⟩ => ⟨S4x512x1536, .f32⟩
  | .hbm, ⟨3, _⟩ => ⟨S4x128, .f32⟩
  | .hbm, ⟨4, _⟩ => ⟨S4x128x8x128, .f32⟩
  | .hbm, ⟨5, _⟩ => ⟨S4x128x8x128, .f32⟩
  | .hbm, ⟨6, _⟩ => ⟨S4x128, .f32⟩
  | .hbm, ⟨7, _⟩ => ⟨S4x64, .f32⟩
  | .hbm, ⟨8, _⟩ => ⟨S4x128, .f32⟩
  | .hbm, ⟨9, _⟩ => ⟨S4x64, .f32⟩
  | .hbm, ⟨10, _⟩ => ⟨S32, .f32⟩
  | .hbm, ⟨11, _⟩ => ⟨S32, .f32⟩
  | .hbm, ⟨12, _⟩ => ⟨S_, .f32⟩
  | .hbm, ⟨13, _⟩ => ⟨S32, .f32⟩
  | .hbm, ⟨14, _⟩ => ⟨S32, .f32⟩
  | .hbm, ⟨15, _⟩ => ⟨S_, .f32⟩
  | .hbm, ⟨16, _⟩ => ⟨S32, .f32⟩
  | .hbm, ⟨17, _⟩ => ⟨S32, .f32⟩
  | .hbm, ⟨18, _⟩ => ⟨S_, .f32⟩
  | .hbm, ⟨19, _⟩ => ⟨S32, .f32⟩
  | .hbm, ⟨20, _⟩ => ⟨S32, .f32⟩
  | .hbm, ⟨21, _⟩ => ⟨S1, .i32⟩
  | .hbm, ⟨22, _⟩ => ⟨S_, .i32⟩
  | .hbm, ⟨23, _⟩ => ⟨S1, .i32⟩
  | .hbm, ⟨24, _⟩ => ⟨S1, .i32⟩
  | .hbm, ⟨25, _⟩ => ⟨S1, .f32⟩
  | .hbm, ⟨26, _⟩ => ⟨S1x1, .f32⟩
  | .hbm, ⟨27, _⟩ => ⟨S1x32, .f32⟩
  | .hbm, ⟨28, _⟩ => ⟨S1x32, .f32⟩
  | .hbm, ⟨29, _⟩ => ⟨S1x32, .f32⟩
  | .hbm, ⟨30, _⟩ => ⟨S128x1x128, .f32⟩
  | .hbm, ⟨31, _⟩ => ⟨S128x1x64, .f32⟩
  | .hbm, ⟨32, _⟩ => ⟨S1x128, .f32⟩
  | .hbm, ⟨33, _⟩ => ⟨S128, .f32⟩
  | .hbm, ⟨34, _⟩ => ⟨S128x1x128, .f32⟩
  | .hbm, ⟨35, _⟩ => ⟨S_, .f32⟩
  | .hbm, ⟨36, _⟩ => ⟨S128x1, .f32⟩
  | .hbm, ⟨37, _⟩ => ⟨S128x1x1, .f32⟩
  | .hbm, ⟨38, _⟩ => ⟨S_, .f32⟩
  | .hbm, ⟨39, _⟩ => ⟨S128x1x1, .f32⟩
  | .hbm, ⟨40, _⟩ => ⟨S128x1x1, .f32⟩
  | .hbm, ⟨41, _⟩ => ⟨S_, .f32⟩
  | .hbm, ⟨42, _⟩ => ⟨S128x1x1, .f32⟩
  | .hbm, ⟨43, _⟩ => ⟨S128x1x1, .f32⟩
  | .hbm, ⟨44, _⟩ => ⟨S128x1x1, .f32⟩
  | .hbm, ⟨45, _⟩ => ⟨S128x1x128, .f32⟩
  | .hbm, ⟨46, _⟩ => ⟨S128x1x128, .f32⟩
  | .hbm, ⟨47, _⟩ => ⟨S1x1x128, .f32⟩
  | .hbm, ⟨48, _⟩ => ⟨S128x1x128, .f32⟩
  | .hbm, ⟨49, _⟩ => ⟨S128x1x128, .f32⟩
  | .hbm, ⟨50, _⟩ => ⟨S1x64, .f32⟩
  | .hbm, ⟨51, _⟩ => ⟨S64, .f32⟩
  | .hbm, ⟨52, _⟩ => ⟨S128x1x64, .f32⟩
  | .hbm, ⟨53, _⟩ => ⟨S_, .f32⟩
  | .hbm, ⟨54, _⟩ => ⟨S128x1, .f32⟩
  | .hbm, ⟨55, _⟩ => ⟨S128x1x1, .f32⟩
  | .hbm, ⟨56, _⟩ => ⟨S_, .f32⟩
  | .hbm, ⟨57, _⟩ => ⟨S128x1x1, .f32⟩
  | .hbm, ⟨58, _⟩ => ⟨S128x1x1, .f32⟩
  | .hbm, ⟨59, _⟩ => ⟨S_, .f32⟩
  | .hbm, ⟨60, _⟩ => ⟨S128x1x1, .f32⟩
  | .hbm, ⟨61, _⟩ => ⟨S128x1x1, .f32⟩
  | .hbm, ⟨62, _⟩ => ⟨S128x1x1, .f32⟩
  | .hbm, ⟨63, _⟩ => ⟨S128x1x64, .f32⟩
  | .hbm, ⟨64, _⟩ => ⟨S128x1x64, .f32⟩
  | .hbm, ⟨65, _⟩ => ⟨S1x1x64, .f32⟩
  | .hbm, ⟨66, _⟩ => ⟨S128x1x64, .f32⟩
  | .hbm, ⟨67, _⟩ => ⟨S128x1x64, .f32⟩
  | .hbm, ⟨68, _⟩ => ⟨S1x32, .f32⟩
  | .hbm, ⟨69, _⟩ => ⟨S1x32, .f32⟩
  | .hbm, ⟨70, _⟩ => ⟨S128x1x32, .f32⟩
  | .hbm, ⟨71, _⟩ => ⟨S128x1x32, .f32⟩
  | .hbm, ⟨72, _⟩ => ⟨S1x1x32, .f32⟩
  | .hbm, ⟨73, _⟩ => ⟨S128x1x32, .f32⟩
  | .hbm, ⟨74, _⟩ => ⟨S128x1x32, .f32⟩
  | .hbm, ⟨75, _⟩ => ⟨S1x1x32, .f32⟩
  | .hbm, ⟨76, _⟩ => ⟨S128x1x32, .f32⟩
  | .hbm, ⟨77, _⟩ => ⟨S128x1x32, .f32⟩
  | .hbm, ⟨78, _⟩ => ⟨S128x1x32, .f32⟩
  | .hbm, ⟨79, _⟩ => ⟨S1x1x32, .f32⟩
  | .hbm, ⟨80, _⟩ => ⟨S128x1x32, .f32⟩
  | .hbm, ⟨81, _⟩ => ⟨S128x1x32, .f32⟩
  | .hbm, ⟨82, _⟩ => ⟨S1x1x32, .f32⟩
  | .hbm, ⟨83, _⟩ => ⟨S128x1x32, .f32⟩
  | .hbm, ⟨84, _⟩ => ⟨S128x1x32, .f32⟩
  | .hbm, ⟨85, _⟩ => ⟨S128x1x32, .f32⟩
  | .hbm, ⟨86, _⟩ => ⟨S128x1x64, .f32⟩
  | .hbm, ⟨87, _⟩ => ⟨S128x128, .f32⟩
  | .hbm, ⟨88, _⟩ => ⟨S_, .f32⟩
  | .hbm, ⟨89, _⟩ => ⟨S128x1x64, .f32⟩
  | .hbm, ⟨90, _⟩ => ⟨S128x1x128, .f32⟩
  | .hbm, ⟨91, _⟩ => ⟨S128x128, .f32⟩
  | _, _ => ⟨S128x1x704, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_cst : Ref sig .tc := ⟨.hbm, 12, rfl⟩
abbrev main_v2 : Ref sig .tc := ⟨.hbm, 13, rfl⟩
abbrev main_v3 : Ref sig .tc := ⟨.hbm, 14, rfl⟩
abbrev main_cst_0 : Ref sig .tc := ⟨.hbm, 15, rfl⟩
abbrev main_v4 : Ref sig .tc := ⟨.hbm, 16, rfl⟩
abbrev main_v5 : Ref sig .tc := ⟨.hbm, 17, rfl⟩
abbrev main_cst_1 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_c : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_cst_2 : Ref sig .tc := ⟨.hbm, 35, rfl⟩
abbrev main_v21 : Ref sig .tc := ⟨.hbm, 36, rfl⟩
abbrev main_v22 : Ref sig .tc := ⟨.hbm, 37, rfl⟩
abbrev main_cst_3 : Ref sig .tc := ⟨.hbm, 38, rfl⟩
abbrev main_v23 : Ref sig .tc := ⟨.hbm, 39, rfl⟩
abbrev main_v24 : Ref sig .tc := ⟨.hbm, 40, rfl⟩
abbrev main_cst_4 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_cst_5 : Ref sig .tc := ⟨.hbm, 53, rfl⟩
abbrev main_v36 : Ref sig .tc := ⟨.hbm, 54, rfl⟩
abbrev main_v37 : Ref sig .tc := ⟨.hbm, 55, rfl⟩
abbrev main_cst_6 : Ref sig .tc := ⟨.hbm, 56, rfl⟩
abbrev main_v38 : Ref sig .tc := ⟨.hbm, 57, rfl⟩
abbrev main_v39 : Ref sig .tc := ⟨.hbm, 58, rfl⟩
abbrev main_cst_7 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_cst_8 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩

abbrev nD : Nat := 1
abbrev τ : Topo := Topo.v7x

variable {F : FTy → Type} [FloatOps F]
-- ==== Proof.Softmax.lean ====
module

public import Idealize.ShloMosaic.Lib.Pointwise
public import Idealize.ShloMosaic.Lib.WordCmp
public import Idealize.ShloMosaic.Lib.Pipeline.ValueKit

@[expose] public section

set_option maxRecDepth 16384
noncomputable section
open Idealize.ShloMosaic

/-! Attention over one row, block by block. Extended reals throughout: a masked key's score is `⊥` and counts `0`. -/
namespace Cert.Row

theorem exp_nonneg (x : EReal) : 0 ≤ Ideal.exp x := by
  induction x using EReal.rec with
  | bot => exact le_refl _
  | coe r => exact EReal.coe_nonneg.2 (Real.exp_pos r).le
  | top => exact le_top

/-- Rescaling from an earlier maximum `m` to a later one `m'`. It holds at the infinities too. -/
theorem exp_rescale {s m m' : EReal} (h : s ≤ m) (h' : m ≤ m') :
    Ideal.exp (m - m') * Ideal.exp (s - m) = Ideal.exp (s - m') := by
  induction s using EReal.rec with
  | bot => simp [Ideal.exp_bot]
  | top =>
    obtain rfl := top_le_iff.1 h
    obtain rfl := top_le_iff.1 h'
    simp [Ideal.exp_bot]
  | coe s =>
    induction m using EReal.rec with
    | bot => exact absurd h (by simp)
    | top => obtain rfl := top_le_iff.1 h'; simp [Ideal.exp_bot]
    | coe m =>
      induction m' using EReal.rec with
      | bot => exact absurd h' (by simp)
      | top => simp [Ideal.exp_bot]
      | coe m' =>
        show ((Real.exp (m - m') : ℝ) : EReal) * ((Real.exp (s - m) : ℝ) : EReal) = ((Real.exp (s - m') : ℝ) : EReal)
        rw [← EReal.coe_mul, ← Real.exp_add]
        congr 2; ring

/-- The factor of a rescaling is a real number of `[0, 1]`. -/
theorem exp_le_one {m m' : EReal} (h' : m ≤ m') : Ideal.exp (m - m') ≤ 1 := by
  induction m using EReal.rec with
  | bot => simp [Ideal.exp_bot]
  | top => obtain rfl := top_le_iff.1 h'; simp [Ideal.exp_bot]
  | coe m =>
    induction m' using EReal.rec with
    | bot => exact absurd h' (by simp)
    | top => simp [Ideal.exp_bot]
    | coe m' =>
      show ((Real.exp (m - m') : ℝ) : EReal) ≤ 1
      have h := EReal.coe_le_coe_iff.1 h'
      exact_mod_cast Real.exp_le_one_iff.2 (by linarith)

theorem exp_ne_top {m m' : EReal} (h' : m ≤ m') : Ideal.exp (m - m') ≠ ⊤ :=
  ne_of_lt (lt_of_le_of_lt (exp_le_one h') (EReal.coe_lt_top 1))

/-- A nonnegative real factor goes into a sum. -/
theorem mul_sum {ι : Type} {c : EReal} (h0 : 0 ≤ c) (h1 : c ≠ ⊤) (S : Finset ι) (f : ι → EReal) :
    c * ∑ i ∈ S, f i = ∑ i ∈ S, c * f i := by
  classical
  induction S using Finset.induction_on with
  | empty => simp
  | insert a S ha ih => rw [Finset.sum_insert ha, Finset.sum_insert ha, EReal.left_distrib_of_nonneg_of_ne_top h0 h1, ih]

/-- What a row carries: the running maximum, the running sum, the running weighted sum. -/
abbrev Carry : Type := EReal × EReal × EReal

/-- One block of scores `t` with values `w`, taken into the row. -/
def step (t w : Fin 512 → EReal) (c : Carry) : Carry :=
  let m' := max c.1 (Finset.univ.sup t)
  (m', Ideal.exp (c.1 - m') * c.2.1 + ∑ x, Ideal.exp (t x - m'), Ideal.exp (c.1 - m') * c.2.2 + ∑ x, Ideal.exp (t x - m') * w x)

/-- The largest score of the blocks `N`. -/
def top (σ : ℕ → Fin 512 → EReal) (N : Finset ℕ) : EReal := N.sup fun n => Finset.univ.sup (σ n)

/-- The row's carry over the blocks `N`, all at once. -/
def total (σ v : ℕ → Fin 512 → EReal) (N : Finset ℕ) : Carry :=
  (top σ N, ∑ n ∈ N, ∑ x, Ideal.exp (σ n x - top σ N), ∑ n ∈ N, ∑ x, Ideal.exp (σ n x - top σ N) * v n x)

theorem le_top_of {σ : ℕ → Fin 512 → EReal} {N : Finset ℕ} {n : ℕ} (hn : n ∈ N) (x : Fin 512) : σ n x ≤ top σ N :=
  (Finset.le_sup (Finset.mem_univ x)).trans (Finset.le_sup (f := fun n => Finset.univ.sup (σ n)) hn)

/-- Taking a further block in gives the carry over the larger set of blocks. -/
theorem step_total (σ v : ℕ → Fin 512 → EReal) (N : Finset ℕ) (k : ℕ) (hk : k ∉ N) :
    step (σ k) (v k) (total σ v N) = total σ v (insert k N) := by
  have hm : max (top σ N) (Finset.univ.sup (σ k)) = top σ (insert k N) := by
    unfold top; rw [Finset.sup_insert]; exact max_comm _ _
  have hle : top σ N ≤ top σ (insert k N) := hm ▸ le_max_left _ _
  unfold step total
  simp only [hm]
  refine Prod.ext rfl (Prod.ext ?_ ?_)
  · show _ * _ + _ = ∑ n ∈ insert k N, ∑ x, _
    rw [mul_sum (exp_nonneg _) (exp_ne_top hle), Finset.sum_insert hk, add_comm]
    refine congrArg (fun z : EReal => _ + z) (Finset.sum_congr rfl fun n hn => ?_)
    rw [mul_sum (exp_nonneg _) (exp_ne_top hle)]
    exact Finset.sum_congr rfl fun x _ => exp_rescale (le_top_of hn x) hle
  · show _ * _ + _ = ∑ n ∈ insert k N, ∑ x, _
    rw [mul_sum (exp_nonneg _) (exp_ne_top hle), Finset.sum_insert hk, add_comm]
    refine congrArg (fun z : EReal => _ + z) (Finset.sum_congr rfl fun n hn => ?_)
    rw [mul_sum (exp_nonneg _) (exp_ne_top hle)]
    refine Finset.sum_congr rfl fun x _ => ?_
    rw [← mul_assoc, exp_rescale (le_top_of hn x) hle]

/-- The row of query block `q` after the diagonal block and `n` of the earlier ones. -/
def at_ (σ v : ℕ → Fin 512 → EReal) (q : ℕ) : ℕ → Carry
  | 0 => step (σ q) (v q) (⊥, 0, 0)
  | n + 1 => step (σ n) (v n) (at_ σ v q n)

theorem at_eq (σ v : ℕ → Fin 512 → EReal) (q n : ℕ) (hn : n ≤ q) : at_ σ v q n = total σ v (insert q (Finset.range n)) := by
  induction n with
  | zero => exact step_total σ v ∅ q (by simp)
  | succ n ih =>
    show step (σ n) (v n) (at_ σ v q n) = _
    rw [ih (by omega), step_total σ v _ n (by simp; omega), Finset.range_add_one, Finset.insert_comm]

/-- After all of the earlier blocks: every block up to `q`. -/
theorem at_self (σ v : ℕ → Fin 512 → EReal) (q : ℕ) : at_ σ v q q = total σ v (Finset.range (q + 1)) := by
  rw [at_eq σ v q q le_rfl, Finset.range_add_one]

/-- Blocks that are masked altogether change nothing. -/
theorem total_masked (σ v : ℕ → Fin 512 → EReal) (q : ℕ) (hq : q < 4) (hmask : ∀ n, q < n → ∀ x, σ n x = ⊥) :
    total σ v (Finset.range (q + 1)) = total σ v (Finset.range 4) := by
  have hsub : Finset.range (q + 1) ⊆ Finset.range 4 := Finset.range_subset_range.2 (by omega)
  have hout : ∀ n ∈ Finset.range 4, n ∉ Finset.range (q + 1) → q < n := fun n _ h => by
    have := mt Finset.mem_range.2 h; omega
  have hm : top σ (Finset.range (q + 1)) = top σ (Finset.range 4) := by
    refine le_antisymm (Finset.sup_mono hsub) (Finset.sup_le fun n hn => ?_)
    by_cases h : n ∈ Finset.range (q + 1)
    · exact Finset.le_sup (f := fun n => Finset.univ.sup (σ n)) h
    · exact Finset.sup_le fun x _ => by rw [hmask n (hout n hn h) x]; exact bot_le
  unfold total
  rw [hm]
  refine Prod.ext rfl (Prod.ext ?_ ?_)
  · refine Finset.sum_subset hsub fun n hn h => Finset.sum_eq_zero fun x _ => ?_
    rw [hmask n (hout n hn h) x, EReal.bot_sub, Ideal.exp_bot]
  · refine Finset.sum_subset hsub fun n hn h => Finset.sum_eq_zero fun x _ => ?_
    rw [hmask n (hout n hn h) x, EReal.bot_sub, Ideal.exp_bot, zero_mul]

/-- Dividing the weighted sum is weighting by the quotients, as the row sum is a positive real number: no score is `⊤` and
    one of them is real. -/
theorem div_total (σ v : ℕ → Fin 512 → EReal) (N : Finset ℕ) (hfin : ∀ n x, σ n x ≠ ⊤) (hown : ∃ n ∈ N, ∃ x, σ n x ≠ ⊥) :
    Ideal.div (total σ v N).2.2 (total σ v N).2.1
      = ∑ n ∈ N, ∑ x, Ideal.div (Ideal.exp (σ n x - top σ N)) (total σ v N).2.1 * v n x := by
  obtain ⟨n₀, hn₀, x₀, hx₀⟩ := hown
  have htop : top σ N ≠ ⊤ := by
    refine ne_of_lt ((Finset.sup_lt_iff (by simp)).2 fun n _ => (Finset.sup_lt_iff (by simp)).2 fun x _ => lt_top_iff_ne_top.2 (hfin n x))
  have hbot : top σ N ≠ ⊥ := fun h => hx₀ (le_bot_iff.1 (h ▸ le_top_of hn₀ x₀))
  obtain ⟨M, hM⟩ : ∃ M : ℝ, top σ N = M := ⟨_, (EReal.coe_toReal htop hbot).symm⟩
  obtain ⟨s₀, hs₀⟩ : ∃ s : ℝ, σ n₀ x₀ = s := ⟨_, (EReal.coe_toReal (hfin n₀ x₀) hx₀).symm⟩
  have hpos : 0 < (total σ v N).2.1 := by
    refine lt_of_lt_of_le ?_ (Finset.single_le_sum (f := fun n => ∑ x, Ideal.exp (σ n x - top σ N)) (fun n _ => Finset.sum_nonneg fun x _ => exp_nonneg _) hn₀)
    refine lt_of_lt_of_le ?_ (Finset.single_le_sum (f := fun x => Ideal.exp (σ n₀ x - top σ N)) (fun x _ => exp_nonneg _) (Finset.mem_univ x₀))
    rw [hM, hs₀]
    exact EReal.coe_pos.2 (Real.exp_pos (s₀ - M))
  have hne : (total σ v N).2.1 ≠ ⊤ := by
    have key : ∀ (ι : Type) (S : Finset ι) (f : ι → EReal), (∀ i ∈ S, f i ≠ ⊤) → ∑ i ∈ S, f i ≠ ⊤ := by
      intro ι S f
      classical
      induction S using Finset.induction_on with
      | empty => intro _; simp
      | insert a S ha ih =>
        intro h
        rw [Finset.sum_insert ha]
        exact EReal.add_ne_top (h a (Finset.mem_insert_self a S)) (ih fun i hi => h i (Finset.mem_insert_of_mem hi))
    exact key _ _ _ fun n hn => key _ _ _ fun x _ => exp_ne_top (le_top_of hn x)
  obtain ⟨L, hL⟩ : ∃ L : ℝ, (total σ v N).2.1 = L := ⟨_, (EReal.coe_toReal hne (ne_of_gt (lt_trans EReal.bot_lt_zero hpos))).symm⟩
  have hL0 : 0 < L := by rw [hL] at hpos; exact EReal.coe_pos.1 hpos
  rw [hL, Ideal.div_coe hL0.ne']
  have hc0 : (0 : EReal) ≤ ((1 / L : ℝ) : EReal) := EReal.coe_nonneg.2 (by positivity)
  rw [mul_comm]
  show ((1 / L : ℝ) : EReal) * ∑ n ∈ N, ∑ x, Ideal.exp (σ n x - top σ N) * v n x = _
  rw [mul_sum hc0 (EReal.coe_ne_top _)]
  refine Finset.sum_congr rfl fun n _ => ?_
  rw [mul_sum hc0 (EReal.coe_ne_top _)]
  refine Finset.sum_congr rfl fun x _ => ?_
  rw [Ideal.div_coe hL0.ne', ← mul_assoc, mul_comm ((1 / L : ℝ) : EReal)]

/-- A row of 2048 keys is four blocks of 512. -/
theorem sum_blocks (F : ℕ → EReal) : ∑ j : Fin 2048, F j = ∑ n ∈ Finset.range 4, ∑ x : Fin 512, F (512 * n + x) := by
  rw [Finset.sum_range]
  refine (Fin.sum_univ_tiles 4 512 rfl fun j : Fin 2048 => F j).trans ?_
  exact Finset.sum_congr rfl fun n _ => Finset.sum_congr rfl fun x _ => congrArg F (by show (n : ℕ) * 512 + x = _; omega)

theorem sup_blocks (F : ℕ → EReal) : (Finset.univ.sup fun j : Fin 2048 => F j) = top (fun n x => F (512 * n + x)) (Finset.range 4) := by
  refine le_antisymm (Finset.sup_le fun j _ => ?_) (Finset.sup_le fun n hn => Finset.sup_le fun x _ => ?_)
  · have h : F j = F (512 * ((j : ℕ) / 512) + (⟨(j : ℕ) % 512, Nat.mod_lt _ (by decide)⟩ : Fin 512)) := congrArg F (by show (j : ℕ) = 512 * (j / 512) + j % 512; omega)
    rw [h]
    exact le_top_of (σ := fun n x => F (512 * n + x)) (Finset.mem_range.2 (by omega)) _
  · have hn' := Finset.mem_range.1 hn
    exact Finset.le_sup (f := fun j : Fin 2048 => F j) (Finset.mem_univ (⟨512 * n + x, by omega⟩ : Fin 2048))

/-- THE ROW. Taken block by block, the diagonal block first, the quotient is the weighted sum of the values with the row's
    weights: each exponential, less the row's maximum, over the row's sum. -/
theorem online (F W : ℕ → EReal) (q : ℕ) (hq : q < 4) (hmask : ∀ j, 512 * (q + 1) ≤ j → F j = ⊥) (hfin : ∀ j, F j ≠ ⊤)
    (hown : F (512 * q) ≠ ⊥) :
    Ideal.div (at_ (fun n x => F (512 * n + x)) (fun n x => W (512 * n + x)) q q).2.2 (at_ (fun n x => F (512 * n + x)) (fun n x => W (512 * n + x)) q q).2.1
      = ∑ j : Fin 2048, Ideal.div (Ideal.exp (F j - Finset.univ.sup fun j : Fin 2048 => F j)) (∑ j : Fin 2048, Ideal.exp (F j - Finset.univ.sup fun j : Fin 2048 => F j)) * W j := by
  rw [at_self, total_masked _ _ q hq fun n hn x => hmask _ (by omega),
    div_total (fun n x => F (512 * n + x)) (fun n x => W (512 * n + x)) (Finset.range 4) (fun n x => hfin _) ⟨q, Finset.mem_range.2 hq, 0, hown⟩]
  rw [sup_blocks F]
  rw [sum_blocks fun j => Ideal.exp (F j - top (fun n x => F (512 * n + x)) (Finset.range 4))]
  exact (sum_blocks fun j => Ideal.div (Ideal.exp (F j - top (fun n x => F (512 * n + x)) (Finset.range 4)))
    (∑ n ∈ Finset.range 4, ∑ x : Fin 512, Ideal.exp (F (512 * n + x) - top (fun n x => F (512 * n + x)) (Finset.range 4))) * W j).symm

/-- The scale of the scores, as both programs write it. -/
def scale : EReal := Ideal.ofBits .f32 0x3D93CD3A#32

theorem scale_real : ∃ r : ℝ, scale = r := by
  unfold scale
  simp [Ideal.ofBits, Ideal.ieee]
  exact ⟨_, rfl⟩

theorem neg_inf : Ideal.ofBits .f32 0xFF800000#32 = ⊥ := by simp [Ideal.ofBits, Ideal.ieee]

theorem fold_max {n : ℕ} (f : Fin n → EReal) : (Finset.univ : Finset (Fin n)).fold max ⊥ f = Finset.univ.sup f := rfl

/-- The compare of two row numbers. -/
theorem select_le (a b : ℕ) (ha : a < 2048) (hb : b < 2048) (x y : EReal) :
    Scalar.select (IntOp.cmpi .sle (BitVec.ofNat 32 a) (BitVec.ofNat 32 b)) x y = if a ≤ b then x else y := by
  unfold Scalar.select
  exact if_congr (WordCmp.cmpi_sle_ofNat_eq_one_iff (w := 32) (by omega) (by omega)) rfl rfl

end Cert.Row
end
-- ==== Proof.RefAt.lean ====
module

public import proofs.«01_k».proof.Proof.Gen.ReferenceIdeal.Run
public import proofs.«01_k».proof.Proof.Softmax
public import Idealize.ShloMosaic.Lib.Pointwise
public import Idealize.ShloMosaic.Lib.Pipeline.ValueKit

@[expose] public section

set_option maxRecDepth 16384
noncomputable section
open Idealize.ShloMosaic Idealize.ShloMosaic.TcCoe Idealize.SL.Sem

namespace Cert.ReferenceIdeal.Value
open Cert.ReferenceIdeal Cert.ReferenceIdeal.Gen

/-- The masked scores, as the reference computes them. -/
def scores (qn : FVec Ideal S4x2048x8x128 .f32) (qr : FVec Ideal S4x2048x8x64 .f32) (kn : FVec Ideal S4x2048x8x128 .f32) (kr : FVec Ideal S4x2048x64 .f32) :
    FVec Ideal S4x8x2048x2048 .f32 :=
  select (broadcastInDim S4x8x2048x2048 ![2, 3] bcast_S2048x2048_S4x8x2048x2048_2_3 (cmpi .sle (broadcastInDim S2048x2048 ![0, 1] bcast_S1x2048_S2048x2048_0_1 (broadcastInDim S1x2048 ![1] bcast_S2048_S1x2048_1 (iotaInDim S2048 32 0))) (broadcastInDim S2048x2048 ![0, 1] bcast_S2048x1_S2048x2048_0_1 (broadcastInDim S2048x1 ![0] bcast_S2048_S2048x1_0 (iotaInDim S2048 32 0)))))
    (mulf (addf (Host.dotGeneral dot_S4x2048x8x128_S4x2048x8x128_S4x8x2048x2048_3_3_1_1_02_02 none qn kn) (transpose S4x8x2048x2048 [0, 3, 2, 1] (Host.dotGeneral dot_S4x2048x64_S4x2048x8x64_S4x2048x2048x8_2_3_1_12_0_0 none kr qr) transposes_S4x2048x2048x8_S4x8x2048x2048_0_3_2_1)) (broadcastInDim S4x8x2048x2048 ![] bcast_S_S4x8x2048x2048 (constant S_ .f32 0x3D93CD3A#32)))
    (broadcastInDim S4x8x2048x2048 ![] bcast_S_S4x8x2048x2048 (id (constant S_ .f32 0xFF800000#32)))

/-- Each row's largest score. -/
def rowMax (s : FVec Ideal S4x8x2048x2048 .f32) : FVec Ideal S4x8x2048 .f32 :=
  maximumf (broadcastInDim S4x8x2048 ![] bcast_S_S4x8x2048 (constant S_ .f32 0xFF800000#32)) (Host.reduce FloatOps.maximumf s (constant S_ .f32 0xFF800000#32) reducesTo_S4x8x2048x2048_S4x8x2048_d3 h_S_)

/-- The exponentials of the scores, less the row's largest. -/
def expo (s : FVec Ideal S4x8x2048x2048 .f32) : FVec Ideal S4x8x2048x2048 .f32 :=
  Host.exp (subf s (broadcastInDim S4x8x2048x2048 ![0, 1, 2, 3] bcast_S4x8x2048x1_S4x8x2048x2048_0_1_2_3 (broadcastInDim S4x8x2048x1 ![0, 1, 2] bcast_S4x8x2048_S4x8x2048x1_0_1_2 (rowMax s))))

/-- Each row's sum of exponentials. -/
def rowSum (s : FVec Ideal S4x8x2048x2048 .f32) : FVec Ideal S4x8x2048 .f32 :=
  Host.reduceAdd (expo s) (constant S_ .f32 0x00000000#32) reducesTo_S4x8x2048x2048_S4x8x2048_d3 h_S_

/-- The weights: the exponentials divided by the row's sum. -/
def weights (s : FVec Ideal S4x8x2048x2048 .f32) : FVec Ideal S4x8x2048x2048 .f32 :=
  Host.divf (expo s) (broadcastInDim S4x8x2048x2048 ![0, 1, 2, 3] bcast_S4x8x2048x1_S4x8x2048x2048_0_1_2_3 (broadcastInDim S4x8x2048x1 ![0, 1, 2] bcast_S4x8x2048_S4x8x2048x1_0_1_2 (rowSum s)))

/-- The result: the values under the weights. -/
def result (s : FVec Ideal S4x8x2048x2048 .f32) (v : FVec Ideal S4x2048x8x128 .f32) : FVec Ideal S8192x1024 .bf16 :=
  truncf .bf16 (shapeCast _ (transpose S4x2048x8x128 [0, 3, 1, 2] (Host.dotGeneral dot_S4x2048x8x128_S4x8x2048x2048_S4x8x128x2048_1_3_3_2_02_01 none v (weights s)) transposes_S4x8x128x2048_S4x2048x8x128_0_3_1_2) shapeCasts_S4x2048x8x128_S8192x1024) bitsLt_bf16_f32

/-- The reference's own term is the above. -/
theorem res_eq (m : (ℓ : Loc nD τ sig) → Buf (Elt Ideal) ℓ) (c : Dev nD) :
    res_main_v27 m c = result (scores (m ((c.tc : Thread nD τ).loc main_arg0)) (m ((c.tc : Thread nD τ).loc main_arg1)) (m ((c.tc : Thread nD τ).loc main_arg2)) (m ((c.tc : Thread nD τ).loc main_arg3))) (m ((c.tc : Thread nD τ).loc main_arg4)) := rfl

/-- A maximum over the last of four axes, at an index. -/
theorem hostMax_at {n0 n1 n2 n3 : ℕ} {u : Shape} (s : FVec Ideal ⟨4, ![n0, n1, n2, n3]⟩ .f32) (init : FVec Ideal u .f32)
    (h : (⟨4, ![n0, n1, n2, n3]⟩ : Shape).ReducesTo [3] ⟨3, ![n0, n1, n2]⟩) (hu : 0 < u.numel) (a : Fin n0) (b : Fin n1) (r : Fin n2) :
    Host.reduce (FloatOps.maximumf (F := Ideal) (φ := .f32)) s init h hu (ix3 a b r)
      = Finset.univ.fold max (init (Shape.Idx.first hu)) fun k : Fin n3 => s (ix4 a b r k) := by
  rw [Host.reduce_eq_fold]
  simp only [pointwise]

/-- One masked score: queries and keys of head `h` of sequence `b`, query `r`, key `j`. -/
def score (qn : FVec Ideal S4x2048x8x128 .f32) (qr : FVec Ideal S4x2048x8x64 .f32) (kn : FVec Ideal S4x2048x8x128 .f32) (kr : FVec Ideal S4x2048x64 .f32)
    (b : Fin 4) (h : Fin 8) (r j : Fin 2048) : EReal :=
  if (j : ℕ) ≤ r then (∑ x : Fin 128, qn (ix4 b r h x) * kn (ix4 b j h x) + ∑ x : Fin 64, kr (ix3 b j x) * qr (ix4 b r h x)) * Row.scale else ⊥

theorem scores_at (qn qr kn kr) (b : Fin 4) (h : Fin 8) (r j : Fin 2048) :
    scores qn qr kn kr (ix4 b h r j) = score qn qr kn kr b h r j := by
  pointwise [scores, id]
  rw [Row.neg_inf, Row.select_le _ _ j.isLt r.isLt]
  rfl

/-- The larger of `-∞` and a row's number is that number. -/
theorem max_bcast_at (y : FVec Ideal S4x8x2048 .f32) (i : S4x8x2048.Idx) :
    maximumf (broadcastInDim S4x8x2048 ![] bcast_S_S4x8x2048 (constant S_ .f32 0xFF800000#32)) y i = y i := by
  pointwise
  rw [Row.neg_inf, max_eq_right bot_le]

theorem rowMax_at (s) (b : Fin 4) (h : Fin 8) (r : Fin 2048) :
    rowMax s (ix3 b h r) = Finset.univ.sup fun j : Fin 2048 => s (ix4 b h r j) := by
  unfold rowMax
  rw [max_bcast_at, hostMax_at]
  have e : (constant S_ .f32 0xFF800000#32 : FVec Ideal S_ .f32) (Shape.Idx.first h_S_) = ⊥ := Row.neg_inf
  rw [e, Row.fold_max]

theorem weights_at (s) (b : Fin 4) (h : Fin 8) (r j : Fin 2048) :
    weights s (ix4 b h r j) = Ideal.div (Ideal.exp (s (ix4 b h r j) - Finset.univ.sup fun j : Fin 2048 => s (ix4 b h r j)))
      (∑ x : Fin 2048, Ideal.exp (s (ix4 b h r x) - Finset.univ.sup fun j : Fin 2048 => s (ix4 b h r j))) := by
  rw [← rowMax_at]
  pointwise [weights, expo, rowSum]

/-- THE REFERENCE AT AN INDEX. -/
theorem result_at (qn qr kn kr v) (r : Fin 8192) (j : Fin 1024) :
    result (scores qn qr kn kr) v (ix2 r j)
      = ∑ x : Fin 2048, v (ix4 ⟨r / 2048, by omega⟩ x ⟨j / 128, by omega⟩ ⟨j % 128, by omega⟩)
        * Ideal.div (Ideal.exp (score qn qr kn kr ⟨r / 2048, by omega⟩ ⟨j / 128, by omega⟩ ⟨r % 2048, by omega⟩ x - Finset.univ.sup fun y : Fin 2048 => score qn qr kn kr ⟨r / 2048, by omega⟩ ⟨j / 128, by omega⟩ ⟨r % 2048, by omega⟩ y))
          (∑ z : Fin 2048, Ideal.exp (score qn qr kn kr ⟨r / 2048, by omega⟩ ⟨j / 128, by omega⟩ ⟨r % 2048, by omega⟩ z - Finset.univ.sup fun y : Fin 2048 => score qn qr kn kr ⟨r / 2048, by omega⟩ ⟨j / 128, by omega⟩ ⟨r % 2048, by omega⟩ y)) := by
  have e := fun x => (weights_at (scores qn qr kn kr) ⟨r / 2048, by omega⟩ ⟨j / 128, by omega⟩ ⟨r % 2048, by omega⟩ x)
  simp only [scores_at] at e
  generalize scores qn qr kn kr = s at e ⊢
  pointwise [result]
  exact Finset.sum_congr rfl fun x _ => congrArg _ (e x)

/-- One row of attention: the values of a column against the normalised exponentials of a row of scores. -/
def row (s v : Fin 2048 → EReal) : EReal :=
  ∑ x : Fin 2048, v x * Ideal.div (Ideal.exp (s x - Finset.univ.sup fun y : Fin 2048 => s y))
    (∑ z : Fin 2048, Ideal.exp (s z - Finset.univ.sup fun y : Fin 2048 => s y))

/-- The result at the place of row `p` of batch `b`, lane `d` of head `h`. -/
theorem result_row (qn qr kn kr v) (i : S8192x1024.Idx) (b : Fin 4) (h : Fin 8) (p : Fin 2048) (d : Fin 128)
    (h0 : (i 0 : ℕ) = 2048 * b + p) (h1 : (i 1 : ℕ) = 128 * h + d) :
    result (scores qn qr kn kr) v i = row (score qn qr kn kr b h p) fun x => v (ix4 b x h d) := by
  have ei : i = ix2 (⟨2048 * b + p, by omega⟩ : Fin 8192) (⟨128 * h + d, by omega⟩ : Fin 1024) :=
    (eq_ix2 (n0 := 8192) (n1 := 1024) i).trans ((ix2_inj _ _ _ _).2 ⟨Fin.ext h0, Fin.ext h1⟩)
  rw [ei, result_at]
  have eb : (⟨(2048 * (b : ℕ) + p) / 2048, by omega⟩ : Fin 4) = b := Fin.ext (by simp only; omega)
  have ep : (⟨(2048 * (b : ℕ) + p) % 2048, by omega⟩ : Fin 2048) = p := Fin.ext (by simp only; omega)
  have eh : (⟨(128 * (h : ℕ) + d) / 128, by omega⟩ : Fin 8) = h := Fin.ext (by simp only; omega)
  have ed : (⟨(128 * (h : ℕ) + d) % 128, by omega⟩ : Fin 128) = d := Fin.ext (by simp only; omega)
  simp only [eb, ep, eh, ed]
  rfl

end Cert.ReferenceIdeal.Value
end
-- ==== Proof.Finite.lean ====
module

public import proofs.«01_k».proof.Defs
public import proofs.«01_k».proof.Proof.RefAt
public import Idealize.ShloMosaic.Lib.Pointwise

@[expose] public section

set_option maxRecDepth 16384
noncomputable section
open Idealize.ShloMosaic Idealize.ShloMosaic.TcCoe Idealize.SL.Sem

namespace Cert.Pre_scores_finite

/-- The shape relations the precondition's operations take. -/
theorem facts : Facts where
  bcast_S_S4x2048x8x128 := by decide
  bcast_S_S4x2048x8x64 := by decide
  bcast_S_S4x2048x64 := by decide

end Cert.Pre_scores_finite

namespace Cert.Row

/-- An extended real whose size is below infinity is a real number. -/
theorem real_of_abs_lt {x : EReal} (h : Ideal.cmp .olt (max x (-x)) (Ideal.ofBits .f32 0x7F800000#32) = 1#1) : ∃ r : ℝ, x = r := by
  have e : Ideal.ofBits .f32 0x7F800000#32 = ⊤ := by simp [Ideal.ofBits, Ideal.ieee]
  rw [e] at h
  have hlt : max x (-x) < ⊤ := by
    by_contra hn
    simp [Ideal.cmp, hn] at h
  induction x with
  | bot => simp at hlt
  | top => simp at hlt
  | coe r => exact ⟨r, rfl⟩

/-- Sums of real numbers are real, … -/
theorem real_sum {ι : Type} (S : Finset ι) (f : ι → EReal) (h : ∀ i, ∃ r : ℝ, f i = r) : ∃ r : ℝ, ∑ i ∈ S, f i = r := by
  classical
  induction S using Finset.induction_on with
  | empty => exact ⟨0, Finset.sum_empty⟩
  | insert a S ha ih =>
    obtain ⟨x, hx⟩ := ih
    obtain ⟨y, hy⟩ := h a
    exact ⟨y + x, by rw [Finset.sum_insert ha, hx, hy, EReal.coe_add]⟩

/-- … so are products. -/
theorem real_mul {x y : EReal} (hx : ∃ r : ℝ, x = r) (hy : ∃ r : ℝ, y = r) : ∃ r : ℝ, x * y = r := by
  obtain ⟨a, rfl⟩ := hx
  obtain ⟨b, rfl⟩ := hy
  exact ⟨a * b, (EReal.coe_mul a b).symm⟩

end Cert.Row

namespace Cert.ReferenceIdeal.Value
open Cert.ReferenceIdeal

/-- Every element is a real number. -/
def Finite {s : Shape} (x : FVec Ideal s .f32) : Prop := ∀ i, ∃ r : ℝ, (x i : EReal) = r

/-- The precondition's comparison says so. -/
theorem finite_of_lt {s : Shape} (x : FVec Ideal s .f32) (hb : (⟨0, ![]⟩ : Shape).BroadcastsInDim s ![])
    (h : cmpf .olt (Host.absf x) (broadcastInDim s ![] hb (constant (F := Ideal) ⟨0, ![]⟩ .f32 0x7F800000#32)) = fun _ => 1#1) : Finite x :=
  fun i => Row.real_of_abs_lt (congrFun h i)

variable {qn kn : FVec Ideal S4x2048x8x128 .f32} {qr : FVec Ideal S4x2048x8x64 .f32} {kr : FVec Ideal S4x2048x64 .f32}

/-- A score that is not masked is a real number. -/
theorem score_real (h0 : Finite qn) (h1 : Finite qr) (h2 : Finite kn) (h3 : Finite kr) (b : Fin 4) (h : Fin 8) (r j : Fin 2048) (hj : (j : ℕ) ≤ r) :
    ∃ s : ℝ, score qn qr kn kr b h r j = s := by
  unfold score
  rw [if_pos hj]
  obtain ⟨a, ha⟩ := Row.real_sum Finset.univ _ fun x : Fin 128 => Row.real_mul (h0 (ix4 b r h x)) (h2 (ix4 b j h x))
  obtain ⟨d, hd⟩ := Row.real_sum Finset.univ _ fun x : Fin 64 => Row.real_mul (h3 (ix3 b j x)) (h1 (ix4 b r h x))
  refine Row.real_mul ?_ Row.scale_real
  exact ⟨a + d, by rw [ha, hd, EReal.coe_add]⟩

end Cert.ReferenceIdeal.Value
end
-- ==== Proof.Packed.lean ====
module

public import proofs.«01_k».proof.Proof.Gen.KernelIdeal.Value
public import Idealize.ShloMosaic.Lib.Pointwise
public import Idealize.ShloMosaic.Lib.Pipeline.ValueKit

@[expose] public section

set_option maxRecDepth 16384
noncomputable section
open Idealize.ShloMosaic Idealize.ShloMosaic.TcCoe Idealize.SL.Sem

namespace Cert.KernelIdeal.Value
open Cert.KernelIdeal Cert.KernelIdeal.Gen
variable (m : (ℓ : Loc nD τ sig) → Buf (Elt Ideal) ℓ)

/-- Three arrays side by side in the lanes of a head, the heads side by side in a row: read at a row and a lane. -/
theorem packed_at (x0 : FVec Ideal S4x2048x8x128 .f32) (x1 x2 : FVec Ideal S4x2048x8x64 .f32) (R : Fin 8192) (C : Fin 2048) :
    (truncf .bf16 (shapeCast S8192x2048 (concatenate S4x2048x8x256 3 [⟨S4x2048x8x128, x0⟩, ⟨S4x2048x8x64, x1⟩, ⟨S4x2048x8x64, x2⟩]
        concatenates_S4x2048x8x128_S4x2048x8x64_S4x2048x8x64_S4x2048x8x256_d3 : FVec Ideal S4x2048x8x256 .f32)
          shapeCasts_S4x2048x8x256_S8192x2048) bitsLt_bf16_f32 : FVec Ideal S8192x2048 .bf16) (ix2 R C)
      = (concatenate S4x2048x8x256 3 [⟨S4x2048x8x128, x0⟩, ⟨S4x2048x8x64, x1⟩, ⟨S4x2048x8x64, x2⟩]
        concatenates_S4x2048x8x128_S4x2048x8x64_S4x2048x8x64_S4x2048x8x256_d3 : FVec Ideal S4x2048x8x256 .f32)
          (ix4 (⟨R / 2048, by omega⟩ : Fin 4) (⟨R % 2048, by omega⟩ : Fin 2048) (⟨C / 256, by omega⟩ : Fin 8) (⟨C % 256, by omega⟩ : Fin 256)) := by
  generalize (concatenate S4x2048x8x256 3 [⟨S4x2048x8x128, x0⟩, ⟨S4x2048x8x64, x1⟩, ⟨S4x2048x8x64, x2⟩]
        concatenates_S4x2048x8x128_S4x2048x8x64_S4x2048x8x64_S4x2048x8x256_d3 : FVec Ideal S4x2048x8x256 .f32) = w
  pointwise

/-- … and one lane of one head. -/
theorem lanes_at (x0 : FVec Ideal S4x2048x8x128 .f32) (x1 x2 : FVec Ideal S4x2048x8x64 .f32) (b : Fin 4) (p : Fin 2048) (h : Fin 8) (x : Fin 256) :
    (concatenate S4x2048x8x256 3 [⟨S4x2048x8x128, x0⟩, ⟨S4x2048x8x64, x1⟩, ⟨S4x2048x8x64, x2⟩]
        concatenates_S4x2048x8x128_S4x2048x8x64_S4x2048x8x64_S4x2048x8x256_d3 : FVec Ideal S4x2048x8x256 .f32) (ix4 b p h x)
      = if h1 : (x : ℕ) < 128 then x0 (ix4 b p h (⟨x, h1⟩ : Fin 128))
        else if h2 : (x : ℕ) - 128 < 64 then x1 (ix4 b p h (⟨x - 128, h2⟩ : Fin 64))
        else x2 (ix4 b p h (⟨x - 128 - 64, by omega⟩ : Fin 64)) := by
  pointwise

/-- The zero lanes. -/
abbrev zeros : FVec Ideal S4x2048x8x64 .f32 :=
  broadcastInDim S4x2048x8x64 ![] bcast_S_S4x2048x8x64 (constant (F := Ideal) S_ .f32 0x00000000#32)

/-- The array of packed queries. -/
theorem V_q (c : Dev nD) : V m c main_v3
    = (truncf .bf16 (shapeCast S8192x2048 (concatenate S4x2048x8x256 3 [⟨S4x2048x8x128, (m ((c : Thread nD τ).loc main_arg0) : FVec Ideal S4x2048x8x128 .f32)⟩,
        ⟨S4x2048x8x64, (m ((c : Thread nD τ).loc main_arg1) : FVec Ideal S4x2048x8x64 .f32)⟩, ⟨S4x2048x8x64, zeros⟩]
        concatenates_S4x2048x8x128_S4x2048x8x64_S4x2048x8x64_S4x2048x8x256_d3 : FVec Ideal S4x2048x8x256 .f32)
          shapeCasts_S4x2048x8x256_S8192x2048) bitsLt_bf16_f32 : FVec Ideal S8192x2048 .bf16) := by
  unfold V
  after_results
  rfl

/-- The array of packed keys. -/
theorem V_k (c : Dev nD) : V m c main_v8
    = (truncf .bf16 (shapeCast S8192x2048 (concatenate S4x2048x8x256 3 [⟨S4x2048x8x128, (m ((c : Thread nD τ).loc main_arg2) : FVec Ideal S4x2048x8x128 .f32)⟩,
        ⟨S4x2048x8x64, broadcastInDim S4x2048x8x64 ![0, 1, 2, 3] bcast_S4x2048x1x64_S4x2048x8x64_0_1_2_3
          (broadcastInDim S4x2048x1x64 ![0, 1, 3] bcast_S4x2048x64_S4x2048x1x64_0_1_3 (m ((c : Thread nD τ).loc main_arg3) : FVec Ideal S4x2048x64 .f32))⟩, ⟨S4x2048x8x64, zeros⟩]
        concatenates_S4x2048x8x128_S4x2048x8x64_S4x2048x8x64_S4x2048x8x256_d3 : FVec Ideal S4x2048x8x256 .f32)
          shapeCasts_S4x2048x8x256_S8192x2048) bitsLt_bf16_f32 : FVec Ideal S8192x2048 .bf16) := by
  unfold V
  after_results
  rfl

/-- A row of a batch, as a row of the packed arrays. -/
abbrev rowAt (b : Fin 4) (p : Fin 2048) : Fin 8192 := ⟨2048 * b + p, by omega⟩

/-- A lane of a head, as a lane of the packed queries and keys. -/
abbrev laneAt (h : Fin 8) (x : Fin 256) : Fin 2048 := ⟨256 * h + x, by omega⟩

/-- The place of a packed row and lane. -/
theorem place (b : Fin 4) (p : Fin 2048) (h : Fin 8) (x : Fin 256) :
    ix4 (⟨(rowAt b p : ℕ) / 2048, by omega⟩ : Fin 4) (⟨(rowAt b p : ℕ) % 2048, by omega⟩ : Fin 2048)
      (⟨(laneAt h x : ℕ) / 256, by omega⟩ : Fin 8) (⟨(laneAt h x : ℕ) % 256, by omega⟩ : Fin 256) = ix4 b p h x :=
  (ix4_inj _ _ _ _ _ _ _ _).2 ⟨Fin.ext (by simp only; omega), Fin.ext (by simp only; omega), Fin.ext (by simp only; omega), Fin.ext (by simp only; omega)⟩

/-- A zero lane. -/
theorem zeros_at (b : Fin 4) (p : Fin 2048) (h : Fin 8) (x : Fin 64) : zeros (ix4 b p h x) = (0 : EReal) := by
  unfold zeros
  pointwise [hlo_ix]

/-- The packed queries at a row and a lane of a head: the first 128 lanes are the plain part, the next 64 the rotary
    part, the last 64 are zero. -/
theorem q_at (c : Dev nD) (b : Fin 4) (p : Fin 2048) (h : Fin 8) (x : Fin 256) :
    V m c main_v3 (ix2 (rowAt b p) (laneAt h x))
      = if h1 : (x : ℕ) < 128 then m ((c : Thread nD τ).loc main_arg0) (ix4 b p h (⟨x, h1⟩ : Fin 128))
        else if h2 : (x : ℕ) - 128 < 64 then m ((c : Thread nD τ).loc main_arg1) (ix4 b p h (⟨x - 128, h2⟩ : Fin 64))
        else (0 : EReal) := by
  rw [V_q, packed_at, place, lanes_at]
  exact dite_congr rfl (fun _ => rfl) fun _ => dite_congr rfl (fun _ => rfl) fun _ => zeros_at ..

/-- The packed keys, the same way: every head has the one rotary part. -/
theorem k_at (c : Dev nD) (b : Fin 4) (p : Fin 2048) (h : Fin 8) (x : Fin 256) :
    V m c main_v8 (ix2 (rowAt b p) (laneAt h x))
      = if h1 : (x : ℕ) < 128 then m ((c : Thread nD τ).loc main_arg2) (ix4 b p h (⟨x, h1⟩ : Fin 128))
        else if h2 : (x : ℕ) - 128 < 64 then m ((c : Thread nD τ).loc main_arg3) (ix3 b p (⟨x - 128, h2⟩ : Fin 64))
        else (0 : EReal) := by
  rw [V_k, packed_at, place, lanes_at]
  refine dite_congr rfl (fun _ => rfl) fun _ => dite_congr rfl (fun _ => ?_) fun _ => zeros_at ..
  generalize m ((c : Thread nD τ).loc main_arg3) = w
  pointwise [hlo_ix]

/-- The values. -/
theorem v_at (c : Dev nD) (b : Fin 4) (p : Fin 2048) (h : Fin 8) (x : Fin 128) :
    V m c main_v10 (ix2 (rowAt b p) (⟨128 * h + x, by omega⟩ : Fin 1024))
      = m ((c : Thread nD τ).loc main_arg4) (ix4 b p h x) := by
  entry_read
  pointwise [hlo_ix]
  exact congrArg (m ((c : Thread nD τ).loc main_arg4)) ((ix4_inj _ _ _ _ _ _ _ _).2 ⟨Fin.ext (by simp only; omega), Fin.ext (by simp only; omega), Fin.ext (by simp only; omega), Fin.ext (by simp only; omega)⟩)

/-- A grid point: the batch, the pair of head groups, the block of queries. -/
theorem idx : ∀ t : Fin cfg0.N,
    win0_0.index t = ![t.val / 8 * 4 + t.val % 4, t.val / 4 % 2] ∧ win0_1.index t = ![t.val / 8, t.val / 4 % 2]
      ∧ win0_2.index t = ![t.val / 8, t.val / 4 % 2] ∧ win0_3.index t = ![t.val / 8 * 4 + t.val % 4, t.val / 4 % 2]
      ∧ (grid0.coords t 2).val = t.val % 4 :=
  (by decide +kernel : ∀ t : Fin grid0.N, _)

/-- The batch of a grid point. -/
abbrev batchOf (t : Fin cfg0.N) : Fin 4 := ⟨t.val / 8, by have : t.val < 32 := t.isLt; omega⟩

/-- The row, within its batch, of a row of a grid point's query block. -/
abbrev posOf (t : Fin cfg0.N) (r : Fin 512) : Fin 2048 := ⟨512 * (t.val % 4) + r, by omega⟩

/-- The head, of the eight, that a head of a grid point is. -/
abbrev headAll (t : Fin cfg0.N) (h : Fin 4) : Fin 8 := ⟨4 * (t.val / 4 % 2) + h, by omega⟩

/-- A grid point's block of queries is read where it lies in the packed queries. -/
theorem qblock_at (c : Dev nD) (t : Fin cfg0.N) (r : Fin 512) (h : Fin 4) (x : Fin 256) :
    iblk m c 0 t (ix2 r (⟨256 * h + x, by omega⟩ : Fin 1024)) = V m c main_v3 (ix2 (rowAt (batchOf t) (posOf t r)) (laneAt (headAll t h) x)) := by
  blk_ext [iblk, (idx t).1]
  all_goals trace_state
  all_goals omega

/-- … and its block of keys: the whole batch. -/
theorem kblock_at (c : Dev nD) (t : Fin cfg0.N) (j : Fin 2048) (h : Fin 4) (x : Fin 256) :
    iblk m c 1 t (ix2 j (⟨256 * h + x, by omega⟩ : Fin 1024)) = V m c main_v8 (ix2 (rowAt (batchOf t) j) (laneAt (headAll t h) x)) := by
  blk_ext [iblk, (idx t).2.1]
  all_goals omega

/-- … and its block of values. -/
theorem vblock_at (c : Dev nD) (t : Fin cfg0.N) (j : Fin 2048) (h : Fin 4) (x : Fin 128) :
    iblk m c 2 t (ix2 j (⟨128 * h + x, by omega⟩ : Fin 512))
      = m ((c : Thread nD τ).loc main_arg4) (ix4 (batchOf t) j (headAll t h) x) := by
  refine Eq.trans ?_ (v_at m c _ _ _ _)
  blk_ext [iblk, (idx t).2.2.1]
  all_goals omega

end Cert.KernelIdeal.Value
end
-- ==== Proof.Heads.lean ====
module

public import proofs.«01_k».proof.Proof.Gen.KernelIdeal.Value
public import Idealize.ShloMosaic.Lib.Pointwise
public import Idealize.ShloMosaic.Lib.Pipeline.ValueKit

@[expose] public section

set_option maxRecDepth 16384
noncomputable section
open Idealize.ShloMosaic Idealize.ShloMosaic.TcCoe Idealize.SL.Sem

namespace Cert.KernelIdeal.Value
open Cert.KernelIdeal Cert.KernelIdeal.Gen

/-- What one head carries from block to block: the running maximum of each row, the running sum of each row, the
    running weighted sum of the values. -/
abbrev Head : Type := FVec Ideal S512x1 .f32 × FVec Ideal S512x1 .f32 × FVec Ideal S512x128 .f32

/-- The four heads of a grid point, laid out as the loop carries them. -/
abbrev Quad : Type := FVec Ideal S512x1 .f32 × FVec Ideal S512x1 .f32 × FVec Ideal S512x128 .f32 × FVec Ideal S512x1 .f32
  × FVec Ideal S512x1 .f32 × FVec Ideal S512x128 .f32 × FVec Ideal S512x1 .f32 × FVec Ideal S512x1 .f32
  × FVec Ideal S512x128 .f32 × FVec Ideal S512x1 .f32 × FVec Ideal S512x1 .f32 × FVec Ideal S512x128 .f32

/-- Four heads side by side. -/
def quad (a b c d : Head) : Quad :=
  (a.1, a.2.1, a.2.2, b.1, b.2.1, b.2.2, c.1, c.2.1, c.2.2, d.1, d.2.1, d.2.2)

/-- One block of keys with scores `s` and values `v`, taken into a head. -/
def headStep (s : FVec Ideal S512x512 .f32) (v : Vec Ideal S512x128 .bf16) (h : Head) : Head :=
  (k0_pay25 h.1 s, k0_pay28 h.1 h.2.1 s, k0_pay29 h.1 h.2.2 s v)

/-- The scores of a block of keys. -/
def scoreV (q : FVec Ideal S512x256 .bf16) (k : Vec Ideal S512x256 .bf16) : FVec Ideal S512x512 .f32 := k0_pay14 q k

/-- The diagonal block's scores: a key behind the query is masked. -/
def maskV (s : FVec Ideal S512x512 .f32) : FVec Ideal S512x512 .f32 := k0_pay80 s

/-- A head before its first block. -/
def headZero : Head := (k0_pay66, k0_pay67, k0_pay68)

/-- The queries of head `h` of the four: its 256 columns. -/
def qblk (x0 : Vec Ideal S512x1024 .bf16) (h : Fin 4) : FVec Ideal S512x256 .bf16 := fun y =>
  x0 (ix2 (y 0) (⟨256 * (h : ℕ) + y 1, by have : (y 1 : ℕ) < 256 := (y 1).isLt; omega⟩ : Fin 1024))

/-- Block `n` of the keys of head `h`. -/
def kblk (x1 : Vec Ideal S2048x1024 .bf16) (h : Fin 4) (n : ℕ) : Vec Ideal S512x256 .bf16 := fun y =>
  x1 (ix2 (⟨(512 * n + y 0) % 2048, Nat.mod_lt _ (by decide)⟩ : Fin 2048) (⟨256 * (h : ℕ) + y 1, by have : (y 1 : ℕ) < 256 := (y 1).isLt; omega⟩ : Fin 1024))

/-- Block `n` of the values of head `h`. -/
def vblk (x2 : Vec Ideal S2048x512 .bf16) (h : Fin 4) (n : ℕ) : Vec Ideal S512x128 .bf16 := fun y =>
  x2 (ix2 (⟨(512 * n + y 0) % 2048, Nat.mod_lt _ (by decide)⟩ : Fin 2048) (⟨128 * (h : ℕ) + y 1, by have : (y 1 : ℕ) < 128 := (y 1).isLt; omega⟩ : Fin 512))

/-- The scores of block `n` of the keys for head `h`. -/
def sblk (x0 : Vec Ideal S512x1024 .bf16) (x1 : Vec Ideal S2048x1024 .bf16) (h : Fin 4) (n : ℕ) : FVec Ideal S512x512 .f32 :=
  scoreV (qblk x0 h) (kblk x1 h n)

/-- Head `h` of the query block `q` after its diagonal block and `n` of the earlier ones. -/
def headAt (x0 : Vec Ideal S512x1024 .bf16) (x1 : Vec Ideal S2048x1024 .bf16) (x2 : Vec Ideal S2048x512 .bf16) (h : Fin 4) (q : ℕ) : ℕ → Head
  | 0 => headStep (maskV (sblk x0 x1 h q)) (vblk x2 h q) headZero
  | n + 1 => headStep (sblk x0 x1 h n) (vblk x2 h n) (headAt x0 x1 x2 h q n)

/-- ONE TRIP of the loop over the earlier blocks: each head takes in its own block of keys and values. -/
theorem trip_eq (𝒱 : Variants) (c : Dev nD) (bd : Option 𝒱.V) (i : grid0.Coords) (arg3 : Memref sig .tc .vmem S512x1024 .bf16) (harg3 : arg3.IsWhole) (arg4 : Memref sig .tc .vmem S2048x1024 .bf16) (harg4 : arg4.IsWhole) (arg5 : Memref sig .tc .vmem S2048x512 .bf16) (harg5 : arg5.IsWhole) (arg6 : Memref sig .tc .vmem S512x512 .bf16) (harg6 : arg6.IsWhole) (v1 v3 v5 v7 : FVec Ideal S512x256 .bf16) (X4 : BufTy.Contents (Elt Ideal) arg4.view.ty) (X5 : BufTy.Contents (Elt Ideal) arg5.view.ty) (k : Fin (k0_t1_loop i).trips) (a b d e : Head) :
    tripR_k0_t1 (F := Ideal) 𝒱 c bd i arg3 harg3 arg4 harg4 arg5 harg5 arg6 harg6 v1 v3 v5 v7 X4 X5 k (quad a b d e)
      = quad
        (headStep (scoreV v1 (View.readAt (Elt Ideal) arg4.view (Rect.unit (s := S2048x1024) (k0_off9 i k) S512x256.size (k0_off9_inb i k)).toLoadRect X4))
          (View.readAt (Elt Ideal) arg5.view (Rect.unit (s := S2048x512) (k0_off13 i k) S512x128.size (k0_off13_inb i k)).toLoadRect X5) a)
        (headStep (scoreV v3 (View.readAt (Elt Ideal) arg4.view (Rect.unit (s := S2048x1024) (k0_off10 i k) S512x256.size (k0_off10_inb i k)).toLoadRect X4))
          (View.readAt (Elt Ideal) arg5.view (Rect.unit (s := S2048x512) (k0_off14 i k) S512x128.size (k0_off14_inb i k)).toLoadRect X5) b)
        (headStep (scoreV v5 (View.readAt (Elt Ideal) arg4.view (Rect.unit (s := S2048x1024) (k0_off11 i k) S512x256.size (k0_off11_inb i k)).toLoadRect X4))
          (View.readAt (Elt Ideal) arg5.view (Rect.unit (s := S2048x512) (k0_off15 i k) S512x128.size (k0_off15_inb i k)).toLoadRect X5) d)
        (headStep (scoreV v7 (View.readAt (Elt Ideal) arg4.view (Rect.unit (s := S2048x1024) (k0_off12 i k) S512x256.size (k0_off12_inb i k)).toLoadRect X4))
          (View.readAt (Elt Ideal) arg5.view (Rect.unit (s := S2048x512) (k0_off16 i k) S512x128.size (k0_off16_inb i k)).toLoadRect X5) e) := by
  unfold tripR_k0_t1 trip_k0_t1
  dsimp only
  sl_unfold_words
  rfl

/-- The head after the diagonal block, before the earlier ones. -/
def startV (i : grid0.Coords) (arg3 : Memref sig .tc .vmem S512x1024 .bf16) (harg3 : arg3.IsWhole) (arg4 : Memref sig .tc .vmem S2048x1024 .bf16) (harg4 : arg4.IsWhole) (arg5 : Memref sig .tc .vmem S2048x512 .bf16) (harg5 : arg5.IsWhole) (arg6 : Memref sig .tc .vmem S512x512 .bf16) (harg6 : arg6.IsWhole)
    (x0 : Vec Ideal S512x1024 .bf16) (x1 : Vec Ideal S2048x1024 .bf16) (x2 : Vec Ideal S2048x512 .bf16) : Quad :=
    quad
      (headStep (maskV (scoreV (k0_pay62 (View.readAt (Elt Ideal) arg3.view (Rect.unit (s := S512x1024) ![0, 0] S512x256.size inb_S512x1024_S512x256_0_0).toLoadRect (harg3.unread x0))) (View.readAt (Elt Ideal) arg4.view (Rect.unit (s := S2048x1024) (k0_off1 i) S512x256.size (k0_off1_inb i)).toLoadRect (harg4.unread x1))))
        (View.readAt (Elt Ideal) arg5.view (Rect.unit (s := S2048x512) (k0_off5 i) S512x128.size (k0_off5_inb i)).toLoadRect (harg5.unread x2)) headZero)
      (headStep (maskV (scoreV (k0_pay62 (View.readAt (Elt Ideal) arg3.view (Rect.unit (s := S512x1024) ![0, 256] S512x256.size inb_S512x1024_S512x256_0_256).toLoadRect (harg3.unread x0))) (View.readAt (Elt Ideal) arg4.view (Rect.unit (s := S2048x1024) (k0_off2 i) S512x256.size (k0_off2_inb i)).toLoadRect (harg4.unread x1))))
        (View.readAt (Elt Ideal) arg5.view (Rect.unit (s := S2048x512) (k0_off6 i) S512x128.size (k0_off6_inb i)).toLoadRect (harg5.unread x2)) headZero)
      (headStep (maskV (scoreV (k0_pay62 (View.readAt (Elt Ideal) arg3.view (Rect.unit (s := S512x1024) ![0, 512] S512x256.size inb_S512x1024_S512x256_0_512).toLoadRect (harg3.unread x0))) (View.readAt (Elt Ideal) arg4.view (Rect.unit (s := S2048x1024) (k0_off3 i) S512x256.size (k0_off3_inb i)).toLoadRect (harg4.unread x1))))
        (View.readAt (Elt Ideal) arg5.view (Rect.unit (s := S2048x512) (k0_off7 i) S512x128.size (k0_off7_inb i)).toLoadRect (harg5.unread x2)) headZero)
      (headStep (maskV (scoreV (k0_pay62 (View.readAt (Elt Ideal) arg3.view (Rect.unit (s := S512x1024) ![0, 768] S512x256.size inb_S512x1024_S512x256_0_768).toLoadRect (harg3.unread x0))) (View.readAt (Elt Ideal) arg4.view (Rect.unit (s := S2048x1024) (k0_off4 i) S512x256.size (k0_off4_inb i)).toLoadRect (harg4.unread x1))))
        (View.readAt (Elt Ideal) arg5.view (Rect.unit (s := S2048x512) (k0_off8 i) S512x128.size (k0_off8_inb i)).toLoadRect (harg5.unread x2)) headZero)

/-- The four heads after `n` of the earlier blocks. -/
def afterV (c : Dev nD) (i : grid0.Coords) (arg3 : Memref sig .tc .vmem S512x1024 .bf16) (harg3 : arg3.IsWhole) (arg4 : Memref sig .tc .vmem S2048x1024 .bf16) (harg4 : arg4.IsWhole) (arg5 : Memref sig .tc .vmem S2048x512 .bf16) (harg5 : arg5.IsWhole) (arg6 : Memref sig .tc .vmem S512x512 .bf16) (harg6 : arg6.IsWhole)
    (x0 : Vec Ideal S512x1024 .bf16) (x1 : Vec Ideal S2048x1024 .bf16) (x2 : Vec Ideal S2048x512 .bf16) (n : ℕ) : Quad :=
    st_k0_t1 (F := Ideal) Variants.none c none i arg3 harg3 arg4 harg4 arg5 harg5 arg6 harg6 (k0_pay62 (View.readAt (Elt Ideal) arg3.view (Rect.unit (s := S512x1024) ![0, 0] S512x256.size inb_S512x1024_S512x256_0_0).toLoadRect (harg3.unread x0))) (k0_pay62 (View.readAt (Elt Ideal) arg3.view (Rect.unit (s := S512x1024) ![0, 256] S512x256.size inb_S512x1024_S512x256_0_256).toLoadRect (harg3.unread x0))) (k0_pay62 (View.readAt (Elt Ideal) arg3.view (Rect.unit (s := S512x1024) ![0, 512] S512x256.size inb_S512x1024_S512x256_0_512).toLoadRect (harg3.unread x0))) (k0_pay62 (View.readAt (Elt Ideal) arg3.view (Rect.unit (s := S512x1024) ![0, 768] S512x256.size inb_S512x1024_S512x256_0_768).toLoadRect (harg3.unread x0))) (harg4.unread x1) (harg5.unread x2)
      (startV i arg3 harg3 arg4 harg4 arg5 harg5 arg6 harg6 x0 x1 x2) n

/-- The remainder loop has no trip. -/
theorem no_rest (i : grid0.Coords) : (k0_t2_loop i).trips = 0 :=
  (by decide +kernel : ∀ x : grid0.Coords, (k0_t2_loop x).trips = 0) i

theorem rest_eq (𝒱 : Variants) (c : Dev nD) (bd : Option 𝒱.V) (i : grid0.Coords) (arg3 : Memref sig .tc .vmem S512x1024 .bf16) (harg3 : arg3.IsWhole) (arg4 : Memref sig .tc .vmem S2048x1024 .bf16) (harg4 : arg4.IsWhole) (arg5 : Memref sig .tc .vmem S2048x512 .bf16) (harg5 : arg5.IsWhole) (arg6 : Memref sig .tc .vmem S512x512 .bf16) (harg6 : arg6.IsWhole) (v1 v3 v5 v7 : FVec Ideal S512x256 .bf16) (v144 : BitVec 32) (X4 : BufTy.Contents (Elt Ideal) arg4.view.ty) (X5 : BufTy.Contents (Elt Ideal) arg5.view.ty) (init : Quad) :
    st_k0_t2 (F := Ideal) 𝒱 c bd i arg3 harg3 arg4 harg4 arg5 harg5 arg6 harg6 v1 v3 v5 v7 v144 X4 X5 init (k0_t2_loop i).trips = init := by
  rw [no_rest i]; exact st_k0_t2_zero ..

/-- The head numbered `h` of the four. -/
def quadHead (s : Quad) (h : Fin 4) : Head :=
  match h with
  | 0 => (s.1, s.2.1, s.2.2.1)
  | 1 => (s.2.2.2.1, s.2.2.2.2.1, s.2.2.2.2.2.1)
  | 2 => (s.2.2.2.2.2.2.1, s.2.2.2.2.2.2.2.1, s.2.2.2.2.2.2.2.2.1)
  | 3 => (s.2.2.2.2.2.2.2.2.2.1, s.2.2.2.2.2.2.2.2.2.2.1, s.2.2.2.2.2.2.2.2.2.2.2)

/-- Which of the four heads a column of the result block belongs to. -/
def headOf (y : S512x512.Idx) : Fin 4 := ⟨y 1 / 128, by have : (y 1 : ℕ) < 512 := (y 1).isLt; omega⟩

/-- Which of the head's 128 columns it is. -/
def laneOf (y : S512x512.Idx) : Fin 128 := ⟨y 1 % 128, Nat.mod_lt _ (by decide)⟩

/-- What a grid point leaves in its block of the result: head by head, the weighted sums divided by the row sums. -/
def quadOut (s : Quad) (y : S512x512.Idx) : EReal :=
  k0_pay10 (quadHead s (headOf y)).2.1 (quadHead s (headOf y)).2.2 (ix2 (y 0) (laneOf y))

/-- The result block of a grid point, read off the heads after the last of the earlier blocks. -/
theorem out_eq (c : Dev nD) (i : grid0.Coords) (arg3 : Memref sig .tc .vmem S512x1024 .bf16) (harg3 : arg3.IsWhole) (arg4 : Memref sig .tc .vmem S2048x1024 .bf16) (harg4 : arg4.IsWhole) (arg5 : Memref sig .tc .vmem S2048x512 .bf16) (harg5 : arg5.IsWhole) (arg6 : Memref sig .tc .vmem S512x512 .bf16) (harg6 : arg6.IsWhole)
    (x0 : Vec Ideal S512x1024 .bf16) (x1 : Vec Ideal S2048x1024 .bf16) (x2 : Vec Ideal S2048x512 .bf16) (y : S512x512.Idx) :
    out0_A_3 c i arg3 harg3 arg4 harg4 arg5 harg5 arg6 harg6 x0 x1 x2 y = quadOut (afterV c i arg3 harg3 arg4 harg4 arg5 harg5 arg6 harg6 x0 x1 x2 (k0_t1_loop i).trips) y := by
  unfold out0_A_3
  rw [View.read_writes_eq_canon _ _ _ (cover0_A_3 c i arg3 harg3 arg4 harg4 arg5 harg5 arg6 harg6 x0 x1 x2)]
  unfold kernelRun0_A
  dsimp only
  sl_unfold_words
  generalize hS : st_k0_t2 (F := Ideal) _ _ _ _ _ _ _ _ _ _ _ _ _ _ _ _ _ _ _ _ (k0_t2_loop i).trips = S
  have hS' : S = afterV c i arg3 harg3 arg4 harg4 arg5 harg5 arg6 harg6 x0 x1 x2 (k0_t1_loop i).trips := by
    rw [← hS]; refine (rest_eq ..).trans ?_; rfl
  rw [← hS']; clear hS' hS
  canon_tiles x h
  · have hh : headOf y = 3 := Fin.ext (by show (y 1 : ℕ) / 128 = 3; omega)
    unfold quadOut; rw [hh]
    show k0_pay13 _ _ x = k0_pay10 _ _ _
    refine congrArg (k0_pay10 (quadHead S 3).2.1 (quadHead S 3).2.2) ?_
    rw [← ix2_eta x]
    exact (ix2_inj ..).2 ⟨Fin.ext (by omega), Fin.ext (by show (x 1 : ℕ) = (y 1 : ℕ) % 128; omega)⟩
  · have hh : headOf y = 2 := Fin.ext (by show (y 1 : ℕ) / 128 = 2; omega)
    unfold quadOut; rw [hh]
    show k0_pay12 _ _ x = k0_pay10 _ _ _
    refine congrArg (k0_pay10 (quadHead S 2).2.1 (quadHead S 2).2.2) ?_
    rw [← ix2_eta x]
    exact (ix2_inj ..).2 ⟨Fin.ext (by omega), Fin.ext (by show (x 1 : ℕ) = (y 1 : ℕ) % 128; omega)⟩
  · have hh : headOf y = 1 := Fin.ext (by show (y 1 : ℕ) / 128 = 1; omega)
    unfold quadOut; rw [hh]
    show k0_pay11 _ _ x = k0_pay10 _ _ _
    refine congrArg (k0_pay10 (quadHead S 1).2.1 (quadHead S 1).2.2) ?_
    rw [← ix2_eta x]
    exact (ix2_inj ..).2 ⟨Fin.ext (by omega), Fin.ext (by show (x 1 : ℕ) = (y 1 : ℕ) % 128; omega)⟩
  · have hh : headOf y = 0 := Fin.ext (by show (y 1 : ℕ) / 128 = 0; omega)
    unfold quadOut; rw [hh]
    show k0_pay10 _ _ x = k0_pay10 _ _ _
    refine congrArg (k0_pay10 (quadHead S 0).2.1 (quadHead S 0).2.2) ?_
    rw [← ix2_eta x]
    exact (ix2_inj ..).2 ⟨Fin.ext (by omega), Fin.ext (by show (x 1 : ℕ) = (y 1 : ℕ) % 128; omega)⟩

/-- A load of 256 columns of the queries. -/
theorem read_q (arg3 : Memref sig .tc .vmem S512x1024 .bf16) (harg3 : arg3.IsWhole) (x0 : Vec Ideal S512x1024 .bf16)
    (off : Fin 2 → ℕ) (h : Fin 4) (inb) (e0 : off 0 = 0) (e1 : off 1 = 256 * (h : ℕ)) :
    k0_pay62 (View.readAt (Elt Ideal) arg3.view (Rect.unit (s := S512x1024) off S512x256.size inb).toLoadRect (harg3.unread x0)) = qblk x0 h := by
  unfold k0_pay62
  rw [shapeCast_self, View.readAt_eq_ld, harg3.read_unread]
  funext y
  unfold qblk
  refine congrArg x0 ?_
  refine (eq_ix2 (n0 := 512) (n1 := 1024) _).trans ((ix2_inj ..).2 ⟨Fin.ext ?_, Fin.ext ?_⟩)
  · show off 0 + 1 * (y 0 : ℕ) = (y 0 : ℕ); omega
  · show off 1 + 1 * (y 1 : ℕ) = 256 * (h : ℕ) + y 1; omega

/-- A load of one block of one head's keys. -/
theorem read_k (arg4 : Memref sig .tc .vmem S2048x1024 .bf16) (harg4 : arg4.IsWhole) (x1 : Vec Ideal S2048x1024 .bf16)
    (off : Fin 2 → ℕ) (h : Fin 4) (n : ℕ) (hn : n < 4) (inb) (e0 : off 0 = 512 * n) (e1 : off 1 = 256 * (h : ℕ)) :
    View.readAt (Elt Ideal) arg4.view (Rect.unit (s := S2048x1024) off S512x256.size inb).toLoadRect (harg4.unread x1) = kblk x1 h n := by
  rw [View.readAt_eq_ld, harg4.read_unread]
  funext y
  unfold kblk
  refine congrArg x1 ?_
  have h0 : (y 0 : ℕ) < 512 := (y 0).isLt
  refine (eq_ix2 (n0 := 2048) (n1 := 1024) _).trans ((ix2_inj ..).2 ⟨Fin.ext ?_, Fin.ext ?_⟩)
  · show off 0 + 1 * (y 0 : ℕ) = (512 * n + y 0) % 2048; omega
  · show off 1 + 1 * (y 1 : ℕ) = 256 * (h : ℕ) + y 1; omega

/-- A load of one block of one head's values. -/
theorem read_v (arg5 : Memref sig .tc .vmem S2048x512 .bf16) (harg5 : arg5.IsWhole) (x2 : Vec Ideal S2048x512 .bf16)
    (off : Fin 2 → ℕ) (h : Fin 4) (n : ℕ) (hn : n < 4) (inb) (e0 : off 0 = 512 * n) (e1 : off 1 = 128 * (h : ℕ)) :
    View.readAt (Elt Ideal) arg5.view (Rect.unit (s := S2048x512) off S512x128.size inb).toLoadRect (harg5.unread x2) = vblk x2 h n := by
  rw [View.readAt_eq_ld, harg5.read_unread]
  funext y
  unfold vblk
  refine congrArg x2 ?_
  have h0 : (y 0 : ℕ) < 512 := (y 0).isLt
  refine (eq_ix2 (n0 := 2048) (n1 := 512) _).trans ((ix2_inj ..).2 ⟨Fin.ext ?_, Fin.ext ?_⟩)
  · show off 0 + 1 * (y 0 : ℕ) = (512 * n + y 0) % 2048; omega
  · show off 1 + 1 * (y 1 : ℕ) = 128 * (h : ℕ) + y 1; omega

/-- The loop over the earlier blocks runs once per block before the diagonal one. -/
theorem trips_eq (i : grid0.Coords) : (k0_t1_loop i).trips = (i 2 : ℕ) :=
  (by decide +kernel : ∀ x : grid0.Coords, (k0_t1_loop x).trips = (x 2 : ℕ)) i

/-- Where the diagonal block's loads begin. -/
theorem offs_diag (i : grid0.Coords) :
    (k0_off1 i = ![512 * (i 2 : ℕ), 0] ∧ k0_off2 i = ![512 * (i 2 : ℕ), 256] ∧ k0_off3 i = ![512 * (i 2 : ℕ), 512] ∧ k0_off4 i = ![512 * (i 2 : ℕ), 768])
    ∧ (k0_off5 i = ![512 * (i 2 : ℕ), 0] ∧ k0_off6 i = ![512 * (i 2 : ℕ), 128] ∧ k0_off7 i = ![512 * (i 2 : ℕ), 256] ∧ k0_off8 i = ![512 * (i 2 : ℕ), 384]) :=
  (by decide +kernel : ∀ i : grid0.Coords,
    (k0_off1 i = ![512 * (i 2 : ℕ), 0] ∧ k0_off2 i = ![512 * (i 2 : ℕ), 256] ∧ k0_off3 i = ![512 * (i 2 : ℕ), 512] ∧ k0_off4 i = ![512 * (i 2 : ℕ), 768])
    ∧ (k0_off5 i = ![512 * (i 2 : ℕ), 0] ∧ k0_off6 i = ![512 * (i 2 : ℕ), 128] ∧ k0_off7 i = ![512 * (i 2 : ℕ), 256] ∧ k0_off8 i = ![512 * (i 2 : ℕ), 384])) i

/-- Where an earlier block's loads begin. -/
theorem offs_trip (i : grid0.Coords) (k : Fin (k0_t1_loop i).trips) :
    (k0_off9 i k = ![512 * (k : ℕ), 0] ∧ k0_off10 i k = ![512 * (k : ℕ), 256] ∧ k0_off11 i k = ![512 * (k : ℕ), 512] ∧ k0_off12 i k = ![512 * (k : ℕ), 768])
    ∧ (k0_off13 i k = ![512 * (k : ℕ), 0] ∧ k0_off14 i k = ![512 * (k : ℕ), 128] ∧ k0_off15 i k = ![512 * (k : ℕ), 256] ∧ k0_off16 i k = ![512 * (k : ℕ), 384]) :=
  (by decide +kernel : ∀ (i : grid0.Coords) (k : Fin (k0_t1_loop i).trips),
    (k0_off9 i k = ![512 * (k : ℕ), 0] ∧ k0_off10 i k = ![512 * (k : ℕ), 256] ∧ k0_off11 i k = ![512 * (k : ℕ), 512] ∧ k0_off12 i k = ![512 * (k : ℕ), 768])
    ∧ (k0_off13 i k = ![512 * (k : ℕ), 0] ∧ k0_off14 i k = ![512 * (k : ℕ), 128] ∧ k0_off15 i k = ![512 * (k : ℕ), 256] ∧ k0_off16 i k = ![512 * (k : ℕ), 384])) i k

section
variable (c : Dev nD) (i : grid0.Coords) (arg3 : Memref sig .tc .vmem S512x1024 .bf16) (harg3 : arg3.IsWhole) (arg4 : Memref sig .tc .vmem S2048x1024 .bf16) (harg4 : arg4.IsWhole) (arg5 : Memref sig .tc .vmem S2048x512 .bf16) (harg5 : arg5.IsWhole) (arg6 : Memref sig .tc .vmem S512x512 .bf16) (harg6 : arg6.IsWhole)
    (x0 : Vec Ideal S512x1024 .bf16) (x1 : Vec Ideal S2048x1024 .bf16) (x2 : Vec Ideal S2048x512 .bf16)

/-- After the diagonal block. -/
theorem start_eq : startV i arg3 harg3 arg4 harg4 arg5 harg5 arg6 harg6 x0 x1 x2
    = quad (headAt x0 x1 x2 0 (i 2) 0) (headAt x0 x1 x2 1 (i 2) 0) (headAt x0 x1 x2 2 (i 2) 0) (headAt x0 x1 x2 3 (i 2) 0) := by
  obtain ⟨⟨o1, o2, o3, o4⟩, o5, o6, o7, o8⟩ := offs_diag i
  have hi : (i 2 : ℕ) < 4 := (i 2).isLt
  unfold startV headAt sblk
  rw [read_q arg3 harg3 x0 _ 0 _ rfl rfl, read_q arg3 harg3 x0 _ 1 _ rfl rfl, read_q arg3 harg3 x0 _ 2 _ rfl rfl, read_q arg3 harg3 x0 _ 3 _ rfl rfl,
    read_k arg4 harg4 x1 (k0_off1 i) 0 (i 2) hi _ (by rw [o1]; rfl) (by rw [o1]; rfl),
    read_k arg4 harg4 x1 (k0_off2 i) 1 (i 2) hi _ (by rw [o2]; rfl) (by rw [o2]; rfl),
    read_k arg4 harg4 x1 (k0_off3 i) 2 (i 2) hi _ (by rw [o3]; rfl) (by rw [o3]; rfl),
    read_k arg4 harg4 x1 (k0_off4 i) 3 (i 2) hi _ (by rw [o4]; rfl) (by rw [o4]; rfl),
    read_v arg5 harg5 x2 (k0_off5 i) 0 (i 2) hi _ (by rw [o5]; rfl) (by rw [o5]; rfl),
    read_v arg5 harg5 x2 (k0_off6 i) 1 (i 2) hi _ (by rw [o6]; rfl) (by rw [o6]; rfl),
    read_v arg5 harg5 x2 (k0_off7 i) 2 (i 2) hi _ (by rw [o7]; rfl) (by rw [o7]; rfl),
    read_v arg5 harg5 x2 (k0_off8 i) 3 (i 2) hi _ (by rw [o8]; rfl) (by rw [o8]; rfl)]

/-- After `n` of the earlier blocks. -/
theorem after_eq (n : ℕ) (hn : n ≤ (k0_t1_loop i).trips) : afterV c i arg3 harg3 arg4 harg4 arg5 harg5 arg6 harg6 x0 x1 x2 n
    = quad (headAt x0 x1 x2 0 (i 2) n) (headAt x0 x1 x2 1 (i 2) n) (headAt x0 x1 x2 2 (i 2) n) (headAt x0 x1 x2 3 (i 2) n) := by
  induction n with
  | zero => exact (st_k0_t1_zero ..).trans (start_eq i arg3 harg3 arg4 harg4 arg5 harg5 arg6 harg6 x0 x1 x2)
  | succ n ih =>
    have hlt : n < (k0_t1_loop i).trips := hn
    have hn4 : n < 4 := lt_trans hlt (by rw [trips_eq]; exact (i 2).isLt)
    have ih := ih (le_of_lt hn)
    obtain ⟨⟨o1, o2, o3, o4⟩, o5, o6, o7, o8⟩ := offs_trip i ⟨n, hlt⟩
    unfold afterV at ih ⊢
    rw [st_k0_t1_succ _ _ _ _ _ _ _ _ _ _ _ _ _ _ _ _ _ _ _ (⟨n, hlt⟩ : Fin (k0_t1_loop i).trips)]
    show tripR_k0_t1 _ _ _ _ _ _ _ _ _ _ _ _ _ _ _ _ _ _ _ _ = _
    rw [ih, trip_eq]
    rw [read_q arg3 harg3 x0 _ 0 _ rfl rfl, read_q arg3 harg3 x0 _ 1 _ rfl rfl, read_q arg3 harg3 x0 _ 2 _ rfl rfl, read_q arg3 harg3 x0 _ 3 _ rfl rfl,
      read_k arg4 harg4 x1 (k0_off9 i _) 0 n hn4 _ (by rw [o1]; rfl) (by rw [o1]; rfl),
      read_k arg4 harg4 x1 (k0_off10 i _) 1 n hn4 _ (by rw [o2]; rfl) (by rw [o2]; rfl),
      read_k arg4 harg4 x1 (k0_off11 i _) 2 n hn4 _ (by rw [o3]; rfl) (by rw [o3]; rfl),
      read_k arg4 harg4 x1 (k0_off12 i _) 3 n hn4 _ (by rw [o4]; rfl) (by rw [o4]; rfl),
      read_v arg5 harg5 x2 (k0_off13 i _) 0 n hn4 _ (by rw [o5]; rfl) (by rw [o5]; rfl),
      read_v arg5 harg5 x2 (k0_off14 i _) 1 n hn4 _ (by rw [o6]; rfl) (by rw [o6]; rfl),
      read_v arg5 harg5 x2 (k0_off15 i _) 2 n hn4 _ (by rw [o7]; rfl) (by rw [o7]; rfl),
      read_v arg5 harg5 x2 (k0_off16 i _) 3 n hn4 _ (by rw [o8]; rfl) (by rw [o8]; rfl)]
    rfl

/-- A grid point's result block: each head after all its blocks, its weighted sums divided by its row sums. -/
theorem block_eq (y : S512x512.Idx) :
    out0_A_3 c i arg3 harg3 arg4 harg4 arg5 harg5 arg6 harg6 x0 x1 x2 y
      = k0_pay10 (headAt x0 x1 x2 (headOf y) (i 2) (i 2)).2.1 (headAt x0 x1 x2 (headOf y) (i 2) (i 2)).2.2 (ix2 (y 0) (laneOf y)) := by
  rw [out_eq, after_eq _ _ _ _ _ _ _ _ _ _ _ _ _ _ (le_refl _), trips_eq]
  unfold quadOut
  generalize headOf y = h
  fin_cases h <;> rfl

end

end Cert.KernelIdeal.Value
end
-- ==== Proof.HeadRow.lean ====
module

public import proofs.«01_k».proof.Proof.Heads
public import proofs.«01_k».proof.Proof.Softmax
public import Idealize.ShloMosaic.Lib.Pointwise
public import Idealize.ShloMosaic.Lib.Pipeline.ValueKit

@[expose] public section

set_option maxRecDepth 16384
noncomputable section
open Idealize.ShloMosaic Idealize.ShloMosaic.TcCoe Idealize.SL.Sem

namespace Cert.KernelIdeal.Value
open Cert.KernelIdeal Cert.KernelIdeal.Gen

/-! One row of a head: what the vector operations of a block do to it. -/

theorem quot_at (l : FVec Ideal S512x1 .f32) (a : FVec Ideal S512x128 .f32) (r : Fin 512) (d : Fin 128) :
    k0_pay10 l a (ix2 r d) = Ideal.div (a (ix2 r d)) (l (ix2 r 0)) := by
  pointwise [k0_pay10]

theorem scoreV_at (q : FVec Ideal S512x256 .bf16) (k : Vec Ideal S512x256 .bf16) (r c : Fin 512) :
    scoreV q k (ix2 r c) = (∑ x : Fin 256, q (ix2 r x) * k (ix2 c x)) * Row.scale := by
  pointwise [scoreV, k0_pay14]
  rfl

theorem maskV_at (s : FVec Ideal S512x512 .f32) (r c : Fin 512) :
    maskV s (ix2 r c) = if (c : ℕ) ≤ r then s (ix2 r c) else ⊥ := by
  pointwise [maskV, k0_pay80]
  rw [Row.neg_inf, Row.select_le _ _ (by omega) (by omega)]

theorem max_at (m : FVec Ideal S512x1 .f32) (s : FVec Ideal S512x512 .f32) (r : Fin 512) :
    k0_pay25 m s (ix2 r 0) = max (m (ix2 r 0)) (Finset.univ.sup fun x : Fin 512 => s (ix2 r x)) := by
  pointwise [k0_pay25]
  rw [Row.neg_inf]
  rfl

/-- One row of a head, at one of its 128 columns. -/
def rowOf (H : Head) (r : Fin 512) (d : Fin 128) : Row.Carry := (H.1 (ix2 r 0), H.2.1 (ix2 r 0), H.2.2 (ix2 r d))

/-- A block taken into the head is the block's row taken into each row. -/
theorem rowOf_step (s : FVec Ideal S512x512 .f32) (v : Vec Ideal S512x128 .bf16) (H : Head) (r : Fin 512) (d : Fin 128) :
    rowOf (headStep s v H) r d = Row.step (fun x => s (ix2 r x)) (fun x => v (ix2 x d)) (rowOf H r d) := by
  refine Prod.ext (max_at _ _ _) (Prod.ext ?_ ?_)
  · show k0_pay28 H.1 H.2.1 s (ix2 r 0) = Ideal.exp (H.1 (ix2 r 0) - max (H.1 (ix2 r 0)) (Finset.univ.sup fun x : Fin 512 => s (ix2 r x))) * H.2.1 (ix2 r 0)
      + ∑ x : Fin 512, Ideal.exp (s (ix2 r x) - max (H.1 (ix2 r 0)) (Finset.univ.sup fun x : Fin 512 => s (ix2 r x)))
    rw [← max_at]
    pointwise [k0_pay28, k0_pay26, k0_pay27]
  · show k0_pay29 H.1 H.2.2 s v (ix2 r d) = Ideal.exp (H.1 (ix2 r 0) - max (H.1 (ix2 r 0)) (Finset.univ.sup fun x : Fin 512 => s (ix2 r x))) * H.2.2 (ix2 r d)
      + ∑ x : Fin 512, Ideal.exp (s (ix2 r x) - max (H.1 (ix2 r 0)) (Finset.univ.sup fun x : Fin 512 => s (ix2 r x))) * v (ix2 x d)
    rw [← max_at]
    pointwise [k0_pay29, k0_pay26, k0_pay27]

theorem rowOf_zero (r : Fin 512) (d : Fin 128) : rowOf headZero r d = (⊥, 0, 0) := by
  refine Prod.ext ?_ (Prod.ext ?_ ?_)
  · show k0_pay66 (F := Ideal) (ix2 r 0) = ⊥
    pointwise [k0_pay66]; exact Row.neg_inf
  · show k0_pay67 (F := Ideal) (ix2 r 0) = 0
    pointwise [k0_pay67]
  · show k0_pay68 (F := Ideal) (ix2 r d) = 0
    pointwise [k0_pay68]

/-- The row's masked score of key `j`, from the blocks of queries and keys. -/
def sAt (x0 : Vec Ideal S512x1024 .bf16) (x1 : Vec Ideal S2048x1024 .bf16) (h : Fin 4) (q : ℕ) (r : Fin 512) (j : ℕ) : EReal :=
  if j ≤ 512 * q + r then
    (∑ x : Fin 256, qblk x0 h (ix2 r x) * x1 (ix2 (⟨j % 2048, Nat.mod_lt _ (by decide)⟩ : Fin 2048) (⟨256 * (h : ℕ) + x, by omega⟩ : Fin 1024))) * Row.scale
  else ⊥

/-- The value of key `j` in one column. -/
def vAt (x2 : Vec Ideal S2048x512 .bf16) (h : Fin 4) (d : Fin 128) (j : ℕ) : EReal :=
  x2 (ix2 (⟨j % 2048, Nat.mod_lt _ (by decide)⟩ : Fin 2048) (⟨128 * (h : ℕ) + d, by omega⟩ : Fin 512))

section
variable (x0 : Vec Ideal S512x1024 .bf16) (x1 : Vec Ideal S2048x1024 .bf16) (x2 : Vec Ideal S2048x512 .bf16) (h : Fin 4) (r : Fin 512) (d : Fin 128)

theorem sblk_at (q n : ℕ) (hn : n < q) (x : Fin 512) : sblk x0 x1 h n (ix2 r x) = sAt x0 x1 h q r (512 * n + x) := by
  unfold sblk sAt
  rw [scoreV_at, if_pos (by omega)]
  rfl

theorem mask_at (q : ℕ) (x : Fin 512) : maskV (sblk x0 x1 h q) (ix2 r x) = sAt x0 x1 h q r (512 * q + x) := by
  unfold sblk sAt
  rw [maskV_at, scoreV_at]
  exact if_congr (by omega) rfl rfl

/-- The row of a head, block after block. -/
theorem rowOf_headAt (q n : ℕ) (hn : n ≤ q) :
    rowOf (headAt x0 x1 x2 h q n) r d = Row.at_ (fun n x => sAt x0 x1 h q r (512 * n + x)) (fun n x => vAt x2 h d (512 * n + x)) q n := by
  induction n with
  | zero =>
    refine (rowOf_step _ _ _ _ _).trans ?_
    rw [rowOf_zero]
    show Row.step _ _ _ = Row.step _ _ _
    exact congrArg₂ (fun a b => Row.step a b (⊥, 0, 0)) (funext fun x => mask_at x0 x1 h r q x) rfl
  | succ n ih =>
    refine (rowOf_step _ _ _ _ _).trans ?_
    rw [ih (by omega)]
    exact congrArg₂ (fun a b => Row.step a b _) (funext fun x => sblk_at x0 x1 h r q n (by omega) x) rfl

/-- A head's result at an index: the row's weighted sum of the values. -/
theorem head_value (q : ℕ) (hq : q < 4) (hfin : ∀ j, sAt x0 x1 h q r j ≠ ⊤) (hown : sAt x0 x1 h q r (512 * q) ≠ ⊥) :
    k0_pay10 (headAt x0 x1 x2 h q q).2.1 (headAt x0 x1 x2 h q q).2.2 (ix2 r d)
      = ∑ j : Fin 2048, Ideal.div (Ideal.exp (sAt x0 x1 h q r j - Finset.univ.sup fun j : Fin 2048 => sAt x0 x1 h q r j))
        (∑ j : Fin 2048, Ideal.exp (sAt x0 x1 h q r j - Finset.univ.sup fun j : Fin 2048 => sAt x0 x1 h q r j)) * vAt x2 h d j := by
  rw [quot_at]
  have e := rowOf_headAt x0 x1 x2 h r d q q le_rfl
  have e1 : (headAt x0 x1 x2 h q q).2.1 (ix2 r 0) = _ := congrArg (fun c : Row.Carry => c.2.1) e
  have e2 : (headAt x0 x1 x2 h q q).2.2 (ix2 r d) = _ := congrArg (fun c : Row.Carry => c.2.2) e
  refine (congrArg₂ Ideal.div e2 e1).trans ?_
  exact Row.online (sAt x0 x1 h q r) (vAt x2 h d) q hq (fun j hj => if_neg (by omega)) hfin hown

end

end Cert.KernelIdeal.Value
end
-- ==== Proof.Equation.lean ====
module

public import proofs.«01_k».proof.Proof.Packed
public import proofs.«01_k».proof.Proof.HeadRow
public import proofs.«01_k».proof.Proof.RefAt
public import proofs.«01_k».proof.Proof.Finite

@[expose] public section

set_option maxRecDepth 16384
noncomputable section
open Idealize.ShloMosaic Idealize.ShloMosaic.TcCoe Idealize.SL.Sem

namespace Cert.KernelIdeal.Value
open Cert.KernelIdeal Cert.KernelIdeal.Gen
open Cert.ReferenceIdeal.Value (score scores result row Finite score_real)
variable (m : (ℓ : Loc nD τ sig) → Buf (Elt Ideal) ℓ)

/-- The five arguments: the plain and rotary parts of the queries, … -/
abbrev QN (c : Dev nD) : FVec Ideal S4x2048x8x128 .f32 := m ((c : Thread nD τ).loc main_arg0)
abbrev QR (c : Dev nD) : FVec Ideal S4x2048x8x64 .f32 := m ((c : Thread nD τ).loc main_arg1)
/-- … those of the keys, … -/
abbrev KN (c : Dev nD) : FVec Ideal S4x2048x8x128 .f32 := m ((c : Thread nD τ).loc main_arg2)
abbrev KR (c : Dev nD) : FVec Ideal S4x2048x64 .f32 := m ((c : Thread nD τ).loc main_arg3)
/-- … and the values. -/
abbrev VV (c : Dev nD) : FVec Ideal S4x2048x8x128 .f32 := m ((c : Thread nD τ).loc main_arg4)

/-- The packed queries and the packed keys. -/
abbrev PQ (c : Dev nD) : FVec Ideal S8192x2048 .bf16 := V m c main_v3
abbrev PK (c : Dev nD) : FVec Ideal S8192x2048 .bf16 := V m c main_v8

/-- A sum over a head's 256 lanes, cut at its two borders. -/
theorem sum_lanes (f : Fin 256 → EReal) :
    ∑ x, f x = ∑ x : Fin 128, f ⟨x, by omega⟩ + (∑ x : Fin 64, f ⟨128 + x, by omega⟩ + ∑ x : Fin 64, f ⟨128 + (64 + x), by omega⟩) := by
  rw [Fin.sum_univ_add (a := 128) (b := 128) f]
  congr 1
  exact Fin.sum_univ_add (a := 64) (b := 64) fun x : Fin 128 => f (Fin.natAdd 128 x)

/-- One product of a packed query and a packed key: the plain parts' product plus the rotary parts' product, the zero
    lanes adding nothing. -/
theorem dot_eq (c : Dev nD) (t : Fin cfg0.N) (r : Fin 512) (h : Fin 4) (j : Fin 2048) :
    ∑ x : Fin 256, qblk (iblk m c 0 t) h (ix2 r x) * (iblk m c 1 t) (ix2 j (⟨256 * (h : ℕ) + x, by omega⟩ : Fin 1024))
      = ∑ x : Fin 128, QN m c (ix4 (batchOf t) (posOf t r) (headAll t h) x) * KN m c (ix4 (batchOf t) j (headAll t h) x)
        + ∑ x : Fin 64, KR m c (ix3 (batchOf t) j x) * QR m c (ix4 (batchOf t) (posOf t r) (headAll t h) x) := by
  have e : ∀ x : Fin 256, qblk (iblk m c 0 t) h (ix2 r x) * (iblk m c 1 t) (ix2 j (⟨256 * (h : ℕ) + x, by omega⟩ : Fin 1024))
      = PQ m c (ix2 (rowAt (batchOf t) (posOf t r)) (laneAt (headAll t h) x)) * PK m c (ix2 (rowAt (batchOf t) j) (laneAt (headAll t h) x)) :=
    fun x => Ideal.mul_congr (qblock_at m c t r h x) (kblock_at m c t j h x)
  rw [Finset.sum_congr rfl fun x _ => e x, sum_lanes]
  refine Ideal.add_congr (Finset.sum_congr rfl fun x _ => ?_) ?_
  · rw [PQ, PK, q_at, k_at, dif_pos x.isLt, dif_pos x.isLt]
  · have z : ∑ x : Fin 64, (PQ m c (ix2 (rowAt (batchOf t) (posOf t r)) (laneAt (headAll t h) (⟨128 + (64 + x), by omega⟩ : Fin 256)))
        * PK m c (ix2 (rowAt (batchOf t) j) (laneAt (headAll t h) (⟨128 + (64 + x), by omega⟩ : Fin 256))) : EReal) = 0 := by
      refine Finset.sum_eq_zero fun x _ => ?_
      rw [PQ, q_at, dif_neg (by simp only; omega), dif_neg (by simp only; omega)]
      exact zero_mul _
    refine (Ideal.add_congr rfl z).trans ((add_zero _).trans (Finset.sum_congr rfl fun x _ => ?_))
    rw [PQ, PK, q_at, k_at, dif_neg (by simp only; omega), dif_pos (by simp only; omega), dif_neg (by simp only; omega), dif_pos (by simp only; omega)]
    have ex : (⟨128 + (x : ℕ) - 128, by omega⟩ : Fin 64) = x := Fin.ext (by simp only; omega)
    simp only [ex]
    exact mul_comm _ _

/-- A head's score of a key is the reference's score. -/
theorem sAt_eq (c : Dev nD) (t : Fin cfg0.N) (h : Fin 4) (r : Fin 512) (j : Fin 2048) :
    sAt (iblk m c 0 t) (iblk m c 1 t) h (t.val % 4) r j
      = score (QN m c) (QR m c) (KN m c) (KR m c) (batchOf t) (headAll t h) (posOf t r) j := by
  unfold sAt score
  have ej : (⟨(j : ℕ) % 2048, Nat.mod_lt _ (by decide)⟩ : Fin 2048) = j := Fin.ext (Nat.mod_eq_of_lt j.isLt)
  rw [ej, dot_eq]

/-- Keys past the last: masked. -/
theorem sAt_past (c : Dev nD) (t : Fin cfg0.N) (h : Fin 4) (r : Fin 512) (j : ℕ) (hj : 2048 ≤ j) :
    sAt (iblk m c 0 t) (iblk m c 1 t) h (t.val % 4) r j = ⊥ := by
  unfold sAt
  exact if_neg (by omega)

/-- A head's value of a key. -/
theorem vAt_eq (c : Dev nD) (t : Fin cfg0.N) (h : Fin 4) (d : Fin 128) (j : Fin 2048) :
    vAt (iblk m c 2 t) h d j = VV m c (ix4 (batchOf t) j (headAll t h) d) := by
  unfold vAt
  have ej : (⟨(j : ℕ) % 2048, Nat.mod_lt _ (by decide)⟩ : Fin 2048) = j := Fin.ext (Nat.mod_eq_of_lt j.isLt)
  rw [ej]
  exact vblock_at m c t j h d

/-- A head's quotient is a row of attention, over whatever the scores and the values are known to be. -/
theorem head_row (x0 : Vec Ideal S512x1024 .bf16) (x1 : Vec Ideal S2048x1024 .bf16) (x2 : Vec Ideal S2048x512 .bf16) (h : Fin 4) (r : Fin 512) (d : Fin 128)
    (q : ℕ) (hq : q < 4) (hfin : ∀ j, sAt x0 x1 h q r j ≠ ⊤) (hown : sAt x0 x1 h q r (512 * q) ≠ ⊥) (s v : Fin 2048 → EReal)
    (hs : ∀ j : Fin 2048, sAt x0 x1 h q r j = s j) (hv : ∀ j : Fin 2048, vAt x2 h d j = v j) :
    k0_pay10 (headAt x0 x1 x2 h q q).2.1 (headAt x0 x1 x2 h q q).2.2 (ix2 r d) = row s v := by
  rw [head_value x0 x1 x2 h r d q hq hfin hown]
  simp only [hs, hv]
  exact Finset.sum_congr rfl fun j _ => mul_comm _ _

section
variable {m} {c : Dev nD} (h0 : Finite (QN m c)) (h1 : Finite (QR m c)) (h2 : Finite (KN m c)) (h3 : Finite (KR m c))
include h0 h1 h2 h3

/-- No score is `+∞`. -/
theorem sAt_ne_top (t : Fin cfg0.N) (h : Fin 4) (r : Fin 512) (j : ℕ) : sAt (iblk m c 0 t) (iblk m c 1 t) h (t.val % 4) r j ≠ ⊤ := by
  by_cases hj : j < 2048
  · have e := sAt_eq m c t h r ⟨j, hj⟩
    by_cases hm : j ≤ (posOf t r : ℕ)
    · obtain ⟨s, hs⟩ := score_real h0 h1 h2 h3 (batchOf t) (headAll t h) (posOf t r) ⟨j, hj⟩ hm
      exact (e.trans hs).symm ▸ EReal.coe_ne_top s
    · unfold sAt
      rw [if_neg hm]
      exact bot_ne_top
  · rw [sAt_past m c t h r j (by omega)]
    exact bot_ne_top

/-- The first key of a row's own block is not masked. -/
theorem sAt_own (t : Fin cfg0.N) (h : Fin 4) (r : Fin 512) : sAt (iblk m c 0 t) (iblk m c 1 t) h (t.val % 4) r (512 * (t.val % 4)) ≠ ⊥ := by
  have hj : 512 * (t.val % 4) < 2048 := by omega
  have e := sAt_eq m c t h r ⟨512 * (t.val % 4), hj⟩
  obtain ⟨s, hs⟩ := score_real h0 h1 h2 h3 (batchOf t) (headAll t h) (posOf t r) ⟨512 * (t.val % 4), hj⟩ (Nat.le_add_right _ _)
  exact (e.trans hs).symm ▸ EReal.coe_ne_bot s

/-- What a grid point leaves at an index of its block: the row of weights against a column of the values. -/
theorem point_row (t : Fin cfg0.N) (y : S512x512.Idx) :
    out0_A_3 c (grid0.coords t) (ms0_0 t) (hs0_0 t) (ms0_1 t) (hs0_1 t) (ms0_2 t) (hs0_2 t) (ms0_3 t) (hs0_3 t) (iblk m c 0 t) (iblk m c 1 t) (iblk m c 2 t) y
      = row (score (QN m c) (QR m c) (KN m c) (KR m c) (batchOf t) (headAll t (headOf y)) (posOf t (y 0)))
          fun j => VV m c (ix4 (batchOf t) j (headAll t (headOf y)) (laneOf y)) := by
  have hq : t.val % 4 < 4 := Nat.mod_lt _ (by decide)
  have e := block_eq c (grid0.coords t) (ms0_0 t) (hs0_0 t) (ms0_1 t) (hs0_1 t) (ms0_2 t) (hs0_2 t) (ms0_3 t) (hs0_3 t) (iblk m c 0 t) (iblk m c 1 t) (iblk m c 2 t) y
  rw [(idx t).2.2.2.2] at e
  exact e.trans (head_row _ _ _ _ _ _ _ hq (sAt_ne_top h0 h1 h2 h3 t _ _) (sAt_own h0 h1 h2 h3 t _ _) _ _ (sAt_eq m c t _ _) (vAt_eq m c t _ _))

/-- … which is the reference's result at the row and column the index stands for. -/
theorem point (t : Fin cfg0.N) (y : S512x512.Idx) (i : S8192x1024.Idx)
    (hi0 : (i 0 : ℕ) = 512 * (t.val / 8 * 4 + t.val % 4) + y 0) (hi1 : (i 1 : ℕ) = 512 * (t.val / 4 % 2) + y 1) :
    out0_A_3 c (grid0.coords t) (ms0_0 t) (hs0_0 t) (ms0_1 t) (hs0_1 t) (ms0_2 t) (hs0_2 t) (ms0_3 t) (hs0_3 t) (iblk m c 0 t) (iblk m c 1 t) (iblk m c 2 t) y
      = result (scores (QN m c) (QR m c) (KN m c) (KR m c)) (VV m c) i := by
  have hy0 : (y 0 : ℕ) < 512 := (y 0).isLt
  have hy1 : (y 1 : ℕ) < 512 := (y 1).isLt
  refine (point_row h0 h1 h2 h3 t y).trans (Cert.ReferenceIdeal.Value.result_row _ _ _ _ _ i _ _ _ _ ?_ ?_).symm
  · show (i 0 : ℕ) = 2048 * (t.val / 8) + (512 * (t.val % 4) + (y 0 : ℕ))
    omega
  · show (i 1 : ℕ) = 128 * (4 * (t.val / 4 % 2) + (y 1 : ℕ) / 128) + (y 1 : ℕ) % 128
    omega

/-- The result array after the run is the reference's result. -/
theorem final : (dats m 0 c).arrAt 3 cfg0.N = result (scores (QN m c) (QR m c) (KN m c) (KR m c)) (VV m c) := by
  refine (dats m 0 c).arrAt_eq_of_covers 3 _ (by decide +kernel) fun t _ y => ?_
  blk_simp
  rw [after0_3]
  unfold outsAt0
  refine point h0 h1 h2 h3 t y _ ?_ ?_
  · blk_simp [(idx t).2.2.2.1]
    omega
  · blk_simp [(idx t).2.2.2.1]
    omega

end

end Cert.KernelIdeal.Value
end
-- ==== Proof.RefUp.lean ====
module

public import proofs.«01_k».proof.Proof.Gen.Reference2Ideal.Run
public import Idealize.ShloMosaic.Lib.Pointwise
public import Idealize.ShloMosaic.Lib.Pipeline.ValueKit

@[expose] public section

set_option maxRecDepth 16384
noncomputable section
open Idealize.ShloMosaic Idealize.ShloMosaic.TcCoe Idealize.SL.Sem

namespace Cert.Reference2Ideal.Value
open Cert.Reference2Ideal Cert.Reference2Ideal.Gen

/-- The modulated norm of the residual stream. -/
def normed (x : FVec Ideal S4x2048x2048 .f32) (g sh sc : FVec Ideal S4x2048 .f32) : FVec Ideal S4x2048x2048 .f32 :=
  addf (mulf (mulf (mulf x (broadcastInDim S4x2048x2048 ![0, 1, 2] bcast_S4x2048x1_S4x2048x2048_0_1_2 (Host.rsqrt (addf (Host.divf (broadcastInDim S4x2048x1 ![0, 1] bcast_S4x2048_S4x2048x1_0_1 (Host.reduceAdd (mulf x x) (constant S_ .f32 0x00000000#32) reducesTo_S4x2048x2048_S4x2048_d2 h_S_)) (broadcastInDim S4x2048x1 ![] bcast_S_S4x2048x1 (constant S_ .f32 0x45000000#32))) (broadcastInDim S4x2048x1 ![] bcast_S_S4x2048x1 (constant S_ .f32 0x358637BD#32))))))
    (broadcastInDim S4x2048x2048 ![0, 1, 2] bcast_S1x1x2048_S4x2048x2048_0_1_2 (broadcastInDim S1x1x2048 ![2] bcast_S2048_S1x1x2048_2 (shapeCast _ (extractStridedSlice S1x2048 ![0, 0] g slices_S4x2048_S1x2048_0_0) shapeCasts_S1x2048_S2048))))
    (broadcastInDim S4x2048x2048 ![0, 1, 2] bcast_S4x1x2048_S4x2048x2048_0_1_2 (addf (broadcastInDim S4x1x2048 ![] bcast_S_S4x1x2048 (constant S_ .f32 0x3F800000#32)) (broadcastInDim S4x1x2048 ![0, 2] bcast_S4x2048_S4x1x2048_0_2 sc))))
    (broadcastInDim S4x2048x2048 ![0, 1, 2] bcast_S4x1x2048_S4x2048x2048_0_1_2 (broadcastInDim S4x1x2048 ![0, 2] bcast_S4x2048_S4x1x2048_0_2 sh))

/-- The up projection. -/
def up (h : FVec Ideal S4x2048x2048 .f32) (w : FVec Ideal S4x2048x11264 .f32) : FVec Ideal S4x2048x11264 .f32 :=
  Host.dotGeneral dot_S4x2048x2048_S2048x11264_S4x2048x11264_2_0_01_1_n_n none h (shapeCast _ (extractStridedSlice S1x2048x11264 ![0, 0, 0] w slices_S4x2048x11264_S1x2048x11264_0_0_0) shapeCasts_S1x2048x11264_S2048x11264)

/-- Two zero rows before each sequence. -/
def padded (u : FVec Ideal S4x2048x11264 .f32) : FVec Ideal S4x2050x11264 .f32 :=
  concatenate S4x2050x11264 1 [⟨S4x2x11264, (broadcastInDim S4x2x11264 ![] bcast_S_S4x2x11264 (constant S_ .f32 0x00000000#32))⟩, ⟨S4x2048x11264, u⟩] concatenates_S4x2x11264_S4x2048x11264_S4x2050x11264_d1

/-- The convolution of width three. -/
def conv (p : FVec Ideal S4x2050x11264 .f32) (cw : FVec Ideal S4x3x11264 .f32) (cb : FVec Ideal S4x11264 .f32) : FVec Ideal S4x2048x11264 .f32 :=
  addf (broadcastInDim S4x2048x11264 ![0, 1, 2] bcast_S1x1x11264_S4x2048x11264_0_1_2 (broadcastInDim S1x1x11264 ![2] bcast_S11264_S1x1x11264_2 (shapeCast _ (extractStridedSlice S1x11264 ![0, 0] cb slices_S4x11264_S1x11264_0_0) shapeCasts_S1x11264_S11264)))
    (addf (addf (addf (broadcastInDim S4x2048x11264 ![] bcast_S_S4x2048x11264 (constant S_ .f32 0x00000000#32))
      (mulf (extractStridedSlice S4x2048x11264 ![0, 0, 0] p slices_S4x2050x11264_S4x2048x11264_0_0_0) (broadcastInDim S4x2048x11264 ![0, 1, 2] bcast_S1x1x11264_S4x2048x11264_0_1_2 (broadcastInDim S1x1x11264 ![2] bcast_S11264_S1x1x11264_2 (shapeCast _ (extractStridedSlice S1x1x11264 ![0, 0, 0] cw slices_S4x3x11264_S1x1x11264_0_0_0) shapeCasts_S1x1x11264_S11264)))))
      (mulf (extractStridedSlice S4x2048x11264 ![0, 1, 0] p slices_S4x2050x11264_S4x2048x11264_0_1_0) (broadcastInDim S4x2048x11264 ![0, 1, 2] bcast_S1x1x11264_S4x2048x11264_0_1_2 (broadcastInDim S1x1x11264 ![2] bcast_S11264_S1x1x11264_2 (shapeCast _ (extractStridedSlice S1x1x11264 ![0, 1, 0] cw slices_S4x3x11264_S1x1x11264_0_1_0) shapeCasts_S1x1x11264_S11264)))))
      (mulf (extractStridedSlice S4x2048x11264 ![0, 2, 0] p slices_S4x2050x11264_S4x2048x11264_0_2_0) (broadcastInDim S4x2048x11264 ![0, 1, 2] bcast_S1x1x11264_S4x2048x11264_0_1_2 (broadcastInDim S1x1x11264 ![2] bcast_S11264_S1x1x11264_2 (shapeCast _ (extractStridedSlice S1x1x11264 ![0, 2, 0] cw slices_S4x3x11264_S1x1x11264_0_2_0) shapeCasts_S1x1x11264_S11264)))))

/-- The gated activation: the second half of the columns gates the first. -/
def gated (v : FVec Ideal S4x2048x11264 .f32) : FVec Ideal S8192x5632 .bf16 :=
  truncf .bf16 (shapeCast _ (mulf (mulf (extractStridedSlice S4x2048x5632 ![0, 0, 5632] v slices_S4x2048x11264_S4x2048x5632_0_0_5632)
      (Host.divf (broadcastInDim S4x2048x5632 ![] bcast_S_S4x2048x5632 (constant S_ .f32 0x3F800000#32)) (addf (broadcastInDim S4x2048x5632 ![] bcast_S_S4x2048x5632 (constant S_ .f32 0x3F800000#32)) (Host.exp (Host.negf (extractStridedSlice S4x2048x5632 ![0, 0, 5632] v slices_S4x2048x11264_S4x2048x5632_0_0_5632))))))
    (extractStridedSlice S4x2048x5632 ![0, 0, 0] v slices_S4x2048x11264_S4x2048x5632_0_0_0)) shapeCasts_S4x2048x5632_S8192x5632) bitsLt_bf16_f32

/-- The last rows of each half sequence, before the convolution. -/
def tails (u : FVec Ideal S4x2048x11264 .f32) : FVec Ideal S8x8x11264 .f32 :=
  extractStridedSlice S8x8x11264 ![0, 1016, 0] (shapeCast _ u shapeCasts_S4x2048x11264_S8x1024x11264) slices_S8x1024x11264_S8x8x11264_0_1016_0
/-- Their first half of the columns, … -/
def tailV (u : FVec Ideal S4x2048x11264 .f32) : FVec Ideal S8x8x5632 .f32 :=
  extractStridedSlice S8x8x5632 ![0, 0, 0] (tails u) slices_S8x8x11264_S8x8x5632_0_0_0
/-- … and their second half. -/
def tailG (u : FVec Ideal S4x2048x11264 .f32) : FVec Ideal S8x8x5632 .f32 :=
  extractStridedSlice S8x8x5632 ![0, 0, 5632] (tails u) slices_S8x8x11264_S8x8x5632_0_0_5632

section
variable (m : (ℓ : Loc nD τ sig) → Buf (Elt Ideal) ℓ) (ρ : Dev nD → PrngReg)

/-- The up-projected rows, of the arguments. -/
abbrev rows (c : Dev nD) : FVec Ideal S4x2048x11264 .f32 :=
  up (normed (m ((c.tc : Thread nD τ).loc main_arg0)) (m ((c.tc : Thread nD τ).loc main_arg1)) (m ((c.tc : Thread nD τ).loc main_arg2)) (m ((c.tc : Thread nD τ).loc main_arg3))) (m ((c.tc : Thread nD τ).loc main_arg4))

/-- The reference's own term is the above. -/
theorem res_eq (c : Dev nD) : res_main_v62 m c = gated (conv (padded (rows m c)) (m ((c.tc : Thread nD τ).loc main_arg5)) (m ((c.tc : Thread nD τ).loc main_arg6))) := by
  unfold res_main_v62
  rfl

/-- The reference runs to its end with the three results. -/
theorem run_named : θ_run defs (onTc (τ := τ) (main (F := Ideal))) ⟨m, fun _ => 0, ρ⟩ fun r => ∀ c : Dev nD,
      r.2.mem ((c.tc : Thread nD τ).loc main_v62) = gated (conv (padded (rows m c)) (m ((c.tc : Thread nD τ).loc main_arg5)) (m ((c.tc : Thread nD τ).loc main_arg6)))
      ∧ r.2.mem ((c.tc : Thread nD τ).loc main_v63) = tailV (rows m c)
      ∧ r.2.mem ((c.tc : Thread nD τ).loc main_v64) = tailG (rows m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c => ⟨(h c).1.trans (res_eq m c), (h c).2.1.trans rfl, (h c).2.2.1.trans rfl, (h c).2.2.2⟩) (run m ρ)
end

/-- One entry of the modulated norm: of a row, its gain, its scale and its shift. -/
def normEntry (x : Fin 2048 → EReal) (g sc sh : EReal) (k : Fin 2048) : EReal :=
  x k * Ideal.rsqrt (Ideal.div (∑ j : Fin 2048, x j * x j) (Ideal.ofBits .f32 0x45000000#32) + Ideal.ofBits .f32 0x358637BD#32) * g * (Ideal.ofBits .f32 0x3F800000#32 + sc) + sh

theorem normed_at (x g sh sc) (b : Fin 4) (p k : Fin 2048) :
    normed x g sh sc (ix3 b p k) = normEntry (fun j => x (ix3 b p j)) (g (ix2 (0 : Fin 4) k)) (sc (ix2 b k)) (sh (ix2 b k)) k := by
  unfold normEntry
  pointwise [normed]

theorem up_at (h w) (b : Fin 4) (p : Fin 2048) (n : Fin 11264) :
    up h w (ix3 b p n) = ∑ k : Fin 2048, h (ix3 b p k) * w (ix3 (0 : Fin 4) k n) := by
  pointwise [up]

theorem padded_at (u) (b : Fin 4) (q : Fin 2050) (n : Fin 11264) :
    padded u (ix3 b q n) = if h : (q : ℕ) < 2 then 0 else u (ix3 b (⟨q - 2, by omega⟩ : Fin 2048) n) := by
  pointwise [padded]

/-- One entry of the convolution, of three entries, three weights and a bias. -/
def convEntry (a0 a1 a2 w0 w1 w2 b : EReal) : EReal := b + (a0 * w0 + a1 * w1 + a2 * w2)

theorem conv_at (p cw cb) (b : Fin 4) (r : Fin 2048) (n : Fin 11264) :
    conv p cw cb (ix3 b r n) = convEntry (p (ix3 b (⟨r, by omega⟩ : Fin 2050) n)) (p (ix3 b (⟨1 + r, by omega⟩ : Fin 2050) n)) (p (ix3 b (⟨2 + r, by omega⟩ : Fin 2050) n))
      (cw (ix3 (0 : Fin 4) (0 : Fin 3) n)) (cw (ix3 (0 : Fin 4) (1 : Fin 3) n)) (cw (ix3 (0 : Fin 4) (2 : Fin 3) n)) (cb (ix2 (0 : Fin 4) n)) := by
  unfold convEntry
  pointwise [conv]

/-- One entry of the gated activation. -/
def gateEntry (g v : EReal) : EReal := g * Ideal.div (Ideal.ofBits .f32 0x3F800000#32) (Ideal.ofBits .f32 0x3F800000#32 + Ideal.exp (-g)) * v

theorem gated_at (v) (R : Fin 8192) (n : Fin 5632) :
    gated v (ix2 R n) = gateEntry (v (ix3 (⟨R / 2048, by omega⟩ : Fin 4) (⟨R % 2048, by omega⟩ : Fin 2048) (⟨5632 + n, by omega⟩ : Fin 11264)))
      (v (ix3 (⟨R / 2048, by omega⟩ : Fin 4) (⟨R % 2048, by omega⟩ : Fin 2048) (⟨n, by omega⟩ : Fin 11264))) := by
  unfold gateEntry
  pointwise [gated]

theorem tailV_at (u) (i : Fin 8) (r : Fin 8) (n : Fin 5632) :
    tailV u (ix3 i r n) = u (ix3 (⟨i / 2, by omega⟩ : Fin 4) (⟨i % 2 * 1024 + (1016 + r), by omega⟩ : Fin 2048) (⟨n, by omega⟩ : Fin 11264)) := by
  pointwise [tailV, tails]

theorem tailG_at (u) (i : Fin 8) (r : Fin 8) (n : Fin 5632) :
    tailG u (ix3 i r n) = u (ix3 (⟨i / 2, by omega⟩ : Fin 4) (⟨i % 2 * 1024 + (1016 + r), by omega⟩ : Fin 2048) (⟨5632 + n, by omega⟩ : Fin 11264)) := by
  pointwise [tailG, tails]

end Cert.Reference2Ideal.Value
end
-- ==== Proof.UpBody.lean ====
module

public import proofs.«01_k».proof.Proof.Gen.Kernel2Ideal.Value
public import proofs.«01_k».proof.Proof.RefUp
public import Idealize.ShloMosaic.Lib.Pointwise
public import Idealize.ShloMosaic.Lib.Pipeline.ValueKit

@[expose] public section

set_option maxRecDepth 16384
noncomputable section
open Idealize.ShloMosaic Idealize.ShloMosaic.TcCoe Idealize.SL.Sem

namespace Cert.Kernel2Ideal.Value
open Cert.Kernel2Ideal Cert.Kernel2Ideal.Gen
open Cert.Reference2Ideal.Value (normEntry convEntry gateEntry)

/-- The threshold of a tile, and a row against it. -/
theorem threshold : ∀ a : Fin 8, Scalar.select (Scalar.cmpi .eq (Scalar.select (Scalar.andi (Scalar.xori
      (Scalar.cmpi .slt (Scalar.remsi (BitVec.ofNat 32 a) (Scalar.select (Scalar.cmpi .eq 2#32 0#32) 1#32 2#32)) 0#32)
      (Scalar.cmpi .slt (Scalar.select (Scalar.cmpi .eq 2#32 0#32) 1#32 2#32) 0#32))
      (Scalar.cmpi .ne (Scalar.remsi (BitVec.ofNat 32 a) (Scalar.select (Scalar.cmpi .eq 2#32 0#32) 1#32 2#32)) 0#32))
      (Scalar.addi (Scalar.remsi (BitVec.ofNat 32 a) (Scalar.select (Scalar.cmpi .eq 2#32 0#32) 1#32 2#32)) (Scalar.select (Scalar.cmpi .eq 2#32 0#32) 1#32 2#32))
      (Scalar.remsi (BitVec.ofNat 32 a) (Scalar.select (Scalar.cmpi .eq 2#32 0#32) 1#32 2#32))) 0#32) 16#32 0#32
    = if (a : ℕ) % 2 = 0 then 16#32 else 0#32 := by decide +kernel
theorem above16 : ∀ r : Fin 1040, IntOp.cmpi .sge (BitVec.ofNat 32 r) 16#32 = if (r : ℕ) < 16 then 0#1 else 1#1 := by decide +kernel
theorem above0 : ∀ r : Fin 1040, IntOp.cmpi .sge (BitVec.ofNat 32 r) 0#32 = 1#1 := by decide +kernel

/-- The rows before a sequence's first are masked off in the tile of its first rows, none in the other. -/
theorem mask_at (q : grid0.Coords) (r : Fin 1040) :
    k0_pay10 q (ix2 r (0 : Fin 1)) = if (q 0 : ℕ) % 2 = 0 ∧ (r : ℕ) < 16 then 0#1 else 1#1 := by
  pointwise [k0_pay10]
  have hq : (q 0 : ℕ) < 8 := (q 0).isLt
  rw [threshold ⟨q 0, hq⟩]
  by_cases h : (q 0 : ℕ) % 2 = 0
  · simp only [h, if_true, true_and]
    exact above16 r
  · simp only [h, if_false, false_and]
    exact above0 r

/-- An entry of the masked product. -/
def prodEntry (S : Vec Ideal S1040x2048 .bf16) (M : IVec S1040x1 1) (w : Vec Ideal S1x2048x256 .bf16) (r : Fin 1040) (n : Fin 256) : EReal :=
  if M (ix2 r (0 : Fin 1)) = 1#1 then ∑ k : Fin 2048, S (ix2 r k) * w (ix3 (0 : Fin 1) k n) else 0

theorem pay11_at (q S w) (r : Fin 1040) (n : Fin 256) : k0_pay11 (F := Ideal) q S w (ix2 r n) = prodEntry S (k0_pay10 q) w r n := by
  unfold prodEntry
  pointwise [k0_pay11]
  rfl
theorem pay15_at (S M w) (r : Fin 1040) (n : Fin 256) : k0_pay15 (F := Ideal) S M w (ix2 r n) = prodEntry S M w r n := by
  unfold prodEntry
  pointwise [k0_pay15]
  rfl
theorem pay20_at (S M w) (r : Fin 1040) (n : Fin 256) : k0_pay20 (F := Ideal) S M w (ix2 r n) = prodEntry S M w r n := by
  unfold prodEntry
  pointwise [k0_pay20]
  rfl
theorem pay27_at (S M w) (r : Fin 1040) (n : Fin 256) : k0_pay27 (F := Ideal) S M w (ix2 r n) = prodEntry S M w r n := by
  unfold prodEntry
  pointwise [k0_pay27]
  rfl

/-- The last rows of the product. -/
theorem pay12_at (q S w) (r : Fin 8) (n : Fin 256) : k0_pay12 (F := Ideal) q S w (ix3 (0 : Fin 1) r n) = prodEntry S (k0_pay10 q) w ⟨1032 + r, by omega⟩ n := by
  refine Eq.trans ?_ (pay11_at _ _ _ _ _)
  generalize e : k0_pay11 (F := Ideal) q S w = U
  pointwise [k0_pay12, e]
theorem pay16_at (S M w) (r : Fin 8) (n : Fin 256) : k0_pay16 (F := Ideal) S M w (ix3 (0 : Fin 1) r n) = prodEntry S M w ⟨1032 + r, by omega⟩ n := by
  refine Eq.trans ?_ (pay15_at _ _ _ _ _)
  generalize e : k0_pay15 (F := Ideal) S M w = U
  pointwise [k0_pay16, e]
theorem pay21_at (S M w) (r : Fin 8) (n : Fin 256) : k0_pay21 (F := Ideal) S M w (ix3 (0 : Fin 1) r n) = prodEntry S M w ⟨1032 + r, by omega⟩ n := by
  refine Eq.trans ?_ (pay20_at _ _ _ _ _)
  generalize e : k0_pay20 (F := Ideal) S M w = U
  pointwise [k0_pay21, e]
theorem pay28_at (S M w) (r : Fin 8) (n : Fin 256) : k0_pay28 (F := Ideal) S M w (ix3 (0 : Fin 1) r n) = prodEntry S M w ⟨1032 + r, by omega⟩ n := by
  refine Eq.trans ?_ (pay27_at _ _ _ _ _)
  generalize e : k0_pay27 (F := Ideal) S M w = U
  pointwise [k0_pay28, e]

/-- The rows two and one before, of the rotations. -/
theorem rot2 (r : Fin 1024) (h : (16 + (r : ℕ) + 1040 - 2) % 1040 < 1040) : (⟨(16 + (r : ℕ) + 1040 - 2) % 1040, h⟩ : Fin 1040) = ⟨14 + r, by omega⟩ := Fin.ext (by simp only; omega)
theorem rot1 (r : Fin 1024) (h : (16 + (r : ℕ) + 1040 - 1) % 1040 < 1040) : (⟨(16 + (r : ℕ) + 1040 - 1) % 1040, h⟩ : Fin 1040) = ⟨15 + r, by omega⟩ := Fin.ext (by simp only; omega)

/-- An entry of the convolution of a product. -/
def convOf (U : Fin 1040 → EReal) (cw : Vec Ideal S3x256 .f32) (cb : Vec Ideal S1x256 .f32) (r : Fin 1024) (n : Fin 256) : EReal :=
  convEntry (U ⟨14 + r, by omega⟩) (U ⟨15 + r, by omega⟩) (U ⟨16 + r, by omega⟩) (cw (ix2 (0 : Fin 3) n)) (cw (ix2 (1 : Fin 3) n)) (cw (ix2 (2 : Fin 3) n)) (cb (ix2 (0 : Fin 1) n))

theorem pay14_at (U : FVec Ideal S1040x256 .f32) (cw cb) (r : Fin 1024) (n : Fin 256) :
    k0_pay14 (F := Ideal) U (k0_pay13 cw) cb (ix2 r n) = convOf (fun ρ => U (ix2 ρ n)) cw cb r n := by
  unfold convOf convEntry
  pointwise [k0_pay14, k0_pay13]
  simp only [rot2, rot1]
  simp only [zero_sub, add_assoc]

theorem pay26_at (S M w cw cb) (r : Fin 1024) (n : Fin 256) :
    k0_pay26 (F := Ideal) (k0_pay20 S M w) (k0_pay22 cw) (k0_pay23 cb) (k0_pay24 S M w) (k0_pay25 cw) (ix2 r n)
      = convOf (fun ρ => k0_pay20 (F := Ideal) S M w (ix2 ρ n)) cw cb r n := by
  unfold convOf convEntry
  generalize e : k0_pay20 (F := Ideal) S M w = U
  pointwise [k0_pay26, k0_pay22, k0_pay23, k0_pay24, k0_pay25, e]
  simp only [rot2, rot1]
  simp only [zero_sub, add_assoc]

theorem pay19_at (v S M w cw cb) (r : Fin 1024) (n : Fin 256) :
    k0_pay19 (F := Ideal) v (k0_pay15 S M w) (k0_pay17 cw) (k0_pay18 S M w cw cb) 1#32 (ix2 r n)
      = gateEntry (convOf (fun ρ => k0_pay15 (F := Ideal) S M w (ix2 ρ n)) cw cb r n) (v (ix2 r n)) := by
  unfold convOf convEntry gateEntry
  generalize e : k0_pay15 (F := Ideal) S M w = U
  pointwise [k0_pay19, k0_pay17, k0_pay18, e]
  simp only [rot2, rot1]
  simp only [zero_sub, add_assoc]

theorem pay1_at (v S M w cw cb) (r : Fin 1024) (n : Fin 256) :
    k0_pay1 (F := Ideal) v (k0_pay29 cw) (k0_pay30 S M w cw cb) (k0_pay31 S M w) (ix2 r n)
      = gateEntry (convOf (fun ρ => k0_pay27 (F := Ideal) S M w (ix2 ρ n)) cw cb r n) (v (ix2 r n)) := by
  unfold convOf convEntry gateEntry
  generalize e : k0_pay27 (F := Ideal) S M w = U
  pointwise [k0_pay1, k0_pay29, k0_pay30, k0_pay31, e]
  simp only [rot2, rot1]
  simp only [zero_sub, add_assoc]

/-- The normed rows before the tile's own, and its own. -/
theorem pay5_at (g sc sh x) (r : Fin 16) (k : Fin 2048) :
    k0_pay5 (F := Ideal) g sc sh x (ix2 r k) = normEntry (fun j => x (ix2 r j)) (g (ix2 (0 : Fin 1) k)) (sc (ix3 (0 : Fin 1) (0 : Fin 1) k)) (sh (ix3 (0 : Fin 1) (0 : Fin 1) k)) k := by
  unfold normEntry
  pointwise [k0_pay5, k0_pay2, k0_pay3, k0_pay4]
theorem pay9_at (g sc sh x) (r : Fin 1024) (k : Fin 2048) :
    k0_pay9 (F := Ideal) (k0_pay2 g) (k0_pay3 sc) (k0_pay4 sh) (k0_pay6 x) (k0_pay7 x) k0_pay8 (ix2 r k) = normEntry (fun j => x (ix2 r j)) (g (ix2 (0 : Fin 1) k)) (sc (ix3 (0 : Fin 1) (0 : Fin 1) k)) (sh (ix3 (0 : Fin 1) (0 : Fin 1) k)) k := by
  unfold normEntry
  pointwise [k0_pay9, k0_pay2, k0_pay3, k0_pay4, k0_pay6, k0_pay7, k0_pay8]

end Cert.Kernel2Ideal.Value
end
-- ==== Proof.UpPoint.lean ====
module

public import proofs.«01_k».proof.Proof.UpBody

@[expose] public section

set_option maxRecDepth 16384
noncomputable section
open Idealize.ShloMosaic Idealize.ShloMosaic.TcCoe Idealize.SL.Sem

namespace Cert.Kernel2Ideal.Value
open Cert.Kernel2Ideal Cert.Kernel2Ideal.Gen
open Cert.Reference2Ideal.Value (normEntry convEntry gateEntry)

/-- The scratch a tile's first point fills: the normed rows before the tile's, then its own. -/
def fill (x0 : Vec Ideal S1024x2048 .f32) (x1 : Vec Ideal S16x2048 .f32) (x2 : Vec Ideal S1x2048 .f32) (x3 x4 : Vec Ideal S1x1x2048 .f32) : Vec Ideal S1040x2048 .bf16 :=
  View.canon [⟨Rect.unit ![16, 0] ![1024, 2048] inb_S1040x2048_S1024x2048_16_0, k0_pay9 (k0_pay2 x2) (k0_pay3 x3) (k0_pay4 x4) (k0_pay6 x0) (k0_pay7 x0) k0_pay8⟩,
    ⟨Rect.unit ![0, 0] ![16, 2048] inb_S1040x2048_S16x2048_0_0, k0_pay5 x2 x3 x4 x1⟩]

/-- The activation a point writes, of the scratch and its blocks. -/
def actOf (q : grid0.Coords) (S : Vec Ideal S1040x2048 .bf16) (x5 x6 : Vec Ideal S1x2048x512 .bf16) (x7 x8 : Vec Ideal S3x512 .f32) (x9 x10 : Vec Ideal S1x512 .f32) : Vec Ideal S1024x512 .bf16 :=
  View.canon [⟨Rect.unit ![0, 256] ![1024, 256] inb_S1024x512_S1024x256_0_256,
      k0_pay1 (k0_pay26 (k0_pay20 S (k0_pay10 q) (View.ld x5 (Rect.unit ![0, 0, 256] ![1, 2048, 256] inb_S1x2048x512_S1x2048x256_0_0_256)))
          (k0_pay22 (View.ld x7 (Rect.unit ![0, 256] ![3, 256] inb_S3x512_S3x256_0_256))) (k0_pay23 (View.ld x9 (Rect.unit ![0, 256] ![1, 256] inb_S1x512_S1x256_0_256)))
          (k0_pay24 S (k0_pay10 q) (View.ld x5 (Rect.unit ![0, 0, 256] ![1, 2048, 256] inb_S1x2048x512_S1x2048x256_0_0_256))) (k0_pay25 (View.ld x7 (Rect.unit ![0, 256] ![3, 256] inb_S3x512_S3x256_0_256))))
        (k0_pay29 (View.ld x8 (Rect.unit ![0, 256] ![3, 256] inb_S3x512_S3x256_0_256)))
        (k0_pay30 S (k0_pay10 q) (View.ld x6 (Rect.unit ![0, 0, 256] ![1, 2048, 256] inb_S1x2048x512_S1x2048x256_0_0_256)) (View.ld x8 (Rect.unit ![0, 256] ![3, 256] inb_S3x512_S3x256_0_256)) (View.ld x10 (Rect.unit ![0, 256] ![1, 256] inb_S1x512_S1x256_0_256)))
        (k0_pay31 S (k0_pay10 q) (View.ld x6 (Rect.unit ![0, 0, 256] ![1, 2048, 256] inb_S1x2048x512_S1x2048x256_0_0_256)))⟩,
    ⟨Rect.unit ![0, 0] ![1024, 256] inb_S1024x512_S1024x256_0_0,
      k0_pay19 (k0_pay14 (k0_pay11 q S (View.ld x5 (Rect.unit ![0, 0, 0] ![1, 2048, 256] inb_S1x2048x512_S1x2048x256_0_0_0)))
          (k0_pay13 (View.ld x7 (Rect.unit ![0, 0] ![3, 256] inb_S3x512_S3x256_0_0))) (View.ld x9 (Rect.unit ![0, 0] ![1, 256] inb_S1x512_S1x256_0_0)))
        (k0_pay15 S (k0_pay10 q) (View.ld x6 (Rect.unit ![0, 0, 0] ![1, 2048, 256] inb_S1x2048x512_S1x2048x256_0_0_0)))
        (k0_pay17 (View.ld x8 (Rect.unit ![0, 0] ![3, 256] inb_S3x512_S3x256_0_0)))
        (k0_pay18 S (k0_pay10 q) (View.ld x6 (Rect.unit ![0, 0, 0] ![1, 2048, 256] inb_S1x2048x512_S1x2048x256_0_0_0)) (View.ld x8 (Rect.unit ![0, 0] ![3, 256] inb_S3x512_S3x256_0_0)) (View.ld x10 (Rect.unit ![0, 0] ![1, 256] inb_S1x512_S1x256_0_0)))
        1#32⟩]

/-- The last product rows a point writes, of the first half of the columns and of the second. -/
def tailVOf (q : grid0.Coords) (S : Vec Ideal S1040x2048 .bf16) (x5 : Vec Ideal S1x2048x512 .bf16) : Vec Ideal S1x8x512 .f32 :=
  View.canon [⟨Rect.unit ![0, 0, 256] ![1, 8, 256] inb_S1x8x512_S1x8x256_0_0_256, k0_pay21 S (k0_pay10 q) (View.ld x5 (Rect.unit ![0, 0, 256] ![1, 2048, 256] inb_S1x2048x512_S1x2048x256_0_0_256))⟩,
    ⟨Rect.unit ![0, 0, 0] ![1, 8, 256] inb_S1x8x512_S1x8x256_0_0_0, k0_pay12 q S (View.ld x5 (Rect.unit ![0, 0, 0] ![1, 2048, 256] inb_S1x2048x512_S1x2048x256_0_0_0))⟩]
def tailGOf (q : grid0.Coords) (S : Vec Ideal S1040x2048 .bf16) (x6 : Vec Ideal S1x2048x512 .bf16) : Vec Ideal S1x8x512 .f32 :=
  View.canon [⟨Rect.unit ![0, 0, 256] ![1, 8, 256] inb_S1x8x512_S1x8x256_0_0_256, k0_pay28 S (k0_pay10 q) (View.ld x6 (Rect.unit ![0, 0, 256] ![1, 2048, 256] inb_S1x2048x512_S1x2048x256_0_0_256))⟩,
    ⟨Rect.unit ![0, 0, 0] ![1, 8, 256] inb_S1x8x512_S1x8x256_0_0_0, k0_pay16 S (k0_pay10 q) (View.ld x6 (Rect.unit ![0, 0, 0] ![1, 2048, 256] inb_S1x2048x512_S1x2048x256_0_0_0))⟩]

/-- Reading the filled scratch back whole gives what was filled in. -/
theorem fill_read (x0 : Vec Ideal S1024x2048 .f32) (x1 : Vec Ideal S16x2048 .f32) (x2 : Vec Ideal S1x2048 .f32) (x3 x4 : Vec Ideal S1x1x2048 .f32) :
    (View.whole cc0_scratch0).readCov [⟨Rect.unit ![16, 0] ![1024, 2048] inb_S1040x2048_S1024x2048_16_0, k0_pay9 (F := Ideal) (k0_pay2 x2) (k0_pay3 x3) (k0_pay4 x4) (k0_pay6 x0) (k0_pay7 x0) k0_pay8⟩,
      ⟨Rect.unit ![0, 0] ![16, 2048] inb_S1040x2048_S16x2048_0_0, k0_pay5 x2 x3 x4 x1⟩] (Rect.unit ![0, 0] ![1040, 2048] inb_S1040x2048_S1040x2048_0_0).toLoadRect
      = fill x0 x1 x2 x3 x4 := by
  rw [View.readCov_eq_canon_ld _ _ _ (fun y => View.cover_of_tiledBy _ ![16, 2048] (by sl_kernel_rfl) y)]
  exact View.ld_unit_lit' _ _ (by decide)

variable (m : (ℓ : Loc nD τ sig) → Buf (Elt Ideal) ℓ)

/-- The scratch after a point. -/
def scratch (c : Dev nD) (t : Fin cfg0.N) : Vec Ideal S1040x2048 .bf16 := (outsAt0 m c t.val t.isLt).2.2.2

theorem scratch_A (c : Dev nD) (t : Fin cfg0.N) (h : t.val % 11 = 0) :
    scratch m c t = fill (iblk m c 0 t) (iblk m c 1 t) (iblk m c 2 t) (iblk m c 3 t) (iblk m c 4 t) := by
  unfold scratch
  rw [outsAt0_A m c t h]
  frame_out
theorem scratch_B (c : Dev nD) (t : Fin cfg0.N) (h : ¬ t.val % 11 = 0) :
    scratch m c t = scratch m c ⟨t.val - 1, by have := t.isLt; omega⟩ := by
  unfold scratch
  rw [outsAt0_B m c t h]
  rfl

theorem act_eq (c : Dev nD) (t : Fin cfg0.N) :
    (outsAt0 m c t.val t.isLt).1 = actOf (grid0.coords t) (scratch m c t) (iblk m c 5 t) (iblk m c 6 t) (iblk m c 7 t) (iblk m c 8 t) (iblk m c 9 t) (iblk m c 10 t) := by
  by_cases h : t.val % 11 = 0
  · rw [scratch_A m c t h, outsAt0_A m c t h]
    frame_out
    exact congrArg (fun S => actOf (grid0.coords t) S (iblk m c 5 t) (iblk m c 6 t) (iblk m c 7 t) (iblk m c 8 t) (iblk m c 9 t) (iblk m c 10 t)) (fill_read _ _ _ _ _)
  · rw [scratch_B m c t h, outsAt0_B m c t h]
    frame_out
    exact congrArg (fun S => actOf (grid0.coords t) S (iblk m c 5 t) (iblk m c 6 t) (iblk m c 7 t) (iblk m c 8 t) (iblk m c 9 t) (iblk m c 10 t)) ((Memref.isWhole_whole _).read_unread _)
theorem tailV_eq (c : Dev nD) (t : Fin cfg0.N) :
    (outsAt0 m c t.val t.isLt).2.1 = tailVOf (grid0.coords t) (scratch m c t) (iblk m c 5 t) := by
  by_cases h : t.val % 11 = 0
  · rw [scratch_A m c t h, outsAt0_A m c t h]
    frame_out
    exact congrArg (fun S => tailVOf (grid0.coords t) S (iblk m c 5 t)) (fill_read _ _ _ _ _)
  · rw [scratch_B m c t h, outsAt0_B m c t h]
    frame_out
    exact congrArg (fun S => tailVOf (grid0.coords t) S (iblk m c 5 t)) ((Memref.isWhole_whole _).read_unread _)
theorem tailG_eq (c : Dev nD) (t : Fin cfg0.N) :
    (outsAt0 m c t.val t.isLt).2.2.1 = tailGOf (grid0.coords t) (scratch m c t) (iblk m c 6 t) := by
  by_cases h : t.val % 11 = 0
  · rw [scratch_A m c t h, outsAt0_A m c t h]
    frame_out
    exact congrArg (fun S => tailGOf (grid0.coords t) S (iblk m c 6 t)) (fill_read _ _ _ _ _)
  · rw [scratch_B m c t h, outsAt0_B m c t h]
    frame_out
    exact congrArg (fun S => tailGOf (grid0.coords t) S (iblk m c 6 t)) ((Memref.isWhole_whole _).read_unread _)

end Cert.Kernel2Ideal.Value
end
-- ==== Proof.UpAt.lean ====
module

public import proofs.«01_k».proof.Proof.UpPoint

@[expose] public section

set_option maxRecDepth 16384
noncomputable section
open Idealize.ShloMosaic Idealize.ShloMosaic.TcCoe Idealize.SL.Sem

namespace Cert.Kernel2Ideal.Value
open Cert.Kernel2Ideal Cert.Kernel2Ideal.Gen
open Cert.Reference2Ideal.Value (normEntry convEntry gateEntry)

/-- A column of the first half of a block, and of the second. -/
abbrev lo (n : Fin 256) : Fin 512 := ⟨n, by omega⟩
abbrev hi (n : Fin 256) : Fin 512 := ⟨256 + n, by omega⟩

/-- Half of a block, read where it lies. -/
theorem w_lo (x : Vec Ideal S1x2048x512 .bf16) (k : Fin 2048) (n : Fin 256) :
    View.ld x (Rect.unit ![0, 0, 0] ![1, 2048, 256] inb_S1x2048x512_S1x2048x256_0_0_0) (ix3 (0 : Fin 1) k n) = x (ix3 (0 : Fin 1) k (lo n)) := by
  rw [View.ld_unit]
  pointwise []
theorem w_hi (x : Vec Ideal S1x2048x512 .bf16) (k : Fin 2048) (n : Fin 256) :
    View.ld x (Rect.unit ![0, 0, 256] ![1, 2048, 256] inb_S1x2048x512_S1x2048x256_0_0_256) (ix3 (0 : Fin 1) k n) = x (ix3 (0 : Fin 1) k (hi n)) := by
  rw [View.ld_unit]
  pointwise []
theorem c_lo (x : Vec Ideal S3x512 .f32) (k : Fin 3) (n : Fin 256) :
    View.ld x (Rect.unit ![0, 0] ![3, 256] inb_S3x512_S3x256_0_0) (ix2 k n) = x (ix2 k (lo n)) := by
  rw [View.ld_unit]
  pointwise []
theorem c_hi (x : Vec Ideal S3x512 .f32) (k : Fin 3) (n : Fin 256) :
    View.ld x (Rect.unit ![0, 256] ![3, 256] inb_S3x512_S3x256_0_256) (ix2 k n) = x (ix2 k (hi n)) := by
  rw [View.ld_unit]
  pointwise []
theorem b_lo (x : Vec Ideal S1x512 .f32) (n : Fin 256) :
    View.ld x (Rect.unit ![0, 0] ![1, 256] inb_S1x512_S1x256_0_0) (ix2 (0 : Fin 1) n) = x (ix2 (0 : Fin 1) (lo n)) := by
  rw [View.ld_unit]
  pointwise []
theorem b_hi (x : Vec Ideal S1x512 .f32) (n : Fin 256) :
    View.ld x (Rect.unit ![0, 256] ![1, 256] inb_S1x512_S1x256_0_256) (ix2 (0 : Fin 1) n) = x (ix2 (0 : Fin 1) (hi n)) := by
  rw [View.ld_unit]
  pointwise []

/-- An entry of the masked product over a whole block of columns. -/
def prodAt (q : grid0.Coords) (S : Vec Ideal S1040x2048 .bf16) (w : Vec Ideal S1x2048x512 .bf16) (n : Fin 512) (r : Fin 1040) : EReal :=
  if (q 0 : ℕ) % 2 = 0 ∧ (r : ℕ) < 16 then 0 else ∑ k : Fin 2048, S (ix2 r k) * w (ix3 (0 : Fin 1) k n)

theorem prod_of (q : grid0.Coords) (S : Vec Ideal S1040x2048 .bf16) (w : Vec Ideal S1x2048x256 .bf16) (x : Vec Ideal S1x2048x512 .bf16) (n : Fin 256) (n' : Fin 512)
    (h : ∀ k : Fin 2048, w (ix3 (0 : Fin 1) k n) = x (ix3 (0 : Fin 1) k n')) (r : Fin 1040) : prodEntry S (k0_pay10 q) w r n = prodAt q S x n' r := by
  unfold prodEntry prodAt
  rw [mask_at]
  by_cases hm : (q 0 : ℕ) % 2 = 0 ∧ (r : ℕ) < 16
  · rw [if_pos hm, if_pos hm, if_neg (by decide)]
  · rw [if_neg hm, if_neg hm, if_pos rfl]
    exact Finset.sum_congr rfl fun k _ => Ideal.mul_congr rfl (h k)

theorem prod_lo (q S) (x : Vec Ideal S1x2048x512 .bf16) (r n) :
    prodEntry S (k0_pay10 q) (View.ld x (Rect.unit ![0, 0, 0] ![1, 2048, 256] inb_S1x2048x512_S1x2048x256_0_0_0)) r n = prodAt q S x (lo n) r :=
  prod_of q S _ x n _ (fun k => w_lo x k n) r
theorem prod_hi (q S) (x : Vec Ideal S1x2048x512 .bf16) (r n) :
    prodEntry S (k0_pay10 q) (View.ld x (Rect.unit ![0, 0, 256] ![1, 2048, 256] inb_S1x2048x512_S1x2048x256_0_0_256)) r n = prodAt q S x (hi n) r :=
  prod_of q S _ x n _ (fun k => w_hi x k n) r

/-- An entry of the convolution over a whole block of columns. -/
def convAt (U : Fin 1040 → EReal) (cw : Vec Ideal S3x512 .f32) (cb : Vec Ideal S1x512 .f32) (r : Fin 1024) (n : Fin 512) : EReal :=
  convEntry (U ⟨14 + r, by omega⟩) (U ⟨15 + r, by omega⟩) (U ⟨16 + r, by omega⟩) (cw (ix2 (0 : Fin 3) n)) (cw (ix2 (1 : Fin 3) n)) (cw (ix2 (2 : Fin 3) n)) (cb (ix2 (0 : Fin 1) n))

theorem conv_lo (U V : Fin 1040 → EReal) (h : ∀ r, U r = V r) (x7 : Vec Ideal S3x512 .f32) (x9 : Vec Ideal S1x512 .f32) (r n) :
    convOf U (View.ld x7 (Rect.unit ![0, 0] ![3, 256] inb_S3x512_S3x256_0_0)) (View.ld x9 (Rect.unit ![0, 0] ![1, 256] inb_S1x512_S1x256_0_0)) r n = convAt V x7 x9 r (lo n) := by
  obtain rfl : U = V := funext h
  unfold convOf convAt
  rw [c_lo, c_lo, c_lo, b_lo]
theorem conv_hi (U V : Fin 1040 → EReal) (h : ∀ r, U r = V r) (x7 : Vec Ideal S3x512 .f32) (x9 : Vec Ideal S1x512 .f32) (r n) :
    convOf U (View.ld x7 (Rect.unit ![0, 256] ![3, 256] inb_S3x512_S3x256_0_256)) (View.ld x9 (Rect.unit ![0, 256] ![1, 256] inb_S1x512_S1x256_0_256)) r n = convAt V x7 x9 r (hi n) := by
  obtain rfl : U = V := funext h
  unfold convOf convAt
  rw [c_hi, c_hi, c_hi, b_hi]

/-- The activation a point writes, at an index. -/
theorem act_lo (q S x5 x6 x7 x8 x9 x10) (r : Fin 1024) (n : Fin 256) :
    k0_pay19 (F := Ideal) (k0_pay14 (k0_pay11 q S (View.ld x5 (Rect.unit ![0, 0, 0] ![1, 2048, 256] inb_S1x2048x512_S1x2048x256_0_0_0)))
          (k0_pay13 (View.ld x7 (Rect.unit ![0, 0] ![3, 256] inb_S3x512_S3x256_0_0))) (View.ld x9 (Rect.unit ![0, 0] ![1, 256] inb_S1x512_S1x256_0_0)))
        (k0_pay15 S (k0_pay10 q) (View.ld x6 (Rect.unit ![0, 0, 0] ![1, 2048, 256] inb_S1x2048x512_S1x2048x256_0_0_0)))
        (k0_pay17 (View.ld x8 (Rect.unit ![0, 0] ![3, 256] inb_S3x512_S3x256_0_0)))
        (k0_pay18 S (k0_pay10 q) (View.ld x6 (Rect.unit ![0, 0, 0] ![1, 2048, 256] inb_S1x2048x512_S1x2048x256_0_0_0)) (View.ld x8 (Rect.unit ![0, 0] ![3, 256] inb_S3x512_S3x256_0_0)) (View.ld x10 (Rect.unit ![0, 0] ![1, 256] inb_S1x512_S1x256_0_0)))
        1#32 (ix2 r n)
      = gateEntry (convAt (prodAt q S x6 (lo n)) x8 x10 r (lo n)) (convAt (prodAt q S x5 (lo n)) x7 x9 r (lo n)) := by
  rw [pay19_at, pay14_at]
  rw [conv_lo _ (prodAt q S x6 (lo n)) (fun ρ => (pay15_at _ _ _ _ _).trans (prod_lo q S x6 ρ n)),
    conv_lo _ (prodAt q S x5 (lo n)) (fun ρ => (pay11_at _ _ _ _ _).trans (prod_lo q S x5 ρ n))]
theorem act_hi (q S x5 x6 x7 x8 x9 x10) (r : Fin 1024) (n : Fin 256) :
    k0_pay1 (F := Ideal) (k0_pay26 (k0_pay20 S (k0_pay10 q) (View.ld x5 (Rect.unit ![0, 0, 256] ![1, 2048, 256] inb_S1x2048x512_S1x2048x256_0_0_256)))
          (k0_pay22 (View.ld x7 (Rect.unit ![0, 256] ![3, 256] inb_S3x512_S3x256_0_256))) (k0_pay23 (View.ld x9 (Rect.unit ![0, 256] ![1, 256] inb_S1x512_S1x256_0_256)))
          (k0_pay24 S (k0_pay10 q) (View.ld x5 (Rect.unit ![0, 0, 256] ![1, 2048, 256] inb_S1x2048x512_S1x2048x256_0_0_256))) (k0_pay25 (View.ld x7 (Rect.unit ![0, 256] ![3, 256] inb_S3x512_S3x256_0_256))))
        (k0_pay29 (View.ld x8 (Rect.unit ![0, 256] ![3, 256] inb_S3x512_S3x256_0_256)))
        (k0_pay30 S (k0_pay10 q) (View.ld x6 (Rect.unit ![0, 0, 256] ![1, 2048, 256] inb_S1x2048x512_S1x2048x256_0_0_256)) (View.ld x8 (Rect.unit ![0, 256] ![3, 256] inb_S3x512_S3x256_0_256)) (View.ld x10 (Rect.unit ![0, 256] ![1, 256] inb_S1x512_S1x256_0_256)))
        (k0_pay31 S (k0_pay10 q) (View.ld x6 (Rect.unit ![0, 0, 256] ![1, 2048, 256] inb_S1x2048x512_S1x2048x256_0_0_256))) (ix2 r n)
      = gateEntry (convAt (prodAt q S x6 (hi n)) x8 x10 r (hi n)) (convAt (prodAt q S x5 (hi n)) x7 x9 r (hi n)) := by
  rw [pay1_at, pay26_at]
  rw [conv_hi _ (prodAt q S x6 (hi n)) (fun ρ => (pay27_at _ _ _ _ _).trans (prod_hi q S x6 ρ n)),
    conv_hi _ (prodAt q S x5 (hi n)) (fun ρ => (pay20_at _ _ _ _ _).trans (prod_hi q S x5 ρ n))]

theorem act_at (q S x5 x6 x7 x8 x9 x10) (r : Fin 1024) (n : Fin 512) :
    actOf q S x5 x6 x7 x8 x9 x10 (ix2 r n) = gateEntry (convAt (prodAt q S x6 n) x8 x10 r n) (convAt (prodAt q S x5 n) x7 x9 r n) := by
  unfold actOf
  canon_tiles x h
  · obtain rfl : r = ⟨x 0, x0_lt⟩ := Fin.ext h0
    obtain rfl : n = hi ⟨x 1, x1_lt⟩ := Fin.ext h1
    exact (congrArg _ (eq_ix2 (n0 := 1024) (n1 := 256) x)).trans (act_hi q S x5 x6 x7 x8 x9 x10 ⟨x 0, x0_lt⟩ ⟨x 1, x1_lt⟩)
  · obtain rfl : r = ⟨x 0, x0_lt⟩ := Fin.ext h0
    obtain rfl : n = lo ⟨x 1, x1_lt⟩ := Fin.ext h1
    exact (congrArg _ (eq_ix2 (n0 := 1024) (n1 := 256) x)).trans (act_lo q S x5 x6 x7 x8 x9 x10 ⟨x 0, x0_lt⟩ ⟨x 1, x1_lt⟩)

/-- The last product rows it writes, at an index. -/
theorem tailV_at (q S x5) (r : Fin 8) (n : Fin 512) :
    tailVOf q S x5 (ix3 (0 : Fin 1) r n) = prodAt q S x5 n ⟨1032 + r, by omega⟩ := by
  unfold tailVOf
  canon_tiles x h
  · obtain rfl : r = ⟨x 1, x1_lt⟩ := Fin.ext h1
    obtain rfl : n = hi ⟨x 2, x2_lt⟩ := Fin.ext h2
    have e : x = ix3 (0 : Fin 1) (⟨x 1, x1_lt⟩ : Fin 8) (⟨x 2, x2_lt⟩ : Fin 256) := (eq_ix3 (n0 := 1) (n1 := 8) (n2 := 256) x).trans ((ix3_inj _ _ _ _ _ _).2 ⟨Subsingleton.elim _ _, rfl, rfl⟩)
    exact (congrArg _ e).trans ((pay21_at _ _ _ _ _).trans (prod_hi _ _ _ _ _))
  · obtain rfl : r = ⟨x 1, x1_lt⟩ := Fin.ext h1
    obtain rfl : n = lo ⟨x 2, x2_lt⟩ := Fin.ext h2
    have e : x = ix3 (0 : Fin 1) (⟨x 1, x1_lt⟩ : Fin 8) (⟨x 2, x2_lt⟩ : Fin 256) := (eq_ix3 (n0 := 1) (n1 := 8) (n2 := 256) x).trans ((ix3_inj _ _ _ _ _ _).2 ⟨Subsingleton.elim _ _, rfl, rfl⟩)
    exact (congrArg _ e).trans ((pay12_at _ _ _ _ _).trans (prod_lo _ _ _ _ _))
theorem tailG_at (q S x6) (r : Fin 8) (n : Fin 512) :
    tailGOf q S x6 (ix3 (0 : Fin 1) r n) = prodAt q S x6 n ⟨1032 + r, by omega⟩ := by
  unfold tailGOf
  canon_tiles x h
  · obtain rfl : r = ⟨x 1, x1_lt⟩ := Fin.ext h1
    obtain rfl : n = hi ⟨x 2, x2_lt⟩ := Fin.ext h2
    have e : x = ix3 (0 : Fin 1) (⟨x 1, x1_lt⟩ : Fin 8) (⟨x 2, x2_lt⟩ : Fin 256) := (eq_ix3 (n0 := 1) (n1 := 8) (n2 := 256) x).trans ((ix3_inj _ _ _ _ _ _).2 ⟨Subsingleton.elim _ _, rfl, rfl⟩)
    exact (congrArg _ e).trans ((pay28_at _ _ _ _ _).trans (prod_hi _ _ _ _ _))
  · obtain rfl : r = ⟨x 1, x1_lt⟩ := Fin.ext h1
    obtain rfl : n = lo ⟨x 2, x2_lt⟩ := Fin.ext h2
    have e : x = ix3 (0 : Fin 1) (⟨x 1, x1_lt⟩ : Fin 8) (⟨x 2, x2_lt⟩ : Fin 256) := (eq_ix3 (n0 := 1) (n1 := 8) (n2 := 256) x).trans ((ix3_inj _ _ _ _ _ _).2 ⟨Subsingleton.elim _ _, rfl, rfl⟩)
    exact (congrArg _ e).trans ((pay16_at _ _ _ _ _).trans (prod_lo _ _ _ _ _))

/-- A row of the scratch is a normed row: of the rows before the tile's, or of its own. -/
theorem fill_at (x0 x1 x2 x3 x4) (r : Fin 1040) (k : Fin 2048) :
    fill x0 x1 x2 x3 x4 (ix2 r k) = normEntry (fun j => if h : (r : ℕ) < 16 then x1 (ix2 (⟨r, h⟩ : Fin 16) j) else x0 (ix2 (⟨r - 16, by omega⟩ : Fin 1024) j))
      (x2 (ix2 (0 : Fin 1) k)) (x3 (ix3 (0 : Fin 1) (0 : Fin 1) k)) (x4 (ix3 (0 : Fin 1) (0 : Fin 1) k)) k := by
  unfold fill
  canon_tiles x h using View.cover_of_tiledBy _ ![16, 2048] (by sl_kernel_rfl) _
  · have h0 : (r : ℕ) = 16 + x 0 := h0
    obtain rfl : k = ⟨x 1, x1_lt⟩ := Fin.ext h1
    refine (congrArg _ (eq_ix2 (n0 := 1024) (n1 := 2048) x)).trans ((pay9_at x2 x3 x4 x0 ⟨x 0, x0_lt⟩ ⟨x 1, x1_lt⟩).trans ?_)
    refine congrArg (fun f => normEntry f (x2 (ix2 (0 : Fin 1) ⟨x 1, x1_lt⟩)) (x3 (ix3 (0 : Fin 1) (0 : Fin 1) ⟨x 1, x1_lt⟩)) (x4 (ix3 (0 : Fin 1) (0 : Fin 1) ⟨x 1, x1_lt⟩)) ⟨x 1, x1_lt⟩) (funext fun j => ?_)
    rw [dif_neg (by omega)]
    exact congrArg (fun z => x0 (ix2 z j)) (Fin.ext (by simp only; omega))
  · have h0 : (r : ℕ) = x 0 := h0
    obtain rfl : k = ⟨x 1, x1_lt⟩ := Fin.ext h1
    refine (congrArg _ (eq_ix2 (n0 := 16) (n1 := 2048) x)).trans ((pay5_at x2 x3 x4 x1 ⟨x 0, x0_lt⟩ ⟨x 1, x1_lt⟩).trans ?_)
    refine congrArg (fun f => normEntry f (x2 (ix2 (0 : Fin 1) ⟨x 1, x1_lt⟩)) (x3 (ix3 (0 : Fin 1) (0 : Fin 1) ⟨x 1, x1_lt⟩)) (x4 (ix3 (0 : Fin 1) (0 : Fin 1) ⟨x 1, x1_lt⟩)) ⟨x 1, x1_lt⟩) (funext fun j => ?_)
    rw [dif_pos (by omega)]
    exact congrArg (fun z => x1 (ix2 z j)) (Fin.ext h0.symm)

end Cert.Kernel2Ideal.Value
end
-- ==== Proof.Up.lean ====
module

public import proofs.«01_k».proof.Proof.UpAt

@[expose] public section

set_option maxRecDepth 16384
noncomputable section
open Idealize.ShloMosaic Idealize.ShloMosaic.TcCoe Idealize.SL.Sem

namespace Cert.Kernel2Ideal.Value
open Cert.Kernel2Ideal Cert.Kernel2Ideal.Gen
open Cert.Reference2Ideal.Value (normEntry convEntry gateEntry normed up padded conv gated tailV tailG normed_at up_at padded_at conv_at gated_at)
variable (m : (ℓ : Loc nD τ sig) → Buf (Elt Ideal) ℓ)

/-- The seven arguments: the residual stream, the gain, the shift, the scale, the weights, the taps and their bias. -/
abbrev XX (c : Dev nD) : FVec Ideal S4x2048x2048 .f32 := m ((c : Thread nD τ).loc main_arg0)
abbrev GG (c : Dev nD) : FVec Ideal S4x2048 .f32 := m ((c : Thread nD τ).loc main_arg1)
abbrev SH (c : Dev nD) : FVec Ideal S4x2048 .f32 := m ((c : Thread nD τ).loc main_arg2)
abbrev SC (c : Dev nD) : FVec Ideal S4x2048 .f32 := m ((c : Thread nD τ).loc main_arg3)
abbrev WW (c : Dev nD) : FVec Ideal S4x2048x11264 .f32 := m ((c : Thread nD τ).loc main_arg4)
abbrev CW (c : Dev nD) : FVec Ideal S4x3x11264 .f32 := m ((c : Thread nD τ).loc main_arg5)
abbrev CB (c : Dev nD) : FVec Ideal S4x11264 .f32 := m ((c : Thread nD τ).loc main_arg6)

/-- The normed rows and their projection, of the arguments. -/
abbrev HH (c : Dev nD) : FVec Ideal S4x2048x2048 .f32 := normed (XX m c) (GG m c) (SH m c) (SC m c)
abbrev UU (c : Dev nD) : FVec Ideal S4x2048x11264 .f32 := up (HH m c) (WW m c)

/-- A grid point: the tile of rows, the tile of columns. -/
theorem idxIn : ∀ t : Fin cfg0.N,
    win0_0.index t = ![t.val / 11, 0] ∧ win0_1.index t = ![64 * (t.val / 11) - 1, 0] ∧ win0_2.index t = ![0, 0]
      ∧ win0_3.index t = ![t.val / 22, 0, 0] ∧ win0_4.index t = ![t.val / 22, 0, 0] :=
  (by decide +kernel : ∀ t : Fin grid0.N, _)
theorem idxW : ∀ t : Fin cfg0.N,
    win0_5.index t = ![0, 0, t.val % 11] ∧ win0_6.index t = ![0, 0, t.val % 11 + 11] ∧ win0_7.index t = ![0, t.val % 11]
      ∧ win0_8.index t = ![0, t.val % 11 + 11] ∧ win0_9.index t = ![0, t.val % 11] ∧ win0_10.index t = ![0, t.val % 11 + 11] :=
  (by decide +kernel : ∀ t : Fin grid0.N, _)
theorem idxOut : ∀ t : Fin cfg0.N,
    win0_11.index t = ![t.val / 11, t.val % 11] ∧ win0_12.index t = ![t.val / 11, 0, t.val % 11] ∧ win0_13.index t = ![t.val / 11, 0, t.val % 11]
      ∧ (grid0.coords t 0).val = t.val / 11 :=
  (by decide +kernel : ∀ t : Fin grid0.N, _)

theorem t_lt (t : Fin cfg0.N) : t.val < 88 := t.isLt

/-- The batch of a tile, its column in the first half and in the second. -/
abbrev batchOf (t : Fin cfg0.N) : Fin 4 := ⟨t.val / 22, by have := t_lt t; omega⟩
abbrev colV (t : Fin cfg0.N) (n : Fin 512) : Fin 11264 := ⟨512 * (t.val % 11) + n, by omega⟩
abbrev colG (t : Fin cfg0.N) (n : Fin 512) : Fin 11264 := ⟨5632 + (512 * (t.val % 11) + n), by omega⟩

/-- A row of a batch, as a row of the flat arrays. -/
abbrev rowAt (b : Fin 4) (p : Fin 2048) : Fin 8192 := ⟨2048 * b + p, by omega⟩

/-- The place of a flat row. -/
theorem place (b : Fin 4) (p : Fin 2048) {n : ℕ} (k : Fin n) :
    ix3 (⟨(rowAt b p : ℕ) / 2048, by omega⟩ : Fin 4) (⟨(rowAt b p : ℕ) % 2048, by omega⟩ : Fin 2048) k = ix3 b p k :=
  (ix3_inj _ _ _ _ _ _).2 ⟨Fin.ext (by simp only; omega), Fin.ext (by simp only; omega), rfl⟩

/-- The arrays the call is given, at an index. -/
theorem x_at (c : Dev nD) (b : Fin 4) (p : Fin 2048) (k : Fin 2048) : V m c main_v0 (ix2 (rowAt b p) k) = XX m c (ix3 b p k) := by
  entry_read
  pointwise [hlo_ix]
  exact congrArg (XX m c) (place b p k)
theorem g_at (c : Dev nD) (k : Fin 2048) : V m c main_v3 (ix2 (0 : Fin 1) k) = GG m c (ix2 (0 : Fin 4) k) := by
  entry_read
  pointwise [hlo_ix]
theorem sc_at (c : Dev nD) (b : Fin 4) (k : Fin 2048) : V m c main_v4 (ix3 b (0 : Fin 1) k) = SC m c (ix2 b k) := by
  entry_read
  pointwise [hlo_ix]
theorem sh_at (c : Dev nD) (b : Fin 4) (k : Fin 2048) : V m c main_v5 (ix3 b (0 : Fin 1) k) = SH m c (ix2 b k) := by
  entry_read
  pointwise [hlo_ix]
theorem w_at (c : Dev nD) (l : Fin 4) (k : Fin 2048) (n : Fin 11264) : V m c main_v6 (ix3 l k n) = WW m c (ix3 l k n) := by
  entry_read
  pointwise [hlo_ix]
theorem cw_at (c : Dev nD) (d : Fin 3) (n : Fin 11264) : V m c main_v8 (ix2 d n) = CW m c (ix3 (0 : Fin 4) d n) := by
  entry_read
  pointwise [hlo_ix]
theorem cb_at (c : Dev nD) (n : Fin 11264) : V m c main_v11 (ix2 (0 : Fin 1) n) = CB m c (ix2 (0 : Fin 4) n) := by
  entry_read
  pointwise [hlo_ix]

/-- A grid point's blocks, read where they lie in the arguments. -/
theorem xblock_at (c : Dev nD) (t : Fin cfg0.N) (r : Fin 1024) (k : Fin 2048) :
    iblk m c 0 t (ix2 r k) = XX m c (ix3 (batchOf t) (⟨1024 * (t.val / 11 % 2) + r, by omega⟩ : Fin 2048) k) := by
  have ht := t_lt t
  refine Eq.trans ?_ (x_at m c _ _ _)
  blk_ext [iblk, (idxIn t).1]
  all_goals omega
theorem hblock_at (c : Dev nD) (t : Fin cfg0.N) (h : t.val / 11 % 2 = 1) (r : Fin 16) (k : Fin 2048) :
    iblk m c 1 t (ix2 r k) = XX m c (ix3 (batchOf t) (⟨1008 + r, by omega⟩ : Fin 2048) k) := by
  have ht := t_lt t
  refine Eq.trans ?_ (x_at m c _ _ _)
  blk_ext [iblk, (idxIn t).2.1]
  all_goals omega
theorem gblock_at (c : Dev nD) (t : Fin cfg0.N) (k : Fin 2048) : iblk m c 2 t (ix2 (0 : Fin 1) k) = GG m c (ix2 (0 : Fin 4) k) := by
  refine Eq.trans ?_ (g_at m c _)
  blk_ext [iblk, (idxIn t).2.2.1]
  all_goals omega
theorem scblock_at (c : Dev nD) (t : Fin cfg0.N) (k : Fin 2048) : iblk m c 3 t (ix3 (0 : Fin 1) (0 : Fin 1) k) = SC m c (ix2 (batchOf t) k) := by
  refine Eq.trans ?_ (sc_at m c _ _)
  blk_ext [iblk, (idxIn t).2.2.2.1]
  all_goals omega
theorem shblock_at (c : Dev nD) (t : Fin cfg0.N) (k : Fin 2048) : iblk m c 4 t (ix3 (0 : Fin 1) (0 : Fin 1) k) = SH m c (ix2 (batchOf t) k) := by
  refine Eq.trans ?_ (sh_at m c _ _)
  blk_ext [iblk, (idxIn t).2.2.2.2]
  all_goals omega
theorem wvblock_at (c : Dev nD) (t : Fin cfg0.N) (k : Fin 2048) (n : Fin 512) : iblk m c 5 t (ix3 (0 : Fin 1) k n) = WW m c (ix3 (0 : Fin 4) k (colV t n)) := by
  refine Eq.trans ?_ (w_at m c _ _ _)
  blk_ext [iblk, (idxW t).1]
  all_goals omega
theorem wgblock_at (c : Dev nD) (t : Fin cfg0.N) (k : Fin 2048) (n : Fin 512) : iblk m c 6 t (ix3 (0 : Fin 1) k n) = WW m c (ix3 (0 : Fin 4) k (colG t n)) := by
  refine Eq.trans ?_ (w_at m c _ _ _)
  blk_ext [iblk, (idxW t).2.1]
  all_goals omega
theorem cvblock_at (c : Dev nD) (t : Fin cfg0.N) (d : Fin 3) (n : Fin 512) : iblk m c 7 t (ix2 d n) = CW m c (ix3 (0 : Fin 4) d (colV t n)) := by
  refine Eq.trans ?_ (cw_at m c _ _)
  blk_ext [iblk, (idxW t).2.2.1]
  all_goals omega
theorem cgblock_at (c : Dev nD) (t : Fin cfg0.N) (d : Fin 3) (n : Fin 512) : iblk m c 8 t (ix2 d n) = CW m c (ix3 (0 : Fin 4) d (colG t n)) := by
  refine Eq.trans ?_ (cw_at m c _ _)
  blk_ext [iblk, (idxW t).2.2.2.1]
  all_goals omega
theorem bvblock_at (c : Dev nD) (t : Fin cfg0.N) (n : Fin 512) : iblk m c 9 t (ix2 (0 : Fin 1) n) = CB m c (ix2 (0 : Fin 4) (colV t n)) := by
  refine Eq.trans ?_ (cb_at m c _)
  blk_ext [iblk, (idxW t).2.2.2.2.1]
  all_goals omega
theorem bgblock_at (c : Dev nD) (t : Fin cfg0.N) (n : Fin 512) : iblk m c 10 t (ix2 (0 : Fin 1) n) = CB m c (ix2 (0 : Fin 4) (colG t n)) := by
  refine Eq.trans ?_ (cb_at m c _)
  blk_ext [iblk, (idxW t).2.2.2.2.2]
  all_goals omega

/-- A normed entry is the same of the same row and parameters. -/
theorem normEntry_congr {x x' : Fin 2048 → EReal} {g g' sc sc' sh sh' : EReal} {k : Fin 2048} (hx : ∀ j, x j = x' j) (hg : g = g') (hc : sc = sc') (hs : sh = sh') :
    normEntry x g sc sh k = normEntry x' g' sc' sh' k := by
  obtain rfl : x = x' := funext hx
  rw [hg, hc, hs]

/-- What a tile's first point leaves in the scratch, at the rows not masked off, is the normed rows, … -/
theorem scratch_first (c : Dev nD) (t : Fin cfg0.N) (h0 : t.val % 11 = 0) (r : Fin 1040) (k : Fin 2048) (h : ¬ (t.val / 11 % 2 = 0 ∧ (r : ℕ) < 16)) :
    scratch m c t (ix2 r k) = HH m c (ix3 (batchOf t) (⟨1024 * (t.val / 11 % 2) + r - 16, by omega⟩ : Fin 2048) k) := by
  rw [scratch_A m c t h0, fill_at]
  refine Eq.trans ?_ (normed_at _ _ _ _ _ _ _).symm
  refine normEntry_congr (fun j => ?_) (gblock_at m c t k) (scblock_at m c t k) (shblock_at m c t k)
  by_cases hr : (r : ℕ) < 16
  · rw [dif_pos hr]
    refine (hblock_at m c t (by omega) ⟨r, hr⟩ j).trans ?_
    exact congrArg (fun z => XX m c (ix3 (batchOf t) z j)) (Fin.ext (by simp only; omega))
  · rw [dif_neg hr]
    refine (xblock_at m c t ⟨r - 16, by omega⟩ j).trans ?_
    exact congrArg (fun z => XX m c (ix3 (batchOf t) z j)) (Fin.ext (by simp only; omega))

/-- … and the tile's other points keep them. -/
theorem scratch_at (c : Dev nD) (t : Fin cfg0.N) (r : Fin 1040) (k : Fin 2048) (h : ¬ (t.val / 11 % 2 = 0 ∧ (r : ℕ) < 16)) :
    scratch m c t (ix2 r k) = HH m c (ix3 (batchOf t) (⟨1024 * (t.val / 11 % 2) + r - 16, by omega⟩ : Fin 2048) k) := by
  obtain ⟨n, hn⟩ := t
  induction n with
  | zero => exact scratch_first m c ⟨0, hn⟩ rfl r k h
  | succ n ih =>
    by_cases h0 : (n + 1) % 11 = 0
    · exact scratch_first m c ⟨n + 1, hn⟩ h0 r k h
    · have h : ¬ ((n + 1) / 11 % 2 = 0 ∧ (r : ℕ) < 16) := h
      have e : (n + 1) / 11 = n / 11 := by omega
      have hn' : n < cfg0.N := Nat.lt_of_succ_lt hn
      rw [scratch_B m c ⟨n + 1, hn⟩ h0]
      refine (ih hn' (by simp only; omega)).trans (congrArg (HH m c) ((ix3_inj _ _ _ _ _ _).2 ⟨Fin.ext ?_, Fin.ext ?_, rfl⟩))
      · simp only
        omega
      · simp only
        omega

/-- A product entry is the reference's padded projection. -/
theorem prod_eq (c : Dev nD) (t : Fin cfg0.N) (x : Vec Ideal S1x2048x512 .bf16) (n : Fin 512) (col : Fin 11264)
    (hx : ∀ k : Fin 2048, x (ix3 (0 : Fin 1) k n) = WW m c (ix3 (0 : Fin 4) k col)) (r : Fin 1040) (p : Fin 2050) (hp : (p : ℕ) + 14 = 1024 * (t.val / 11 % 2) + r) :
    prodAt (grid0.coords t) (scratch m c t) x n r = padded (UU m c) (ix3 (batchOf t) p col) := by
  rw [padded_at]
  unfold prodAt
  rw [(idxOut t).2.2.2]
  by_cases h : t.val / 11 % 2 = 0 ∧ (r : ℕ) < 16
  · rw [if_pos h, dif_pos (by omega)]
  · rw [if_neg h, dif_neg (by omega)]
    refine Eq.trans ?_ (up_at _ _ _ _ _).symm
    refine Finset.sum_congr rfl fun k _ => Ideal.mul_congr ((scratch_at m c t r k h).trans ?_) (hx k)
    exact congrArg (fun z => HH m c (ix3 (batchOf t) z k)) (Fin.ext (by simp only; omega))

/-- A convolution entry is the reference's. -/
theorem conv_eq (c : Dev nD) (t : Fin cfg0.N) (x : Vec Ideal S1x2048x512 .bf16) (w : Vec Ideal S3x512 .f32) (b : Vec Ideal S1x512 .f32) (n : Fin 512) (col : Fin 11264)
    (hx : ∀ k : Fin 2048, x (ix3 (0 : Fin 1) k n) = WW m c (ix3 (0 : Fin 4) k col)) (hw : ∀ d : Fin 3, w (ix2 d n) = CW m c (ix3 (0 : Fin 4) d col))
    (hb : b (ix2 (0 : Fin 1) n) = CB m c (ix2 (0 : Fin 4) col)) (r : Fin 1024) (p : Fin 2048) (hp : (p : ℕ) = 1024 * (t.val / 11 % 2) + r) :
    convAt (prodAt (grid0.coords t) (scratch m c t) x n) w b r n = conv (padded (UU m c)) (CW m c) (CB m c) (ix3 (batchOf t) p col) := by
  rw [conv_at]
  unfold convAt
  rw [prod_eq m c t x n col hx ⟨14 + r, by omega⟩ ⟨p, by omega⟩ (by simp only; omega), prod_eq m c t x n col hx ⟨15 + r, by omega⟩ ⟨1 + p, by omega⟩ (by simp only; omega),
    prod_eq m c t x n col hx ⟨16 + r, by omega⟩ ⟨2 + p, by omega⟩ (by simp only; omega), hw, hw, hw, hb]

/-- Every grid point's activation at an index of its block is the reference's. -/
theorem act_point (c : Dev nD) (t : Fin cfg0.N) (y : S1024x512.Idx) (i : S8192x5632.Idx)
    (h0 : (i 0 : ℕ) = 1024 * (t.val / 11) + y 0) (h1 : (i 1 : ℕ) = 512 * (t.val % 11) + y 1) :
    (outsAt0 m c t.val t.isLt).1 y = gated (conv (padded (UU m c)) (CW m c) (CB m c)) i := by
  have ht := t_lt t
  have hy0 : (y 0 : ℕ) < 1024 := (y 0).isLt
  have hy1 : (y 1 : ℕ) < 512 := (y 1).isLt
  have ey : y = ix2 (⟨y 0, hy0⟩ : Fin 1024) (⟨y 1, hy1⟩ : Fin 512) := eq_ix2 (n0 := 1024) (n1 := 512) y
  have ei : i = ix2 (⟨1024 * (t.val / 11) + y 0, by omega⟩ : Fin 8192) (⟨512 * (t.val % 11) + y 1, by omega⟩ : Fin 5632) :=
    (eq_ix2 (n0 := 8192) (n1 := 5632) i).trans ((ix2_inj _ _ _ _).2 ⟨Fin.ext h0, Fin.ext h1⟩)
  rw [ei, gated_at, act_eq]
  refine (congrArg _ ey).trans ((act_at _ _ _ _ _ _ _ _ ⟨y 0, hy0⟩ ⟨y 1, hy1⟩).trans ?_)
  have eb : (⟨(1024 * (t.val / 11) + (y 0 : ℕ)) / 2048, by omega⟩ : Fin 4) = batchOf t := Fin.ext (by simp only; omega)
  simp only [eb]
  refine congr (congrArg gateEntry ?_) ?_
  · exact conv_eq m c t _ _ _ ⟨y 1, hy1⟩ (colG t ⟨y 1, hy1⟩) (fun k => wgblock_at m c t k _) (fun d => cgblock_at m c t d _) (bgblock_at m c t _) ⟨y 0, hy0⟩ ⟨(1024 * (t.val / 11) + (y 0 : ℕ)) % 2048, by omega⟩ (by simp only; omega)
  · exact conv_eq m c t _ _ _ ⟨y 1, hy1⟩ (colV t ⟨y 1, hy1⟩) (fun k => wvblock_at m c t k _) (fun d => cvblock_at m c t d _) (bvblock_at m c t _) ⟨y 0, hy0⟩ ⟨(1024 * (t.val / 11) + (y 0 : ℕ)) % 2048, by omega⟩ (by simp only; omega)

/-- A tail entry is the reference's row. -/
theorem tail_eq (c : Dev nD) (t : Fin cfg0.N) (x : Vec Ideal S1x2048x512 .bf16) (n : Fin 512) (col : Fin 11264)
    (hx : ∀ k : Fin 2048, x (ix3 (0 : Fin 1) k n) = WW m c (ix3 (0 : Fin 4) k col)) (r : Fin 8) (b : Fin 4) (hb : (b : ℕ) = t.val / 22) (p : Fin 2048) (hp : (p : ℕ) = t.val / 11 % 2 * 1024 + (1016 + r)) :
    prodAt (grid0.coords t) (scratch m c t) x n ⟨1032 + r, by omega⟩ = UU m c (ix3 b p col) := by
  rw [prod_eq m c t x n col hx ⟨1032 + r, by omega⟩ ⟨2 + p, by omega⟩ (by simp only; omega), padded_at, dif_neg (by simp only; omega)]
  exact congrArg (UU m c) ((ix3_inj _ _ _ _ _ _).2 ⟨Fin.ext hb.symm, Fin.ext (by simp only; omega), rfl⟩)

theorem tailV_point (c : Dev nD) (t : Fin cfg0.N) (y : S1x8x512.Idx) (i : S8x8x5632.Idx)
    (h0 : (i 0 : ℕ) = t.val / 11) (h1 : (i 1 : ℕ) = y 1) (h2 : (i 2 : ℕ) = 512 * (t.val % 11) + y 2) :
    (outsAt0 m c t.val t.isLt).2.1 y = tailV (UU m c) i := by
  have ht := t_lt t
  have hy1 : (y 1 : ℕ) < 8 := (y 1).isLt
  have hy2 : (y 2 : ℕ) < 512 := (y 2).isLt
  have ey : y = ix3 (0 : Fin 1) (⟨y 1, hy1⟩ : Fin 8) (⟨y 2, hy2⟩ : Fin 512) := (eq_ix3 (n0 := 1) (n1 := 8) (n2 := 512) y).trans ((ix3_inj _ _ _ _ _ _).2 ⟨Subsingleton.elim _ _, rfl, rfl⟩)
  have ei : i = ix3 (⟨t.val / 11, by omega⟩ : Fin 8) (⟨y 1, hy1⟩ : Fin 8) (⟨512 * (t.val % 11) + y 2, by omega⟩ : Fin 5632) :=
    (eq_ix3 (n0 := 8) (n1 := 8) (n2 := 5632) i).trans ((ix3_inj _ _ _ _ _ _).2 ⟨Fin.ext h0, Fin.ext h1, Fin.ext h2⟩)
  rw [ei, Cert.Reference2Ideal.Value.tailV_at, tailV_eq]
  refine (congrArg _ ey).trans ((tailV_at _ _ _ ⟨y 1, hy1⟩ ⟨y 2, hy2⟩).trans ?_)
  exact tail_eq m c t _ _ _ (fun k => wvblock_at m c t k _) _ _ (by simp only; omega) _ rfl

theorem tailG_point (c : Dev nD) (t : Fin cfg0.N) (y : S1x8x512.Idx) (i : S8x8x5632.Idx)
    (h0 : (i 0 : ℕ) = t.val / 11) (h1 : (i 1 : ℕ) = y 1) (h2 : (i 2 : ℕ) = 512 * (t.val % 11) + y 2) :
    (outsAt0 m c t.val t.isLt).2.2.1 y = tailG (UU m c) i := by
  have ht := t_lt t
  have hy1 : (y 1 : ℕ) < 8 := (y 1).isLt
  have hy2 : (y 2 : ℕ) < 512 := (y 2).isLt
  have ey : y = ix3 (0 : Fin 1) (⟨y 1, hy1⟩ : Fin 8) (⟨y 2, hy2⟩ : Fin 512) := (eq_ix3 (n0 := 1) (n1 := 8) (n2 := 512) y).trans ((ix3_inj _ _ _ _ _ _).2 ⟨Subsingleton.elim _ _, rfl, rfl⟩)
  have ei : i = ix3 (⟨t.val / 11, by omega⟩ : Fin 8) (⟨y 1, hy1⟩ : Fin 8) (⟨512 * (t.val % 11) + y 2, by omega⟩ : Fin 5632) :=
    (eq_ix3 (n0 := 8) (n1 := 8) (n2 := 5632) i).trans ((ix3_inj _ _ _ _ _ _).2 ⟨Fin.ext h0, Fin.ext h1, Fin.ext h2⟩)
  rw [ei, Cert.Reference2Ideal.Value.tailG_at, tailG_eq]
  refine (congrArg _ ey).trans ((tailG_at _ _ _ ⟨y 1, hy1⟩ ⟨y 2, hy2⟩).trans ?_)
  exact tail_eq m c t _ _ _ (fun k => wgblock_at m c t k _) _ _ (by simp only; omega) _ rfl

/-- The three result arrays after the run are the reference's results. -/
theorem final_act (c : Dev nD) : (dats m 0 c).arrAt 11 cfg0.N = gated (conv (padded (UU m c)) (CW m c) (CB m c)) := by
  refine (dats m 0 c).arrAt_eq_of_covers 11 _ (by decide +kernel) fun t _ y => ?_
  blk_simp
  rw [after0_11]
  refine act_point m c t y _ ?_ ?_
  · blk_simp [(idxOut t).1]
    omega
  · blk_simp [(idxOut t).1]
    omega
theorem final_tailV (c : Dev nD) : (dats m 0 c).arrAt 12 cfg0.N = tailV (UU m c) := by
  refine (dats m 0 c).arrAt_eq_of_covers 12 _ (by decide +kernel) fun t _ y => ?_
  blk_simp
  rw [after0_12]
  have hy0 : (y 0 : ℕ) < 1 := (y 0).isLt
  refine tailV_point m c t y _ ?_ ?_ ?_
  all_goals blk_simp [(idxOut t).2.1]
  all_goals omega
theorem final_tailG (c : Dev nD) : (dats m 0 c).arrAt 13 cfg0.N = tailG (UU m c) := by
  refine (dats m 0 c).arrAt_eq_of_covers 13 _ (by decide +kernel) fun t _ y => ?_
  blk_simp
  rw [after0_13]
  have hy0 : (y 0 : ℕ) < 1 := (y 0).isLt
  refine tailG_point m c t y _ ?_ ?_ ?_
  all_goals blk_simp [(idxOut t).2.2.1]
  all_goals omega

end Cert.Kernel2Ideal.Value
end
-- ==== Proof.Down.lean ====
module

public import proofs.«01_k».proof.Proof.Gen.Kernel3Ideal.Value
public import proofs.«01_k».proof.Proof.Gen.Reference3Ideal.Run
public import Idealize.ShloMosaic.Lib.Pointwise
public import Idealize.ShloMosaic.Lib.Pipeline.ValueKit

@[expose] public section

set_option maxRecDepth 16384
noncomputable section
open Idealize.ShloMosaic Idealize.ShloMosaic.TcCoe Idealize.SL.Sem

namespace Cert.Reference3Ideal.Value
open Cert.Reference3Ideal Cert.Reference3Ideal.Gen

/-- The down projection as the reference computes it, its gate and its residual with it. -/
def down (a : FVec Ideal S4x2048x5632 .f32) (x : FVec Ideal S4x2048x2048 .f32) (g : FVec Ideal S4x2048 .f32) (w : FVec Ideal S4x5632x2048 .f32) : FVec Ideal S8192x2048 .f32 :=
  shapeCast _ (addf x (mulf (broadcastInDim S4x2048x2048 ![0, 1, 2] bcast_S4x1x2048_S4x2048x2048_0_1_2 (broadcastInDim S4x1x2048 ![0, 2] bcast_S4x2048_S4x1x2048_0_2 g)) (Host.dotGeneral dot_S4x2048x5632_S5632x2048_S4x2048x2048_2_0_01_1_n_n none a (shapeCast _ (extractStridedSlice S1x5632x2048 ![0, 0, 0] w slices_S4x5632x2048_S1x5632x2048_0_0_0) shapeCasts_S1x5632x2048_S5632x2048)))) shapeCasts_S4x2048x2048_S8192x2048

/-- One entry of it: row `r` of batch `b`, column `n`. -/
def entry (a : FVec Ideal S4x2048x5632 .f32) (x : FVec Ideal S4x2048x2048 .f32) (g : FVec Ideal S4x2048 .f32) (w : FVec Ideal S4x5632x2048 .f32)
    (b : Fin 4) (r : Fin 2048) (n : Fin 2048) : EReal :=
  x (ix3 b r n) + g (ix2 b n) * ∑ k : Fin 5632, a (ix3 b r k) * w (ix3 (0 : Fin 4) k n)

theorem down_at (a x g w) (R : Fin 8192) (n : Fin 2048) :
    down a x g w (ix2 R n) = entry a x g w ⟨R / 2048, by omega⟩ ⟨R % 2048, by omega⟩ n := by
  unfold entry
  pointwise [down]

end Cert.Reference3Ideal.Value

namespace Cert.Kernel3Ideal.Value
open Cert.Kernel3Ideal Cert.Kernel3Ideal.Gen
variable (m : (ℓ : Loc nD τ sig) → Buf (Elt Ideal) ℓ)

/-- The four arguments: the activation, the residual, the gate and the weights. -/
abbrev AA (c : Dev nD) : FVec Ideal S4x2048x5632 .f32 := m ((c : Thread nD τ).loc main_arg0)
abbrev XX (c : Dev nD) : FVec Ideal S4x2048x2048 .f32 := m ((c : Thread nD τ).loc main_arg1)
abbrev GG (c : Dev nD) : FVec Ideal S4x2048 .f32 := m ((c : Thread nD τ).loc main_arg2)
abbrev WW (c : Dev nD) : FVec Ideal S4x5632x2048 .f32 := m ((c : Thread nD τ).loc main_arg3)

/-- A grid point: the tile of rows, the tile of columns. -/
theorem idx : ∀ t : Fin cfg0.N,
    win0_0.index t = ![t.val / 4, 0] ∧ win0_1.index t = ![0, 0, t.val % 4] ∧ win0_2.index t = ![t.val / 8, 0, t.val % 4]
      ∧ win0_3.index t = ![t.val / 4, t.val % 4] ∧ win0_4.index t = ![t.val / 4, t.val % 4] :=
  (by decide +kernel : ∀ t : Fin grid0.N, _)

/-- The batch, the row within it and the column of a place in a grid point's block. -/
abbrev batchOf (t : Fin cfg0.N) : Fin 4 := ⟨t.val / 8, by have : t.val < 32 := t.isLt; omega⟩
abbrev posOf (t : Fin cfg0.N) (r : Fin 1024) : Fin 2048 := ⟨1024 * (t.val / 4 % 2) + r, by omega⟩
abbrev colOf (t : Fin cfg0.N) (n : Fin 512) : Fin 2048 := ⟨512 * (t.val % 4) + n, by omega⟩

/-- A row of a batch, as a row of the flat arrays. -/
abbrev rowAt (b : Fin 4) (p : Fin 2048) : Fin 8192 := ⟨2048 * b + p, by omega⟩

/-- The place of a flat row. -/
theorem place (b : Fin 4) (p : Fin 2048) {n : ℕ} (k : Fin n) :
    ix3 (⟨(rowAt b p : ℕ) / 2048, by omega⟩ : Fin 4) (⟨(rowAt b p : ℕ) % 2048, by omega⟩ : Fin 2048) k = ix3 b p k :=
  (ix3_inj _ _ _ _ _ _).2 ⟨Fin.ext (by simp only; omega), Fin.ext (by simp only; omega), rfl⟩

/-- The four arrays the call is given, at an index. -/
theorem a_at (c : Dev nD) (b : Fin 4) (p : Fin 2048) (k : Fin 5632) : V m c main_v1 (ix2 (rowAt b p) k) = AA m c (ix3 b p k) := by
  entry_read
  pointwise [hlo_ix]
  exact congrArg (AA m c) (place b p k)
theorem w_at (c : Dev nD) (l : Fin 4) (k : Fin 5632) (n : Fin 2048) : V m c main_v2 (ix3 l k n) = WW m c (ix3 l k n) := by
  entry_read
  pointwise [hlo_ix]
theorem g_at (c : Dev nD) (b : Fin 4) (n : Fin 2048) : V m c main_v3 (ix3 b (0 : Fin 1) n) = GG m c (ix2 b n) := by
  entry_read
  pointwise [hlo_ix]
theorem x_at (c : Dev nD) (b : Fin 4) (p : Fin 2048) (n : Fin 2048) : V m c main_v4 (ix2 (rowAt b p) n) = XX m c (ix3 b p n) := by
  entry_read
  pointwise [hlo_ix]
  exact congrArg (XX m c) (place b p n)

/-- A grid point's blocks, read where they lie in the arguments. -/
theorem ablock_at (c : Dev nD) (t : Fin cfg0.N) (r : Fin 1024) (k : Fin 5632) :
    iblk m c 0 t (ix2 r k) = AA m c (ix3 (batchOf t) (posOf t r) k) := by
  have ht : t.val < 32 := t.isLt
  refine Eq.trans ?_ (a_at m c _ _ _)
  blk_ext [iblk, (idx t).1]
  all_goals omega
theorem wblock_at (c : Dev nD) (t : Fin cfg0.N) (k : Fin 5632) (n : Fin 512) :
    iblk m c 1 t (ix3 (0 : Fin 1) k n) = WW m c (ix3 (0 : Fin 4) k (colOf t n)) := by
  refine Eq.trans ?_ (w_at m c _ _ _)
  blk_ext [iblk, (idx t).2.1]
  all_goals omega
theorem gblock_at (c : Dev nD) (t : Fin cfg0.N) (n : Fin 512) :
    iblk m c 2 t (ix3 (0 : Fin 1) (0 : Fin 1) n) = GG m c (ix2 (batchOf t) (colOf t n)) := by
  refine Eq.trans ?_ (g_at m c _ _)
  blk_ext [iblk, (idx t).2.2.1]
  all_goals omega
theorem xblock_at (c : Dev nD) (t : Fin cfg0.N) (r : Fin 1024) (n : Fin 512) :
    iblk m c 3 t (ix2 r n) = XX m c (ix3 (batchOf t) (posOf t r) (colOf t n)) := by
  have ht : t.val < 32 := t.isLt
  refine Eq.trans ?_ (x_at m c _ _ _)
  blk_ext [iblk, (idx t).2.2.2.1]
  all_goals omega

/-- What the body leaves at an index of its block, of the blocks it reads. -/
theorem out_at (x0 : Vec Ideal S1024x5632 .bf16) (x1 : Vec Ideal S1x5632x512 .bf16) (x2 : Vec Ideal S1x1x512 .f32) (x3 : Vec Ideal S1024x512 .f32) (r : Fin 1024) (n : Fin 512) :
    out0_4 x0 x1 x2 x3 (ix2 r n) = x3 (ix2 r n) + x2 (ix3 (0 : Fin 1) (0 : Fin 1) n) * ∑ k : Fin 5632, x0 (ix2 r k) * x1 (ix3 (0 : Fin 1) k n) := by
  frame_out [out0_4]
  pointwise [k0_pay1]

/-- Every grid point's result at an index of its block is the reference's entry. -/
theorem point (c : Dev nD) (t : Fin cfg0.N) (y : S1024x512.Idx) (i : S8192x2048.Idx)
    (h0 : (i 0 : ℕ) = 1024 * (t.val / 4) + y 0) (h1 : (i 1 : ℕ) = 512 * (t.val % 4) + y 1) :
    out0_4 (iblk m c 0 t) (iblk m c 1 t) (iblk m c 2 t) (iblk m c 3 t) y = Cert.Reference3Ideal.Value.down (AA m c) (XX m c) (GG m c) (WW m c) i := by
  have ht : t.val < 32 := t.isLt
  have hy0 : (y 0 : ℕ) < 1024 := (y 0).isLt
  have hy1 : (y 1 : ℕ) < 512 := (y 1).isLt
  have ey : y = ix2 (⟨y 0, hy0⟩ : Fin 1024) (⟨y 1, hy1⟩ : Fin 512) := eq_ix2 (n0 := 1024) (n1 := 512) y
  have ei : i = ix2 (⟨1024 * (t.val / 4) + y 0, by omega⟩ : Fin 8192) (⟨512 * (t.val % 4) + y 1, by omega⟩ : Fin 2048) :=
    (eq_ix2 (n0 := 8192) (n1 := 2048) i).trans ((ix2_inj _ _ _ _).2 ⟨Fin.ext h0, Fin.ext h1⟩)
  rw [ei, Cert.Reference3Ideal.Value.down_at]
  have e := out_at (iblk m c 0 t) (iblk m c 1 t) (iblk m c 2 t) (iblk m c 3 t) ⟨y 0, hy0⟩ ⟨y 1, hy1⟩
  rw [← ey] at e
  refine e.trans ?_
  have eb : (⟨(1024 * (t.val / 4) + (y 0 : ℕ)) / 2048, by omega⟩ : Fin 4) = batchOf t := Fin.ext (by simp only; omega)
  have ep : (⟨(1024 * (t.val / 4) + (y 0 : ℕ)) % 2048, by omega⟩ : Fin 2048) = posOf t ⟨y 0, hy0⟩ := Fin.ext (by simp only; omega)
  simp only [eb, ep]
  exact Ideal.add_congr (xblock_at m c t _ _) (Ideal.mul_congr (gblock_at m c t _)
    (Finset.sum_congr rfl fun k _ => Ideal.mul_congr (ablock_at m c t _ k) (wblock_at m c t k _)))

/-- The result array after the run is the reference's result. -/
theorem final (c : Dev nD) : (dats m 0 c).arrAt 4 cfg0.N = Cert.Reference3Ideal.Value.down (AA m c) (XX m c) (GG m c) (WW m c) := by
  refine (dats m 0 c).arrAt_eq_of_covers 4 _ (by decide +kernel) fun t _ y => ?_
  blk_simp
  rw [after0_4]
  refine point m c t y _ ?_ ?_
  · blk_simp [(idx t).2.2.2.2]
    omega
  · blk_simp [(idx t).2.2.2.2]
    omega

end Cert.Kernel3Ideal.Value
end
-- ==== Proof.Out.lean ====
module

public import proofs.«01_k».proof.Proof.Gen.Kernel4Ideal.Value
public import proofs.«01_k».proof.Proof.Gen.Reference4Ideal.Run
public import Idealize.ShloMosaic.Lib.Pointwise
public import Idealize.ShloMosaic.Lib.Pipeline.ValueKit

@[expose] public section

set_option maxRecDepth 16384
noncomputable section
open Idealize.ShloMosaic Idealize.ShloMosaic.TcCoe Idealize.SL.Sem

namespace Cert.Reference4Ideal.Value
open Cert.Reference4Ideal Cert.Reference4Ideal.Gen

/-- A sum over the mixing width is the sum over the three mixers' parts of it. -/
theorem sum_parts (f : Fin 2048 → EReal) :
    ∑ k : Fin 2048, f k = ∑ k : Fin 1024, f ⟨k, by omega⟩ + ∑ k : Fin 512, f ⟨1024 + k, by omega⟩ + ∑ k : Fin 512, f ⟨1536 + k, by omega⟩ :=
  (Fin.sum_univ_add (a := 1536) (b := 512) f).trans (congrArg (· + _) (Fin.sum_univ_add (a := 1024) (b := 512) fun k : Fin 1536 => f ⟨k, by omega⟩))

/-- The three mixers' outputs side by side. -/
abbrev mixed (a : FVec Ideal S4x2048x1024 .f32) (b c : FVec Ideal S4x2048x512 .f32) : FVec Ideal S4x2048x2048 .f32 :=
  concatenate S4x2048x2048 2 [⟨S4x2048x1024, a⟩, ⟨S4x2048x512, b⟩, ⟨S4x2048x512, c⟩] concatenates_S4x2048x1024_S4x2048x512_S4x2048x512_S4x2048x2048_d2

/-- The output projection as the reference computes it, its gate and its residual with it. -/
def out (ya : FVec Ideal S4x2048x1024 .f32) (yb yc : FVec Ideal S4x2048x512 .f32) (x : FVec Ideal S4x2048x2048 .f32) (g : FVec Ideal S4x2048 .f32) (w : FVec Ideal S4x2048x2048 .f32) : FVec Ideal S8192x2048 .f32 :=
  shapeCast _ (addf x (mulf (broadcastInDim S4x2048x2048 ![0, 1, 2] bcast_S4x1x2048_S4x2048x2048_0_1_2 (broadcastInDim S4x1x2048 ![0, 2] bcast_S4x2048_S4x1x2048_0_2 g)) (Host.dotGeneral dot_S4x2048x2048_S2048x2048_S4x2048x2048_2_0_01_1_n_n none (mixed ya yb yc) (shapeCast _ (extractStridedSlice S1x2048x2048 ![0, 0, 0] w slices_S4x2048x2048_S1x2048x2048_0_0_0) shapeCasts_S1x2048x2048_S2048x2048)))) shapeCasts_S4x2048x2048_S8192x2048

theorem mixed_at (ya yb yc) (b : Fin 4) (r : Fin 2048) (k : Fin 2048) :
    mixed ya yb yc (ix3 b r k) = if h1 : (k : ℕ) < 1024 then ya (ix3 b r (⟨k, h1⟩ : Fin 1024))
      else if h2 : (k : ℕ) - 1024 < 512 then yb (ix3 b r (⟨k - 1024, h2⟩ : Fin 512))
      else yc (ix3 b r (⟨k - 1024 - 512, by omega⟩ : Fin 512)) := by
  pointwise
theorem mixed_a (ya yb yc) (b : Fin 4) (r : Fin 2048) (k : Fin 1024) : mixed ya yb yc (ix3 b r ⟨k, by omega⟩) = ya (ix3 b r k) :=
  (mixed_at ..).trans (dif_pos k.isLt)
theorem mixed_b (ya yb yc) (b : Fin 4) (r : Fin 2048) (k : Fin 512) : mixed ya yb yc (ix3 b r ⟨1024 + k, by omega⟩) = yb (ix3 b r k) :=
  (mixed_at ..).trans ((dif_neg (by simp only; omega)).trans ((dif_pos (by simp only; omega)).trans
    (congrArg yb ((ix3_inj _ _ _ _ _ _).2 ⟨rfl, rfl, Fin.ext (by simp only; omega)⟩))))
theorem mixed_c (ya yb yc) (b : Fin 4) (r : Fin 2048) (k : Fin 512) : mixed ya yb yc (ix3 b r ⟨1536 + k, by omega⟩) = yc (ix3 b r k) :=
  (mixed_at ..).trans ((dif_neg (by simp only; omega)).trans ((dif_neg (by simp only; omega)).trans
    (congrArg yc ((ix3_inj _ _ _ _ _ _).2 ⟨rfl, rfl, Fin.ext (by simp only; omega)⟩))))

/-- One entry of it: row `r` of batch `b`, column `n`. -/
def entry (ya : FVec Ideal S4x2048x1024 .f32) (yb yc : FVec Ideal S4x2048x512 .f32) (x : FVec Ideal S4x2048x2048 .f32) (g : FVec Ideal S4x2048 .f32) (w : FVec Ideal S4x2048x2048 .f32)
    (b : Fin 4) (r : Fin 2048) (n : Fin 2048) : EReal :=
  x (ix3 b r n) + g (ix2 b n) * (∑ k : Fin 1024, ya (ix3 b r k) * w (ix3 (0 : Fin 4) (⟨k, by omega⟩ : Fin 2048) n)
    + ∑ k : Fin 512, yb (ix3 b r k) * w (ix3 (0 : Fin 4) (⟨1024 + k, by omega⟩ : Fin 2048) n)
    + ∑ k : Fin 512, yc (ix3 b r k) * w (ix3 (0 : Fin 4) (⟨1536 + k, by omega⟩ : Fin 2048) n))

theorem out_sum (ya yb yc x g w) (R : Fin 8192) (n : Fin 2048) :
    out ya yb yc x g w (ix2 R n) = x (ix3 (⟨R / 2048, by omega⟩ : Fin 4) (⟨R % 2048, by omega⟩ : Fin 2048) n) + g (ix2 (⟨R / 2048, by omega⟩ : Fin 4) n)
      * ∑ k : Fin 2048, mixed ya yb yc (ix3 (⟨R / 2048, by omega⟩ : Fin 4) (⟨R % 2048, by omega⟩ : Fin 2048) k) * w (ix3 (0 : Fin 4) k n) := by
  unfold out
  generalize mixed ya yb yc = y
  pointwise

theorem out_at (ya yb yc x g w) (R : Fin 8192) (n : Fin 2048) :
    out ya yb yc x g w (ix2 R n) = entry ya yb yc x g w ⟨R / 2048, by omega⟩ ⟨R % 2048, by omega⟩ n := by
  rw [out_sum, sum_parts]
  simp only [mixed_a, mixed_b, mixed_c]
  rfl

end Cert.Reference4Ideal.Value

namespace Cert.Kernel4Ideal.Value
open Cert.Kernel4Ideal Cert.Kernel4Ideal.Gen
variable (m : (ℓ : Loc nD τ sig) → Buf (Elt Ideal) ℓ)

/-- The six arguments: the three mixers' outputs, the residual, the gate and the weights. -/
abbrev YA (c : Dev nD) : FVec Ideal S4x2048x1024 .f32 := m ((c : Thread nD τ).loc main_arg0)
abbrev YB (c : Dev nD) : FVec Ideal S4x2048x512 .f32 := m ((c : Thread nD τ).loc main_arg1)
abbrev YC (c : Dev nD) : FVec Ideal S4x2048x512 .f32 := m ((c : Thread nD τ).loc main_arg2)
abbrev XX (c : Dev nD) : FVec Ideal S4x2048x2048 .f32 := m ((c : Thread nD τ).loc main_arg3)
abbrev GG (c : Dev nD) : FVec Ideal S4x2048 .f32 := m ((c : Thread nD τ).loc main_arg4)
abbrev WW (c : Dev nD) : FVec Ideal S4x2048x2048 .f32 := m ((c : Thread nD τ).loc main_arg5)

/-- A grid point: the tile of rows, the tile of columns. -/
theorem idx : ∀ t : Fin cfg0.N,
    win0_0.index t = ![t.val / 4, 0] ∧ win0_1.index t = ![t.val / 4, 0] ∧ win0_2.index t = ![t.val / 4, 0] ∧ win0_3.index t = ![0, 0, t.val % 4]
      ∧ win0_4.index t = ![t.val / 8, 0, t.val % 4] ∧ win0_5.index t = ![t.val / 4, t.val % 4] ∧ win0_6.index t = ![t.val / 4, t.val % 4] :=
  (by decide +kernel : ∀ t : Fin grid0.N, _)

/-- The batch, the row within it and the column of a place in a grid point's block. -/
abbrev batchOf (t : Fin cfg0.N) : Fin 4 := ⟨t.val / 8, by have : t.val < 32 := t.isLt; omega⟩
abbrev posOf (t : Fin cfg0.N) (r : Fin 1024) : Fin 2048 := ⟨1024 * (t.val / 4 % 2) + r, by omega⟩
abbrev colOf (t : Fin cfg0.N) (n : Fin 512) : Fin 2048 := ⟨512 * (t.val % 4) + n, by omega⟩

/-- A row of a batch, as a row of the flat arrays. -/
abbrev rowAt (b : Fin 4) (p : Fin 2048) : Fin 8192 := ⟨2048 * b + p, by omega⟩

/-- The place of a flat row. -/
theorem place (b : Fin 4) (p : Fin 2048) {n : ℕ} (k : Fin n) :
    ix3 (⟨(rowAt b p : ℕ) / 2048, by omega⟩ : Fin 4) (⟨(rowAt b p : ℕ) % 2048, by omega⟩ : Fin 2048) k = ix3 b p k :=
  (ix3_inj _ _ _ _ _ _).2 ⟨Fin.ext (by simp only; omega), Fin.ext (by simp only; omega), rfl⟩

/-- The arrays the call is given, at an index. -/
theorem ya_at (c : Dev nD) (b : Fin 4) (p : Fin 2048) (k : Fin 1024) : V m c main_v1 (ix2 (rowAt b p) k) = YA m c (ix3 b p k) := by
  entry_read
  pointwise [hlo_ix]
  exact congrArg (YA m c) (place b p k)
theorem yb_at (c : Dev nD) (b : Fin 4) (p : Fin 2048) (k : Fin 512) : V m c main_v3 (ix2 (rowAt b p) k) = YB m c (ix3 b p k) := by
  entry_read
  pointwise [hlo_ix]
  exact congrArg (YB m c) (place b p k)
theorem yc_at (c : Dev nD) (b : Fin 4) (p : Fin 2048) (k : Fin 512) : V m c main_v5 (ix2 (rowAt b p) k) = YC m c (ix3 b p k) := by
  entry_read
  pointwise [hlo_ix]
  exact congrArg (YC m c) (place b p k)
theorem w_at (c : Dev nD) (l : Fin 4) (k : Fin 2048) (n : Fin 2048) : V m c main_v6 (ix3 l k n) = WW m c (ix3 l k n) := by
  entry_read
  pointwise [hlo_ix]
theorem g_at (c : Dev nD) (b : Fin 4) (n : Fin 2048) : V m c main_v7 (ix3 b (0 : Fin 1) n) = GG m c (ix2 b n) := by
  entry_read
  pointwise [hlo_ix]
theorem x_at (c : Dev nD) (b : Fin 4) (p : Fin 2048) (k : Fin 2048) : V m c main_v8 (ix2 (rowAt b p) k) = XX m c (ix3 b p k) := by
  entry_read
  pointwise [hlo_ix]
  exact congrArg (XX m c) (place b p k)

/-- A grid point's blocks, read where they lie in the arguments. -/
theorem yablock_at (c : Dev nD) (t : Fin cfg0.N) (r : Fin 1024) (k : Fin 1024) :
    iblk m c 0 t (ix2 r k) = YA m c (ix3 (batchOf t) (posOf t r) k) := by
  have ht : t.val < 32 := t.isLt
  refine Eq.trans ?_ (ya_at m c _ _ _)
  blk_ext [iblk, (idx t).1]
  all_goals omega
theorem ybblock_at (c : Dev nD) (t : Fin cfg0.N) (r : Fin 1024) (k : Fin 512) :
    iblk m c 1 t (ix2 r k) = YB m c (ix3 (batchOf t) (posOf t r) k) := by
  have ht : t.val < 32 := t.isLt
  refine Eq.trans ?_ (yb_at m c _ _ _)
  blk_ext [iblk, (idx t).2.1]
  all_goals omega
theorem ycblock_at (c : Dev nD) (t : Fin cfg0.N) (r : Fin 1024) (k : Fin 512) :
    iblk m c 2 t (ix2 r k) = YC m c (ix3 (batchOf t) (posOf t r) k) := by
  have ht : t.val < 32 := t.isLt
  refine Eq.trans ?_ (yc_at m c _ _ _)
  blk_ext [iblk, (idx t).2.2.1]
  all_goals omega
theorem wblock_at (c : Dev nD) (t : Fin cfg0.N) (k : Fin 2048) (n : Fin 512) :
    iblk m c 3 t (ix3 (0 : Fin 1) k n) = WW m c (ix3 (0 : Fin 4) k (colOf t n)) := by
  refine Eq.trans ?_ (w_at m c _ _ _)
  blk_ext [iblk, (idx t).2.2.2.1]
  all_goals omega
theorem gblock_at (c : Dev nD) (t : Fin cfg0.N) (n : Fin 512) :
    iblk m c 4 t (ix3 (0 : Fin 1) (0 : Fin 1) n) = GG m c (ix2 (batchOf t) (colOf t n)) := by
  refine Eq.trans ?_ (g_at m c _ _)
  blk_ext [iblk, (idx t).2.2.2.2.1]
  all_goals omega
theorem xblock_at (c : Dev nD) (t : Fin cfg0.N) (r : Fin 1024) (k : Fin 512) :
    iblk m c 5 t (ix2 r k) = XX m c (ix3 (batchOf t) (posOf t r) (colOf t k)) := by
  have ht : t.val < 32 := t.isLt
  refine Eq.trans ?_ (x_at m c _ _ _)
  blk_ext [iblk, (idx t).2.2.2.2.2.1]
  all_goals omega

/-- What the body leaves at an index of its block, of the blocks it reads. -/
theorem out_at (x0 : Vec Ideal S1024x1024 .bf16) (x1 x2 : Vec Ideal S1024x512 .bf16) (x3 : Vec Ideal S1x2048x512 .bf16) (x4 : Vec Ideal S1x1x512 .f32) (x5 : Vec Ideal S1024x512 .f32) (r : Fin 1024) (n : Fin 512) :
    out0_6 x0 x1 x2 x3 x4 x5 (ix2 r n) = x5 (ix2 r n) + x4 (ix3 (0 : Fin 1) (0 : Fin 1) n)
      * (∑ k : Fin 1024, x0 (ix2 r k) * x3 (ix3 (0 : Fin 1) (⟨k, by omega⟩ : Fin 2048) n)
        + ∑ k : Fin 512, x1 (ix2 r k) * x3 (ix3 (0 : Fin 1) (⟨1024 + k, by omega⟩ : Fin 2048) n)
        + ∑ k : Fin 512, x2 (ix2 r k) * x3 (ix3 (0 : Fin 1) (⟨1536 + k, by omega⟩ : Fin 2048) n)) := by
  frame_out [out0_6]
  pointwise [k0_pay1]

/-- Every grid point's result at an index of its block is the reference's entry. -/
theorem point (c : Dev nD) (t : Fin cfg0.N) (y : S1024x512.Idx) (i : S8192x2048.Idx)
    (h0 : (i 0 : ℕ) = 1024 * (t.val / 4) + y 0) (h1 : (i 1 : ℕ) = 512 * (t.val % 4) + y 1) :
    out0_6 (iblk m c 0 t) (iblk m c 1 t) (iblk m c 2 t) (iblk m c 3 t) (iblk m c 4 t) (iblk m c 5 t) y = Cert.Reference4Ideal.Value.out (YA m c) (YB m c) (YC m c) (XX m c) (GG m c) (WW m c) i := by
  have ht : t.val < 32 := t.isLt
  have hy0 : (y 0 : ℕ) < 1024 := (y 0).isLt
  have hy1 : (y 1 : ℕ) < 512 := (y 1).isLt
  have ey : y = ix2 (⟨y 0, hy0⟩ : Fin 1024) (⟨y 1, hy1⟩ : Fin 512) := eq_ix2 (n0 := 1024) (n1 := 512) y
  have ei : i = ix2 (⟨1024 * (t.val / 4) + y 0, by omega⟩ : Fin 8192) (⟨512 * (t.val % 4) + y 1, by omega⟩ : Fin 2048) :=
    (eq_ix2 (n0 := 8192) (n1 := 2048) i).trans ((ix2_inj _ _ _ _).2 ⟨Fin.ext h0, Fin.ext h1⟩)
  rw [ei, Cert.Reference4Ideal.Value.out_at]
  have e := out_at (iblk m c 0 t) (iblk m c 1 t) (iblk m c 2 t) (iblk m c 3 t) (iblk m c 4 t) (iblk m c 5 t) ⟨y 0, hy0⟩ ⟨y 1, hy1⟩
  rw [← ey] at e
  refine e.trans ?_
  have eb : (⟨(1024 * (t.val / 4) + (y 0 : ℕ)) / 2048, by omega⟩ : Fin 4) = batchOf t := Fin.ext (by simp only; omega)
  have ep : (⟨(1024 * (t.val / 4) + (y 0 : ℕ)) % 2048, by omega⟩ : Fin 2048) = posOf t ⟨y 0, hy0⟩ := Fin.ext (by simp only; omega)
  simp only [eb, ep]
  exact Ideal.add_congr (xblock_at m c t _ _) (Ideal.mul_congr (gblock_at m c t _) (Ideal.add_congr (Ideal.add_congr
    (Finset.sum_congr rfl fun k _ => Ideal.mul_congr (yablock_at m c t _ k) (wblock_at m c t _ _))
    (Finset.sum_congr rfl fun k _ => Ideal.mul_congr (ybblock_at m c t _ k) (wblock_at m c t _ _)))
    (Finset.sum_congr rfl fun k _ => Ideal.mul_congr (ycblock_at m c t _ k) (wblock_at m c t _ _))))

/-- The result array after the run is the reference's result. -/
theorem final (c : Dev nD) : (dats m 0 c).arrAt 6 cfg0.N = Cert.Reference4Ideal.Value.out (YA m c) (YB m c) (YC m c) (XX m c) (GG m c) (WW m c) := by
  refine (dats m 0 c).arrAt_eq_of_covers 6 _ (by decide +kernel) fun t _ y => ?_
  blk_simp
  rw [after0_6]
  refine point m c t y _ ?_ ?_
  · blk_simp [(idx t).2.2.2.2.2.2]
    omega
  · blk_simp [(idx t).2.2.2.2.2.2]
    omega

end Cert.Kernel4Ideal.Value
end
-- ==== Proof.RefIn.lean ====
module

public import proofs.«01_k».proof.Proof.Gen.Reference5Ideal.Run
public import proofs.«01_k».proof.Proof.RefUp
public import Idealize.ShloMosaic.Lib.Pointwise
public import Idealize.ShloMosaic.Lib.Pipeline.ValueKit

@[expose] public section

set_option maxRecDepth 16384
noncomputable section
open Idealize.ShloMosaic Idealize.ShloMosaic.TcCoe Idealize.SL.Sem

namespace Cert.Reference5Ideal.Value
open Cert.Reference5Ideal Cert.Reference5Ideal.Gen
open Cert.Reference2Ideal.Value (normed)

/-- The input projection of the normed rows. -/
def proj (h : FVec Ideal S4x2048x2048 .f32) (w : FVec Ideal S4x2048x3200 .f32) : FVec Ideal S4x2048x3200 .f32 :=
  Host.dotGeneral dot_S4x2048x2048_S2048x3200_S4x2048x3200_2_0_01_1_n_n none h (shapeCast _ (extractStridedSlice S1x2048x3200 ![0, 0, 0] w slices_S4x2048x3200_S1x2048x3200_0_0_0) shapeCasts_S1x2048x3200_S2048x3200)

/-- Its columns in the call's order, blocks of zeros between them. -/
def laid (u : FVec Ideal S4x2048x3200 .f32) : FVec Ideal S4x2048x3328 .f32 :=
  (concatenate S4x2048x3328 2 [⟨S4x2048x512, ((extractStridedSlice S4x2048x512 ![0, 0, 0] (extractStridedSlice S4x2048x1984 ![0, 0, 704] u slices_S4x2048x3200_S4x2048x1984_0_0_704) slices_S4x2048x1984_S4x2048x512_0_0_0))⟩, ⟨S4x2048x512, ((extractStridedSlice S4x2048x512 ![0, 0, 608] (extractStridedSlice S4x2048x1984 ![0, 0, 704] u slices_S4x2048x3200_S4x2048x1984_0_0_704) slices_S4x2048x1984_S4x2048x512_0_0_608))⟩, ⟨S4x2048x512, ((extractStridedSlice S4x2048x512 ![0, 0, 1120] (extractStridedSlice S4x2048x1984 ![0, 0, 704] u slices_S4x2048x3200_S4x2048x1984_0_0_704) slices_S4x2048x1984_S4x2048x512_0_0_1120))⟩, ⟨S4x2048x96, ((extractStridedSlice S4x2048x96 ![0, 0, 512] (extractStridedSlice S4x2048x1984 ![0, 0, 704] u slices_S4x2048x3200_S4x2048x1984_0_0_704) slices_S4x2048x1984_S4x2048x96_0_0_512))⟩, ⟨S4x2048x32, ((broadcastInDim S4x2048x32 ![] bcast_S_S4x2048x32 (constant S_ .f32 0x00000000#32)))⟩, ⟨S4x2048x96, ((extractStridedSlice S4x2048x96 ![0, 0, 1632] (extractStridedSlice S4x2048x1984 ![0, 0, 704] u slices_S4x2048x3200_S4x2048x1984_0_0_704) slices_S4x2048x1984_S4x2048x96_0_0_1632))⟩, ⟨S4x2048x32, ((broadcastInDim S4x2048x32 ![] bcast_S_S4x2048x32 (constant S_ .f32 0x00000000#32)))⟩, ⟨S4x2048x256, ((extractStridedSlice S4x2048x256 ![0, 0, 1728] (extractStridedSlice S4x2048x1984 ![0, 0, 704] u slices_S4x2048x3200_S4x2048x1984_0_0_704) slices_S4x2048x1984_S4x2048x256_0_0_1728))⟩, ⟨S4x2048x512, ((extractStridedSlice S4x2048x512 ![0, 0, 0] (extractStridedSlice S4x2048x704 ![0, 0, 0] u slices_S4x2048x3200_S4x2048x704_0_0_0) slices_S4x2048x704_S4x2048x512_0_0_0))⟩, ⟨S4x2048x512, ((extractStridedSlice S4x2048x512 ![0, 0, 2688] u slices_S4x2048x3200_S4x2048x512_0_0_2688))⟩, ⟨S4x2048x128, ((extractStridedSlice S4x2048x128 ![0, 0, 512] (extractStridedSlice S4x2048x704 ![0, 0, 0] u slices_S4x2048x3200_S4x2048x704_0_0_0) slices_S4x2048x704_S4x2048x128_0_0_512))⟩, ⟨S4x2048x64, ((extractStridedSlice S4x2048x64 ![0, 0, 640] (extractStridedSlice S4x2048x704 ![0, 0, 0] u slices_S4x2048x3200_S4x2048x704_0_0_0) slices_S4x2048x704_S4x2048x64_0_0_640))⟩, ⟨S4x2048x64, ((broadcastInDim S4x2048x64 ![] bcast_S_S4x2048x64 (constant S_ .f32 0x00000000#32)))⟩] concatenates_S4x2048x512_S4x2048x512_S4x2048x512_S4x2048x96_S4x2048x32_S4x2048x96_S4x2048x32_S4x2048x256_S4x2048x512_S4x2048x512_S4x2048x128_S4x2048x64_S4x2048x64_S4x2048x3328_d2)

/-- The rows of all the sequences, one after another. -/
def flatRows (u : FVec Ideal S4x2048x3328 .f32) : FVec Ideal S8192x3328 .f32 := shapeCast _ u shapeCasts_S4x2048x3328_S8192x3328

/-- The call's result, of its arguments. -/
def projected (x : FVec Ideal S4x2048x2048 .f32) (g sh sc : FVec Ideal S4x2048 .f32) (w : FVec Ideal S4x2048x3200 .f32) : FVec Ideal S8192x3328 .f32 :=
  flatRows (laid (proj (normed x g sh sc) w))

section
variable (m : (ℓ : Loc nD τ sig) → Buf (Elt Ideal) ℓ)
/-- The reference's own term is the above. -/
theorem res_eq (c : Dev nD) : res_main_v42 m c = projected (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  unfold res_main_v42
  rfl
end

/-- The column of the projection at each place of the result's row; zero where there is none. -/
def lay (f : Fin 3200 → EReal) (n : Fin 3328) : EReal :=
  if h : (n : ℕ) < 512 then f ⟨704 + n, by omega⟩
  else if h : (n : ℕ) < 1024 then f ⟨1312 + (n - 512), by omega⟩
  else if h : (n : ℕ) < 1536 then f ⟨1824 + (n - 1024), by omega⟩
  else if h : (n : ℕ) < 1632 then f ⟨1216 + (n - 1536), by omega⟩
  else if _h : (n : ℕ) < 1664 then 0
  else if h : (n : ℕ) < 1760 then f ⟨2336 + (n - 1664), by omega⟩
  else if _h : (n : ℕ) < 1792 then 0
  else if h : (n : ℕ) < 2048 then f ⟨2432 + (n - 1792), by omega⟩
  else if h : (n : ℕ) < 2560 then f ⟨n - 2048, by omega⟩
  else if h : (n : ℕ) < 3072 then f ⟨2688 + (n - 2560), by omega⟩
  else if h : (n : ℕ) < 3200 then f ⟨512 + (n - 3072), by omega⟩
  else if h : (n : ℕ) < 3264 then f ⟨640 + (n - 3200), by omega⟩
  else 0

/-- The same with the columns that stay together taken together. -/
theorem lay_eq (f : Fin 3200 → EReal) (n : Fin 3328) : lay f n =
  (if h : (n : ℕ) < 512 then f ⟨704 + n, by omega⟩
  else if h : (n : ℕ) < 1536 then f ⟨1312 + (n - 512), by omega⟩
  else if h : (n : ℕ) < 1632 then f ⟨1216 + (n - 1536), by omega⟩
  else if _h : (n : ℕ) < 1664 then 0
  else if h : (n : ℕ) < 1760 then f ⟨2336 + (n - 1664), by omega⟩
  else if _h : (n : ℕ) < 1792 then 0
  else if h : (n : ℕ) < 2048 then f ⟨2432 + (n - 1792), by omega⟩
  else if h : (n : ℕ) < 2560 then f ⟨n - 2048, by omega⟩
  else if h : (n : ℕ) < 3072 then f ⟨2688 + (n - 2560), by omega⟩
  else if h : (n : ℕ) < 3264 then f ⟨512 + (n - 3072), by omega⟩
  else 0) := by
  unfold lay
  by_cases h0 : (n : ℕ) < 512
  · simp only [h0, dif_pos, dif_neg, not_false_eq_true]
  by_cases h1 : (n : ℕ) < 1024
  · have e : (n : ℕ) < 1536 := by omega
    simp only [h0, h1, e, dif_pos, dif_neg, not_false_eq_true]
  by_cases h2 : (n : ℕ) < 1536
  · simp only [h0, h1, h2, dif_pos, dif_neg, not_false_eq_true]
    exact congrArg f (Fin.ext (by simp only; omega))
  by_cases h3 : (n : ℕ) < 1632
  · simp only [h0, h1, h2, h3, dif_pos, dif_neg, not_false_eq_true]
  by_cases h4 : (n : ℕ) < 1664
  · simp only [h0, h1, h2, h3, h4, dif_pos, dif_neg, not_false_eq_true]
  by_cases h5 : (n : ℕ) < 1760
  · simp only [h0, h1, h2, h3, h4, h5, dif_pos, dif_neg, not_false_eq_true]
  by_cases h6 : (n : ℕ) < 1792
  · simp only [h0, h1, h2, h3, h4, h5, h6, dif_pos, dif_neg, not_false_eq_true]
  by_cases h7 : (n : ℕ) < 2048
  · simp only [h0, h1, h2, h3, h4, h5, h6, h7, dif_pos, dif_neg, not_false_eq_true]
  by_cases h8 : (n : ℕ) < 2560
  · simp only [h0, h1, h2, h3, h4, h5, h6, h7, h8, dif_pos, dif_neg, not_false_eq_true]
  by_cases h9 : (n : ℕ) < 3072
  · simp only [h0, h1, h2, h3, h4, h5, h6, h7, h8, h9, dif_pos, dif_neg, not_false_eq_true]
  by_cases h10 : (n : ℕ) < 3200
  · have e : (n : ℕ) < 3264 := by omega
    simp only [h0, h1, h2, h3, h4, h5, h6, h7, h8, h9, h10, e, dif_pos, dif_neg, not_false_eq_true]
  by_cases h11 : (n : ℕ) < 3264
  · simp only [h0, h1, h2, h3, h4, h5, h6, h7, h8, h9, h10, h11, dif_pos, dif_neg, not_false_eq_true]
    exact congrArg f (Fin.ext (by simp only; omega))
  simp only [h0, h1, h2, h3, h4, h5, h6, h7, h8, h9, h10, h11, dif_pos, dif_neg, not_false_eq_true]

theorem proj_at (h w) (b : Fin 4) (p : Fin 2048) (n : Fin 3200) :
    proj h w (ix3 b p n) = ∑ k : Fin 2048, h (ix3 b p k) * w (ix3 (0 : Fin 4) k n) := by
  pointwise [proj]

theorem laid_at (u) (b : Fin 4) (p : Fin 2048) (n : Fin 3328) : laid u (ix3 b p n) = lay (fun j => u (ix3 b p j)) n := by
  unfold lay
  pointwise [laid]
  refine dite_congr (propext ⟨fun _ => by omega, fun _ => by omega⟩) (fun _ => rfl) fun h0 => ?_
  refine dite_congr (propext ⟨fun _ => by omega, fun _ => by omega⟩) (fun _ => congrArg (fun j => u (ix3 b p j)) (Fin.ext (by simp only; omega))) fun h1 => ?_
  refine dite_congr (propext ⟨fun _ => by omega, fun _ => by omega⟩) (fun _ => congrArg (fun j => u (ix3 b p j)) (Fin.ext (by simp only; omega))) fun h2 => ?_
  refine dite_congr (propext ⟨fun _ => by omega, fun _ => by omega⟩) (fun _ => congrArg (fun j => u (ix3 b p j)) (Fin.ext (by simp only; omega))) fun h3 => ?_
  refine dite_congr (propext ⟨fun _ => by omega, fun _ => by omega⟩) (fun _ => rfl) fun h4 => ?_
  refine dite_congr (propext ⟨fun _ => by omega, fun _ => by omega⟩) (fun _ => congrArg (fun j => u (ix3 b p j)) (Fin.ext (by simp only; omega))) fun h5 => ?_
  refine dite_congr (propext ⟨fun _ => by omega, fun _ => by omega⟩) (fun _ => rfl) fun h6 => ?_
  refine dite_congr (propext ⟨fun _ => by omega, fun _ => by omega⟩) (fun _ => congrArg (fun j => u (ix3 b p j)) (Fin.ext (by simp only; omega))) fun h7 => ?_
  refine dite_congr (propext ⟨fun _ => by omega, fun _ => by omega⟩) (fun _ => congrArg (fun j => u (ix3 b p j)) (Fin.ext (by simp only; omega))) fun h8 => ?_
  refine dite_congr (propext ⟨fun _ => by omega, fun _ => by omega⟩) (fun _ => congrArg (fun j => u (ix3 b p j)) (Fin.ext (by simp only; omega))) fun h9 => ?_
  refine dite_congr (propext ⟨fun _ => by omega, fun _ => by omega⟩) (fun _ => congrArg (fun j => u (ix3 b p j)) (Fin.ext (by simp only; omega))) fun h10 => ?_
  refine dite_congr (propext ⟨fun _ => by omega, fun _ => by omega⟩) (fun _ => congrArg (fun j => u (ix3 b p j)) (Fin.ext (by simp only; omega))) fun h11 => ?_
  rfl

theorem flatRows_at (u) (R : Fin 8192) (n : Fin 3328) :
    flatRows u (ix2 R n) = u (ix3 (⟨R / 2048, by omega⟩ : Fin 4) (⟨R % 2048, by omega⟩ : Fin 2048) n) := by
  pointwise [flatRows]

/-- A place of the result's row has a column of the projection, or zero. -/
theorem lay_cases (n : Fin 3328) : (∃ j : Fin 3200, ∀ f, lay f n = f j) ∨ ∀ f, lay f n = 0 := by
  by_cases h0 : (n : ℕ) < 512
  · exact .inl ⟨⟨704 + n, by omega⟩, fun f => (dif_pos h0)⟩
  by_cases h1 : (n : ℕ) < 1024
  · exact .inl ⟨⟨1312 + (n - 512), by omega⟩, fun f => (dif_neg h0).trans (dif_pos h1)⟩
  by_cases h2 : (n : ℕ) < 1536
  · exact .inl ⟨⟨1824 + (n - 1024), by omega⟩, fun f => (dif_neg h0).trans ((dif_neg h1).trans (dif_pos h2))⟩
  by_cases h3 : (n : ℕ) < 1632
  · exact .inl ⟨⟨1216 + (n - 1536), by omega⟩, fun f => (dif_neg h0).trans ((dif_neg h1).trans ((dif_neg h2).trans (dif_pos h3)))⟩
  by_cases h4 : (n : ℕ) < 1664
  · exact .inr (fun f => (dif_neg h0).trans ((dif_neg h1).trans ((dif_neg h2).trans ((dif_neg h3).trans (dif_pos h4)))))
  by_cases h5 : (n : ℕ) < 1760
  · exact .inl ⟨⟨2336 + (n - 1664), by omega⟩, fun f => (dif_neg h0).trans ((dif_neg h1).trans ((dif_neg h2).trans ((dif_neg h3).trans ((dif_neg h4).trans (dif_pos h5)))))⟩
  by_cases h6 : (n : ℕ) < 1792
  · exact .inr (fun f => (dif_neg h0).trans ((dif_neg h1).trans ((dif_neg h2).trans ((dif_neg h3).trans ((dif_neg h4).trans ((dif_neg h5).trans (dif_pos h6)))))))
  by_cases h7 : (n : ℕ) < 2048
  · exact .inl ⟨⟨2432 + (n - 1792), by omega⟩, fun f => (dif_neg h0).trans ((dif_neg h1).trans ((dif_neg h2).trans ((dif_neg h3).trans ((dif_neg h4).trans ((dif_neg h5).trans ((dif_neg h6).trans (dif_pos h7)))))))⟩
  by_cases h8 : (n : ℕ) < 2560
  · exact .inl ⟨⟨n - 2048, by omega⟩, fun f => (dif_neg h0).trans ((dif_neg h1).trans ((dif_neg h2).trans ((dif_neg h3).trans ((dif_neg h4).trans ((dif_neg h5).trans ((dif_neg h6).trans ((dif_neg h7).trans (dif_pos h8))))))))⟩
  by_cases h9 : (n : ℕ) < 3072
  · exact .inl ⟨⟨2688 + (n - 2560), by omega⟩, fun f => (dif_neg h0).trans ((dif_neg h1).trans ((dif_neg h2).trans ((dif_neg h3).trans ((dif_neg h4).trans ((dif_neg h5).trans ((dif_neg h6).trans ((dif_neg h7).trans ((dif_neg h8).trans (dif_pos h9)))))))))⟩
  by_cases h10 : (n : ℕ) < 3200
  · exact .inl ⟨⟨512 + (n - 3072), by omega⟩, fun f => (dif_neg h0).trans ((dif_neg h1).trans ((dif_neg h2).trans ((dif_neg h3).trans ((dif_neg h4).trans ((dif_neg h5).trans ((dif_neg h6).trans ((dif_neg h7).trans ((dif_neg h8).trans ((dif_neg h9).trans (dif_pos h10))))))))))⟩
  by_cases h11 : (n : ℕ) < 3264
  · exact .inl ⟨⟨640 + (n - 3200), by omega⟩, fun f => (dif_neg h0).trans ((dif_neg h1).trans ((dif_neg h2).trans ((dif_neg h3).trans ((dif_neg h4).trans ((dif_neg h5).trans ((dif_neg h6).trans ((dif_neg h7).trans ((dif_neg h8).trans ((dif_neg h9).trans ((dif_neg h10).trans (dif_pos h11)))))))))))⟩
  exact .inr (fun f => (dif_neg h0).trans ((dif_neg h1).trans ((dif_neg h2).trans ((dif_neg h3).trans ((dif_neg h4).trans ((dif_neg h5).trans ((dif_neg h6).trans ((dif_neg h7).trans ((dif_neg h8).trans ((dif_neg h9).trans ((dif_neg h10).trans ((dif_neg h11)))))))))))))

/-- A sum of products whose weights are laid out is the sums laid out. -/
theorem lay_sum (a : Fin 2048 → EReal) (w : Fin 2048 → Fin 3200 → EReal) (n : Fin 3328) :
    ∑ k : Fin 2048, a k * lay (w k) n = lay (fun j => ∑ k : Fin 2048, a k * w k j) n := by
  rcases lay_cases n with ⟨j, h⟩ | h
  · simp only [h]
  · simp only [h, mul_zero, Finset.sum_const_zero]

theorem projected_at (x g sh sc w) (R : Fin 8192) (n : Fin 3328) :
    projected x g sh sc w (ix2 R n) = ∑ k : Fin 2048, normed x g sh sc (ix3 (⟨R / 2048, by omega⟩ : Fin 4) (⟨R % 2048, by omega⟩ : Fin 2048) k) * lay (fun j => w (ix3 (0 : Fin 4) k j)) n := by
  unfold projected
  rw [flatRows_at, laid_at, lay_sum]
  simp only [proj_at]

end Cert.Reference5Ideal.Value
end
-- ==== Proof.In.lean ====
module

public import proofs.«01_k».proof.Proof.Gen.Kernel5Ideal.Value
public import proofs.«01_k».proof.Proof.RefIn
public import Idealize.ShloMosaic.Lib.Pointwise
public import Idealize.ShloMosaic.Lib.Pipeline.ValueKit

@[expose] public section

set_option maxRecDepth 16384
noncomputable section
open Idealize.ShloMosaic Idealize.ShloMosaic.TcCoe Idealize.SL.Sem

namespace Cert.Kernel5Ideal.Value
open Cert.Kernel5Ideal Cert.Kernel5Ideal.Gen
open Cert.Reference2Ideal.Value (normed normEntry normed_at)
open Cert.Reference5Ideal.Value (projected projected_at lay lay_eq)
variable (m : (ℓ : Loc nD τ sig) → Buf (Elt Ideal) ℓ)

/-- The five arguments: the residual stream, the gain, the shift, the scale and the weights. -/
abbrev XX (c : Dev nD) : FVec Ideal S4x2048x2048 .f32 := m ((c : Thread nD τ).loc main_arg0)
abbrev GG (c : Dev nD) : FVec Ideal S4x2048 .f32 := m ((c : Thread nD τ).loc main_arg1)
abbrev SH (c : Dev nD) : FVec Ideal S4x2048 .f32 := m ((c : Thread nD τ).loc main_arg2)
abbrev SC (c : Dev nD) : FVec Ideal S4x2048 .f32 := m ((c : Thread nD τ).loc main_arg3)
abbrev WW (c : Dev nD) : FVec Ideal S4x2048x3200 .f32 := m ((c : Thread nD τ).loc main_arg4)

/-- The normed rows. -/
abbrev HH (c : Dev nD) : FVec Ideal S4x2048x2048 .f32 := normed (XX m c) (GG m c) (SH m c) (SC m c)

/-- A grid point: the tile of rows, the tile of columns. -/
theorem idx : ∀ t : Fin cfg0.N,
    win0_0.index t = ![t.val / 2, 0] ∧ win0_1.index t = ![0, 0] ∧ win0_2.index t = ![t.val / 8, 0, 0] ∧ win0_3.index t = ![t.val / 8, 0, 0]
      ∧ win0_4.index t = ![0, 0, t.val % 2] ∧ win0_5.index t = ![t.val / 2, t.val % 2] :=
  (by decide +kernel : ∀ t : Fin grid0.N, _)

theorem t_lt (t : Fin cfg0.N) : t.val < 32 := t.isLt

/-- The batch, the row within it and the column of a place in a grid point's block. -/
abbrev batchOf (t : Fin cfg0.N) : Fin 4 := ⟨t.val / 8, by have := t_lt t; omega⟩
abbrev posOf (t : Fin cfg0.N) (r : Fin 512) : Fin 2048 := ⟨512 * (t.val / 2 % 4) + r, by omega⟩
abbrev colOf (t : Fin cfg0.N) (n : Fin 1664) : Fin 3328 := ⟨1664 * (t.val % 2) + n, by omega⟩

/-- A row of a batch, as a row of the flat arrays. -/
abbrev rowAt (b : Fin 4) (p : Fin 2048) : Fin 8192 := ⟨2048 * b + p, by omega⟩

/-- The place of a flat row. -/
theorem place (b : Fin 4) (p : Fin 2048) {n : ℕ} (k : Fin n) :
    ix3 (⟨(rowAt b p : ℕ) / 2048, by omega⟩ : Fin 4) (⟨(rowAt b p : ℕ) % 2048, by omega⟩ : Fin 2048) k = ix3 b p k :=
  (ix3_inj _ _ _ _ _ _).2 ⟨Fin.ext (by simp only; omega), Fin.ext (by simp only; omega), rfl⟩

/-- The weights' columns in the call's order, blocks of zeros between them. -/
def packed (w : FVec Ideal S4x2048x3200 .f32) : FVec Ideal S4x2048x3328 .f32 :=
  concatenate S4x2048x3328 2 [⟨S4x2048x512, extractStridedSlice S4x2048x512 ![0, 0, 704] w slices_S4x2048x3200_S4x2048x512_0_0_704⟩, ⟨S4x2048x1024, extractStridedSlice S4x2048x1024 ![0, 0, 1312] w slices_S4x2048x3200_S4x2048x1024_0_0_1312⟩, ⟨S4x2048x96, extractStridedSlice S4x2048x96 ![0, 0, 1216] w slices_S4x2048x3200_S4x2048x96_0_0_1216⟩, ⟨S4x2048x32, broadcastInDim S4x2048x32 ![] bcast_S_S4x2048x32 (constant (F := Ideal) S_ .f32 0x00000000#32)⟩, ⟨S4x2048x96, extractStridedSlice S4x2048x96 ![0, 0, 2336] w slices_S4x2048x3200_S4x2048x96_0_0_2336⟩, ⟨S4x2048x32, broadcastInDim S4x2048x32 ![] bcast_S_S4x2048x32 (constant (F := Ideal) S_ .f32 0x00000000#32)⟩, ⟨S4x2048x256, extractStridedSlice S4x2048x256 ![0, 0, 2432] w slices_S4x2048x3200_S4x2048x256_0_0_2432⟩, ⟨S4x2048x512, extractStridedSlice S4x2048x512 ![0, 0, 0] w slices_S4x2048x3200_S4x2048x512_0_0_0⟩, ⟨S4x2048x512, extractStridedSlice S4x2048x512 ![0, 0, 2688] w slices_S4x2048x3200_S4x2048x512_0_0_2688⟩, ⟨S4x2048x192, extractStridedSlice S4x2048x192 ![0, 0, 512] w slices_S4x2048x3200_S4x2048x192_0_0_512⟩, ⟨S4x2048x64, broadcastInDim S4x2048x64 ![] bcast_S_S4x2048x64 (constant (F := Ideal) S_ .f32 0x00000000#32)⟩] concatenates_S4x2048x512_S4x2048x1024_S4x2048x96_S4x2048x32_S4x2048x96_S4x2048x32_S4x2048x256_S4x2048x512_S4x2048x512_S4x2048x192_S4x2048x64_S4x2048x3328_d2

theorem packed_at (w : FVec Ideal S4x2048x3200 .f32) (l : Fin 4) (k : Fin 2048) (n : Fin 3328) : packed w (ix3 l k n) = lay (fun j => w (ix3 l k j)) n := by
  rw [lay_eq]
  pointwise [packed]
  refine dite_congr (propext ⟨fun _ => by omega, fun _ => by omega⟩) (fun _ => rfl) fun h0 => ?_
  refine dite_congr (propext ⟨fun _ => by omega, fun _ => by omega⟩) (fun _ => rfl) fun h1 => ?_
  refine dite_congr (propext ⟨fun _ => by omega, fun _ => by omega⟩) (fun _ => congrArg (fun j => w (ix3 l k j)) (Fin.ext (by simp only; omega))) fun h2 => ?_
  refine dite_congr (propext ⟨fun _ => by omega, fun _ => by omega⟩) (fun _ => rfl) fun h3 => ?_
  refine dite_congr (propext ⟨fun _ => by omega, fun _ => by omega⟩) (fun _ => congrArg (fun j => w (ix3 l k j)) (Fin.ext (by simp only; omega))) fun h4 => ?_
  refine dite_congr (propext ⟨fun _ => by omega, fun _ => by omega⟩) (fun _ => rfl) fun h5 => ?_
  refine dite_congr (propext ⟨fun _ => by omega, fun _ => by omega⟩) (fun _ => congrArg (fun j => w (ix3 l k j)) (Fin.ext (by simp only; omega))) fun h6 => ?_
  refine dite_congr (propext ⟨fun _ => by omega, fun _ => by omega⟩) (fun _ => congrArg (fun j => w (ix3 l k j)) (Fin.ext (by simp only; omega))) fun h7 => ?_
  refine dite_congr (propext ⟨fun _ => by omega, fun _ => by omega⟩) (fun _ => congrArg (fun j => w (ix3 l k j)) (Fin.ext (by simp only; omega))) fun h8 => ?_
  refine dite_congr (propext ⟨fun _ => by omega, fun _ => by omega⟩) (fun _ => congrArg (fun j => w (ix3 l k j)) (Fin.ext (by simp only; omega))) fun h9 => ?_
  rfl

theorem V_w (c : Dev nD) : V m c main_v18 = (truncf .bf16 (packed (WW m c)) bitsLt_bf16_f32 : FVec Ideal S4x2048x3328 .bf16) := by
  unfold V
  after_results
  rfl

/-- The arrays the call is given, at an index. -/
theorem x_at (c : Dev nD) (b : Fin 4) (p : Fin 2048) (k : Fin 2048) : V m c main_v0 (ix2 (rowAt b p) k) = XX m c (ix3 b p k) := by
  entry_read
  pointwise [hlo_ix]
  exact congrArg (XX m c) (place b p k)
theorem g_at (c : Dev nD) (k : Fin 2048) : V m c main_v3 (ix2 (0 : Fin 1) k) = GG m c (ix2 (0 : Fin 4) k) := by
  entry_read
  pointwise [hlo_ix]
theorem sc_at (c : Dev nD) (b : Fin 4) (k : Fin 2048) : V m c main_v4 (ix3 b (0 : Fin 1) k) = SC m c (ix2 b k) := by
  entry_read
  pointwise [hlo_ix]
theorem sh_at (c : Dev nD) (b : Fin 4) (k : Fin 2048) : V m c main_v5 (ix3 b (0 : Fin 1) k) = SH m c (ix2 b k) := by
  entry_read
  pointwise [hlo_ix]
theorem w_at (c : Dev nD) (l : Fin 4) (k : Fin 2048) (n : Fin 3328) : V m c main_v18 (ix3 l k n) = lay (fun j => WW m c (ix3 l k j)) n := by
  rw [V_w]
  exact packed_at (WW m c) l k n

/-- A grid point's blocks, read where they lie in the arguments. -/
theorem xblock_at (c : Dev nD) (t : Fin cfg0.N) (r : Fin 512) (k : Fin 2048) :
    iblk m c 0 t (ix2 r k) = XX m c (ix3 (batchOf t) (posOf t r) k) := by
  have ht := t_lt t
  refine Eq.trans ?_ (x_at m c _ _ _)
  blk_ext [iblk, (idx t).1]
  all_goals omega
theorem gblock_at (c : Dev nD) (t : Fin cfg0.N) (k : Fin 2048) : iblk m c 1 t (ix2 (0 : Fin 1) k) = GG m c (ix2 (0 : Fin 4) k) := by
  refine Eq.trans ?_ (g_at m c _)
  blk_ext [iblk, (idx t).2.1]
  all_goals omega
theorem scblock_at (c : Dev nD) (t : Fin cfg0.N) (k : Fin 2048) : iblk m c 2 t (ix3 (0 : Fin 1) (0 : Fin 1) k) = SC m c (ix2 (batchOf t) k) := by
  refine Eq.trans ?_ (sc_at m c _ _)
  blk_ext [iblk, (idx t).2.2.1]
  all_goals omega
theorem shblock_at (c : Dev nD) (t : Fin cfg0.N) (k : Fin 2048) : iblk m c 3 t (ix3 (0 : Fin 1) (0 : Fin 1) k) = SH m c (ix2 (batchOf t) k) := by
  refine Eq.trans ?_ (sh_at m c _ _)
  blk_ext [iblk, (idx t).2.2.2.1]
  all_goals omega
theorem wblock_at (c : Dev nD) (t : Fin cfg0.N) (k : Fin 2048) (n : Fin 1664) :
    iblk m c 4 t (ix3 (0 : Fin 1) k n) = lay (fun j => WW m c (ix3 (0 : Fin 4) k j)) (colOf t n) := by
  refine Eq.trans ?_ (w_at m c _ _ _)
  blk_ext [iblk, (idx t).2.2.2.2.1]
  all_goals omega

/-- The normed rows and the product the body computes. -/
theorem pay1_at (x g sc sh) (r : Fin 512) (k : Fin 2048) :
    k0_pay1 (F := Ideal) x g sc sh (ix2 r k) = normEntry (fun j => x (ix2 r j)) (g (ix2 (0 : Fin 1) k)) (sc (ix3 (0 : Fin 1) (0 : Fin 1) k)) (sh (ix3 (0 : Fin 1) (0 : Fin 1) k)) k := by
  unfold normEntry
  pointwise [k0_pay1]
theorem pay2_at (S w) (r : Fin 512) (n : Fin 1664) :
    k0_pay2 (F := Ideal) S w (ix2 r n) = ∑ k : Fin 2048, S (ix2 r k) * w (ix3 (0 : Fin 1) k n) := by
  pointwise [k0_pay2]

/-- The scratch after a point: a tile's first point fills it, its second keeps it. -/
def scratch (c : Dev nD) (t : Fin cfg0.N) : Vec Ideal S512x2048 .bf16 := (outsAt0 m c t.val t.isLt).2

theorem scratch_A (c : Dev nD) (t : Fin cfg0.N) (h : t.val % 2 = 0) :
    scratch m c t = k0_pay1 (iblk m c 0 t) (iblk m c 1 t) (iblk m c 2 t) (iblk m c 3 t) := by
  unfold scratch
  rw [outsAt0_A m c t h]
  frame_out
theorem scratch_B (c : Dev nD) (t : Fin cfg0.N) (h : ¬ t.val % 2 = 0) :
    scratch m c t = scratch m c ⟨t.val - 1, by have := t.isLt; omega⟩ := by
  unfold scratch
  rw [outsAt0_B m c t h]
  rfl

theorem out_eq (c : Dev nD) (t : Fin cfg0.N) : (outsAt0 m c t.val t.isLt).1 = k0_pay2 (scratch m c t) (iblk m c 4 t) := by
  by_cases h : t.val % 2 = 0
  · rw [scratch_A m c t h, outsAt0_A m c t h]
    frame_out
  · rw [scratch_B m c t h, outsAt0_B m c t h]
    frame_out
    exact congrArg (fun S => k0_pay2 (F := Ideal) S (iblk m c 4 t)) ((Memref.isWhole_whole _).read_unread _)

/-- A normed entry is the same of the same row and parameters. -/
theorem normEntry_congr {x x' : Fin 2048 → EReal} {g g' sc sc' sh sh' : EReal} {k : Fin 2048} (hx : ∀ j, x j = x' j) (hg : g = g') (hc : sc = sc') (hs : sh = sh') :
    normEntry x g sc sh k = normEntry x' g' sc' sh' k := by
  obtain rfl : x = x' := funext hx
  rw [hg, hc, hs]

theorem scratch_first (c : Dev nD) (t : Fin cfg0.N) (h0 : t.val % 2 = 0) (r : Fin 512) (k : Fin 2048) :
    scratch m c t (ix2 r k) = HH m c (ix3 (batchOf t) (posOf t r) k) := by
  rw [scratch_A m c t h0, pay1_at]
  refine Eq.trans ?_ (normed_at _ _ _ _ _ _ _).symm
  exact normEntry_congr (fun j => xblock_at m c t r j) (gblock_at m c t k) (scblock_at m c t k) (shblock_at m c t k)

/-- At every point the scratch is the tile's normed rows. -/
theorem scratch_at (c : Dev nD) (t : Fin cfg0.N) (r : Fin 512) (k : Fin 2048) :
    scratch m c t (ix2 r k) = HH m c (ix3 (batchOf t) (posOf t r) k) := by
  by_cases h0 : t.val % 2 = 0
  · exact scratch_first m c t h0 r k
  · have ht := t_lt t
    rw [scratch_B m c t h0]
    refine (scratch_first m c ⟨t.val - 1, by have := t.isLt; omega⟩ (by simp only; omega) r k).trans (congrArg (HH m c) ((ix3_inj _ _ _ _ _ _).2 ⟨Fin.ext ?_, Fin.ext ?_, rfl⟩))
    · simp only
      omega
    · simp only
      omega

/-- Every grid point's result at an index of its block is the reference's entry. -/
theorem point (c : Dev nD) (t : Fin cfg0.N) (y : S512x1664.Idx) (i : S8192x3328.Idx)
    (h0 : (i 0 : ℕ) = 512 * (t.val / 2) + y 0) (h1 : (i 1 : ℕ) = 1664 * (t.val % 2) + y 1) :
    (outsAt0 m c t.val t.isLt).1 y = projected (XX m c) (GG m c) (SH m c) (SC m c) (WW m c) i := by
  have ht := t_lt t
  have hy0 : (y 0 : ℕ) < 512 := (y 0).isLt
  have hy1 : (y 1 : ℕ) < 1664 := (y 1).isLt
  have ey : y = ix2 (⟨y 0, hy0⟩ : Fin 512) (⟨y 1, hy1⟩ : Fin 1664) := eq_ix2 (n0 := 512) (n1 := 1664) y
  have ei : i = ix2 (⟨512 * (t.val / 2) + y 0, by omega⟩ : Fin 8192) (colOf t ⟨y 1, hy1⟩) :=
    (eq_ix2 (n0 := 8192) (n1 := 3328) i).trans ((ix2_inj _ _ _ _).2 ⟨Fin.ext h0, Fin.ext h1⟩)
  rw [ei]
  refine Eq.trans ?_ (projected_at _ _ _ _ _ _ _).symm
  rw [out_eq]
  have e := pay2_at (scratch m c t) (iblk m c 4 t) ⟨y 0, hy0⟩ ⟨y 1, hy1⟩
  rw [← ey] at e
  refine e.trans ?_
  refine Finset.sum_congr rfl fun k _ => Ideal.mul_congr ((scratch_at m c t _ k).trans ?_) (wblock_at m c t k _)
  refine congrArg (HH m c) ((ix3_inj _ _ _ _ _ _).2 ⟨Fin.ext ?_, Fin.ext ?_, rfl⟩)
  · simp only
    omega
  · simp only
    omega

/-- The result array after the run is the reference's result. -/
theorem final (c : Dev nD) : (dats m 0 c).arrAt 5 cfg0.N = projected (XX m c) (GG m c) (SH m c) (SC m c) (WW m c) := by
  refine (dats m 0 c).arrAt_eq_of_covers 5 _ (by decide +kernel) fun t _ y => ?_
  blk_simp
  rw [after0_5]
  refine point m c t y _ ?_ ?_
  · blk_simp [(idx t).2.2.2.2.2]
    omega
  · blk_simp [(idx t).2.2.2.2.2]
    omega

end Cert.Kernel5Ideal.Value
end
-- ==== Proof.RefMla.lean ====
module

public import proofs.«01_k».proof.Proof.Gen.Reference6Ideal.Run
public import Idealize.ShloMosaic.Lib.Pointwise
public import Idealize.ShloMosaic.Lib.Pipeline.ValueKit

@[expose] public section

set_option maxRecDepth 16384
noncomputable section
open Idealize.ShloMosaic Idealize.ShloMosaic.TcCoe Idealize.SL.Sem

namespace Cert.Reference6Ideal.Value
open Cert.Reference6Ideal Cert.Reference6Ideal.Gen

/-- The angle of each position and pair of lanes. -/
def angle : FVec Ideal S2048x32 .f32 :=
  mulf (broadcastInDim S2048x32 ![0, 1] bcast_S2048x1_S2048x32_0_1 (broadcastInDim S2048x1 ![0] bcast_S2048_S2048x1_0 (sitofp .f32 (iotaInDim S2048 32 0)))) (broadcastInDim S2048x32 ![0, 1] bcast_S1x32_S2048x32_0_1 (broadcastInDim S1x32 ![1] bcast_S32_S1x32_1 (Host.powf (broadcastInDim S32 ![] bcast_S_S32 (constant S_ .f32 0x461C4000#32)) (Host.divf (mulf (Host.negf (sitofp .f32 (iotaInDim S32 32 0))) (broadcastInDim S32 ![] bcast_S_S32 (constant S_ .f32 0x40000000#32))) (broadcastInDim S32 ![] bcast_S_S32 (constant S_ .f32 0x42800000#32))))))

/-- The query latent, normed. -/
def queryLatent (y : FVec Ideal S4x2048x512 .f32) (a1 : FVec Ideal S4x512 .f32) : FVec Ideal S4x2048x512 .f32 :=
  mulf (mulf y (broadcastInDim S4x2048x512 ![0, 1, 2] bcast_S4x2048x1_S4x2048x512_0_1_2 (Host.rsqrt (addf (Host.divf (broadcastInDim S4x2048x1 ![0, 1] bcast_S4x2048_S4x2048x1_0_1 (Host.reduceAdd (mulf y y) (constant S_ .f32 0x00000000#32) reducesTo_S4x2048x512_S4x2048_d2 h_S_)) (broadcastInDim S4x2048x1 ![] bcast_S_S4x2048x1 (constant S_ .f32 0x44000000#32))) (broadcastInDim S4x2048x1 ![] bcast_S_S4x2048x1 (constant S_ .f32 0x358637BD#32)))))) (broadcastInDim S4x2048x512 ![0, 1, 2] bcast_S1x1x512_S4x2048x512_0_1_2 (broadcastInDim S1x1x512 ![2] bcast_S512_S1x1x512_2 (shapeCast _ (extractStridedSlice S1x512 ![0, 0] a1 slices_S4x512_S1x512_0_0) shapeCasts_S1x512_S512)))

/-- The queries of all heads before their norms. -/
def queries (z : FVec Ideal S4x2048x512 .f32) (a2 : FVec Ideal S4x512x1536 .f32) : FVec Ideal S4x2048x8x192 .f32 :=
  shapeCast _ (Host.dotGeneral dot_S4x2048x512_S512x1536_S4x2048x1536_2_0_01_1_n_n none z (shapeCast _ (extractStridedSlice S1x512x1536 ![0, 0, 0] a2 slices_S4x512x1536_S1x512x1536_0_0_0) shapeCasts_S1x512x1536_S512x1536)) shapeCasts_S4x2048x1536_S4x2048x8x192

/-- The latent, normed. -/
def latent (y : FVec Ideal S4x2048x128 .f32) (a3 : FVec Ideal S4x128 .f32) : FVec Ideal S4x2048x128 .f32 :=
  mulf (mulf y (broadcastInDim S4x2048x128 ![0, 1, 2] bcast_S4x2048x1_S4x2048x128_0_1_2 (Host.rsqrt (addf (Host.divf (broadcastInDim S4x2048x1 ![0, 1] bcast_S4x2048_S4x2048x1_0_1 (Host.reduceAdd (mulf y y) (constant S_ .f32 0x00000000#32) reducesTo_S4x2048x128_S4x2048_d2 h_S_)) (broadcastInDim S4x2048x1 ![] bcast_S_S4x2048x1 (constant S_ .f32 0x43000000#32))) (broadcastInDim S4x2048x1 ![] bcast_S_S4x2048x1 (constant S_ .f32 0x358637BD#32)))))) (broadcastInDim S4x2048x128 ![0, 1, 2] bcast_S1x1x128_S4x2048x128_0_1_2 (broadcastInDim S1x1x128 ![2] bcast_S128_S1x1x128_2 (shapeCast _ (extractStridedSlice S1x128 ![0, 0] a3 slices_S4x128_S1x128_0_0) shapeCasts_S1x128_S128)))

/-- The rotary key, normed. -/
def keyNormed (y : FVec Ideal S4x2048x64 .f32) (a9 : FVec Ideal S4x64 .f32) : FVec Ideal S4x2048x64 .f32 :=
  mulf (mulf y (broadcastInDim S4x2048x64 ![0, 1, 2] bcast_S4x2048x1_S4x2048x64_0_1_2 (Host.rsqrt (addf (Host.divf (broadcastInDim S4x2048x1 ![0, 1] bcast_S4x2048_S4x2048x1_0_1 (Host.reduceAdd (mulf y y) (constant S_ .f32 0x00000000#32) reducesTo_S4x2048x64_S4x2048_d2 h_S_)) (broadcastInDim S4x2048x1 ![] bcast_S_S4x2048x1 (constant S_ .f32 0x42800000#32))) (broadcastInDim S4x2048x1 ![] bcast_S_S4x2048x1 (constant S_ .f32 0x358637BD#32)))))) (broadcastInDim S4x2048x64 ![0, 1, 2] bcast_S1x1x64_S4x2048x64_0_1_2 (broadcastInDim S1x1x64 ![2] bcast_S64_S1x1x64_2 (shapeCast _ (extractStridedSlice S1x64 ![0, 0] a9 slices_S4x64_S1x64_0_0) shapeCasts_S1x64_S64)))

/-- The rotary embedding of it. -/
def keyRotated (y : FVec Ideal S4x2048x64 .f32) : FVec Ideal S4x2048x64 .f32 :=
  concatenate S4x2048x64 2 [⟨S4x2048x32, (subf (mulf (extractStridedSlice S4x2048x32 ![0, 0, 0] y slices_S4x2048x64_S4x2048x32_0_0_0) (broadcastInDim S4x2048x32 ![0, 1, 2] bcast_S1x2048x32_S4x2048x32_0_1_2 (broadcastInDim S1x2048x32 ![1, 2] bcast_S2048x32_S1x2048x32_1_2 (Host.cos angle)))) (mulf (extractStridedSlice S4x2048x32 ![0, 0, 32] y slices_S4x2048x64_S4x2048x32_0_0_32) (broadcastInDim S4x2048x32 ![0, 1, 2] bcast_S1x2048x32_S4x2048x32_0_1_2 (broadcastInDim S1x2048x32 ![1, 2] bcast_S2048x32_S1x2048x32_1_2 (Host.sin angle)))))⟩, ⟨S4x2048x32, (addf (mulf (extractStridedSlice S4x2048x32 ![0, 0, 32] y slices_S4x2048x64_S4x2048x32_0_0_32) (broadcastInDim S4x2048x32 ![0, 1, 2] bcast_S1x2048x32_S4x2048x32_0_1_2 (broadcastInDim S1x2048x32 ![1, 2] bcast_S2048x32_S1x2048x32_1_2 (Host.cos angle)))) (mulf (extractStridedSlice S4x2048x32 ![0, 0, 0] y slices_S4x2048x64_S4x2048x32_0_0_0) (broadcastInDim S4x2048x32 ![0, 1, 2] bcast_S1x2048x32_S4x2048x32_0_1_2 (broadcastInDim S1x2048x32 ![1, 2] bcast_S2048x32_S1x2048x32_1_2 (Host.sin angle)))))⟩] concatenates_S4x2048x32_S4x2048x32_S4x2048x64_d2

/-- The norm of each head's lanes that carry no position. -/
def headNormed (y : FVec Ideal S4x2048x8x128 .f32) (g : FVec Ideal S4x128 .f32) : FVec Ideal S4x2048x8x128 .f32 :=
  mulf (mulf y (broadcastInDim S4x2048x8x128 ![0, 1, 2, 3] bcast_S4x2048x8x1_S4x2048x8x128_0_1_2_3 (Host.rsqrt (addf (Host.divf (broadcastInDim S4x2048x8x1 ![0, 1, 2] bcast_S4x2048x8_S4x2048x8x1_0_1_2 (Host.reduceAdd (mulf y y) (constant S_ .f32 0x00000000#32) reducesTo_S4x2048x8x128_S4x2048x8_d3 h_S_)) (broadcastInDim S4x2048x8x1 ![] bcast_S_S4x2048x8x1 (constant S_ .f32 0x43000000#32))) (broadcastInDim S4x2048x8x1 ![] bcast_S_S4x2048x8x1 (constant S_ .f32 0x358637BD#32)))))) (broadcastInDim S4x2048x8x128 ![0, 1, 2, 3] bcast_S1x1x1x128_S4x2048x8x128_0_1_2_3 (broadcastInDim S1x1x1x128 ![3] bcast_S128_S1x1x1x128_3 (shapeCast _ (extractStridedSlice S1x128 ![0, 0] g slices_S4x128_S1x128_0_0) shapeCasts_S1x128_S128)))

/-- The norm of each head's rotary lanes. -/
def headRotNormed (y : FVec Ideal S4x2048x8x64 .f32) (g : FVec Ideal S4x64 .f32) : FVec Ideal S4x2048x8x64 .f32 :=
  mulf (mulf y (broadcastInDim S4x2048x8x64 ![0, 1, 2, 3] bcast_S4x2048x8x1_S4x2048x8x64_0_1_2_3 (Host.rsqrt (addf (Host.divf (broadcastInDim S4x2048x8x1 ![0, 1, 2] bcast_S4x2048x8_S4x2048x8x1_0_1_2 (Host.reduceAdd (mulf y y) (constant S_ .f32 0x00000000#32) reducesTo_S4x2048x8x64_S4x2048x8_d3 h_S_)) (broadcastInDim S4x2048x8x1 ![] bcast_S_S4x2048x8x1 (constant S_ .f32 0x42800000#32))) (broadcastInDim S4x2048x8x1 ![] bcast_S_S4x2048x8x1 (constant S_ .f32 0x358637BD#32)))))) (broadcastInDim S4x2048x8x64 ![0, 1, 2, 3] bcast_S1x1x1x64_S4x2048x8x64_0_1_2_3 (broadcastInDim S1x1x1x64 ![3] bcast_S64_S1x1x1x64_3 (shapeCast _ (extractStridedSlice S1x64 ![0, 0] g slices_S4x64_S1x64_0_0) shapeCasts_S1x64_S64)))

/-- The rotary embedding of them. -/
def headRotated (y : FVec Ideal S4x2048x8x64 .f32) : FVec Ideal S4x2048x8x64 .f32 :=
  concatenate S4x2048x8x64 3 [⟨S4x2048x8x32, (subf (mulf (extractStridedSlice S4x2048x8x32 ![0, 0, 0, 0] y slices_S4x2048x8x64_S4x2048x8x32_0_0_0_0) (broadcastInDim S4x2048x8x32 ![0, 1, 2, 3] bcast_S1x2048x1x32_S4x2048x8x32_0_1_2_3 (broadcastInDim S1x2048x1x32 ![1, 2, 3] bcast_S2048x1x32_S1x2048x1x32_1_2_3 (shapeCast _ (Host.cos angle) shapeCasts_S2048x32_S2048x1x32)))) (mulf (extractStridedSlice S4x2048x8x32 ![0, 0, 0, 32] y slices_S4x2048x8x64_S4x2048x8x32_0_0_0_32) (broadcastInDim S4x2048x8x32 ![0, 1, 2, 3] bcast_S1x2048x1x32_S4x2048x8x32_0_1_2_3 (broadcastInDim S1x2048x1x32 ![1, 2, 3] bcast_S2048x1x32_S1x2048x1x32_1_2_3 (shapeCast _ (Host.sin angle) shapeCasts_S2048x32_S2048x1x32)))))⟩, ⟨S4x2048x8x32, (addf (mulf (extractStridedSlice S4x2048x8x32 ![0, 0, 0, 32] y slices_S4x2048x8x64_S4x2048x8x32_0_0_0_32) (broadcastInDim S4x2048x8x32 ![0, 1, 2, 3] bcast_S1x2048x1x32_S4x2048x8x32_0_1_2_3 (broadcastInDim S1x2048x1x32 ![1, 2, 3] bcast_S2048x1x32_S1x2048x1x32_1_2_3 (shapeCast _ (Host.cos angle) shapeCasts_S2048x32_S2048x1x32)))) (mulf (extractStridedSlice S4x2048x8x32 ![0, 0, 0, 0] y slices_S4x2048x8x64_S4x2048x8x32_0_0_0_0) (broadcastInDim S4x2048x8x32 ![0, 1, 2, 3] bcast_S1x2048x1x32_S4x2048x8x32_0_1_2_3 (broadcastInDim S1x2048x1x32 ![1, 2, 3] bcast_S2048x1x32_S1x2048x1x32_1_2_3 (shapeCast _ (Host.sin angle) shapeCasts_S2048x32_S2048x1x32)))))⟩] concatenates_S4x2048x8x32_S4x2048x8x32_S4x2048x8x64_d3

/-- The keys of all heads before their norms, and the values. -/
def perHead (z : FVec Ideal S4x2048x128 .f32) (w : FVec Ideal S4x128x8x128 .f32) : FVec Ideal S4x2048x8x128 .f32 :=
  Host.dotGeneral dot_S4x2048x128_S128x8x128_S4x2048x8x128_2_0_01_12_n_n none z (shapeCast _ (extractStridedSlice S1x128x8x128 ![0, 0, 0, 0] w slices_S4x128x8x128_S1x128x8x128_0_0_0_0) shapeCasts_S1x128x8x128_S128x8x128)

/-- Each head's 128 lanes, its 64 rotary lanes and 64 lanes of zeros, head after head, row after row. -/
def heads (u : FVec Ideal S4x2048x8x128 .f32) (v : FVec Ideal S4x2048x8x64 .f32) : FVec Ideal S8192x2048 .bf16 :=
  truncf .bf16 (shapeCast _ (concatenate S4x2048x8x256 3 [⟨S4x2048x8x128, u⟩, ⟨S4x2048x8x64, v⟩, ⟨S4x2048x8x64, broadcastInDim S4x2048x8x64 ![] bcast_S_S4x2048x8x64 (constant (F := Ideal) S_ .f32 0x00000000#32)⟩] concatenates_S4x2048x8x128_S4x2048x8x64_S4x2048x8x64_S4x2048x8x256_d3) shapeCasts_S4x2048x8x256_S8192x2048) bitsLt_bf16_f32

/-- The parts of the input projection: the query latent, the latent, the rotary key. -/
def partQ (a0 : FVec Ideal S4x2048x704 .f32) : FVec Ideal S4x2048x512 .f32 := extractStridedSlice S4x2048x512 ![0, 0, 0] a0 slices_S4x2048x704_S4x2048x512_0_0_0
def partL (a0 : FVec Ideal S4x2048x704 .f32) : FVec Ideal S4x2048x128 .f32 := extractStridedSlice S4x2048x128 ![0, 0, 512] a0 slices_S4x2048x704_S4x2048x128_0_0_512
def partR (a0 : FVec Ideal S4x2048x704 .f32) : FVec Ideal S4x2048x64 .f32 := extractStridedSlice S4x2048x64 ![0, 0, 640] a0 slices_S4x2048x704_S4x2048x64_0_0_640
/-- A head's lanes without and with position. -/
def lanesN (q : FVec Ideal S4x2048x8x192 .f32) : FVec Ideal S4x2048x8x128 .f32 := extractStridedSlice S4x2048x8x128 ![0, 0, 0, 0] q slices_S4x2048x8x192_S4x2048x8x128_0_0_0_0
def lanesR (q : FVec Ideal S4x2048x8x192 .f32) : FVec Ideal S4x2048x8x64 .f32 := extractStridedSlice S4x2048x8x64 ![0, 0, 0, 128] q slices_S4x2048x8x192_S4x2048x8x64_0_0_0_128

/-- The call's five results: queries, keys, values, latent and rotary key. -/
def resQ (a0 : FVec Ideal S4x2048x704 .f32) (a1 : FVec Ideal S4x512 .f32) (a2 : FVec Ideal S4x512x1536 .f32) (a6 : FVec Ideal S4x128 .f32) (a7 : FVec Ideal S4x64 .f32) : FVec Ideal S8192x2048 .bf16 :=
  heads (headNormed (lanesN (queries (queryLatent (partQ a0) a1) a2)) a6) (headRotated (headRotNormed (lanesR (queries (queryLatent (partQ a0) a1) a2)) a7))
def resK (a0 : FVec Ideal S4x2048x704 .f32) (a3 : FVec Ideal S4x128 .f32) (a4 : FVec Ideal S4x128x8x128 .f32) (a8 : FVec Ideal S4x128 .f32) (a9 : FVec Ideal S4x64 .f32) : FVec Ideal S8192x2048 .bf16 :=
  heads (headNormed (perHead (latent (partL a0) a3) a4) a8) (broadcastInDim S4x2048x8x64 ![0, 1, 2, 3] bcast_S4x2048x1x64_S4x2048x8x64_0_1_2_3 (broadcastInDim S4x2048x1x64 ![0, 1, 3] bcast_S4x2048x64_S4x2048x1x64_0_1_3 (keyRotated (keyNormed (partR a0) a9))))
def resV (a0 : FVec Ideal S4x2048x704 .f32) (a3 : FVec Ideal S4x128 .f32) (a5 : FVec Ideal S4x128x8x128 .f32) : FVec Ideal S8192x1024 .bf16 :=
  truncf .bf16 (shapeCast _ (perHead (latent (partL a0) a3) a5) shapeCasts_S4x2048x8x128_S8192x1024) bitsLt_bf16_f32
def resL (a0 : FVec Ideal S4x2048x704 .f32) (a3 : FVec Ideal S4x128 .f32) : FVec Ideal S8192x128 .f32 :=
  shapeCast _ (latent (partL a0) a3) shapeCasts_S4x2048x128_S8192x128
def resR (a0 : FVec Ideal S4x2048x704 .f32) (a9 : FVec Ideal S4x64 .f32) : FVec Ideal S8192x128 .f32 :=
  shapeCast _ (concatenate S4x2048x128 2 [⟨S4x2048x64, keyRotated (keyNormed (partR a0) a9)⟩, ⟨S4x2048x64, broadcastInDim S4x2048x64 ![] bcast_S_S4x2048x64 (constant (F := Ideal) S_ .f32 0x00000000#32)⟩] concatenates_S4x2048x64_S4x2048x64_S4x2048x128_d2) shapeCasts_S4x2048x128_S8192x128

section
variable (m : (ℓ : Loc nD τ sig) → Buf (Elt Ideal) ℓ) (ρ : Dev nD → PrngReg)
/-- The reference's results are the above. -/
theorem run_named :
    θ_run defs (onTc (τ := τ) (main (F := Ideal))) ⟨m, fun _ => 0, ρ⟩ fun r => ∀ c : Dev nD,
      r.2.mem ((c.tc : Thread nD τ).loc main_v165) = resQ (m ((c.tc : Thread nD τ).loc main_arg0)) (m ((c.tc : Thread nD τ).loc main_arg1)) (m ((c.tc : Thread nD τ).loc main_arg2)) (m ((c.tc : Thread nD τ).loc main_arg6)) (m ((c.tc : Thread nD τ).loc main_arg7))
      ∧ r.2.mem ((c.tc : Thread nD τ).loc main_v169) = resK (m ((c.tc : Thread nD τ).loc main_arg0)) (m ((c.tc : Thread nD τ).loc main_arg3)) (m ((c.tc : Thread nD τ).loc main_arg4)) (m ((c.tc : Thread nD τ).loc main_arg8)) (m ((c.tc : Thread nD τ).loc main_arg9))
      ∧ r.2.mem ((c.tc : Thread nD τ).loc main_v171) = resV (m ((c.tc : Thread nD τ).loc main_arg0)) (m ((c.tc : Thread nD τ).loc main_arg3)) (m ((c.tc : Thread nD τ).loc main_arg5))
      ∧ r.2.mem ((c.tc : Thread nD τ).loc main_v172) = resL (m ((c.tc : Thread nD τ).loc main_arg0)) (m ((c.tc : Thread nD τ).loc main_arg3))
      ∧ r.2.mem ((c.tc : Thread nD τ).loc main_v175) = resR (m ((c.tc : Thread nD τ).loc main_arg0)) (m ((c.tc : Thread nD τ).loc main_arg9))
      ∧ (∀ b ∈ [main_arg0, main_arg1, main_arg2, main_arg3, main_arg4, main_arg5, main_arg6, main_arg7, main_arg8, main_arg9], r.2.mem ((c.tc : Thread nD τ).loc b) = m ((c.tc : Thread nD τ).loc b)) :=
  (θ_run defs _ _).mono (fun _ h c => ⟨(h c).1.trans rfl, (h c).2.1.trans rfl, (h c).2.2.1.trans rfl, (h c).2.2.2.1.trans rfl, (h c).2.2.2.2.1.trans rfl,
    by simpa only [List.forall_mem_cons, List.not_mem_nil, false_imp_iff, implies_true, and_true] using (h c).2.2.2.2.2⟩) (run m ρ)
end

end Cert.Reference6Ideal.Value
end
-- ==== Proof.RefMlaAt.lean ====
module

public import proofs.«01_k».proof.Proof.RefMla
public import Idealize.ShloMosaic.Lib.Pointwise
public import Idealize.ShloMosaic.Lib.Pipeline.ValueKit

@[expose] public section

set_option maxRecDepth 16384
noncomputable section
open Idealize.ShloMosaic Idealize.ShloMosaic.TcCoe Idealize.SL.Sem

namespace Cert.Reference6Ideal.Value
open Cert.Reference6Ideal Cert.Reference6Ideal.Gen

/-- One entry of a norm with a gain: of a row, the divisor's bits and the gain. -/
def nrm {n : ℕ} (D : BitVec 32) (x g : Fin n → EReal) (k : Fin n) : EReal :=
  x k * Ideal.rsqrt (Ideal.div (∑ j : Fin n, x j * x j) (Ideal.ofBits .f32 D) + Ideal.ofBits .f32 0x358637BD#32) * g k

/-- One entry of the rotary embedding of 64 lanes. -/
def rot (y : Fin 64 → EReal) (C S : Fin 32 → EReal) (d : Fin 64) : EReal :=
  if h : (d : ℕ) < 32 then y d * C ⟨d, h⟩ - y ⟨32 + d, by omega⟩ * S ⟨d, h⟩
  else y d * C ⟨d - 32, by omega⟩ + y ⟨d - 32, by omega⟩ * S ⟨d - 32, by omega⟩

theorem queryLatent_at (y g) (b : Fin 4) (p : Fin 2048) (k : Fin 512) :
    queryLatent y g (ix3 b p k) = nrm 0x44000000#32 (fun j => y (ix3 b p j)) (fun j => g (ix2 (0 : Fin 4) j)) k := by
  unfold nrm
  pointwise [queryLatent]
theorem queries_at (z w) (b : Fin 4) (p : Fin 2048) (h : Fin 8) (e : Fin 192) :
    queries z w (ix4 b p h e) = ∑ k : Fin 512, z (ix3 b p k) * w (ix3 (0 : Fin 4) k (⟨(h : ℕ) * 192 + e, by omega⟩ : Fin 1536)) := by
  pointwise [queries]
theorem latent_at (y g) (b : Fin 4) (p : Fin 2048) (k : Fin 128) :
    latent y g (ix3 b p k) = nrm 0x43000000#32 (fun j => y (ix3 b p j)) (fun j => g (ix2 (0 : Fin 4) j)) k := by
  unfold nrm
  pointwise [latent]
theorem keyNormed_at (y g) (b : Fin 4) (p : Fin 2048) (k : Fin 64) :
    keyNormed y g (ix3 b p k) = nrm 0x42800000#32 (fun j => y (ix3 b p j)) (fun j => g (ix2 (0 : Fin 4) j)) k := by
  unfold nrm
  pointwise [keyNormed]
theorem headNormed_at (y g) (b : Fin 4) (p : Fin 2048) (h : Fin 8) (k : Fin 128) :
    headNormed y g (ix4 b p h k) = nrm 0x43000000#32 (fun j => y (ix4 b p h j)) (fun j => g (ix2 (0 : Fin 4) j)) k := by
  unfold nrm
  pointwise [headNormed]
theorem headRotNormed_at (y g) (b : Fin 4) (p : Fin 2048) (h : Fin 8) (k : Fin 64) :
    headRotNormed y g (ix4 b p h k) = nrm 0x42800000#32 (fun j => y (ix4 b p h j)) (fun j => g (ix2 (0 : Fin 4) j)) k := by
  unfold nrm
  pointwise [headRotNormed]
theorem perHead_at (z w) (b : Fin 4) (p : Fin 2048) (h : Fin 8) (k : Fin 128) :
    perHead z w (ix4 b p h k) = ∑ j : Fin 128, z (ix3 b p j) * w (ix4 (0 : Fin 4) j h k) := by
  pointwise [perHead]
theorem keyRotated_at (y) (b : Fin 4) (p : Fin 2048) (d : Fin 64) :
    keyRotated y (ix3 b p d) = rot (fun j => y (ix3 b p j)) (fun j => (Host.cos angle : FVec Ideal S2048x32 .f32) (ix2 p j)) (fun j => (Host.sin angle : FVec Ideal S2048x32 .f32) (ix2 p j)) d := by
  unfold rot keyRotated
  generalize (Host.cos angle : FVec Ideal S2048x32 .f32) = C
  generalize (Host.sin angle : FVec Ideal S2048x32 .f32) = S
  pointwise
  refine dite_congr rfl (fun _ => rfl) fun h => ?_
  have e : 32 + ((d : ℕ) - 32) = d := by omega
  simp only [e]
theorem headRotated_at (y) (b : Fin 4) (p : Fin 2048) (i : Fin 8) (d : Fin 64) :
    headRotated y (ix4 b p i d) = rot (fun j => y (ix4 b p i j)) (fun j => (Host.cos angle : FVec Ideal S2048x32 .f32) (ix2 p j)) (fun j => (Host.sin angle : FVec Ideal S2048x32 .f32) (ix2 p j)) d := by
  unfold rot headRotated
  generalize (Host.cos angle : FVec Ideal S2048x32 .f32) = C
  generalize (Host.sin angle : FVec Ideal S2048x32 .f32) = S
  pointwise
  refine dite_congr rfl (fun _ => rfl) fun h => ?_
  have e : 32 + ((d : ℕ) - 32) = d := by omega
  simp only [e]
theorem heads_at (u v) (R : Fin 8192) (n : Fin 2048) :
    heads u v (ix2 R n) = if h : (n : ℕ) % 256 < 128 then u (ix4 (⟨R / 2048, by omega⟩ : Fin 4) (⟨R % 2048, by omega⟩ : Fin 2048) (⟨n / 256, by omega⟩ : Fin 8) (⟨n % 256, h⟩ : Fin 128))
      else if h' : (n : ℕ) % 256 < 192 then v (ix4 (⟨R / 2048, by omega⟩ : Fin 4) (⟨R % 2048, by omega⟩ : Fin 2048) (⟨n / 256, by omega⟩ : Fin 8) (⟨n % 256 - 128, by omega⟩ : Fin 64))
      else 0 := by
  pointwise [heads]
  refine dite_congr rfl (fun _ => rfl) fun h => ?_
  exact dite_congr (propext ⟨fun _ => by omega, fun _ => by omega⟩) (fun _ => rfl) fun _ => rfl
theorem resV_at (a0 a3 a5) (R : Fin 8192) (n : Fin 1024) :
    resV a0 a3 a5 (ix2 R n) = perHead (latent (partL a0) a3) a5 (ix4 (⟨R / 2048, by omega⟩ : Fin 4) (⟨R % 2048, by omega⟩ : Fin 2048) (⟨n / 128, by omega⟩ : Fin 8) (⟨n % 128, by omega⟩ : Fin 128)) := by
  unfold resV
  generalize perHead (latent (partL a0) a3) a5 = v
  pointwise
theorem resL_at (a0 a3) (R : Fin 8192) (n : Fin 128) :
    resL a0 a3 (ix2 R n) = latent (partL a0) a3 (ix3 (⟨R / 2048, by omega⟩ : Fin 4) (⟨R % 2048, by omega⟩ : Fin 2048) n) := by
  unfold resL
  generalize latent (partL a0) a3 = v
  pointwise
theorem resR_at (a0 a9) (R : Fin 8192) (n : Fin 128) :
    resR a0 a9 (ix2 R n) = if h : (n : ℕ) < 64 then keyRotated (keyNormed (partR a0) a9) (ix3 (⟨R / 2048, by omega⟩ : Fin 4) (⟨R % 2048, by omega⟩ : Fin 2048) (⟨n, h⟩ : Fin 64)) else 0 := by
  unfold resR
  generalize keyRotated (keyNormed (partR a0) a9) = v
  pointwise
theorem partQ_at (a0) (b : Fin 4) (p : Fin 2048) (k : Fin 512) : partQ a0 (ix3 b p k) = a0 (ix3 b p (⟨k, by omega⟩ : Fin 704)) := by
  pointwise [partQ]
theorem partL_at (a0) (b : Fin 4) (p : Fin 2048) (k : Fin 128) : partL a0 (ix3 b p k) = a0 (ix3 b p (⟨512 + k, by omega⟩ : Fin 704)) := by
  pointwise [partL]
theorem partR_at (a0) (b : Fin 4) (p : Fin 2048) (k : Fin 64) : partR a0 (ix3 b p k) = a0 (ix3 b p (⟨640 + k, by omega⟩ : Fin 704)) := by
  pointwise [partR]
theorem lanesN_at (q) (b : Fin 4) (p : Fin 2048) (h : Fin 8) (k : Fin 128) : lanesN q (ix4 b p h k) = q (ix4 b p h (⟨k, by omega⟩ : Fin 192)) := by
  pointwise [lanesN]
theorem lanesR_at (q) (b : Fin 4) (p : Fin 2048) (h : Fin 8) (k : Fin 64) : lanesR q (ix4 b p h k) = q (ix4 b p h (⟨128 + k, by omega⟩ : Fin 192)) := by
  pointwise [lanesR]

end Cert.Reference6Ideal.Value
end
-- ==== Proof.MlaHost.lean ====
module

public import proofs.«01_k».proof.Proof.Gen.Kernel6Ideal.Value
public import proofs.«01_k».proof.Proof.RefMlaAt
public import Idealize.ShloMosaic.Lib.Pointwise
public import Idealize.ShloMosaic.Lib.Pipeline.ValueKit

@[expose] public section

set_option maxRecDepth 16384
noncomputable section
open Idealize.ShloMosaic Idealize.ShloMosaic.TcCoe Idealize.SL.Sem

namespace Cert.Kernel6Ideal.Value
open Cert.Kernel6Ideal Cert.Kernel6Ideal.Gen
open Cert.Reference6Ideal.Value (angle)
variable (m : (ℓ : Loc nD τ sig) → Buf (Elt Ideal) ℓ)

/-- The ten arguments: the input projection, the query's gain and weights, the latent's gain and weights, the heads' gains. -/
abbrev A0 (c : Dev nD) : FVec Ideal S4x2048x704 .f32 := m ((c : Thread nD τ).loc main_arg0)
abbrev A1 (c : Dev nD) : FVec Ideal S4x512 .f32 := m ((c : Thread nD τ).loc main_arg1)
abbrev A2 (c : Dev nD) : FVec Ideal S4x512x1536 .f32 := m ((c : Thread nD τ).loc main_arg2)
abbrev A3 (c : Dev nD) : FVec Ideal S4x128 .f32 := m ((c : Thread nD τ).loc main_arg3)
abbrev A4 (c : Dev nD) : FVec Ideal S4x128x8x128 .f32 := m ((c : Thread nD τ).loc main_arg4)
abbrev A5 (c : Dev nD) : FVec Ideal S4x128x8x128 .f32 := m ((c : Thread nD τ).loc main_arg5)
abbrev A6 (c : Dev nD) : FVec Ideal S4x128 .f32 := m ((c : Thread nD τ).loc main_arg6)
abbrev A7 (c : Dev nD) : FVec Ideal S4x64 .f32 := m ((c : Thread nD τ).loc main_arg7)
abbrev A8 (c : Dev nD) : FVec Ideal S4x128 .f32 := m ((c : Thread nD τ).loc main_arg8)
abbrev A9 (c : Dev nD) : FVec Ideal S4x64 .f32 := m ((c : Thread nD τ).loc main_arg9)

/-- A line of operations followed by another. -/
theorem after_app (ops ops' : List (HloOp τ sig (Elt Ideal))) (W : Valuation τ sig (Elt Ideal)) :
    StableHlo.after (ops ++ ops') W = StableHlo.after ops' (StableHlo.after ops W) := by
  induction ops generalizing W with
  | nil => rfl
  | cons o os ih => exact ih _
theorem V_eq (c : Dev nD) (b) : V m c b = StableHlo.after hostOps0_4 (StableHlo.after hostOps0_3 (StableHlo.after hostOps0_2 (StableHlo.after hostOps0_1 (StableHlo.after hostOps0 (fun b => m (c, b)))))) b := by
  unfold V
  simp only [List.flatten_cons, List.flatten_nil, List.append_nil, after_app]

/-- 64 entries and 64 zeros. -/
def ext (x : Fin 64 → EReal) (k : Fin 128) : EReal := if h : (k : ℕ) < 64 then x ⟨k, h⟩ else 0

/-- The rotary gains, padded to 128 lanes. -/
def padded (g : FVec Ideal S4x64 .f32) : FVec Ideal S4x128 .f32 :=
  pad S4x128 ![0, 0] ![0, 64] ![0, 0] g (sitofp .f32 (constantI S_ 32 0#32)) pads_S4x64_S4x128_000_0640 h_S_
theorem padded_at (g) (l : Fin 4) (k : Fin 128) : padded g (ix2 l k) = ext (fun j => g (ix2 l j)) k := by
  unfold ext
  pointwise [padded, hlo_ix]
  refine dite_congr rfl (fun _ => rfl) fun _ => ?_
  simp [FloatOps.sitofp]

/-- The input projection where the call's rows have it. -/
def laid (x : FVec Ideal S4x2048x704 .f32) : FVec Ideal S4x2048x3328 .f32 :=
  concatenate S4x2048x3328 2 [⟨S4x2048x2048, broadcastInDim S4x2048x2048 ![] bcast_S_S4x2048x2048 (constant (F := Ideal) S_ .f32 0x00000000#32)⟩, ⟨S4x2048x512, extractStridedSlice S4x2048x512 ![0, 0, 0] x slices_S4x2048x704_S4x2048x512_0_0_0⟩, ⟨S4x2048x512, broadcastInDim S4x2048x512 ![] bcast_S_S4x2048x512 (constant (F := Ideal) S_ .f32 0x00000000#32)⟩, ⟨S4x2048x192, extractStridedSlice S4x2048x192 ![0, 0, 512] x slices_S4x2048x704_S4x2048x192_0_0_512⟩, ⟨S4x2048x64, broadcastInDim S4x2048x64 ![] bcast_S_S4x2048x64 (constant (F := Ideal) S_ .f32 0x00000000#32)⟩] concatenates_S4x2048x2048_S4x2048x512_S4x2048x512_S4x2048x192_S4x2048x64_S4x2048x3328_d2
/-- A condition whose two sides have one value. -/
theorem dite_step {p : Prop} [Decidable p] {α : Type} {a : p → α} {b : ¬p → α} {z : α} (ha : ∀ h, a h = z) (hb : ∀ h, b h = z) : dite p a b = z := by
  by_cases h : p
  · rw [dif_pos h]; exact ha h
  · rw [dif_neg h]; exact hb h

theorem laid_at (x) (b : Fin 4) (p : Fin 2048) (n : Fin 3328) : laid x (ix3 b p n) =
    if h : 2048 ≤ (n : ℕ) ∧ (n : ℕ) < 2560 then x (ix3 b p (⟨n - 2048, by omega⟩ : Fin 704))
    else if h : 3072 ≤ (n : ℕ) ∧ (n : ℕ) < 3264 then x (ix3 b p (⟨n - 2560, by omega⟩ : Fin 704)) else 0 := by
  pointwise [laid]
  repeat' refine dite_step (fun _ => ?_) fun _ => ?_
  all_goals symm
  repeat' refine dite_step (fun _ => ?_) fun _ => ?_
  all_goals first | omega | rfl | exact congrArg (fun j => x (ix3 b p j)) (Fin.ext (by first | omega | rfl | (dsimp only; omega)))

theorem V_x (c : Dev nD) : V m c main_v6 = (shapeCast S8192x3328 (laid (A0 m c)) shapeCasts_S4x2048x3328_S8192x3328 : FVec Ideal S8192x3328 .f32) := by
  rw [V_eq]
  after_results
  rfl
theorem x_at (c : Dev nD) (R : Fin 8192) (n : Fin 3328) : V m c main_v6 (ix2 R n) = laid (A0 m c) (ix3 (⟨R / 2048, by omega⟩ : Fin 4) (⟨R % 2048, by omega⟩ : Fin 2048) n) := by
  rw [V_x]
  generalize laid (A0 m c) = y
  pointwise

/-- The rotary tables: twice the 32 entries, then zeros. -/
def tables (v : FVec Ideal S2048x32 .f32) : FVec Ideal S2048x128 .f32 :=
  concatenate S2048x128 1 [⟨S2048x32, v⟩, ⟨S2048x32, v⟩, ⟨S2048x64, broadcastInDim S2048x64 ![] bcast_S_S2048x64 (constant (F := Ideal) S_ .f32 0x00000000#32)⟩] concatenates_S2048x32_S2048x32_S2048x64_S2048x128_d1
theorem tables_at (v) (p : Fin 2048) (k : Fin 128) : tables v (ix2 p k) = ext (fun j => v (ix2 p (⟨(j : ℕ) % 32, by omega⟩ : Fin 32))) k := by
  unfold ext
  pointwise [tables]
  repeat' refine dite_step (fun _ => ?_) fun _ => ?_
  all_goals symm
  repeat' refine dite_step (fun _ => ?_) fun _ => ?_
  all_goals first | omega | rfl | exact congrArg (fun j => v (ix2 p j)) (Fin.ext (by first | omega | rfl | (dsimp only; omega)))
theorem V_cos (c : Dev nD) : V m c main_v25 = tables (Host.cos angle) := by
  rw [V_eq]
  after_results
  rfl
theorem V_sin (c : Dev nD) : V m c main_v26 = tables (Host.sin angle) := by
  rw [V_eq]
  after_results
  rfl

/-- The query's weights, 64 columns of zeros after each head's 192. -/
def spread (w : FVec Ideal S4x512x1536 .f32) : FVec Ideal S4x512x2048 .f32 :=
  concatenate S4x512x2048 2 [⟨S4x512x192, extractStridedSlice S4x512x192 ![0, 0, 0] w slices_S4x512x1536_S4x512x192_0_0_0⟩, ⟨S4x512x64, broadcastInDim S4x512x64 ![] bcast_S_S4x512x64 (constant (F := Ideal) S_ .f32 0x00000000#32)⟩, ⟨S4x512x192, extractStridedSlice S4x512x192 ![0, 0, 192] w slices_S4x512x1536_S4x512x192_0_0_192⟩, ⟨S4x512x64, broadcastInDim S4x512x64 ![] bcast_S_S4x512x64 (constant (F := Ideal) S_ .f32 0x00000000#32)⟩, ⟨S4x512x192, extractStridedSlice S4x512x192 ![0, 0, 384] w slices_S4x512x1536_S4x512x192_0_0_384⟩, ⟨S4x512x64, broadcastInDim S4x512x64 ![] bcast_S_S4x512x64 (constant (F := Ideal) S_ .f32 0x00000000#32)⟩, ⟨S4x512x192, extractStridedSlice S4x512x192 ![0, 0, 576] w slices_S4x512x1536_S4x512x192_0_0_576⟩, ⟨S4x512x64, broadcastInDim S4x512x64 ![] bcast_S_S4x512x64 (constant (F := Ideal) S_ .f32 0x00000000#32)⟩, ⟨S4x512x192, extractStridedSlice S4x512x192 ![0, 0, 768] w slices_S4x512x1536_S4x512x192_0_0_768⟩, ⟨S4x512x64, broadcastInDim S4x512x64 ![] bcast_S_S4x512x64 (constant (F := Ideal) S_ .f32 0x00000000#32)⟩, ⟨S4x512x192, extractStridedSlice S4x512x192 ![0, 0, 960] w slices_S4x512x1536_S4x512x192_0_0_960⟩, ⟨S4x512x64, broadcastInDim S4x512x64 ![] bcast_S_S4x512x64 (constant (F := Ideal) S_ .f32 0x00000000#32)⟩, ⟨S4x512x192, extractStridedSlice S4x512x192 ![0, 0, 1152] w slices_S4x512x1536_S4x512x192_0_0_1152⟩, ⟨S4x512x64, broadcastInDim S4x512x64 ![] bcast_S_S4x512x64 (constant (F := Ideal) S_ .f32 0x00000000#32)⟩, ⟨S4x512x192, extractStridedSlice S4x512x192 ![0, 0, 1344] w slices_S4x512x1536_S4x512x192_0_0_1344⟩, ⟨S4x512x64, broadcastInDim S4x512x64 ![] bcast_S_S4x512x64 (constant (F := Ideal) S_ .f32 0x00000000#32)⟩] concatenates_S4x512x192_S4x512x64_S4x512x192_S4x512x64_S4x512x192_S4x512x64_S4x512x192_S4x512x64_S4x512x192_S4x512x64_S4x512x192_S4x512x64_S4x512x192_S4x512x64_S4x512x192_S4x512x64_S4x512x2048_d2
theorem spread_at (w) (l : Fin 4) (k : Fin 512) (n : Fin 2048) : spread w (ix3 l k n) =
    if h : (n : ℕ) % 256 < 192 then w (ix3 l k (⟨(n : ℕ) / 256 * 192 + (n : ℕ) % 256, by omega⟩ : Fin 1536)) else 0 := by
  symm
  refine dite_step (fun h => ?_) fun h => ?_
  all_goals
    symm
    pointwise [spread]
    iterate 15 refine dite_step (fun _ => by first | omega | rfl | exact congrArg (fun j => w (ix3 l k j)) (Fin.ext (by first | omega | rfl | (dsimp only; omega)))) fun _ => ?_
    first | omega | rfl
theorem V_w (c : Dev nD) : V m c main_v55 = (shapeCast S512x2048 (extractStridedSlice S1x512x2048 ![0, 0, 0] (truncf .bf16 (spread (A2 m c)) bitsLt_bf16_f32 : FVec Ideal S4x512x2048 .bf16) slices_S4x512x2048_S1x512x2048_0_0_0) shapeCasts_S1x512x2048_S512x2048 : FVec Ideal S512x2048 .bf16) := by
  rw [V_eq]
  after_results
  rfl
theorem w_at (c : Dev nD) (k : Fin 512) (n : Fin 2048) : V m c main_v55 (ix2 k n) = spread (A2 m c) (ix3 (0 : Fin 4) k n) := by
  rw [V_w]
  generalize spread (A2 m c) = y
  pointwise
theorem qg_at (c : Dev nD) (k : Fin 512) : V m c main_v53 (ix2 (0 : Fin 1) k) = A1 m c (ix2 (0 : Fin 4) k) := by
  rw [V_eq]
  entry_read
  pointwise [hlo_ix]
theorem kvg_at (c : Dev nD) (k : Fin 128) : V m c main_v58 (ix2 (0 : Fin 1) k) = A3 m c (ix2 (0 : Fin 4) k) := by
  rw [V_eq]
  entry_read
  pointwise [hlo_ix]
theorem qng_at (c : Dev nD) (k : Fin 128) : V m c main_v61 (ix2 (0 : Fin 1) k) = A6 m c (ix2 (0 : Fin 4) k) := by
  rw [V_eq]
  entry_read
  pointwise [hlo_ix]
theorem qrg_at (c : Dev nD) (k : Fin 128) : (V m c main_v64 : FVec Ideal S1x128 .f32) (ix2 (0 : Fin 1) k) = ext (fun j => A7 m c (ix2 (0 : Fin 4) j)) k := by
  rw [← padded_at, V_eq]
  after_results
  pointwise [hlo_ix]
  rfl
theorem kng_at (c : Dev nD) (k : Fin 128) : V m c main_v67 (ix2 (0 : Fin 1) k) = A8 m c (ix2 (0 : Fin 4) k) := by
  rw [V_eq]
  entry_read
  pointwise [hlo_ix]
theorem krg_at (c : Dev nD) (k : Fin 128) : (V m c main_v70 : FVec Ideal S1x128 .f32) (ix2 (0 : Fin 1) k) = ext (fun j => A9 m c (ix2 (0 : Fin 4) j)) k := by
  rw [← padded_at, V_eq]
  after_results
  pointwise [hlo_ix]
  rfl
theorem wuk_at (c : Dev nD) (k : Fin 128) (n : Fin 1024) : V m c main_v72 (ix2 k n) = A4 m c (ix4 (0 : Fin 4) k (⟨n / 128, by omega⟩ : Fin 8) (⟨n % 128, by omega⟩ : Fin 128)) := by
  rw [V_eq]
  entry_read
  pointwise [hlo_ix]
theorem wuv_at (c : Dev nD) (k : Fin 128) (n : Fin 1024) : V m c main_v74 (ix2 k n) = A5 m c (ix4 (0 : Fin 4) k (⟨n / 128, by omega⟩ : Fin 8) (⟨n % 128, by omega⟩ : Fin 128)) := by
  rw [V_eq]
  entry_read
  pointwise [hlo_ix]

end Cert.Kernel6Ideal.Value
end
-- ==== Proof.MlaBlk.lean ====
module

public import proofs.«01_k».proof.Proof.Gen.Kernel6Ideal.Value
public import proofs.«01_k».proof.Proof.MlaHost
public import Idealize.ShloMosaic.Lib.Pointwise
public import Idealize.ShloMosaic.Lib.Pipeline.ValueKit

@[expose] public section

set_option maxRecDepth 16384
noncomputable section
open Idealize.ShloMosaic Idealize.ShloMosaic.TcCoe Idealize.SL.Sem

namespace Cert.Kernel6Ideal.Value
open Cert.Kernel6Ideal Cert.Kernel6Ideal.Gen
open Cert.Reference6Ideal.Value (nrm rot)

/-- A block of 128 lanes normed by its rows, with a gain. -/
def normPiece (D : BitVec 32) (x : FVec Ideal S256x128 .f32) (g : Vec Ideal S1x128 .f32) : FVec Ideal S256x128 .f32 :=
  mulf (mulf x (broadcastTo S256x128 (rsqrt (addf (divf (shapeCast S256x1 (multiReduction .add [1] S256 (mulf x x) 0x00000000#32 reduces_S256x128_S256 (.inl rfl) rfl : FVec Ideal S256 .f32) shapeCasts_S256_S256x1 : FVec Ideal S256x1 .f32) (broadcast S256x1 (Scalar.ofBits .f32 D : Ideal .f32))) (broadcast S256x1 (Scalar.ofBits .f32 0x358637BD#32 : Ideal .f32)) : FVec Ideal S256x1 .f32)) broadcasts_S256x1_S256x128))
    (broadcastTo S256x128 (shapeCast S1x128 g shapeCasts_S1x128_S1x128) broadcasts_S1x128_S256x128)

/-- The rotary embedding of a block of 128 lanes, of which the tables keep 64. -/
def ropePiece (y C S : FVec Ideal S256x128 .f32) : FVec Ideal S256x128 .f32 :=
  addf (mulf y C) (mulf (select (cmpi .slt (iota .tc S256x128 32 [1] iota_S256x128_d1_w32) (broadcast S256x128 32#32))
    (subf (broadcast S256x128 (Scalar.ofBits .f32 0x00000000#32 : Ideal .f32)) (dynamicRotate 1 96#32 none y rotates_S256x128_d1))
    (dynamicRotate 1 32#32 none y rotates_S256x128_d1)) S)

theorem normPiece_at (D x g) (r : Fin 256) (d : Fin 128) :
    normPiece D x g (ix2 r d) = nrm D (fun j => x (ix2 r j)) (fun j => g (ix2 (0 : Fin 1) j)) d := by
  unfold nrm
  pointwise [normPiece]

theorem ropePiece_at (y C S) (r : Fin 256) (d : Fin 128) :
    ropePiece y C S (ix2 r d) = y (ix2 r d) * C (ix2 r d) + (if (d : ℕ) < 32 then 0 - y (ix2 r (⟨(d + 32) % 128, by omega⟩ : Fin 128)) else y (ix2 r (⟨(d + 96) % 128, by omega⟩ : Fin 128))) * S (ix2 r d) := by
  pointwise [ropePiece]
  have e1 : ((d : ℕ) + 128 - 96) % 128 = (d + 32) % 128 := by omega
  have e2 : ((d : ℕ) + 128 - 32) % 128 = (d + 96) % 128 := by omega
  have e3 : IntOp.cmpi CmpIPredicate.slt (BitVec.ofNat 32 (d : ℕ)) 32#32 = if (d : ℕ) < 32 then 1#1 else 0#1 := by
    revert d; decide +kernel
  simp only [e1, e2, e3]
  split <;> rfl

/-- The norm of 64 lanes and 64 zeros is that of the 64 lanes. -/
theorem nrm_ext (D : BitVec 32) (x g : Fin 64 → EReal) (d : Fin 128) : nrm D (ext x) (ext g) d = ext (fun k => nrm D x g k) d := by
  have hs : ∑ j : Fin 128, ext x j * ext x j = ∑ j : Fin 64, x j * x j := by
    rw [show (∑ j : Fin 128, ext x j * ext x j) = _ from Fin.sum_univ_add (fun j : Fin (64 + 64) => ext x j * ext x j)]
    have h1 : ∀ j : Fin 64, ext x (Fin.castAdd 64 j) = x j := fun j => by unfold ext; exact dif_pos j.isLt
    have h2 : ∀ j : Fin 64, ext x (Fin.natAdd 64 j) = 0 := fun j => by unfold ext; exact dif_neg (by simp)
    simp only [h1, h2, mul_zero, Finset.sum_const_zero, add_zero]
  unfold nrm
  rw [hs]
  unfold ext
  split_ifs
  · rfl
  · rw [zero_mul, zero_mul]

/-- The rotary embedding of 64 lanes and 64 zeros is that of the 64 lanes. -/
theorem rope_ext (y C S) (u : Fin 64 → EReal) (v w : Fin 32 → EReal) (r : Fin 256) (hy : ∀ d, y (ix2 r d) = ext u d)
    (hC : ∀ d, C (ix2 r d) = ext (fun j => v ⟨(j : ℕ) % 32, by omega⟩) d) (hS : ∀ d, S (ix2 r d) = ext (fun j => w ⟨(j : ℕ) % 32, by omega⟩) d) (d : Fin 128) :
    ropePiece y C S (ix2 r d) = ext (rot u v w) d := by
  rw [ropePiece_at, hC, hS, hy, hy, hy]
  unfold ext rot
  by_cases h1 : (d : ℕ) < 64
  · by_cases h2 : (d : ℕ) < 32
    · have e : ((d : ℕ) + 32) % 128 = 32 + d := by omega
      have e' : (d : ℕ) % 32 = d := by omega
      have h3 : 32 + (d : ℕ) < 64 := by omega
      simp only [h1, h2, h3, e, e', if_true, dif_pos]
      rw [zero_sub, EReal.neg_mul, sub_eq_add_neg]
    · have e : ((d : ℕ) + 96) % 128 = d - 32 := by omega
      have e' : (d : ℕ) % 32 = d - 32 := by omega
      have h3 : (d : ℕ) - 32 < 64 := by omega
      simp only [h1, h2, h3, e, e', if_false, dif_pos, dif_neg, not_false_eq_true]
  · simp only [h1, dif_neg, not_false_eq_true, mul_zero, add_zero]

end Cert.Kernel6Ideal.Value
end
-- ==== Proof.MlaIn.lean ====
module

public import proofs.«01_k».proof.Proof.Gen.Kernel6Ideal.Value
public import proofs.«01_k».proof.Proof.MlaBlk
public import Idealize.ShloMosaic.Lib.Pointwise
public import Idealize.ShloMosaic.Lib.Pipeline.ValueKit

@[expose] public section

set_option maxRecDepth 16384
noncomputable section
open Idealize.ShloMosaic Idealize.ShloMosaic.TcCoe Idealize.SL.Sem

namespace Cert.Kernel6Ideal.Value
open Cert.Kernel6Ideal Cert.Kernel6Ideal.Gen
open Cert.Reference6Ideal.Value
variable (m : (ℓ : Loc nD τ sig) → Buf (Elt Ideal) ℓ)

/-- A grid point: the tile of rows. -/
theorem idx : ∀ t : Fin cfg0.N,
    win0_0.index t = ![t.val, 4] ∧ win0_1.index t = ![t.val, 24] ∧ win0_2.index t = ![t.val, 25] ∧ win0_3.index t = ![t.val % 8, 0]
      ∧ win0_4.index t = ![t.val % 8, 0] ∧ win0_5.index t = ![0, 0] ∧ win0_6.index t = ![0, 0] ∧ win0_7.index t = ![0, 0]
      ∧ win0_8.index t = ![0, 0] ∧ win0_9.index t = ![0, 0] ∧ win0_10.index t = ![0, 0] ∧ win0_11.index t = ![0, 0]
      ∧ win0_12.index t = ![0, 0] ∧ win0_13.index t = ![0, 0] :=
  (by decide +kernel : ∀ t : Fin grid0.N, _)
theorem idx' : ∀ t : Fin cfg0.N,
    win0_14.index t = ![t.val, 0] ∧ win0_15.index t = ![t.val, 0] ∧ win0_16.index t = ![t.val, 0] ∧ win0_17.index t = ![t.val, 0] ∧ win0_18.index t = ![t.val, 0] :=
  (by decide +kernel : ∀ t : Fin grid0.N, _)

theorem t_lt (t : Fin cfg0.N) : t.val < 32 := t.isLt

/-- The flat row of a row of a grid point's block, its batch and its place there. -/
abbrev rowAt (t : Fin cfg0.N) (r : Fin 256) : Fin 8192 := ⟨256 * t.val + r, by have := t_lt t; omega⟩
abbrev batchOf (t : Fin cfg0.N) : Fin 4 := ⟨t.val / 8, by have := t_lt t; omega⟩
abbrev posOf (t : Fin cfg0.N) (r : Fin 256) : Fin 2048 := ⟨256 * (t.val % 8) + r, by omega⟩

theorem batch_row (t : Fin cfg0.N) (r : Fin 256) (h) : (⟨(rowAt t r : ℕ) / 2048, h⟩ : Fin 4) = batchOf t := Fin.ext (by dsimp only; omega)
theorem pos_row (t : Fin cfg0.N) (r : Fin 256) (h) : (⟨(rowAt t r : ℕ) % 2048, h⟩ : Fin 2048) = posOf t r := Fin.ext (by dsimp only; omega)

/-- A grid point's blocks, read where they lie in the arguments. -/
theorem cq_at (c : Dev nD) (t : Fin cfg0.N) (r : Fin 256) (k : Fin 512) : X0_0 m c t (ix2 r k) = partQ (A0 m c) (ix3 (batchOf t) (posOf t r) k) := by
  have ht := t_lt t
  unfold X0_0 Pipeline.Window.fill
  rw [dif_pos (moved0_0 t _)]
  refine Eq.trans (b := V m c main_v6 (ix2 (rowAt t r) (⟨2048 + k, by omega⟩ : Fin 3328))) ?_ ?_
  · blk_ext [iblk, (idx t).1]
    all_goals omega
  · rw [x_at, batch_row, pos_row, laid_at, dif_pos ⟨by simp, by simp; omega⟩, partQ_at]
    exact congrArg (fun j => A0 m c (ix3 _ _ j)) (Fin.ext (by dsimp only; omega))
theorem ckv_at (c : Dev nD) (t : Fin cfg0.N) (r : Fin 256) (k : Fin 128) : iblk m c 1 t (ix2 r k) = partL (A0 m c) (ix3 (batchOf t) (posOf t r) k) := by
  have ht := t_lt t
  refine Eq.trans (b := V m c main_v6 (ix2 (rowAt t r) (⟨3072 + k, by omega⟩ : Fin 3328))) ?_ ?_
  · blk_ext [iblk, (idx t).2.1]
    all_goals omega
  · rw [x_at, batch_row, pos_row, laid_at, dif_neg (by simp; omega), dif_pos ⟨by simp, by simp; omega⟩, partL_at]
    exact congrArg (fun j => A0 m c (ix3 _ _ j)) (Fin.ext (by dsimp only; omega))
theorem kr_at (c : Dev nD) (t : Fin cfg0.N) (r : Fin 256) (k : Fin 128) : iblk m c 2 t (ix2 r k) = ext (fun j => partR (A0 m c) (ix3 (batchOf t) (posOf t r) j)) k := by
  have ht := t_lt t
  refine Eq.trans (b := V m c main_v6 (ix2 (rowAt t r) (⟨3200 + k, by omega⟩ : Fin 3328))) ?_ ?_
  · blk_ext [iblk, (idx t).2.2.1]
    all_goals omega
  · rw [x_at, batch_row, pos_row, laid_at, dif_neg (by simp; omega)]
    unfold ext
    refine dite_congr (propext ⟨fun h => by dsimp only at h; omega, fun h => by dsimp only; omega⟩) (fun h => ?_) fun _ => rfl
    refine Eq.trans ?_ (partR_at _ _ _ _).symm
    exact congrArg (fun j => A0 m c (ix3 _ _ j)) (Fin.ext (by dsimp only; omega))
theorem cos_at (c : Dev nD) (t : Fin cfg0.N) (r : Fin 256) (k : Fin 128) :
    iblk m c 3 t (ix2 r k) = ext (fun j => (Host.cos angle : FVec Ideal S2048x32 .f32) (ix2 (posOf t r) (⟨(j : ℕ) % 32, by omega⟩ : Fin 32))) k := by
  have ht := t_lt t
  refine Eq.trans (b := V m c main_v25 (ix2 (posOf t r) k)) ?_ ?_
  · blk_ext [iblk, (idx t).2.2.2.1]
    all_goals omega
  · rw [V_cos, tables_at]
theorem sin_at (c : Dev nD) (t : Fin cfg0.N) (r : Fin 256) (k : Fin 128) :
    iblk m c 4 t (ix2 r k) = ext (fun j => (Host.sin angle : FVec Ideal S2048x32 .f32) (ix2 (posOf t r) (⟨(j : ℕ) % 32, by omega⟩ : Fin 32))) k := by
  have ht := t_lt t
  refine Eq.trans (b := V m c main_v26 (ix2 (posOf t r) k)) ?_ ?_
  · blk_ext [iblk, (idx t).2.2.2.2.1]
    all_goals omega
  · rw [V_sin, tables_at]
theorem qgb_at (c : Dev nD) (t : Fin cfg0.N) (k : Fin 512) : iblk m c 5 t (ix2 (0 : Fin 1) k) = A1 m c (ix2 (0 : Fin 4) k) := by
  refine Eq.trans ?_ (qg_at m c _)
  blk_ext [iblk, (idx t).2.2.2.2.2.1]
  all_goals omega
theorem kvgb_at (c : Dev nD) (t : Fin cfg0.N) (k : Fin 128) : iblk m c 7 t (ix2 (0 : Fin 1) k) = A3 m c (ix2 (0 : Fin 4) k) := by
  refine Eq.trans ?_ (kvg_at m c _)
  blk_ext [iblk, (idx t).2.2.2.2.2.2.2.1]
  all_goals omega
theorem qngb_at (c : Dev nD) (t : Fin cfg0.N) (k : Fin 128) : iblk m c 8 t (ix2 (0 : Fin 1) k) = A6 m c (ix2 (0 : Fin 4) k) := by
  refine Eq.trans ?_ (qng_at m c _)
  blk_ext [iblk, (idx t).2.2.2.2.2.2.2.2.1]
  all_goals omega
theorem qrgb_at (c : Dev nD) (t : Fin cfg0.N) (k : Fin 128) : iblk m c 9 t (ix2 (0 : Fin 1) k) = ext (fun j => A7 m c (ix2 (0 : Fin 4) j)) k := by
  refine Eq.trans ?_ (qrg_at m c _)
  blk_ext [iblk, (idx t).2.2.2.2.2.2.2.2.2.1]
  all_goals omega
theorem kngb_at (c : Dev nD) (t : Fin cfg0.N) (k : Fin 128) : iblk m c 10 t (ix2 (0 : Fin 1) k) = A8 m c (ix2 (0 : Fin 4) k) := by
  refine Eq.trans ?_ (kng_at m c _)
  blk_ext [iblk, (idx t).2.2.2.2.2.2.2.2.2.2.1]
  all_goals omega
theorem krgb_at (c : Dev nD) (t : Fin cfg0.N) (k : Fin 128) : iblk m c 11 t (ix2 (0 : Fin 1) k) = ext (fun j => A9 m c (ix2 (0 : Fin 4) j)) k := by
  refine Eq.trans ?_ (krg_at m c _)
  blk_ext [iblk, (idx t).2.2.2.2.2.2.2.2.2.2.2.1]
  all_goals omega
theorem wb_at (c : Dev nD) (t : Fin cfg0.N) (k : Fin 512) (n : Fin 2048) : iblk m c 6 t (ix2 k n) = spread (A2 m c) (ix3 (0 : Fin 4) k n) := by
  refine Eq.trans ?_ (w_at m c _ _)
  blk_ext [iblk, (idx t).2.2.2.2.2.2.1]
  all_goals omega
theorem wukb_at (c : Dev nD) (t : Fin cfg0.N) (k : Fin 128) (n : Fin 1024) : iblk m c 12 t (ix2 k n) = A4 m c (ix4 (0 : Fin 4) k (⟨n / 128, by omega⟩ : Fin 8) (⟨n % 128, by omega⟩ : Fin 128)) := by
  refine Eq.trans ?_ (wuk_at m c _ _)
  blk_ext [iblk, (idx t).2.2.2.2.2.2.2.2.2.2.2.2.1]
  all_goals omega
theorem wuvb_at (c : Dev nD) (t : Fin cfg0.N) (k : Fin 128) (n : Fin 1024) : iblk m c 13 t (ix2 k n) = A5 m c (ix4 (0 : Fin 4) k (⟨n / 128, by omega⟩ : Fin 8) (⟨n % 128, by omega⟩ : Fin 128)) := by
  refine Eq.trans ?_ (wuv_at m c _ _)
  blk_ext [iblk, (idx t).2.2.2.2.2.2.2.2.2.2.2.2.2]
  all_goals omega

end Cert.Kernel6Ideal.Value
end
-- ==== Proof.MlaMid.lean ====
module

public import proofs.«01_k».proof.Proof.Gen.Kernel6Ideal.Value
public import proofs.«01_k».proof.Proof.MlaIn
public import Idealize.ShloMosaic.Lib.Pointwise
public import Idealize.ShloMosaic.Lib.Pipeline.ValueKit

@[expose] public section

set_option maxRecDepth 16384
noncomputable section
open Idealize.ShloMosaic Idealize.ShloMosaic.TcCoe Idealize.SL.Sem

namespace Cert.Kernel6Ideal.Value
open Cert.Kernel6Ideal Cert.Kernel6Ideal.Gen
open Cert.Reference6Ideal.Value
variable (m : (ℓ : Loc nD τ sig) → Buf (Elt Ideal) ℓ)

/-- The queries and the latent, as the body computes them. -/
abbrev QQ (c : Dev nD) := queries (queryLatent (partQ (A0 m c)) (A1 m c)) (A2 m c)
abbrev LL (c : Dev nD) := latent (partL (A0 m c)) (A3 m c)
abbrev RR (c : Dev nD) := keyRotated (keyNormed (partR (A0 m c)) (A9 m c))

theorem pay4_at (x g w) (r : Fin 256) (n : Fin 2048) :
    k0_pay4 (F := Ideal) x g w (ix2 r n) = ∑ k : Fin 512, nrm 0x44000000#32 (fun j => x (ix2 r j)) (fun j => g (ix2 (0 : Fin 1) j)) k * w (ix2 k n) := by
  unfold nrm
  pointwise [k0_pay4]
theorem pay8_at (x g) (r : Fin 256) (d : Fin 128) :
    k0_pay8 (F := Ideal) (k0_pay5 x) (k0_pay6 g) (k0_pay7 x) (ix2 r d) = nrm 0x43000000#32 (fun j => x (ix2 r j)) (fun j => g (ix2 (0 : Fin 1) j)) d := by
  unfold nrm
  pointwise [k0_pay8, k0_pay7, k0_pay6, k0_pay5]
theorem pay11_at (a b e w) (r : Fin 256) (n : Fin 1024) :
    k0_pay11 (F := Ideal) a b e w (ix2 r n) = ∑ k : Fin 128, k0_pay8 (F := Ideal) a b e (ix2 r k) * w (ix2 k n) := by
  unfold k0_pay11 k0_pay10
  generalize k0_pay8 (F := Ideal) a b e = y
  pointwise
theorem pay13_at (a b e w) (r : Fin 256) (n : Fin 1024) :
    k0_pay13 (F := Ideal) (k0_pay10 a b e) (k0_pay12 w) (constant S256x1024 .f32 0x00000000#32) (ix2 r n) = ∑ k : Fin 128, k0_pay8 (F := Ideal) a b e (ix2 r k) * w (ix2 k n) := by
  unfold k0_pay13 k0_pay10 k0_pay12
  generalize k0_pay8 (F := Ideal) a b e = y
  pointwise

/-- The body's products at a grid point. -/
abbrev qBlk (c : Dev nD) (t : Fin cfg0.N) : FVec Ideal S256x2048 .f32 := k0_pay4 (X0_0 m c t) (iblk m c 5 t) (iblk m c 6 t)
abbrev lBlk (c : Dev nD) (t : Fin cfg0.N) : FVec Ideal S256x128 .f32 := k0_pay8 (k0_pay5 (iblk m c 1 t)) (k0_pay6 (iblk m c 7 t)) (k0_pay7 (iblk m c 1 t))
abbrev kBlk (c : Dev nD) (t : Fin cfg0.N) : FVec Ideal S256x1024 .f32 := k0_pay11 (k0_pay5 (iblk m c 1 t)) (k0_pay6 (iblk m c 7 t)) (k0_pay7 (iblk m c 1 t)) (iblk m c 12 t)
abbrev rBlk (c : Dev nD) (t : Fin cfg0.N) : FVec Ideal S256x128 .f32 := k0_pay9 (k0_pay2 (iblk m c 3 t)) (k0_pay3 (iblk m c 4 t)) (iota Kind.tc S256x128 32 [1] iota_S256x128_d1_w32) (iblk m c 2 t) (iblk m c 11 t)

theorem qBlk_at (c : Dev nD) (t : Fin cfg0.N) (r : Fin 256) (n : Fin 2048) :
    qBlk m c t (ix2 r n) = if h : (n : ℕ) % 256 < 192 then QQ m c (ix4 (batchOf t) (posOf t r) (⟨n / 256, by omega⟩ : Fin 8) (⟨n % 256, h⟩ : Fin 192)) else 0 := by
  refine (pay4_at _ _ _ _ _).trans ?_
  have e : ∀ k : Fin 512, nrm 0x44000000#32 (fun j => X0_0 m c t (ix2 r j)) (fun j => (iblk m c 5 t : FVec Ideal S1x512 .f32) (ix2 (0 : Fin 1) j)) k * (iblk m c 6 t : FVec Ideal S512x2048 .bf16) (ix2 k n)
      = queryLatent (partQ (A0 m c)) (A1 m c) (ix3 (batchOf t) (posOf t r) k) * spread (A2 m c) (ix3 (0 : Fin 4) k n) := fun k => by
    rw [queryLatent_at, wb_at]
    simp only [cq_at, qgb_at]
  rw [Finset.sum_congr rfl fun k _ => e k]
  simp only [spread_at]
  split_ifs with h
  · exact (queries_at (queryLatent (partQ (A0 m c)) (A1 m c)) (A2 m c) (batchOf t) (posOf t r) (⟨n / 256, by omega⟩ : Fin 8) (⟨n % 256, h⟩ : Fin 192)).symm
  · simp only [mul_zero, Finset.sum_const_zero]
theorem lBlk_at (c : Dev nD) (t : Fin cfg0.N) (r : Fin 256) (d : Fin 128) : lBlk m c t (ix2 r d) = LL m c (ix3 (batchOf t) (posOf t r) d) := by
  refine (pay8_at _ _ _ _).trans ?_
  refine Eq.trans ?_ (latent_at _ _ _ _ _).symm
  simp only [ckv_at, kvgb_at]
theorem kBlk_at (c : Dev nD) (t : Fin cfg0.N) (r : Fin 256) (n : Fin 1024) :
    kBlk m c t (ix2 r n) = perHead (LL m c) (A4 m c) (ix4 (batchOf t) (posOf t r) (⟨n / 128, by omega⟩ : Fin 8) (⟨n % 128, by omega⟩ : Fin 128)) := by
  refine (pay11_at _ _ _ _ _ _).trans ?_
  rw [perHead_at]
  exact Finset.sum_congr rfl fun k _ => Ideal.mul_congr (lBlk_at m c t r k) (wukb_at m c t k n)
theorem vBlk_at (c : Dev nD) (t : Fin cfg0.N) (r : Fin 256) (n : Fin 1024) :
    k0_pay13 (F := Ideal) (k0_pay10 (k0_pay5 (iblk m c 1 t)) (k0_pay6 (iblk m c 7 t)) (k0_pay7 (iblk m c 1 t))) (k0_pay12 (iblk m c 13 t)) (constant S256x1024 .f32 0x00000000#32) (ix2 r n)
      = perHead (LL m c) (A5 m c) (ix4 (batchOf t) (posOf t r) (⟨n / 128, by omega⟩ : Fin 8) (⟨n % 128, by omega⟩ : Fin 128)) := by
  rw [pay13_at, perHead_at]
  exact Finset.sum_congr rfl fun k _ => Ideal.mul_congr (lBlk_at m c t r k) (wuvb_at m c t k n)

/-- The rotary tables as the body has them. -/
theorem cosb_at (c : Dev nD) (t : Fin cfg0.N) (r : Fin 256) (k : Fin 128) :
    k0_pay2 (F := Ideal) (iblk m c 3 t) (ix2 r k) = ext (fun j => (Host.cos angle : FVec Ideal S2048x32 .f32) (ix2 (posOf t r) (⟨(j : ℕ) % 32, by omega⟩ : Fin 32))) k := by
  rw [← cos_at m c t r k]
  unfold k0_pay2
  rw [shapeCast_self]
theorem sinb_at (c : Dev nD) (t : Fin cfg0.N) (r : Fin 256) (k : Fin 128) :
    k0_pay3 (F := Ideal) (iblk m c 4 t) (ix2 r k) = ext (fun j => (Host.sin angle : FVec Ideal S2048x32 .f32) (ix2 (posOf t r) (⟨(j : ℕ) % 32, by omega⟩ : Fin 32))) k := by
  rw [← sin_at m c t r k]
  unfold k0_pay3
  rw [shapeCast_self]

/-- A block of 64 lanes and 64 zeros, normed and rotated at a grid point. -/
theorem rotary_at (c : Dev nD) (t : Fin cfg0.N) (x g) (u v : Fin 64 → EReal) (r : Fin 256) (hx : ∀ d, x (ix2 r d) = ext u d) (hg : ∀ d, g (ix2 (0 : Fin 1) d) = ext v d) (d : Fin 128) :
    ropePiece (normPiece 0x42800000#32 x g) (k0_pay2 (iblk m c 3 t)) (k0_pay3 (iblk m c 4 t)) (ix2 r d)
      = ext (rot (nrm 0x42800000#32 u v) (fun j => (Host.cos angle : FVec Ideal S2048x32 .f32) (ix2 (posOf t r) j)) (fun j => (Host.sin angle : FVec Ideal S2048x32 .f32) (ix2 (posOf t r) j))) d := by
  refine rope_ext _ _ _ _ _ _ r (fun d => ?_) (cosb_at m c t r) (sinb_at m c t r) d
  rw [normPiece_at]
  simp only [hx, hg]
  exact nrm_ext _ _ _ _

theorem rBlk_at (c : Dev nD) (t : Fin cfg0.N) (r : Fin 256) (d : Fin 128) : rBlk m c t (ix2 r d) = ext (fun j => RR m c (ix3 (batchOf t) (posOf t r) j)) d := by
  refine Eq.trans (rotary_at m c t (shapeCast S256x128 (iblk m c 2 t) shapeCasts_S256x128_S256x128) (iblk m c 11 t) (fun j => partR (A0 m c) (ix3 (batchOf t) (posOf t r) j)) _ r (fun d => ?_) (krgb_at m c t) d) ?_
  · exact (congrFun (shapeCast_self _ _) _).trans (kr_at m c t r d)
  · congr 1
    funext j
    refine Eq.trans ?_ (keyRotated_at _ _ _ _).symm
    simp only [keyNormed_at]

end Cert.Kernel6Ideal.Value
end
-- ==== Proof.MlaTile.lean ====
module

public import proofs.«01_k».proof.Proof.Gen.Kernel6Ideal.Value
public import proofs.«01_k».proof.Proof.MlaMid
public import Idealize.ShloMosaic.Lib.Pointwise
public import Idealize.ShloMosaic.Lib.Pipeline.ValueKit

@[expose] public section

set_option maxRecDepth 16384
noncomputable section
open Idealize.ShloMosaic Idealize.ShloMosaic.TcCoe Idealize.SL.Sem

namespace Cert.Kernel6Ideal.Value
open Cert.Kernel6Ideal Cert.Kernel6Ideal.Gen
open Cert.Reference6Ideal.Value
variable (m : (ℓ : Loc nD τ sig) → Buf (Elt Ideal) ℓ)

/-- What the blocks of queries and of keys are to hold. -/
abbrev wantQ (c : Dev nD) : FVec Ideal S8192x2048 .bf16 := heads (headNormed (lanesN (QQ m c)) (A6 m c)) (headRotated (headRotNormed (lanesR (QQ m c)) (A7 m c)))
abbrev wantR (c : Dev nD) : FVec Ideal Cert.Reference6Ideal.S4x2048x8x64 .f32 :=
  broadcastInDim _ ![0, 1, 2, 3] Cert.Reference6Ideal.Gen.bcast_S4x2048x1x64_S4x2048x8x64_0_1_2_3 (broadcastInDim _ ![0, 1, 3] Cert.Reference6Ideal.Gen.bcast_S4x2048x64_S4x2048x1x64_0_1_3 (RR m c))
abbrev wantK (c : Dev nD) : FVec Ideal S8192x2048 .bf16 := heads (headNormed (perHead (LL m c) (A4 m c)) (A8 m c)) (wantR m c)

theorem wantR_at (c : Dev nD) (b : Fin 4) (p : Fin 2048) (i : Fin 8) (j : Fin 64) : wantR m c (ix4 b p i j) = RR m c (ix3 b p j) := by
  unfold wantR
  generalize RR m c = z
  pointwise

/-- A block of 128 lanes of a row of heads: a head's lanes without position, or its rotary lanes and zeros. -/
theorem headsN (u v) (t : Fin cfg0.N) (r : Fin 256) (d : Fin 128) {o : ℕ} (ho : o % 256 = 0) (hl : o < 2048) :
    heads u v (ix2 (rowAt t r) (⟨o + d, by omega⟩ : Fin 2048)) = u (ix4 (batchOf t) (posOf t r) (⟨o / 256, by omega⟩ : Fin 8) d) := by
  rw [heads_at, batch_row, pos_row, dif_pos (by dsimp only; omega)]
  congr 2
  · exact Fin.ext (by dsimp only; omega)
  · exact Fin.ext (by dsimp only; omega)
theorem headsR (u v) (t : Fin cfg0.N) (r : Fin 256) (d : Fin 128) {o : ℕ} (ho : o % 256 = 128) (hl : o < 2048) :
    heads u v (ix2 (rowAt t r) (⟨o + d, by omega⟩ : Fin 2048)) = ext (fun j => v (ix4 (batchOf t) (posOf t r) (⟨o / 256, by omega⟩ : Fin 8) j)) d := by
  rw [heads_at, batch_row, pos_row, dif_neg (by dsimp only; omega)]
  unfold ext
  refine dite_congr (propext ⟨fun h => by dsimp only at h; omega, fun h => by dsimp only; omega⟩) (fun _ => ?_) fun _ => rfl
  congr 2
  · exact Fin.ext (by dsimp only; omega)
  · exact Fin.ext (by dsimp only; omega)

/-- A slice of the queries' block. -/
theorem qSlice_at (c : Dev nD) (t : Fin cfg0.N) {o : ℕ} (hs : S256x2048.Slices ![0, o] S256x128) (ho : o + 128 ≤ 2048) (r : Fin 256) (d : Fin 128) :
    extractStridedSlice S256x128 ![0, o] (qBlk m c t) hs (ix2 r d) = qBlk m c t (ix2 r (⟨o + d, by omega⟩ : Fin 2048)) := by
  generalize qBlk m c t = q
  pointwise
theorem qSliceN (c : Dev nD) (t : Fin cfg0.N) {o : ℕ} (hs : S256x2048.Slices ![0, o] S256x128) (ho : o % 256 = 0) (hl : o < 2048) (r : Fin 256) (d : Fin 128) :
    extractStridedSlice S256x128 ![0, o] (qBlk m c t) hs (ix2 r d) = lanesN (QQ m c) (ix4 (batchOf t) (posOf t r) (⟨o / 256, by omega⟩ : Fin 8) d) := by
  rw [qSlice_at m c t hs (by omega), qBlk_at, lanesN_at, dif_pos (by dsimp only; omega)]
  congr 2
  · exact Fin.ext (by dsimp only; omega)
  · exact Fin.ext (by dsimp only; omega)
theorem qSliceR (c : Dev nD) (t : Fin cfg0.N) {o : ℕ} (hs : S256x2048.Slices ![0, o] S256x128) (ho : o % 256 = 128) (hl : o < 2048) (r : Fin 256) (d : Fin 128) :
    extractStridedSlice S256x128 ![0, o] (qBlk m c t) hs (ix2 r d) = ext (fun j => lanesR (QQ m c) (ix4 (batchOf t) (posOf t r) (⟨o / 256, by omega⟩ : Fin 8) j)) d := by
  rw [qSlice_at m c t hs (by omega), qBlk_at]
  unfold ext
  refine dite_congr (propext ⟨fun h => by dsimp only at h; omega, fun h => by dsimp only; omega⟩) (fun h => ?_) fun _ => rfl
  refine Eq.trans ?_ (lanesR_at (QQ m c) _ _ _ _).symm
  congr 2
  · exact Fin.ext (by dsimp only; omega)
  · exact Fin.ext (by dsimp only; omega)
/-- A slice of the keys' block. -/
theorem kSlice_at (c : Dev nD) (t : Fin cfg0.N) {o : ℕ} (hs : S256x1024.Slices ![0, o] S256x128) (ho : o % 128 = 0) (hl : o < 1024) (r : Fin 256) (d : Fin 128) :
    extractStridedSlice S256x128 ![0, o] (kBlk m c t) hs (ix2 r d) = perHead (LL m c) (A4 m c) (ix4 (batchOf t) (posOf t r) (⟨o / 128, by omega⟩ : Fin 8) d) := by
  have e : extractStridedSlice S256x128 ![0, o] (kBlk m c t) hs (ix2 r d) = kBlk m c t (ix2 r (⟨o + d, by omega⟩ : Fin 1024)) := by
    generalize kBlk m c t = q
    pointwise
  rw [e, kBlk_at]
  congr 2
  · exact Fin.ext (by dsimp only; omega)
  · exact Fin.ext (by dsimp only; omega)

/-- Every piece the body writes to its block of queries, and to its block of keys. -/
theorem qPieceN (c : Dev nD) (t : Fin cfg0.N) {o : ℕ} (hs : S256x2048.Slices ![0, o] S256x128) (ho : o % 256 = 0) (hl : o < 2048) (r : Fin 256) (d : Fin 128) :
    normPiece 0x43000000#32 (extractStridedSlice S256x128 ![0, o] (qBlk m c t) hs) (iblk m c 8 t) (ix2 r d) = wantQ m c (ix2 (rowAt t r) (⟨o + d, by omega⟩ : Fin 2048)) := by
  unfold wantQ
  rw [normPiece_at, headsN _ _ t r d ho hl, headNormed_at]
  simp only [qSliceN m c t hs ho hl, qngb_at]
theorem qPieceR (c : Dev nD) (t : Fin cfg0.N) {o : ℕ} (hs : S256x2048.Slices ![0, o] S256x128) (ho : o % 256 = 128) (hl : o < 2048) (r : Fin 256) (d : Fin 128) :
    ropePiece (normPiece 0x42800000#32 (extractStridedSlice S256x128 ![0, o] (qBlk m c t) hs) (iblk m c 9 t)) (k0_pay2 (iblk m c 3 t)) (k0_pay3 (iblk m c 4 t)) (ix2 r d) = wantQ m c (ix2 (rowAt t r) (⟨o + d, by omega⟩ : Fin 2048)) := by
  unfold wantQ
  rw [headsR _ _ t r d ho hl, rotary_at m c t _ _ _ _ r (qSliceR m c t hs ho hl r) (qrgb_at m c t) d]
  simp only [headRotated_at, headRotNormed_at]
theorem kPieceN (c : Dev nD) (t : Fin cfg0.N) {o o' : ℕ} (hs : S256x1024.Slices ![0, o'] S256x128) (he : o = 2 * o') (ho : o % 256 = 0) (hl : o < 2048) (r : Fin 256) (d : Fin 128) :
    normPiece 0x43000000#32 (extractStridedSlice S256x128 ![0, o'] (kBlk m c t) hs) (iblk m c 10 t) (ix2 r d) = wantK m c (ix2 (rowAt t r) (⟨o + d, by omega⟩ : Fin 2048)) := by
  have e : (⟨o' / 128, by omega⟩ : Fin 8) = ⟨o / 256, by omega⟩ := Fin.ext (by dsimp only; omega)
  unfold wantK
  rw [normPiece_at, headsN _ _ t r d ho hl, headNormed_at]
  simp only [kSlice_at m c t hs (by omega) (by omega), kngb_at, e]
theorem kPieceR (c : Dev nD) (t : Fin cfg0.N) {o : ℕ} (ho : o % 256 = 128) (hl : o < 2048) (r : Fin 256) (d : Fin 128) :
    rBlk m c t (ix2 r d) = wantK m c (ix2 (rowAt t r) (⟨o + d, by omega⟩ : Fin 2048)) := by
  unfold wantK
  rw [rBlk_at, headsR _ _ t r d ho hl]
  simp only [wantR_at]

/-- A piece read by its own rows and lanes. -/
theorem of_piece (f : FVec Ideal S256x128 .f32) (g : FVec Ideal S8192x2048 .bf16) (t : Fin cfg0.N) {o : ℕ} (x : S256x128.Idx) (y : S256x2048.Idx) (h0 : (y 0 : ℕ) = x 0) (h1 : (y 1 : ℕ) = o + x 1) (hl : o + 128 ≤ 2048)
    (H : ∀ (r : Fin 256) (d : Fin 128), f (ix2 r d) = g (ix2 (rowAt t r) (⟨o + d, by omega⟩ : Fin 2048))) :
    (truncf .bf16 f bitsLt_bf16_f32 : FVec Ideal S256x128 .bf16) x = g (ix2 (rowAt t (y 0)) (y 1)) := by
  refine (congrArg f (eq_ix2 x)).trans ((H (x 0) (x 1)).trans (congrArg g ?_))
  exact (ix2_inj _ _ _ _).2 ⟨Fin.ext (by dsimp only; omega), Fin.ext h1.symm⟩

end Cert.Kernel6Ideal.Value
end
-- ==== Proof.Mla.lean ====
module

public import proofs.«01_k».proof.Proof.Gen.Kernel6Ideal.Value
public import proofs.«01_k».proof.Proof.MlaTile
public import Idealize.ShloMosaic.Lib.Pointwise
public import Idealize.ShloMosaic.Lib.Pipeline.ValueKit

@[expose] public section

set_option maxRecDepth 16384
noncomputable section
open Idealize.ShloMosaic Idealize.ShloMosaic.TcCoe Idealize.SL.Sem

namespace Cert.Kernel6Ideal.Value
open Cert.Kernel6Ideal Cert.Kernel6Ideal.Gen
open Cert.Reference6Ideal.Value
variable (m : (ℓ : Loc nD τ sig) → Buf (Elt Ideal) ℓ)

/-- The queries' block a grid point writes, piece by piece. -/
theorem q_eq (c : Dev nD) (t : Fin cfg0.N) (y : S256x2048.Idx) :
    (outsAt0 m c t).1 y = wantQ m c (ix2 (rowAt t (y 0)) (y 1)) := by
  unfold outsAt0
  dsimp only
  frame_out [out0_A_14]
  canon_tiles x h
  · exact of_piece _ (wantQ m c) t x y h0 h1 (by omega) (qPieceR m c t slices_S256x2048_o0_1920_S256x128 (by omega) (by omega))
  · exact of_piece _ (wantQ m c) t x y h0 h1 (by omega) (qPieceN m c t slices_S256x2048_o0_1792_S256x128 (by omega) (by omega))
  · exact of_piece _ (wantQ m c) t x y h0 h1 (by omega) (qPieceR m c t slices_S256x2048_o0_1664_S256x128 (by omega) (by omega))
  · exact of_piece _ (wantQ m c) t x y h0 h1 (by omega) (qPieceN m c t slices_S256x2048_o0_1536_S256x128 (by omega) (by omega))
  · exact of_piece _ (wantQ m c) t x y h0 h1 (by omega) (qPieceR m c t slices_S256x2048_o0_1408_S256x128 (by omega) (by omega))
  · exact of_piece _ (wantQ m c) t x y h0 h1 (by omega) (qPieceN m c t slices_S256x2048_o0_1280_S256x128 (by omega) (by omega))
  · exact of_piece _ (wantQ m c) t x y h0 h1 (by omega) (qPieceR m c t slices_S256x2048_o0_1152_S256x128 (by omega) (by omega))
  · exact of_piece _ (wantQ m c) t x y h0 h1 (by omega) (qPieceN m c t slices_S256x2048_o0_1024_S256x128 (by omega) (by omega))
  · exact of_piece _ (wantQ m c) t x y h0 h1 (by omega) (qPieceR m c t slices_S256x2048_o0_896_S256x128 (by omega) (by omega))
  · exact of_piece _ (wantQ m c) t x y h0 h1 (by omega) (qPieceN m c t slices_S256x2048_o0_768_S256x128 (by omega) (by omega))
  · exact of_piece _ (wantQ m c) t x y h0 h1 (by omega) (qPieceR m c t slices_S256x2048_o0_640_S256x128 (by omega) (by omega))
  · exact of_piece _ (wantQ m c) t x y h0 h1 (by omega) (qPieceN m c t slices_S256x2048_o0_512_S256x128 (by omega) (by omega))
  · exact of_piece _ (wantQ m c) t x y h0 h1 (by omega) (qPieceR m c t slices_S256x2048_o0_384_S256x128 (by omega) (by omega))
  · exact of_piece _ (wantQ m c) t x y h0 h1 (by omega) (qPieceN m c t slices_S256x2048_o0_256_S256x128 (by omega) (by omega))
  · exact of_piece _ (wantQ m c) t x y h0 h1 (by omega) (qPieceR m c t slices_S256x2048_o0_128_S256x128 (by omega) (by omega))
  · exact of_piece (o := 0) _ (wantQ m c) t x y h0 (by omega) (by omega) (qPieceN m c t slices_S256x2048_o0_0_S256x128 (by omega) (by omega))

/-- The keys' block a grid point writes, piece by piece. -/
theorem k_eq (c : Dev nD) (t : Fin cfg0.N) (y : S256x2048.Idx) :
    (outsAt0 m c t).2.1 y = wantK m c (ix2 (rowAt t (y 0)) (y 1)) := by
  unfold outsAt0
  dsimp only
  frame_out [out0_A_15]
  canon_tiles x h
  · exact of_piece _ (wantK m c) t x y h0 h1 (by omega) (kPieceR m c t (by omega) (by omega))
  · exact of_piece _ (wantK m c) t x y h0 h1 (by omega) (kPieceN m c t slices_S256x1024_o0_896_S256x128 (by omega) (by omega) (by omega))
  · exact of_piece _ (wantK m c) t x y h0 h1 (by omega) (kPieceR m c t (by omega) (by omega))
  · exact of_piece _ (wantK m c) t x y h0 h1 (by omega) (kPieceN m c t slices_S256x1024_o0_768_S256x128 (by omega) (by omega) (by omega))
  · exact of_piece _ (wantK m c) t x y h0 h1 (by omega) (kPieceR m c t (by omega) (by omega))
  · exact of_piece _ (wantK m c) t x y h0 h1 (by omega) (kPieceN m c t slices_S256x1024_o0_640_S256x128 (by omega) (by omega) (by omega))
  · exact of_piece _ (wantK m c) t x y h0 h1 (by omega) (kPieceR m c t (by omega) (by omega))
  · exact of_piece _ (wantK m c) t x y h0 h1 (by omega) (kPieceN m c t slices_S256x1024_o0_512_S256x128 (by omega) (by omega) (by omega))
  · exact of_piece _ (wantK m c) t x y h0 h1 (by omega) (kPieceR m c t (by omega) (by omega))
  · exact of_piece _ (wantK m c) t x y h0 h1 (by omega) (kPieceN m c t slices_S256x1024_o0_384_S256x128 (by omega) (by omega) (by omega))
  · exact of_piece _ (wantK m c) t x y h0 h1 (by omega) (kPieceR m c t (by omega) (by omega))
  · exact of_piece _ (wantK m c) t x y h0 h1 (by omega) (kPieceN m c t slices_S256x1024_o0_256_S256x128 (by omega) (by omega) (by omega))
  · exact of_piece _ (wantK m c) t x y h0 h1 (by omega) (kPieceR m c t (by omega) (by omega))
  · exact of_piece _ (wantK m c) t x y h0 h1 (by omega) (kPieceN m c t slices_S256x1024_o0_128_S256x128 (by omega) (by omega) (by omega))
  · exact of_piece _ (wantK m c) t x y h0 h1 (by omega) (kPieceR m c t (by omega) (by omega))
  · exact of_piece (o := 0) _ (wantK m c) t x y h0 (by omega) (by omega) (kPieceN m c t slices_S256x1024_o0_0_S256x128 (by omega) (by omega) (by omega))

/-- The other three blocks a grid point writes: values, latent and rotated key. -/
theorem v_eq (c : Dev nD) (t : Fin cfg0.N) (r : Fin 256) (n : Fin 1024) :
    (outsAt0 m c t).2.2.1 (ix2 r n) = resV (A0 m c) (A3 m c) (A5 m c) (ix2 (rowAt t r) n) := by
  unfold outsAt0
  dsimp only
  frame_out [out0_A_16]
  rw [resV_at, batch_row, pos_row]
  exact vBlk_at m c t r n
theorem l_eq (c : Dev nD) (t : Fin cfg0.N) (r : Fin 256) (n : Fin 128) :
    (outsAt0 m c t).2.2.2.1 (ix2 r n) = resL (A0 m c) (A3 m c) (ix2 (rowAt t r) n) := by
  unfold outsAt0
  dsimp only
  frame_out [out0_A_17]
  rw [resL_at, batch_row, pos_row]
  exact lBlk_at m c t r n
theorem r_eq (c : Dev nD) (t : Fin cfg0.N) (r : Fin 256) (n : Fin 128) :
    (outsAt0 m c t).2.2.2.2 (ix2 r n) = resR (A0 m c) (A9 m c) (ix2 (rowAt t r) n) := by
  unfold outsAt0
  dsimp only
  frame_out [out0_A_18]
  rw [resR_at, batch_row, pos_row]
  exact rBlk_at m c t r n

/-- The result arrays after the run are the reference's results. -/
theorem final14 (c : Dev nD) : (dats m 0 c).arrAt 14 cfg0.N = resQ (A0 m c) (A1 m c) (A2 m c) (A6 m c) (A7 m c) := by
  refine (dats m 0 c).arrAt_eq_of_covers 14 _ (by decide +kernel) fun t _ y => ?_
  blk_simp
  rw [after0_14]
  refine (q_eq m c t y).trans (congrArg (wantQ m c) (Eq.symm ?_))
  refine (eq_ix2 (n0 := 8192) (n1 := 2048) _).trans ((ix2_inj _ _ _ _).2 ⟨Fin.ext (Eq.trans ?_ (rfl : 256 * t.val + (y 0 : ℕ) = _)), Fin.ext ?_⟩)
  · blk_simp [(idx' t).1]
    omega
  · blk_simp [(idx' t).1]
theorem final15 (c : Dev nD) : (dats m 0 c).arrAt 15 cfg0.N = resK (A0 m c) (A3 m c) (A4 m c) (A8 m c) (A9 m c) := by
  refine (dats m 0 c).arrAt_eq_of_covers 15 _ (by decide +kernel) fun t _ y => ?_
  blk_simp
  rw [after0_15]
  refine (k_eq m c t y).trans (congrArg (wantK m c) (Eq.symm ?_))
  refine (eq_ix2 (n0 := 8192) (n1 := 2048) _).trans ((ix2_inj _ _ _ _).2 ⟨Fin.ext (Eq.trans ?_ (rfl : 256 * t.val + (y 0 : ℕ) = _)), Fin.ext ?_⟩)
  · blk_simp [(idx' t).2.1]
    omega
  · blk_simp [(idx' t).2.1]
theorem final16 (c : Dev nD) : (dats m 0 c).arrAt 16 cfg0.N = resV (A0 m c) (A3 m c) (A5 m c) := by
  refine (dats m 0 c).arrAt_eq_of_covers 16 _ (by decide +kernel) fun t _ y => ?_
  blk_simp
  rw [after0_16]
  refine (congrArg _ (eq_ix2 (n0 := 256) (n1 := 1024) y)).trans ((v_eq m c t (y 0) (y 1)).trans (congrArg (resV (A0 m c) (A3 m c) (A5 m c)) (Eq.symm ?_)))
  refine (eq_ix2 (n0 := 8192) (n1 := 1024) _).trans ((ix2_inj _ _ _ _).2 ⟨Fin.ext (Eq.trans ?_ (rfl : 256 * t.val + (y 0 : ℕ) = _)), Fin.ext ?_⟩)
  · blk_simp [(idx' t).2.2.1]
    omega
  · blk_simp [(idx' t).2.2.1]
theorem final17 (c : Dev nD) : (dats m 0 c).arrAt 17 cfg0.N = resL (A0 m c) (A3 m c) := by
  refine (dats m 0 c).arrAt_eq_of_covers 17 _ (by decide +kernel) fun t _ y => ?_
  blk_simp
  rw [after0_17]
  refine (congrArg _ (eq_ix2 (n0 := 256) (n1 := 128) y)).trans ((l_eq m c t (y 0) (y 1)).trans (congrArg (resL (A0 m c) (A3 m c)) (Eq.symm ?_)))
  refine (eq_ix2 (n0 := 8192) (n1 := 128) _).trans ((ix2_inj _ _ _ _).2 ⟨Fin.ext (Eq.trans ?_ (rfl : 256 * t.val + (y 0 : ℕ) = _)), Fin.ext ?_⟩)
  · blk_simp [(idx' t).2.2.2.1]
    omega
  · blk_simp [(idx' t).2.2.2.1]
theorem final18 (c : Dev nD) : (dats m 0 c).arrAt 18 cfg0.N = resR (A0 m c) (A9 m c) := by
  refine (dats m 0 c).arrAt_eq_of_covers 18 _ (by decide +kernel) fun t _ y => ?_
  blk_simp
  rw [after0_18]
  refine (congrArg _ (eq_ix2 (n0 := 256) (n1 := 128) y)).trans ((r_eq m c t (y 0) (y 1)).trans (congrArg (resR (A0 m c) (A9 m c)) (Eq.symm ?_)))
  refine (eq_ix2 (n0 := 8192) (n1 := 128) _).trans ((ix2_inj _ _ _ _).2 ⟨Fin.ext (Eq.trans ?_ (rfl : 256 * t.val + (y 0 : ℕ) = _)), Fin.ext ?_⟩)
  · blk_simp [(idx' t).2.2.2.2]
    omega
  · blk_simp [(idx' t).2.2.2.2]

end Cert.Kernel6Ideal.Value
end
-- ==== Proof.RefStep.lean ====
module

public import proofs.«01_k».proof.Proof.Gen.Reference7Ideal.Run
public import proofs.«01_k».proof.Proof.RefUp
public import Idealize.ShloMosaic.Lib.Pointwise
public import Idealize.ShloMosaic.Lib.Pipeline.ValueKit

@[expose] public section

set_option maxRecDepth 16384
noncomputable section
open Idealize.ShloMosaic Idealize.ShloMosaic.TcCoe Idealize.SL.Sem

namespace Cert.Reference7Ideal.Value
open Cert.Reference7Ideal Cert.Reference7Ideal.Gen
open Cert.Reference2Ideal.Value (normEntry convEntry gateEntry)

/-- The modulated norm of the sample's rows. -/
def normed (x : FVec Ideal S128x1x2048 .f32) (g : FVec Ideal S4x2048 .f32) (sh sc : FVec Ideal S128x2048 .f32) : FVec Ideal S128x1x2048 .f32 :=
  addf (mulf (mulf (mulf x (broadcastInDim S128x1x2048 ![0, 1, 2] bcast_S128x1x1_S128x1x2048_0_1_2 (Host.rsqrt (addf (Host.divf (broadcastInDim S128x1x1 ![0, 1] bcast_S128x1_S128x1x1_0_1 (Host.reduceAdd (mulf x x) (constant S_ .f32 0x00000000#32) reducesTo_S128x1x2048_S128x1_d2 h_S_)) (broadcastInDim S128x1x1 ![] bcast_S_S128x1x1 (constant S_ .f32 0x45000000#32))) (broadcastInDim S128x1x1 ![] bcast_S_S128x1x1 (constant S_ .f32 0x358637BD#32))))))
    (broadcastInDim S128x1x2048 ![0, 1, 2] bcast_S1x1x2048_S128x1x2048_0_1_2 (broadcastInDim S1x1x2048 ![2] bcast_S2048_S1x1x2048_2 (shapeCast _ (extractStridedSlice S1x2048 ![0, 0] g slices_S4x2048_S1x2048_0_0) shapeCasts_S1x2048_S2048))))
    (addf (broadcastInDim S128x1x2048 ![] bcast_S_S128x1x2048 (constant S_ .f32 0x3F800000#32)) (broadcastInDim S128x1x2048 ![0, 2] bcast_S128x2048_S128x1x2048_0_2 sc)))
    (broadcastInDim S128x1x2048 ![0, 2] bcast_S128x2048_S128x1x2048_0_2 sh)

/-- The up projection. -/
def up (h : FVec Ideal S128x1x2048 .f32) (w : FVec Ideal S4x2048x11264 .f32) : FVec Ideal S128x1x11264 .f32 :=
  Host.dotGeneral dot_S128x1x2048_S2048x11264_S128x1x11264_2_0_01_1_n_n none h (shapeCast _ (extractStridedSlice S1x2048x11264 ![0, 0, 0] w slices_S4x2048x11264_S1x2048x11264_0_0_0) shapeCasts_S1x2048x11264_S2048x11264)

/-- The two carried rows before each new one. -/
def joined (st : FVec Ideal S4x128x2x11264 .f32) (u : FVec Ideal S128x1x11264 .f32) : FVec Ideal S128x3x11264 .f32 :=
  concatenate S128x3x11264 1 [⟨S128x2x11264, (shapeCast _ (extractStridedSlice S1x128x2x11264 ![0, 0, 0, 0] st slices_S4x128x2x11264_S1x128x2x11264_0_0_0_0) shapeCasts_S1x128x2x11264_S128x2x11264)⟩, ⟨S128x1x11264, u⟩] concatenates_S128x2x11264_S128x1x11264_S128x3x11264_d1

/-- The convolution of width three, at the new row. -/
def conv (p : FVec Ideal S128x3x11264 .f32) (cw : FVec Ideal S4x3x11264 .f32) (cb : FVec Ideal S4x11264 .f32) : FVec Ideal S128x1x11264 .f32 :=
  addf (broadcastInDim S128x1x11264 ![0, 1, 2] bcast_S1x1x11264_S128x1x11264_0_1_2 (broadcastInDim S1x1x11264 ![2] bcast_S11264_S1x1x11264_2 (shapeCast _ (extractStridedSlice S1x11264 ![0, 0] cb slices_S4x11264_S1x11264_0_0) shapeCasts_S1x11264_S11264)))
    (addf (addf (addf (broadcastInDim S128x1x11264 ![] bcast_S_S128x1x11264 (constant S_ .f32 0x00000000#32))
      (mulf (extractStridedSlice S128x1x11264 ![0, 0, 0] p slices_S128x3x11264_S128x1x11264_0_0_0) (broadcastInDim S128x1x11264 ![0, 1, 2] bcast_S1x1x11264_S128x1x11264_0_1_2 (broadcastInDim S1x1x11264 ![2] bcast_S11264_S1x1x11264_2 (shapeCast _ (extractStridedSlice S1x1x11264 ![0, 0, 0] cw slices_S4x3x11264_S1x1x11264_0_0_0) shapeCasts_S1x1x11264_S11264)))))
      (mulf (extractStridedSlice S128x1x11264 ![0, 1, 0] p slices_S128x3x11264_S128x1x11264_0_1_0) (broadcastInDim S128x1x11264 ![0, 1, 2] bcast_S1x1x11264_S128x1x11264_0_1_2 (broadcastInDim S1x1x11264 ![2] bcast_S11264_S1x1x11264_2 (shapeCast _ (extractStridedSlice S1x1x11264 ![0, 1, 0] cw slices_S4x3x11264_S1x1x11264_0_1_0) shapeCasts_S1x1x11264_S11264)))))
      (mulf (extractStridedSlice S128x1x11264 ![0, 2, 0] p slices_S128x3x11264_S128x1x11264_0_2_0) (broadcastInDim S128x1x11264 ![0, 1, 2] bcast_S1x1x11264_S128x1x11264_0_1_2 (broadcastInDim S1x1x11264 ![2] bcast_S11264_S1x1x11264_2 (shapeCast _ (extractStridedSlice S1x1x11264 ![0, 2, 0] cw slices_S4x3x11264_S1x1x11264_0_2_0) shapeCasts_S1x1x11264_S11264)))))

/-- The gated activation: the second half of the columns gates the first. -/
def gated (v : FVec Ideal S128x1x11264 .f32) : FVec Ideal S128x5632 .bf16 :=
  truncf .bf16 (shapeCast _ (mulf (mulf (extractStridedSlice S128x1x5632 ![0, 0, 5632] v slices_S128x1x11264_S128x1x5632_0_0_5632)
      (Host.divf (broadcastInDim S128x1x5632 ![] bcast_S_S128x1x5632 (constant S_ .f32 0x3F800000#32)) (addf (broadcastInDim S128x1x5632 ![] bcast_S_S128x1x5632 (constant S_ .f32 0x3F800000#32)) (Host.exp (Host.negf (extractStridedSlice S128x1x5632 ![0, 0, 5632] v slices_S128x1x11264_S128x1x5632_0_0_5632))))))
    (extractStridedSlice S128x1x5632 ![0, 0, 0] v slices_S128x1x11264_S128x1x5632_0_0_0)) shapeCasts_S128x1x5632_S128x5632) bitsLt_bf16_f32

/-- The second of the two rows carried on. -/
def carried (p : FVec Ideal S128x3x11264 .f32) : FVec Ideal S128x11264 .f32 :=
  shapeCast _ (extractStridedSlice S128x1x11264 ![0, 1, 0] (extractStridedSlice S128x2x11264 ![0, 1, 0] p slices_S128x3x11264_S128x2x11264_0_1_0) slices_S128x2x11264_S128x1x11264_0_1_0) shapeCasts_S128x1x11264_S128x11264
/-- Its first half of the columns, … -/
def carriedV (p : FVec Ideal S128x3x11264 .f32) : FVec Ideal S128x5632 .f32 :=
  extractStridedSlice S128x5632 ![0, 0] (carried p) slices_S128x11264_S128x5632_0_0
/-- … and its second half. -/
def carriedG (p : FVec Ideal S128x3x11264 .f32) : FVec Ideal S128x5632 .f32 :=
  extractStridedSlice S128x5632 ![0, 5632] (carried p) slices_S128x11264_S128x5632_0_5632

section
variable (m : (ℓ : Loc nD τ sig) → Buf (Elt Ideal) ℓ) (ρ : Dev nD → PrngReg)

/-- The three rows of each sequence, of the arguments. -/
abbrev rows (c : Dev nD) : FVec Ideal S128x3x11264 .f32 :=
  joined (m ((c.tc : Thread nD τ).loc main_arg7)) (up (normed (m ((c.tc : Thread nD τ).loc main_arg0)) (m ((c.tc : Thread nD τ).loc main_arg1)) (m ((c.tc : Thread nD τ).loc main_arg2)) (m ((c.tc : Thread nD τ).loc main_arg3))) (m ((c.tc : Thread nD τ).loc main_arg4)))

/-- The reference's own term is the above. -/
theorem res_eq (c : Dev nD) : res_main_v62 m c = gated (conv (rows m c) (m ((c.tc : Thread nD τ).loc main_arg5)) (m ((c.tc : Thread nD τ).loc main_arg6))) := by
  unfold res_main_v62
  rfl

/-- The reference runs to its end with the three results. -/
theorem run_named : θ_run defs (onTc (τ := τ) (main (F := Ideal))) ⟨m, fun _ => 0, ρ⟩ fun r => ∀ c : Dev nD,
      r.2.mem ((c.tc : Thread nD τ).loc main_v62) = gated (conv (rows m c) (m ((c.tc : Thread nD τ).loc main_arg5)) (m ((c.tc : Thread nD τ).loc main_arg6)))
      ∧ r.2.mem ((c.tc : Thread nD τ).loc main_v63) = carriedV (rows m c)
      ∧ r.2.mem ((c.tc : Thread nD τ).loc main_v64) = carriedG (rows m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c => ⟨(h c).1.trans (res_eq m c), (h c).2.1.trans rfl, (h c).2.2.1.trans rfl, (h c).2.2.2⟩) (run m ρ)
end

theorem normed_at (x g sh sc) (b : Fin 128) (k : Fin 2048) :
    normed x g sh sc (ix3 b (0 : Fin 1) k) = normEntry (fun j => x (ix3 b (0 : Fin 1) j)) (g (ix2 (0 : Fin 4) k)) (sc (ix2 b k)) (sh (ix2 b k)) k := by
  unfold normEntry
  pointwise [normed]

theorem up_at (h w) (b : Fin 128) (n : Fin 11264) :
    up h w (ix3 b (0 : Fin 1) n) = ∑ k : Fin 2048, h (ix3 b (0 : Fin 1) k) * w (ix3 (0 : Fin 4) k n) := by
  pointwise [up]

theorem joined_old (st u) (b : Fin 128) (q : Fin 2) (n : Fin 11264) :
    joined st u (ix3 b (⟨q, by omega⟩ : Fin 3) n) = st (ix4 (0 : Fin 4) b q n) := by
  have hq : (q : ℕ) < 2 := q.isLt
  pointwise [joined]

theorem joined_new (st u) (b : Fin 128) (n : Fin 11264) :
    joined st u (ix3 b (2 : Fin 3) n) = u (ix3 b (0 : Fin 1) n) := by
  pointwise [joined]

theorem conv_at (p cw cb) (b : Fin 128) (n : Fin 11264) :
    conv p cw cb (ix3 b (0 : Fin 1) n) = convEntry (p (ix3 b (0 : Fin 3) n)) (p (ix3 b (1 : Fin 3) n)) (p (ix3 b (2 : Fin 3) n))
      (cw (ix3 (0 : Fin 4) (0 : Fin 3) n)) (cw (ix3 (0 : Fin 4) (1 : Fin 3) n)) (cw (ix3 (0 : Fin 4) (2 : Fin 3) n)) (cb (ix2 (0 : Fin 4) n)) := by
  unfold convEntry
  pointwise [conv]

theorem gated_at (v) (b : Fin 128) (n : Fin 5632) :
    gated v (ix2 b n) = gateEntry (v (ix3 b (0 : Fin 1) (⟨5632 + n, by omega⟩ : Fin 11264))) (v (ix3 b (0 : Fin 1) (⟨n, by omega⟩ : Fin 11264))) := by
  unfold gateEntry
  pointwise [gated]

theorem carriedV_at (p) (b : Fin 128) (n : Fin 5632) : carriedV p (ix2 b n) = p (ix3 b (2 : Fin 3) (⟨n, by omega⟩ : Fin 11264)) := by
  pointwise [carriedV, carried]

theorem carriedG_at (p) (b : Fin 128) (n : Fin 5632) : carriedG p (ix2 b n) = p (ix3 b (2 : Fin 3) (⟨5632 + n, by omega⟩ : Fin 11264)) := by
  pointwise [carriedG, carried]

end Cert.Reference7Ideal.Value
end
-- ==== Proof.Step.lean ====
module

public import proofs.«01_k».proof.Proof.Gen.Kernel7Ideal.Value
public import proofs.«01_k».proof.Proof.RefStep
public import Idealize.ShloMosaic.Lib.Pointwise
public import Idealize.ShloMosaic.Lib.Pipeline.ValueKit

@[expose] public section

set_option maxRecDepth 16384
noncomputable section
open Idealize.ShloMosaic Idealize.ShloMosaic.TcCoe Idealize.SL.Sem

namespace Cert.Kernel7Ideal.Value
open Cert.Kernel7Ideal Cert.Kernel7Ideal.Gen
open Cert.Reference2Ideal.Value (normEntry convEntry gateEntry)
open Cert.Reference7Ideal.Value (normed up joined conv gated carriedV carriedG normed_at up_at joined_old joined_new conv_at gated_at carriedV_at carriedG_at)
variable (m : (ℓ : Loc nD τ sig) → Buf (Elt Ideal) ℓ)

/-- The eight arguments: the sample's rows, the gain, the shift, the scale, the weights, the convolution's weights and bias, the carried rows. -/
abbrev XX (c : Dev nD) : FVec Ideal S128x1x2048 .f32 := m ((c : Thread nD τ).loc main_arg0)
abbrev GG (c : Dev nD) : FVec Ideal S4x2048 .f32 := m ((c : Thread nD τ).loc main_arg1)
abbrev SH (c : Dev nD) : FVec Ideal S128x2048 .f32 := m ((c : Thread nD τ).loc main_arg2)
abbrev SC (c : Dev nD) : FVec Ideal S128x2048 .f32 := m ((c : Thread nD τ).loc main_arg3)
abbrev WW (c : Dev nD) : FVec Ideal S4x2048x11264 .f32 := m ((c : Thread nD τ).loc main_arg4)
abbrev CW (c : Dev nD) : FVec Ideal S4x3x11264 .f32 := m ((c : Thread nD τ).loc main_arg5)
abbrev CB (c : Dev nD) : FVec Ideal S4x11264 .f32 := m ((c : Thread nD τ).loc main_arg6)
abbrev ST (c : Dev nD) : FVec Ideal S4x128x2x11264 .f32 := m ((c : Thread nD τ).loc main_arg7)

/-- The normed rows, and the three rows of each sequence. -/
abbrev HH (c : Dev nD) : FVec Ideal S128x1x2048 .f32 := normed (XX m c) (GG m c) (SH m c) (SC m c)
abbrev PP (c : Dev nD) : FVec Ideal Cert.Reference7Ideal.S128x3x11264 .f32 := joined (ST m c) (up (HH m c) (WW m c))

/-- Where a grid point's windows lie: whole arrays, … -/
theorem idxWhole : ∀ t : Fin cfg0.N,
    win0_0.index t = ![0, 0] ∧ win0_1.index t = ![0, 0] ∧ win0_2.index t = ![0, 0, 0] ∧ win0_3.index t = ![0, 0, 0] :=
  (by decide +kernel : ∀ t : Fin grid0.N, _)
/-- … tiles of the first and of the second half of the columns, … -/
theorem idxTile : ∀ t : Fin cfg0.N,
    win0_4.index t = ![0, 0, t.val] ∧ win0_5.index t = ![0, 0, 11 + t.val] ∧ win0_6.index t = ![0, t.val] ∧ win0_7.index t = ![0, 11 + t.val]
      ∧ win0_8.index t = ![0, t.val] ∧ win0_9.index t = ![0, 11 + t.val] :=
  (by decide +kernel : ∀ t : Fin grid0.N, _)
theorem idxState : ∀ t : Fin cfg0.N,
    win0_10.index t = ![0, t.val] ∧ win0_11.index t = ![0, 11 + t.val] ∧ win0_12.index t = ![0, t.val] ∧ win0_13.index t = ![0, 11 + t.val] :=
  (by decide +kernel : ∀ t : Fin grid0.N, _)
/-- … and the results' tiles. -/
theorem idxOut : ∀ t : Fin cfg0.N, win0_14.index t = ![0, t.val] ∧ win0_15.index t = ![0, t.val] ∧ win0_16.index t = ![0, t.val] :=
  (by decide +kernel : ∀ t : Fin grid0.N, _)

theorem t_lt (t : Fin cfg0.N) : t.val < 11 := t.isLt

/-- The column of a place in a grid point's tile, in the first half and in the second. -/
abbrev colV (t : Fin cfg0.N) (n : Fin 512) : Fin 11264 := ⟨512 * t.val + n, by have := t_lt t; omega⟩
abbrev colG (t : Fin cfg0.N) (n : Fin 512) : Fin 11264 := ⟨5632 + (512 * t.val + n), by have := t_lt t; omega⟩

/-- The arrays the call is given, at an index. -/
theorem x_at (c : Dev nD) (b : Fin 128) (k : Fin 2048) : V m c main_v0 (ix2 b k) = XX m c (ix3 b (0 : Fin 1) k) := by
  entry_read
  pointwise [hlo_ix]
theorem g_at (c : Dev nD) (k : Fin 2048) : V m c main_v3 (ix2 (0 : Fin 1) k) = GG m c (ix2 (0 : Fin 4) k) := by
  entry_read
  pointwise [hlo_ix]
theorem sc_at (c : Dev nD) (b : Fin 128) (k : Fin 2048) : V m c main_v4 (ix3 (0 : Fin 1) b k) = SC m c (ix2 b k) := by
  entry_read
  pointwise [hlo_ix]
theorem sh_at (c : Dev nD) (b : Fin 128) (k : Fin 2048) : V m c main_v5 (ix3 (0 : Fin 1) b k) = SH m c (ix2 b k) := by
  entry_read
  pointwise [hlo_ix]
theorem w_at (c : Dev nD) (k : Fin 2048) (n : Fin 11264) : V m c main_v6 (ix3 (0 : Fin 4) k n) = WW m c (ix3 (0 : Fin 4) k n) := by
  entry_read
  pointwise [hlo_ix]
theorem cw_at (c : Dev nD) (d : Fin 3) (n : Fin 11264) : V m c main_v8 (ix2 d n) = CW m c (ix3 (0 : Fin 4) d n) := by
  entry_read
  pointwise [hlo_ix]
theorem cb_at (c : Dev nD) (n : Fin 11264) : V m c main_v11 (ix2 (0 : Fin 1) n) = CB m c (ix2 (0 : Fin 4) n) := by
  entry_read
  pointwise [hlo_ix]
theorem s0_at (c : Dev nD) (b : Fin 128) (n : Fin 11264) : V m c main_v13 (ix2 b n) = ST m c (ix4 (0 : Fin 4) b (0 : Fin 2) n) := by
  entry_read
  pointwise [hlo_ix]
theorem s1_at (c : Dev nD) (b : Fin 128) (n : Fin 11264) : V m c main_v15 (ix2 b n) = ST m c (ix4 (0 : Fin 4) b (1 : Fin 2) n) := by
  entry_read
  pointwise [hlo_ix]

/-- A grid point's blocks, read where they lie in the arguments. -/
theorem xblock_at (c : Dev nD) (t : Fin cfg0.N) (b : Fin 128) (k : Fin 2048) : iblk m c 0 t (ix2 b k) = XX m c (ix3 b (0 : Fin 1) k) := by
  refine Eq.trans ?_ (x_at m c _ _)
  blk_ext [iblk, (idxWhole t).1]
  all_goals omega
theorem gblock_at (c : Dev nD) (t : Fin cfg0.N) (k : Fin 2048) : iblk m c 1 t (ix2 (0 : Fin 1) k) = GG m c (ix2 (0 : Fin 4) k) := by
  refine Eq.trans ?_ (g_at m c _)
  blk_ext [iblk, (idxWhole t).2.1]
  all_goals omega
theorem scblock_at (c : Dev nD) (t : Fin cfg0.N) (b : Fin 128) (k : Fin 2048) : iblk m c 2 t (ix3 (0 : Fin 1) b k) = SC m c (ix2 b k) := by
  refine Eq.trans ?_ (sc_at m c _ _)
  blk_ext [iblk, (idxWhole t).2.2.1]
  all_goals omega
theorem shblock_at (c : Dev nD) (t : Fin cfg0.N) (b : Fin 128) (k : Fin 2048) : iblk m c 3 t (ix3 (0 : Fin 1) b k) = SH m c (ix2 b k) := by
  refine Eq.trans ?_ (sh_at m c _ _)
  blk_ext [iblk, (idxWhole t).2.2.2]
  all_goals omega
theorem wvblock_at (c : Dev nD) (t : Fin cfg0.N) (k : Fin 2048) (n : Fin 512) : iblk m c 4 t (ix3 (0 : Fin 1) k n) = WW m c (ix3 (0 : Fin 4) k (colV t n)) := by
  refine Eq.trans ?_ (w_at m c _ _)
  blk_ext [iblk, (idxTile t).1]
  all_goals omega
theorem wgblock_at (c : Dev nD) (t : Fin cfg0.N) (k : Fin 2048) (n : Fin 512) : iblk m c 5 t (ix3 (0 : Fin 1) k n) = WW m c (ix3 (0 : Fin 4) k (colG t n)) := by
  refine Eq.trans ?_ (w_at m c _ _)
  blk_ext [iblk, (idxTile t).2.1]
  all_goals omega
theorem cvblock_at (c : Dev nD) (t : Fin cfg0.N) (d : Fin 3) (n : Fin 512) : iblk m c 6 t (ix2 d n) = CW m c (ix3 (0 : Fin 4) d (colV t n)) := by
  refine Eq.trans ?_ (cw_at m c _ _)
  blk_ext [iblk, (idxTile t).2.2.1]
  all_goals omega
theorem cgblock_at (c : Dev nD) (t : Fin cfg0.N) (d : Fin 3) (n : Fin 512) : iblk m c 7 t (ix2 d n) = CW m c (ix3 (0 : Fin 4) d (colG t n)) := by
  refine Eq.trans ?_ (cw_at m c _ _)
  blk_ext [iblk, (idxTile t).2.2.2.1]
  all_goals omega
theorem bvblock_at (c : Dev nD) (t : Fin cfg0.N) (n : Fin 512) : iblk m c 8 t (ix2 (0 : Fin 1) n) = CB m c (ix2 (0 : Fin 4) (colV t n)) := by
  refine Eq.trans ?_ (cb_at m c _)
  blk_ext [iblk, (idxTile t).2.2.2.2.1]
  all_goals omega
theorem bgblock_at (c : Dev nD) (t : Fin cfg0.N) (n : Fin 512) : iblk m c 9 t (ix2 (0 : Fin 1) n) = CB m c (ix2 (0 : Fin 4) (colG t n)) := by
  refine Eq.trans ?_ (cb_at m c _)
  blk_ext [iblk, (idxTile t).2.2.2.2.2]
  all_goals omega
theorem s0vblock_at (c : Dev nD) (t : Fin cfg0.N) (b : Fin 128) (n : Fin 512) : iblk m c 10 t (ix2 b n) = ST m c (ix4 (0 : Fin 4) b (0 : Fin 2) (colV t n)) := by
  refine Eq.trans ?_ (s0_at m c _ _)
  blk_ext [iblk, (idxState t).1]
  all_goals omega
theorem s0gblock_at (c : Dev nD) (t : Fin cfg0.N) (b : Fin 128) (n : Fin 512) : iblk m c 11 t (ix2 b n) = ST m c (ix4 (0 : Fin 4) b (0 : Fin 2) (colG t n)) := by
  refine Eq.trans ?_ (s0_at m c _ _)
  blk_ext [iblk, (idxState t).2.1]
  all_goals omega
theorem s1vblock_at (c : Dev nD) (t : Fin cfg0.N) (b : Fin 128) (n : Fin 512) : iblk m c 12 t (ix2 b n) = ST m c (ix4 (0 : Fin 4) b (1 : Fin 2) (colV t n)) := by
  refine Eq.trans ?_ (s1_at m c _ _)
  blk_ext [iblk, (idxState t).2.2.1]
  all_goals omega
theorem s1gblock_at (c : Dev nD) (t : Fin cfg0.N) (b : Fin 128) (n : Fin 512) : iblk m c 13 t (ix2 b n) = ST m c (ix4 (0 : Fin 4) b (1 : Fin 2) (colG t n)) := by
  refine Eq.trans ?_ (s1_at m c _ _)
  blk_ext [iblk, (idxState t).2.2.2]
  all_goals omega

/-- The normed rows, the products and the gated activation the body computes. -/
theorem pay2_at (x g sc sh) (r : Fin 128) (k : Fin 2048) :
    k0_pay2 (F := Ideal) x g sc sh (ix2 r k) = normEntry (fun j => x (ix2 r j)) (g (ix2 (0 : Fin 1) k)) (sc (ix3 (0 : Fin 1) r k)) (sh (ix3 (0 : Fin 1) r k)) k := by
  unfold normEntry
  pointwise [k0_pay2]
theorem pay3_at (S w) (r : Fin 128) (n : Fin 512) :
    k0_pay3 (F := Ideal) S w (ix2 r n) = ∑ k : Fin 2048, S (ix2 r k) * w (ix3 (0 : Fin 1) k n) := by
  pointwise [k0_pay3]
theorem pay5_at (S w) (r : Fin 128) (n : Fin 512) :
    k0_pay5 (F := Ideal) S w (ix2 r n) = ∑ k : Fin 2048, S (ix2 r k) * w (ix3 (0 : Fin 1) k n) := by
  pointwise [k0_pay5]
theorem pay4_at (S w cw cb s0 s1) (r : Fin 128) (n : Fin 512) :
    k0_pay4 (F := Ideal) S w cw cb s0 s1 (ix2 r n) = convEntry (s0 (ix2 r n)) (s1 (ix2 r n)) (k0_pay3 (F := Ideal) S w (ix2 r n))
      (cw (ix2 (0 : Fin 3) n)) (cw (ix2 (1 : Fin 3) n)) (cw (ix2 (2 : Fin 3) n)) (cb (ix2 (0 : Fin 1) n)) := by
  unfold convEntry
  pointwise [k0_pay4]
  simp only [add_assoc]
theorem pay1_at (v u cw cb s0 s1) (r : Fin 128) (n : Fin 512) :
    k0_pay1 (F := Ideal) v u cw cb s0 s1 (ix2 r n) = gateEntry (convEntry (s0 (ix2 r n)) (s1 (ix2 r n)) (u (ix2 r n))
      (cw (ix2 (0 : Fin 3) n)) (cw (ix2 (1 : Fin 3) n)) (cw (ix2 (2 : Fin 3) n)) (cb (ix2 (0 : Fin 1) n))) (v (ix2 r n)) := by
  unfold gateEntry convEntry
  pointwise [k0_pay1]
  simp only [zero_sub, add_assoc]

/-- The scratch after a point: the first point fills it, the others keep it. -/
def scratch (c : Dev nD) (t : Fin cfg0.N) : Vec Ideal S128x2048 .bf16 := (outsAt0 m c t.val t.isLt).2.2.2

theorem scratch_A (c : Dev nD) (t : Fin cfg0.N) (h : t.val % 11 = 0) :
    scratch m c t = k0_pay2 (iblk m c 0 t) (iblk m c 1 t) (iblk m c 2 t) (iblk m c 3 t) := by
  unfold scratch
  rw [outsAt0_A m c t h]
  frame_out
theorem scratch_B (c : Dev nD) (t : Fin cfg0.N) (h : ¬ t.val % 11 = 0) :
    scratch m c t = scratch m c ⟨t.val - 1, by have := t.isLt; omega⟩ := by
  unfold scratch
  rw [outsAt0_B m c t h]
  rfl

/-- What a grid point writes, of the scratch and its blocks. -/
theorem act_eq (c : Dev nD) (t : Fin cfg0.N) : (outsAt0 m c t.val t.isLt).1 =
    k0_pay1 (k0_pay4 (scratch m c t) (iblk m c 4 t) (iblk m c 6 t) (iblk m c 8 t) (iblk m c 10 t) (iblk m c 12 t)) (k0_pay5 (scratch m c t) (iblk m c 5 t))
      (iblk m c 7 t) (iblk m c 9 t) (iblk m c 11 t) (iblk m c 13 t) := by
  by_cases h : t.val % 11 = 0
  · rw [scratch_A m c t h, outsAt0_A m c t h]
    frame_out
  · rw [scratch_B m c t h, outsAt0_B m c t h]
    frame_out
    exact congrArg (fun S => k0_pay1 (F := Ideal) (k0_pay4 S (iblk m c 4 t) (iblk m c 6 t) (iblk m c 8 t) (iblk m c 10 t) (iblk m c 12 t)) (k0_pay5 S (iblk m c 5 t))
      (iblk m c 7 t) (iblk m c 9 t) (iblk m c 11 t) (iblk m c 13 t)) ((Memref.isWhole_whole _).read_unread _)
theorem uv_eq (c : Dev nD) (t : Fin cfg0.N) : (outsAt0 m c t.val t.isLt).2.1 = k0_pay3 (scratch m c t) (iblk m c 4 t) := by
  by_cases h : t.val % 11 = 0
  · rw [scratch_A m c t h, outsAt0_A m c t h]
    frame_out
  · rw [scratch_B m c t h, outsAt0_B m c t h]
    frame_out
    exact congrArg (fun S => k0_pay3 (F := Ideal) S (iblk m c 4 t)) ((Memref.isWhole_whole _).read_unread _)
theorem ug_eq (c : Dev nD) (t : Fin cfg0.N) : (outsAt0 m c t.val t.isLt).2.2.1 = k0_pay5 (scratch m c t) (iblk m c 5 t) := by
  by_cases h : t.val % 11 = 0
  · rw [scratch_A m c t h, outsAt0_A m c t h]
    frame_out
  · rw [scratch_B m c t h, outsAt0_B m c t h]
    frame_out
    exact congrArg (fun S => k0_pay5 (F := Ideal) S (iblk m c 5 t)) ((Memref.isWhole_whole _).read_unread _)

/-- A normed entry is the same of the same row and parameters. -/
theorem normEntry_congr {x x' : Fin 2048 → EReal} {g g' sc sc' sh sh' : EReal} {k : Fin 2048} (hx : ∀ j, x j = x' j) (hg : g = g') (hc : sc = sc') (hs : sh = sh') :
    normEntry x g sc sh k = normEntry x' g' sc' sh' k := by
  obtain rfl : x = x' := funext hx
  rw [hg, hc, hs]

/-- At every point the scratch is the normed rows. -/
theorem scratch_at (c : Dev nD) (r : Fin 128) (k : Fin 2048) : ∀ (n : ℕ) (h : n < cfg0.N), scratch m c ⟨n, h⟩ (ix2 r k) = HH m c (ix3 r (0 : Fin 1) k)
  | 0, h => by
    rw [scratch_A m c ⟨0, h⟩ (Nat.zero_mod _), pay2_at]
    refine Eq.trans ?_ (normed_at _ _ _ _ _ _).symm
    exact normEntry_congr (fun j => xblock_at m c _ r j) (gblock_at m c _ k) (scblock_at m c _ r k) (shblock_at m c _ r k)
  | n + 1, h => by
    have hn : n + 1 < 11 := h
    rw [scratch_B m c ⟨n + 1, h⟩ (by simp only; omega)]
    exact scratch_at c r k n (by omega)

/-- The products of a grid point are the reference's new row. -/
theorem uv_at (c : Dev nD) (t : Fin cfg0.N) (r : Fin 128) (n : Fin 512) :
    k0_pay3 (F := Ideal) (scratch m c t) (iblk m c 4 t) (ix2 r n) = PP m c (ix3 r (2 : Fin 3) (colV t n)) := by
  rw [pay3_at]
  refine Eq.trans ?_ ((joined_new _ _ _ _).trans (up_at _ _ _ _)).symm
  exact Finset.sum_congr rfl fun k _ => Ideal.mul_congr (scratch_at m c r k t.val t.isLt) (wvblock_at m c t k n)
theorem ug_at (c : Dev nD) (t : Fin cfg0.N) (r : Fin 128) (n : Fin 512) :
    k0_pay5 (F := Ideal) (scratch m c t) (iblk m c 5 t) (ix2 r n) = PP m c (ix3 r (2 : Fin 3) (colG t n)) := by
  rw [pay5_at]
  refine Eq.trans ?_ ((joined_new _ _ _ _).trans (up_at _ _ _ _)).symm
  exact Finset.sum_congr rfl fun k _ => Ideal.mul_congr (scratch_at m c r k t.val t.isLt) (wgblock_at m c t k n)

/-- A carried row is the reference's earlier row. -/
theorem old0 (c : Dev nD) (b : Fin 128) (n : Fin 11264) : ST m c (ix4 (0 : Fin 4) b (0 : Fin 2) n) = PP m c (ix3 b (0 : Fin 3) n) :=
  (joined_old (ST m c) _ b 0 n).symm
theorem old1 (c : Dev nD) (b : Fin 128) (n : Fin 11264) : ST m c (ix4 (0 : Fin 4) b (1 : Fin 2) n) = PP m c (ix3 b (1 : Fin 3) n) :=
  (joined_old (ST m c) _ b 1 n).symm

/-- A grid point's activation at an index of its tile. -/
theorem act_at (c : Dev nD) (t : Fin cfg0.N) (r : Fin 128) (n : Fin 512) (q : Fin 5632) (hq : (q : ℕ) = 512 * t.val + n) :
    (outsAt0 m c t.val t.isLt).1 (ix2 r n) = gated (conv (PP m c) (CW m c) (CB m c)) (ix2 r q) := by
  have ev : (⟨q, by omega⟩ : Fin 11264) = colV t n := Fin.ext hq
  have eg : (⟨5632 + q, by omega⟩ : Fin 11264) = colG t n := Fin.ext (by simp only; omega)
  rw [act_eq, pay1_at, pay4_at, gated_at, ev, eg, conv_at, conv_at, uv_at, ug_at, s0vblock_at, s0gblock_at, s1vblock_at, s1gblock_at,
    cvblock_at, cvblock_at, cvblock_at, cgblock_at, cgblock_at, cgblock_at, bvblock_at, bgblock_at, old0, old0, old1, old1]

/-- The three result arrays after the run are the reference's results. -/
theorem final_act (c : Dev nD) : (dats m 0 c).arrAt 14 cfg0.N = gated (conv (PP m c) (CW m c) (CB m c)) := by
  refine (dats m 0 c).arrAt_eq_of_covers 14 _ (by decide +kernel) fun t _ y => ?_
  blk_simp
  rw [after0_14]
  have ht := t_lt t
  have hy0 : (y 0 : ℕ) < 128 := (y 0).isLt
  have hy1 : (y 1 : ℕ) < 512 := (y 1).isLt
  refine (congrArg _ (eq_ix2 (n0 := 128) (n1 := 512) y)).trans ((act_at m c t ⟨y 0, hy0⟩ ⟨y 1, hy1⟩ ⟨512 * t.val + y 1, by omega⟩ rfl).trans (congrArg (gated (conv (PP m c) (CW m c) (CB m c))) (Eq.symm ?_)))
  refine (eq_ix2 (n0 := 128) (n1 := 5632) _).trans ((ix2_inj _ _ _ _).2 ⟨Fin.ext (Eq.trans ?_ (rfl : (y 0 : ℕ) = _)), Fin.ext (Eq.trans ?_ (rfl : 512 * t.val + (y 1 : ℕ) = _))⟩)
  · blk_simp [(idxOut t).1]
  · blk_simp [(idxOut t).1]
    omega
theorem final_uv (c : Dev nD) : (dats m 0 c).arrAt 15 cfg0.N = carriedV (PP m c) := by
  refine (dats m 0 c).arrAt_eq_of_covers 15 _ (by decide +kernel) fun t _ y => ?_
  blk_simp
  rw [after0_15, uv_eq]
  have ht := t_lt t
  have hy0 : (y 0 : ℕ) < 128 := (y 0).isLt
  have hy1 : (y 1 : ℕ) < 512 := (y 1).isLt
  refine (congrArg _ (eq_ix2 (n0 := 128) (n1 := 512) y)).trans ((uv_at m c t ⟨y 0, hy0⟩ ⟨y 1, hy1⟩).trans
    ((carriedV_at (PP m c) ⟨y 0, hy0⟩ ⟨512 * t.val + y 1, by omega⟩).symm.trans (congrArg (carriedV (PP m c)) (Eq.symm ?_))))
  refine (eq_ix2 (n0 := 128) (n1 := 5632) _).trans ((ix2_inj _ _ _ _).2 ⟨Fin.ext (Eq.trans ?_ (rfl : (y 0 : ℕ) = _)), Fin.ext (Eq.trans ?_ (rfl : 512 * t.val + (y 1 : ℕ) = _))⟩)
  · blk_simp [(idxOut t).2.1]
  · blk_simp [(idxOut t).2.1]
    omega
theorem final_ug (c : Dev nD) : (dats m 0 c).arrAt 16 cfg0.N = carriedG (PP m c) := by
  refine (dats m 0 c).arrAt_eq_of_covers 16 _ (by decide +kernel) fun t _ y => ?_
  blk_simp
  rw [after0_16, ug_eq]
  have ht := t_lt t
  have hy0 : (y 0 : ℕ) < 128 := (y 0).isLt
  have hy1 : (y 1 : ℕ) < 512 := (y 1).isLt
  refine (congrArg _ (eq_ix2 (n0 := 128) (n1 := 512) y)).trans ((ug_at m c t ⟨y 0, hy0⟩ ⟨y 1, hy1⟩).trans
    ((carriedG_at (PP m c) ⟨y 0, hy0⟩ ⟨512 * t.val + y 1, by omega⟩).symm.trans (congrArg (carriedG (PP m c)) (Eq.symm ?_))))
  refine (eq_ix2 (n0 := 128) (n1 := 5632) _).trans ((ix2_inj _ _ _ _).2 ⟨Fin.ext (Eq.trans ?_ (rfl : (y 0 : ℕ) = _)), Fin.ext (Eq.trans ?_ (rfl : 512 * t.val + (y 1 : ℕ) = _))⟩)
  · blk_simp [(idxOut t).2.2]
  · blk_simp [(idxOut t).2.2]
    omega

end Cert.Kernel7Ideal.Value
end
-- ==== Proof.DownStep.lean ====
module

public import proofs.«01_k».proof.Proof.Gen.Kernel8Ideal.Value
public import proofs.«01_k».proof.Proof.Gen.Reference8Ideal.Run
public import Idealize.ShloMosaic.Lib.Pointwise
public import Idealize.ShloMosaic.Lib.Pipeline.ValueKit

@[expose] public section

set_option maxRecDepth 16384
noncomputable section
open Idealize.ShloMosaic Idealize.ShloMosaic.TcCoe Idealize.SL.Sem

namespace Cert.Reference8Ideal.Value
open Cert.Reference8Ideal Cert.Reference8Ideal.Gen

/-- The sample's down projection as the reference computes it: each sequence has its own gate. -/
def down (a : FVec Ideal S128x1x5632 .f32) (x : FVec Ideal S128x1x2048 .f32) (g : FVec Ideal S128x2048 .f32) (w : FVec Ideal S4x5632x2048 .f32) : FVec Ideal S128x2048 .f32 :=
  shapeCast _ (addf x (mulf (broadcastInDim S128x1x2048 ![0, 2] bcast_S128x2048_S128x1x2048_0_2 g) (Host.dotGeneral dot_S128x1x5632_S5632x2048_S128x1x2048_2_0_01_1_n_n none a (shapeCast _ (extractStridedSlice S1x5632x2048 ![0, 0, 0] w slices_S4x5632x2048_S1x5632x2048_0_0_0) shapeCasts_S1x5632x2048_S5632x2048)))) shapeCasts_S128x1x2048_S128x2048

/-- One entry of it: sequence `b`, column `n`. -/
def entry (a : FVec Ideal S128x1x5632 .f32) (x : FVec Ideal S128x1x2048 .f32) (g : FVec Ideal S128x2048 .f32) (w : FVec Ideal S4x5632x2048 .f32)
    (b : Fin 128) (n : Fin 2048) : EReal :=
  x (ix3 b (0 : Fin 1) n) + g (ix2 b n) * ∑ k : Fin 5632, a (ix3 b (0 : Fin 1) k) * w (ix3 (0 : Fin 4) k n)

theorem down_at (a x g w) (b : Fin 128) (n : Fin 2048) : down a x g w (ix2 b n) = entry a x g w b n := by
  unfold entry
  pointwise [down]

end Cert.Reference8Ideal.Value

namespace Cert.Kernel8Ideal.Value
open Cert.Kernel8Ideal Cert.Kernel8Ideal.Gen
variable (m : (ℓ : Loc nD τ sig) → Buf (Elt Ideal) ℓ)

/-- The four arguments: the activation, the residual stream, the gate, the weights. -/
abbrev AA (c : Dev nD) : FVec Ideal S128x1x5632 .f32 := m ((c : Thread nD τ).loc main_arg0)
abbrev XX (c : Dev nD) : FVec Ideal S128x1x2048 .f32 := m ((c : Thread nD τ).loc main_arg1)
abbrev GG (c : Dev nD) : FVec Ideal S128x2048 .f32 := m ((c : Thread nD τ).loc main_arg2)
abbrev WW (c : Dev nD) : FVec Ideal S4x5632x2048 .f32 := m ((c : Thread nD τ).loc main_arg3)

/-- A grid point is a tile of columns; all its rows are there at once. -/
theorem idx : ∀ t : Fin cfg0.N,
    win0_0.index t = ![0, 0] ∧ win0_1.index t = ![0, 0, t.val] ∧ win0_2.index t = ![0, 0, t.val] ∧ win0_3.index t = ![0, t.val] ∧ win0_4.index t = ![0, t.val] :=
  (by decide +kernel : ∀ t : Fin grid0.N, _)

theorem t_lt (t : Fin cfg0.N) : t.val < 4 := t.isLt

/-- The column of a place in a grid point's tile. -/
abbrev colOf (t : Fin cfg0.N) (n : Fin 512) : Fin 2048 := ⟨512 * t.val + n, by have := t_lt t; omega⟩

/-- The four arrays the call is given, at an index. -/
theorem a_at (c : Dev nD) (b : Fin 128) (k : Fin 5632) : V m c main_v1 (ix2 b k) = AA m c (ix3 b (0 : Fin 1) k) := by
  entry_read
  pointwise [hlo_ix]
theorem w_at (c : Dev nD) (k : Fin 5632) (n : Fin 2048) : V m c main_v2 (ix3 (0 : Fin 4) k n) = WW m c (ix3 (0 : Fin 4) k n) := by
  entry_read
  pointwise [hlo_ix]
theorem g_at (c : Dev nD) (b : Fin 128) (n : Fin 2048) : V m c main_v3 (ix3 (0 : Fin 1) b n) = GG m c (ix2 b n) := by
  entry_read
  pointwise [hlo_ix]
theorem x_at (c : Dev nD) (b : Fin 128) (n : Fin 2048) : V m c main_v4 (ix2 b n) = XX m c (ix3 b (0 : Fin 1) n) := by
  entry_read
  pointwise [hlo_ix]

/-- A grid point's blocks, read where they lie in the arguments. -/
theorem ablock_at (c : Dev nD) (t : Fin cfg0.N) (b : Fin 128) (k : Fin 5632) : iblk m c 0 t (ix2 b k) = AA m c (ix3 b (0 : Fin 1) k) := by
  refine Eq.trans ?_ (a_at m c _ _)
  blk_ext [iblk, (idx t).1]
  all_goals omega
theorem wblock_at (c : Dev nD) (t : Fin cfg0.N) (k : Fin 5632) (n : Fin 512) : iblk m c 1 t (ix3 (0 : Fin 1) k n) = WW m c (ix3 (0 : Fin 4) k (colOf t n)) := by
  refine Eq.trans ?_ (w_at m c _ _)
  blk_ext [iblk, (idx t).2.1]
  all_goals omega
theorem gblock_at (c : Dev nD) (t : Fin cfg0.N) (b : Fin 128) (n : Fin 512) : iblk m c 2 t (ix3 (0 : Fin 1) b n) = GG m c (ix2 b (colOf t n)) := by
  refine Eq.trans ?_ (g_at m c _ _)
  blk_ext [iblk, (idx t).2.2.1]
  all_goals omega
theorem xblock_at (c : Dev nD) (t : Fin cfg0.N) (b : Fin 128) (n : Fin 512) : iblk m c 3 t (ix2 b n) = XX m c (ix3 b (0 : Fin 1) (colOf t n)) := by
  refine Eq.trans ?_ (x_at m c _ _)
  blk_ext [iblk, (idx t).2.2.2.1]
  all_goals omega

/-- What the body leaves at an index of its block, of the blocks it reads. -/
theorem out_at (x0 : Vec Ideal S128x5632 .bf16) (x1 : Vec Ideal S1x5632x512 .bf16) (x2 : Vec Ideal S1x128x512 .f32) (x3 : Vec Ideal S128x512 .f32) (b : Fin 128) (n : Fin 512) :
    out0_4 x0 x1 x2 x3 (ix2 b n) = x3 (ix2 b n) + x2 (ix3 (0 : Fin 1) b n) * ∑ k : Fin 5632, x0 (ix2 b k) * x1 (ix3 (0 : Fin 1) k n) := by
  frame_out [out0_4]
  pointwise [k0_pay1]

/-- Every grid point's result at an index of its block is the reference's entry. -/
theorem point (c : Dev nD) (t : Fin cfg0.N) (y : S128x512.Idx) (i : S128x2048.Idx)
    (h0 : (i 0 : ℕ) = y 0) (h1 : (i 1 : ℕ) = 512 * t.val + y 1) :
    out0_4 (iblk m c 0 t) (iblk m c 1 t) (iblk m c 2 t) (iblk m c 3 t) y = Cert.Reference8Ideal.Value.down (AA m c) (XX m c) (GG m c) (WW m c) i := by
  have hy0 : (y 0 : ℕ) < 128 := (y 0).isLt
  have hy1 : (y 1 : ℕ) < 512 := (y 1).isLt
  have ey : y = ix2 (⟨y 0, hy0⟩ : Fin 128) (⟨y 1, hy1⟩ : Fin 512) := eq_ix2 (n0 := 128) (n1 := 512) y
  have ei : i = ix2 (⟨y 0, hy0⟩ : Fin 128) (colOf t ⟨y 1, hy1⟩) :=
    (eq_ix2 (n0 := 128) (n1 := 2048) i).trans ((ix2_inj _ _ _ _).2 ⟨Fin.ext h0, Fin.ext h1⟩)
  rw [ei, Cert.Reference8Ideal.Value.down_at]
  have e := out_at (iblk m c 0 t) (iblk m c 1 t) (iblk m c 2 t) (iblk m c 3 t) ⟨y 0, hy0⟩ ⟨y 1, hy1⟩
  rw [← ey] at e
  refine e.trans ?_
  exact Ideal.add_congr (xblock_at m c t _ _) (Ideal.mul_congr (gblock_at m c t _ _)
    (Finset.sum_congr rfl fun k _ => Ideal.mul_congr (ablock_at m c t _ k) (wblock_at m c t k _)))

/-- The result array after the run is the reference's result. -/
theorem final (c : Dev nD) : (dats m 0 c).arrAt 4 cfg0.N = Cert.Reference8Ideal.Value.down (AA m c) (XX m c) (GG m c) (WW m c) := by
  refine (dats m 0 c).arrAt_eq_of_covers 4 _ (by decide +kernel) fun t _ y => ?_
  blk_simp
  rw [after0_4]
  refine point m c t y _ ?_ ?_
  · blk_simp [(idx t).2.2.2.2]
  · blk_simp [(idx t).2.2.2.2]
    omega

end Cert.Kernel8Ideal.Value
end
-- ==== Proof.RefInStep.lean ====
module

public import proofs.«01_k».proof.Proof.Gen.Reference9Ideal.Run
public import proofs.«01_k».proof.Proof.RefIn
public import proofs.«01_k».proof.Proof.RefStep
public import Idealize.ShloMosaic.Lib.Pointwise
public import Idealize.ShloMosaic.Lib.Pipeline.ValueKit

@[expose] public section

set_option maxRecDepth 16384
noncomputable section
open Idealize.ShloMosaic Idealize.ShloMosaic.TcCoe Idealize.SL.Sem

namespace Cert.Reference9Ideal.Value
open Cert.Reference9Ideal Cert.Reference9Ideal.Gen
open Cert.Reference5Ideal.Value (lay lay_sum)
open Cert.Reference7Ideal.Value (normed)

/-- The input projection of the sample's normed rows. -/
def proj (h : FVec Ideal S128x1x2048 .f32) (w : FVec Ideal S4x2048x3200 .f32) : FVec Ideal S128x1x3200 .f32 :=
  Host.dotGeneral dot_S128x1x2048_S2048x3200_S128x1x3200_2_0_01_1_n_n none h (shapeCast _ (extractStridedSlice S1x2048x3200 ![0, 0, 0] w slices_S4x2048x3200_S1x2048x3200_0_0_0) shapeCasts_S1x2048x3200_S2048x3200)

/-- Its columns in the call's order, blocks of zeros between them. -/
def laid (u : FVec Ideal S128x1x3200 .f32) : FVec Ideal S128x1x3328 .f32 :=
  (concatenate S128x1x3328 2 [⟨S128x1x512, ((extractStridedSlice S128x1x512 ![0, 0, 0] (extractStridedSlice S128x1x1984 ![0, 0, 704] u slices_S128x1x3200_S128x1x1984_0_0_704) slices_S128x1x1984_S128x1x512_0_0_0))⟩, ⟨S128x1x512, ((extractStridedSlice S128x1x512 ![0, 0, 608] (extractStridedSlice S128x1x1984 ![0, 0, 704] u slices_S128x1x3200_S128x1x1984_0_0_704) slices_S128x1x1984_S128x1x512_0_0_608))⟩, ⟨S128x1x512, ((extractStridedSlice S128x1x512 ![0, 0, 1120] (extractStridedSlice S128x1x1984 ![0, 0, 704] u slices_S128x1x3200_S128x1x1984_0_0_704) slices_S128x1x1984_S128x1x512_0_0_1120))⟩, ⟨S128x1x96, ((extractStridedSlice S128x1x96 ![0, 0, 512] (extractStridedSlice S128x1x1984 ![0, 0, 704] u slices_S128x1x3200_S128x1x1984_0_0_704) slices_S128x1x1984_S128x1x96_0_0_512))⟩, ⟨S128x1x32, ((broadcastInDim S128x1x32 ![] bcast_S_S128x1x32 (constant S_ .f32 0x00000000#32)))⟩, ⟨S128x1x96, ((extractStridedSlice S128x1x96 ![0, 0, 1632] (extractStridedSlice S128x1x1984 ![0, 0, 704] u slices_S128x1x3200_S128x1x1984_0_0_704) slices_S128x1x1984_S128x1x96_0_0_1632))⟩, ⟨S128x1x32, ((broadcastInDim S128x1x32 ![] bcast_S_S128x1x32 (constant S_ .f32 0x00000000#32)))⟩, ⟨S128x1x256, ((extractStridedSlice S128x1x256 ![0, 0, 1728] (extractStridedSlice S128x1x1984 ![0, 0, 704] u slices_S128x1x3200_S128x1x1984_0_0_704) slices_S128x1x1984_S128x1x256_0_0_1728))⟩, ⟨S128x1x512, ((extractStridedSlice S128x1x512 ![0, 0, 0] (extractStridedSlice S128x1x704 ![0, 0, 0] u slices_S128x1x3200_S128x1x704_0_0_0) slices_S128x1x704_S128x1x512_0_0_0))⟩, ⟨S128x1x512, ((extractStridedSlice S128x1x512 ![0, 0, 2688] u slices_S128x1x3200_S128x1x512_0_0_2688))⟩, ⟨S128x1x128, ((extractStridedSlice S128x1x128 ![0, 0, 512] (extractStridedSlice S128x1x704 ![0, 0, 0] u slices_S128x1x3200_S128x1x704_0_0_0) slices_S128x1x704_S128x1x128_0_0_512))⟩, ⟨S128x1x64, ((extractStridedSlice S128x1x64 ![0, 0, 640] (extractStridedSlice S128x1x704 ![0, 0, 0] u slices_S128x1x3200_S128x1x704_0_0_0) slices_S128x1x704_S128x1x64_0_0_640))⟩, ⟨S128x1x64, ((broadcastInDim S128x1x64 ![] bcast_S_S128x1x64 (constant S_ .f32 0x00000000#32)))⟩] concatenates_S128x1x512_S128x1x512_S128x1x512_S128x1x96_S128x1x32_S128x1x96_S128x1x32_S128x1x256_S128x1x512_S128x1x512_S128x1x128_S128x1x64_S128x1x64_S128x1x3328_d2)

/-- The call's result, of its arguments. -/
def projected (x : FVec Ideal S128x1x2048 .f32) (g : FVec Ideal S4x2048 .f32) (sh sc : FVec Ideal S128x2048 .f32) (w : FVec Ideal S4x2048x3200 .f32) : FVec Ideal S128x3328 .f32 :=
  shapeCast _ (laid (proj (normed x g sh sc) w)) shapeCasts_S128x1x3328_S128x3328

section
variable (m : (ℓ : Loc nD τ sig) → Buf (Elt Ideal) ℓ)
/-- The reference's own term is the above. -/
theorem res_eq (c : Dev nD) : res_main_v40 m c = projected (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  unfold res_main_v40
  rfl
end

theorem proj_at (h w) (b : Fin 128) (n : Fin 3200) :
    proj h w (ix3 b (0 : Fin 1) n) = ∑ k : Fin 2048, h (ix3 b (0 : Fin 1) k) * w (ix3 (0 : Fin 4) k n) := by
  pointwise [proj]

/-- The thirteen blocks of the row, one condition for each but the last. -/
theorem laid_at (u) (b : Fin 128) (n : Fin 3328) : laid u (ix3 b (0 : Fin 1) n) = lay (fun j => u (ix3 b (0 : Fin 1) j)) n := by
  unfold lay
  pointwise [laid]
  refine dite_congr (propext ⟨fun _ => by omega, fun _ => by omega⟩) (fun _ => rfl) fun h0 => ?_
  refine dite_congr (propext ⟨fun _ => by omega, fun _ => by omega⟩) (fun _ => congrArg (fun j => u (ix3 b (0 : Fin 1) j)) (Fin.ext (by simp only; omega))) fun h1 => ?_
  refine dite_congr (propext ⟨fun _ => by omega, fun _ => by omega⟩) (fun _ => congrArg (fun j => u (ix3 b (0 : Fin 1) j)) (Fin.ext (by simp only; omega))) fun h2 => ?_
  refine dite_congr (propext ⟨fun _ => by omega, fun _ => by omega⟩) (fun _ => congrArg (fun j => u (ix3 b (0 : Fin 1) j)) (Fin.ext (by simp only; omega))) fun h3 => ?_
  refine dite_congr (propext ⟨fun _ => by omega, fun _ => by omega⟩) (fun _ => rfl) fun h4 => ?_
  refine dite_congr (propext ⟨fun _ => by omega, fun _ => by omega⟩) (fun _ => congrArg (fun j => u (ix3 b (0 : Fin 1) j)) (Fin.ext (by simp only; omega))) fun h5 => ?_
  refine dite_congr (propext ⟨fun _ => by omega, fun _ => by omega⟩) (fun _ => rfl) fun h6 => ?_
  refine dite_congr (propext ⟨fun _ => by omega, fun _ => by omega⟩) (fun _ => congrArg (fun j => u (ix3 b (0 : Fin 1) j)) (Fin.ext (by simp only; omega))) fun h7 => ?_
  refine dite_congr (propext ⟨fun _ => by omega, fun _ => by omega⟩) (fun _ => congrArg (fun j => u (ix3 b (0 : Fin 1) j)) (Fin.ext (by simp only; omega))) fun h8 => ?_
  refine dite_congr (propext ⟨fun _ => by omega, fun _ => by omega⟩) (fun _ => congrArg (fun j => u (ix3 b (0 : Fin 1) j)) (Fin.ext (by simp only; omega))) fun h9 => ?_
  refine dite_congr (propext ⟨fun _ => by omega, fun _ => by omega⟩) (fun _ => congrArg (fun j => u (ix3 b (0 : Fin 1) j)) (Fin.ext (by simp only; omega))) fun h10 => ?_
  refine dite_congr (propext ⟨fun _ => by omega, fun _ => by omega⟩) (fun _ => congrArg (fun j => u (ix3 b (0 : Fin 1) j)) (Fin.ext (by simp only; omega))) fun h11 => ?_
  rfl

theorem projected_at (x g sh sc w) (b : Fin 128) (n : Fin 3328) :
    projected x g sh sc w (ix2 b n) = ∑ k : Fin 2048, normed x g sh sc (ix3 b (0 : Fin 1) k) * lay (fun j => w (ix3 (0 : Fin 4) k j)) n := by
  rw [lay_sum]
  simp only [← proj_at]
  rw [← laid_at]
  unfold projected
  generalize laid (proj (normed x g sh sc) w) = y
  pointwise

end Cert.Reference9Ideal.Value
end
-- ==== Proof.InStep.lean ====
module

public import proofs.«01_k».proof.Proof.Gen.Kernel9Ideal.Value
public import proofs.«01_k».proof.Proof.RefInStep
public import proofs.«01_k».proof.Proof.In
public import Idealize.ShloMosaic.Lib.Pointwise
public import Idealize.ShloMosaic.Lib.Pipeline.ValueKit

@[expose] public section

set_option maxRecDepth 16384
noncomputable section
open Idealize.ShloMosaic Idealize.ShloMosaic.TcCoe Idealize.SL.Sem

namespace Cert.Kernel9Ideal.Value
open Cert.Kernel9Ideal Cert.Kernel9Ideal.Gen
open Cert.Reference2Ideal.Value (normEntry)
open Cert.Reference5Ideal.Value (lay)
open Cert.Reference7Ideal.Value (normed normed_at)
open Cert.Reference9Ideal.Value (projected projected_at)
open Cert.Kernel5Ideal.Value (packed packed_at normEntry_congr)
variable (m : (ℓ : Loc nD τ sig) → Buf (Elt Ideal) ℓ)

/-- The five arguments: the sample's rows, the gain, the shift, the scale and the weights. -/
abbrev XX (c : Dev nD) : FVec Ideal S128x1x2048 .f32 := m ((c : Thread nD τ).loc main_arg0)
abbrev GG (c : Dev nD) : FVec Ideal S4x2048 .f32 := m ((c : Thread nD τ).loc main_arg1)
abbrev SH (c : Dev nD) : FVec Ideal S128x2048 .f32 := m ((c : Thread nD τ).loc main_arg2)
abbrev SC (c : Dev nD) : FVec Ideal S128x2048 .f32 := m ((c : Thread nD τ).loc main_arg3)
abbrev WW (c : Dev nD) : FVec Ideal S4x2048x3200 .f32 := m ((c : Thread nD τ).loc main_arg4)

/-- The normed rows. -/
abbrev HH (c : Dev nD) : FVec Ideal S128x1x2048 .f32 := normed (XX m c) (GG m c) (SH m c) (SC m c)

/-- A grid point is a tile of columns; all its rows are there at once. -/
theorem idx : ∀ t : Fin cfg0.N,
    win0_0.index t = ![0, 0] ∧ win0_1.index t = ![0, 0] ∧ win0_2.index t = ![0, 0, 0] ∧ win0_3.index t = ![0, 0, 0]
      ∧ win0_4.index t = ![0, 0, t.val] ∧ win0_5.index t = ![0, t.val] :=
  (by decide +kernel : ∀ t : Fin grid0.N, _)

theorem t_lt (t : Fin cfg0.N) : t.val < 2 := t.isLt

/-- The column of a place in a grid point's tile. -/
abbrev colOf (t : Fin cfg0.N) (n : Fin 1664) : Fin 3328 := ⟨1664 * t.val + n, by have := t_lt t; omega⟩

theorem V_w (c : Dev nD) : V m c main_v18 = (truncf .bf16 (packed (WW m c)) bitsLt_bf16_f32 : FVec Ideal S4x2048x3328 .bf16) := by
  unfold V
  after_results
  rfl

/-- The arrays the call is given, at an index. -/
theorem x_at (c : Dev nD) (b : Fin 128) (k : Fin 2048) : V m c main_v0 (ix2 b k) = XX m c (ix3 b (0 : Fin 1) k) := by
  entry_read
  pointwise [hlo_ix]
theorem g_at (c : Dev nD) (k : Fin 2048) : V m c main_v3 (ix2 (0 : Fin 1) k) = GG m c (ix2 (0 : Fin 4) k) := by
  entry_read
  pointwise [hlo_ix]
theorem sc_at (c : Dev nD) (b : Fin 128) (k : Fin 2048) : V m c main_v4 (ix3 (0 : Fin 1) b k) = SC m c (ix2 b k) := by
  entry_read
  pointwise [hlo_ix]
theorem sh_at (c : Dev nD) (b : Fin 128) (k : Fin 2048) : V m c main_v5 (ix3 (0 : Fin 1) b k) = SH m c (ix2 b k) := by
  entry_read
  pointwise [hlo_ix]
theorem w_at (c : Dev nD) (k : Fin 2048) (n : Fin 3328) : V m c main_v18 (ix3 (0 : Fin 4) k n) = lay (fun j => WW m c (ix3 (0 : Fin 4) k j)) n := by
  rw [V_w]
  exact packed_at (WW m c) 0 k n

/-- A grid point's blocks, read where they lie in the arguments. -/
theorem xblock_at (c : Dev nD) (t : Fin cfg0.N) (b : Fin 128) (k : Fin 2048) : iblk m c 0 t (ix2 b k) = XX m c (ix3 b (0 : Fin 1) k) := by
  refine Eq.trans ?_ (x_at m c _ _)
  blk_ext [iblk, (idx t).1]
  all_goals omega
theorem gblock_at (c : Dev nD) (t : Fin cfg0.N) (k : Fin 2048) : iblk m c 1 t (ix2 (0 : Fin 1) k) = GG m c (ix2 (0 : Fin 4) k) := by
  refine Eq.trans ?_ (g_at m c _)
  blk_ext [iblk, (idx t).2.1]
  all_goals omega
theorem scblock_at (c : Dev nD) (t : Fin cfg0.N) (b : Fin 128) (k : Fin 2048) : iblk m c 2 t (ix3 (0 : Fin 1) b k) = SC m c (ix2 b k) := by
  refine Eq.trans ?_ (sc_at m c _ _)
  blk_ext [iblk, (idx t).2.2.1]
  all_goals omega
theorem shblock_at (c : Dev nD) (t : Fin cfg0.N) (b : Fin 128) (k : Fin 2048) : iblk m c 3 t (ix3 (0 : Fin 1) b k) = SH m c (ix2 b k) := by
  refine Eq.trans ?_ (sh_at m c _ _)
  blk_ext [iblk, (idx t).2.2.2.1]
  all_goals omega
theorem wblock_at (c : Dev nD) (t : Fin cfg0.N) (k : Fin 2048) (n : Fin 1664) :
    iblk m c 4 t (ix3 (0 : Fin 1) k n) = lay (fun j => WW m c (ix3 (0 : Fin 4) k j)) (colOf t n) := by
  refine Eq.trans ?_ (w_at m c _ _)
  blk_ext [iblk, (idx t).2.2.2.2.1]
  all_goals omega

/-- The normed rows and the product the body computes. -/
theorem pay1_at (x g sc sh) (r : Fin 128) (k : Fin 2048) :
    k0_pay1 (F := Ideal) x g sc sh (ix2 r k) = normEntry (fun j => x (ix2 r j)) (g (ix2 (0 : Fin 1) k)) (sc (ix3 (0 : Fin 1) r k)) (sh (ix3 (0 : Fin 1) r k)) k := by
  unfold normEntry
  pointwise [k0_pay1]
theorem pay2_at (S w) (r : Fin 128) (n : Fin 1664) :
    k0_pay2 (F := Ideal) S w (ix2 r n) = ∑ k : Fin 2048, S (ix2 r k) * w (ix3 (0 : Fin 1) k n) := by
  pointwise [k0_pay2]

/-- The scratch after a point: the first fills it, the second keeps it. -/
def scratch (c : Dev nD) (t : Fin cfg0.N) : Vec Ideal S128x2048 .bf16 := (outsAt0 m c t.val t.isLt).2

theorem scratch_A (c : Dev nD) (t : Fin cfg0.N) (h : t.val % 2 = 0) :
    scratch m c t = k0_pay1 (iblk m c 0 t) (iblk m c 1 t) (iblk m c 2 t) (iblk m c 3 t) := by
  unfold scratch
  rw [outsAt0_A m c t h]
  frame_out
theorem scratch_B (c : Dev nD) (t : Fin cfg0.N) (h : ¬ t.val % 2 = 0) :
    scratch m c t = scratch m c ⟨t.val - 1, by have := t.isLt; omega⟩ := by
  unfold scratch
  rw [outsAt0_B m c t h]
  rfl

theorem out_eq (c : Dev nD) (t : Fin cfg0.N) : (outsAt0 m c t.val t.isLt).1 = k0_pay2 (scratch m c t) (iblk m c 4 t) := by
  by_cases h : t.val % 2 = 0
  · rw [scratch_A m c t h, outsAt0_A m c t h]
    frame_out
  · rw [scratch_B m c t h, outsAt0_B m c t h]
    frame_out
    exact congrArg (fun S => k0_pay2 (F := Ideal) S (iblk m c 4 t)) ((Memref.isWhole_whole _).read_unread _)

theorem scratch_first (c : Dev nD) (t : Fin cfg0.N) (h0 : t.val % 2 = 0) (b : Fin 128) (k : Fin 2048) :
    scratch m c t (ix2 b k) = HH m c (ix3 b (0 : Fin 1) k) := by
  rw [scratch_A m c t h0, pay1_at]
  refine Eq.trans ?_ (normed_at _ _ _ _ _ _).symm
  exact normEntry_congr (fun j => xblock_at m c t b j) (gblock_at m c t k) (scblock_at m c t b k) (shblock_at m c t b k)

/-- At both points the scratch is the normed rows. -/
theorem scratch_at (c : Dev nD) (t : Fin cfg0.N) (b : Fin 128) (k : Fin 2048) :
    scratch m c t (ix2 b k) = HH m c (ix3 b (0 : Fin 1) k) := by
  by_cases h0 : t.val % 2 = 0
  · exact scratch_first m c t h0 b k
  · have ht := t_lt t
    rw [scratch_B m c t h0]
    exact scratch_first m c ⟨t.val - 1, by have := t.isLt; omega⟩ (by simp only; omega) b k

/-- Every grid point's result at an index of its block is the reference's entry. -/
theorem point (c : Dev nD) (t : Fin cfg0.N) (y : S128x1664.Idx) (i : S128x3328.Idx)
    (h0 : (i 0 : ℕ) = y 0) (h1 : (i 1 : ℕ) = 1664 * t.val + y 1) :
    (outsAt0 m c t.val t.isLt).1 y = projected (XX m c) (GG m c) (SH m c) (SC m c) (WW m c) i := by
  have hy0 : (y 0 : ℕ) < 128 := (y 0).isLt
  have hy1 : (y 1 : ℕ) < 1664 := (y 1).isLt
  have ey : y = ix2 (⟨y 0, hy0⟩ : Fin 128) (⟨y 1, hy1⟩ : Fin 1664) := eq_ix2 (n0 := 128) (n1 := 1664) y
  have ei : i = ix2 (⟨y 0, hy0⟩ : Fin 128) (colOf t ⟨y 1, hy1⟩) :=
    (eq_ix2 (n0 := 128) (n1 := 3328) i).trans ((ix2_inj _ _ _ _).2 ⟨Fin.ext h0, Fin.ext h1⟩)
  rw [ei]
  refine Eq.trans ?_ (projected_at _ _ _ _ _ _ _).symm
  rw [out_eq]
  have e := pay2_at (scratch m c t) (iblk m c 4 t) ⟨y 0, hy0⟩ ⟨y 1, hy1⟩
  rw [← ey] at e
  refine e.trans ?_
  exact Finset.sum_congr rfl fun k _ => Ideal.mul_congr (scratch_at m c t _ k) (wblock_at m c t k _)

/-- The result array after the run is the reference's result. -/
theorem final (c : Dev nD) : (dats m 0 c).arrAt 5 cfg0.N = projected (XX m c) (GG m c) (SH m c) (SC m c) (WW m c) := by
  refine (dats m 0 c).arrAt_eq_of_covers 5 _ (by decide +kernel) fun t _ y => ?_
  blk_simp
  rw [after0_5]
  refine point m c t y _ ?_ ?_
  · blk_simp [(idx t).2.2.2.2.2]
  · blk_simp [(idx t).2.2.2.2.2]
    omega

end Cert.Kernel9Ideal.Value
end
-- ==== Proof.RefMlaStep.lean ====
module

public import proofs.«01_k».proof.Proof.Gen.Reference10Ideal.Run
public import proofs.«01_k».proof.Proof.RefMlaAt
public import Idealize.ShloMosaic.Lib.Pointwise
public import Idealize.ShloMosaic.Lib.Pipeline.ValueKit

@[expose] public section

set_option maxRecDepth 16384
noncomputable section
open Idealize.ShloMosaic Idealize.ShloMosaic.TcCoe Idealize.SL.Sem

namespace Cert.Reference10Ideal.Value
open Cert.Reference10Ideal Cert.Reference10Ideal.Gen
open Cert.Reference6Ideal.Value (nrm rot)

/-- The angle of each pair of lanes at the sample's position. -/
def angle : FVec Ideal S1x32 .f32 :=
  mulf (broadcastInDim S1x32 ![0, 1] bcast_S1x1_S1x32_0_1 (broadcastInDim S1x1 ![0] bcast_S1_S1x1_0 (sitofp .f32 (addi (broadcastInDim S1 ![] bcast_S_S1 (constantI S_ 32 8192#32)) (iotaInDim S1 32 0))))) (broadcastInDim S1x32 ![1] bcast_S32_S1x32_1 (Host.powf (broadcastInDim S32 ![] bcast_S_S32 (constant S_ .f32 0x461C4000#32)) (Host.divf (mulf (Host.negf (sitofp .f32 (iotaInDim S32 32 0))) (broadcastInDim S32 ![] bcast_S_S32 (constant S_ .f32 0x40000000#32))) (broadcastInDim S32 ![] bcast_S_S32 (constant S_ .f32 0x42800000#32)))))

/-- The latent of each sequence's row, normed. -/
def latent (y : FVec Ideal S128x1x128 .f32) (a3 : FVec Ideal S4x128 .f32) : FVec Ideal S128x1x128 .f32 :=
  mulf (mulf y (broadcastInDim S128x1x128 ![0, 1, 2] bcast_S128x1x1_S128x1x128_0_1_2 (Host.rsqrt (addf (Host.divf (broadcastInDim S128x1x1 ![0, 1] bcast_S128x1_S128x1x1_0_1 (Host.reduceAdd (mulf y y) (constant S_ .f32 0x00000000#32) reducesTo_S128x1x128_S128x1_d2 h_S_)) (broadcastInDim S128x1x1 ![] bcast_S_S128x1x1 (constant S_ .f32 0x43000000#32))) (broadcastInDim S128x1x1 ![] bcast_S_S128x1x1 (constant S_ .f32 0x358637BD#32)))))) (broadcastInDim S128x1x128 ![0, 1, 2] bcast_S1x1x128_S128x1x128_0_1_2 (broadcastInDim S1x1x128 ![2] bcast_S128_S1x1x128_2 (shapeCast _ (extractStridedSlice S1x128 ![0, 0] a3 slices_S4x128_S1x128_0_0) shapeCasts_S1x128_S128)))

/-- The rotary key, normed. -/
def keyNormed (y : FVec Ideal S128x1x64 .f32) (a9 : FVec Ideal S4x64 .f32) : FVec Ideal S128x1x64 .f32 :=
  mulf (mulf y (broadcastInDim S128x1x64 ![0, 1, 2] bcast_S128x1x1_S128x1x64_0_1_2 (Host.rsqrt (addf (Host.divf (broadcastInDim S128x1x1 ![0, 1] bcast_S128x1_S128x1x1_0_1 (Host.reduceAdd (mulf y y) (constant S_ .f32 0x00000000#32) reducesTo_S128x1x64_S128x1_d2 h_S_)) (broadcastInDim S128x1x1 ![] bcast_S_S128x1x1 (constant S_ .f32 0x42800000#32))) (broadcastInDim S128x1x1 ![] bcast_S_S128x1x1 (constant S_ .f32 0x358637BD#32)))))) (broadcastInDim S128x1x64 ![0, 1, 2] bcast_S1x1x64_S128x1x64_0_1_2 (broadcastInDim S1x1x64 ![2] bcast_S64_S1x1x64_2 (shapeCast _ (extractStridedSlice S1x64 ![0, 0] a9 slices_S4x64_S1x64_0_0) shapeCasts_S1x64_S64)))

/-- The rotary embedding of it. -/
def keyRotated (y : FVec Ideal S128x1x64 .f32) : FVec Ideal S128x1x64 .f32 :=
  concatenate S128x1x64 2 [⟨S128x1x32, (subf (mulf (extractStridedSlice S128x1x32 ![0, 0, 0] y slices_S128x1x64_S128x1x32_0_0_0) (broadcastInDim S128x1x32 ![0, 1, 2] bcast_S1x1x32_S128x1x32_0_1_2 (broadcastInDim S1x1x32 ![1, 2] bcast_S1x32_S1x1x32_1_2 (Host.cos angle)))) (mulf (extractStridedSlice S128x1x32 ![0, 0, 32] y slices_S128x1x64_S128x1x32_0_0_32) (broadcastInDim S128x1x32 ![0, 1, 2] bcast_S1x1x32_S128x1x32_0_1_2 (broadcastInDim S1x1x32 ![1, 2] bcast_S1x32_S1x1x32_1_2 (Host.sin angle)))))⟩, ⟨S128x1x32, (addf (mulf (extractStridedSlice S128x1x32 ![0, 0, 32] y slices_S128x1x64_S128x1x32_0_0_32) (broadcastInDim S128x1x32 ![0, 1, 2] bcast_S1x1x32_S128x1x32_0_1_2 (broadcastInDim S1x1x32 ![1, 2] bcast_S1x32_S1x1x32_1_2 (Host.cos angle)))) (mulf (extractStridedSlice S128x1x32 ![0, 0, 0] y slices_S128x1x64_S128x1x32_0_0_0) (broadcastInDim S128x1x32 ![0, 1, 2] bcast_S1x1x32_S128x1x32_0_1_2 (broadcastInDim S1x1x32 ![1, 2] bcast_S1x32_S1x1x32_1_2 (Host.sin angle)))))⟩] concatenates_S128x1x32_S128x1x32_S128x1x64_d2

/-- The parts of the input projection: the latent and the rotary key. -/
def partL (a0 : FVec Ideal S128x1x704 .f32) : FVec Ideal S128x1x128 .f32 := extractStridedSlice S128x1x128 ![0, 0, 512] a0 slices_S128x1x704_S128x1x128_0_0_512
def partR (a0 : FVec Ideal S128x1x704 .f32) : FVec Ideal S128x1x64 .f32 := extractStridedSlice S128x1x64 ![0, 0, 640] a0 slices_S128x1x704_S128x1x64_0_0_640

/-- The call's two claimed results: the latent and the rotary key, 64 lanes of zeros after it. -/
def resL (a0 : FVec Ideal S128x1x704 .f32) (a3 : FVec Ideal S4x128 .f32) : FVec Ideal S128x128 .f32 :=
  shapeCast _ (latent (partL a0) a3) shapeCasts_S128x1x128_S128x128
def resR (a0 : FVec Ideal S128x1x704 .f32) (a9 : FVec Ideal S4x64 .f32) : FVec Ideal S128x128 .f32 :=
  shapeCast _ (concatenate S128x1x128 2 [⟨S128x1x64, keyRotated (keyNormed (partR a0) a9)⟩, ⟨S128x1x64, broadcastInDim S128x1x64 ![] bcast_S_S128x1x64 (constant (F := Ideal) S_ .f32 0x00000000#32)⟩] concatenates_S128x1x64_S128x1x64_S128x1x128_d2) shapeCasts_S128x1x128_S128x128

section
variable (m : (ℓ : Loc nD τ sig) → Buf (Elt Ideal) ℓ) (ρ : Dev nD → PrngReg)
/-- The reference's results are the above. -/
theorem run_named :
    θ_run defs (onTc (τ := τ) (main (F := Ideal))) ⟨m, fun _ => 0, ρ⟩ fun r => ∀ c : Dev nD,
      r.2.mem ((c.tc : Thread nD τ).loc main_v67) = resL (m ((c.tc : Thread nD τ).loc main_arg0)) (m ((c.tc : Thread nD τ).loc main_arg3))
      ∧ r.2.mem ((c.tc : Thread nD τ).loc main_v70) = resR (m ((c.tc : Thread nD τ).loc main_arg0)) (m ((c.tc : Thread nD τ).loc main_arg9))
      ∧ (∀ b ∈ [main_arg0, main_arg1, main_arg2, main_arg3, main_arg4, main_arg5, main_arg6, main_arg7, main_arg8, main_arg9], r.2.mem ((c.tc : Thread nD τ).loc b) = m ((c.tc : Thread nD τ).loc b)) :=
  (θ_run defs _ _).mono (fun _ h c => ⟨(h c).1.trans rfl, (h c).2.1.trans rfl,
    by simpa only [List.forall_mem_cons, List.not_mem_nil, false_imp_iff, implies_true, and_true] using (h c).2.2⟩) (run m ρ)
end

theorem latent_at (y g) (b : Fin 128) (k : Fin 128) :
    latent y g (ix3 b (0 : Fin 1) k) = nrm 0x43000000#32 (fun j => y (ix3 b (0 : Fin 1) j)) (fun j => g (ix2 (0 : Fin 4) j)) k := by
  unfold nrm
  pointwise [latent]
theorem keyNormed_at (y g) (b : Fin 128) (k : Fin 64) :
    keyNormed y g (ix3 b (0 : Fin 1) k) = nrm 0x42800000#32 (fun j => y (ix3 b (0 : Fin 1) j)) (fun j => g (ix2 (0 : Fin 4) j)) k := by
  unfold nrm
  pointwise [keyNormed]
theorem keyRotated_at (y) (b : Fin 128) (d : Fin 64) :
    keyRotated y (ix3 b (0 : Fin 1) d) = rot (fun j => y (ix3 b (0 : Fin 1) j)) (fun j => (Host.cos angle : FVec Ideal S1x32 .f32) (ix2 (0 : Fin 1) j)) (fun j => (Host.sin angle : FVec Ideal S1x32 .f32) (ix2 (0 : Fin 1) j)) d := by
  unfold rot keyRotated
  generalize (Host.cos angle : FVec Ideal S1x32 .f32) = C
  generalize (Host.sin angle : FVec Ideal S1x32 .f32) = S
  pointwise
  refine dite_congr rfl (fun _ => rfl) fun h => ?_
  have e : 32 + ((d : ℕ) - 32) = d := by omega
  simp only [e]
theorem resL_at (a0 a3) (b : Fin 128) (n : Fin 128) : resL a0 a3 (ix2 b n) = latent (partL a0) a3 (ix3 b (0 : Fin 1) n) := by
  unfold resL
  generalize latent (partL a0) a3 = v
  pointwise
theorem resR_at (a0 a9) (b : Fin 128) (n : Fin 128) :
    resR a0 a9 (ix2 b n) = if h : (n : ℕ) < 64 then keyRotated (keyNormed (partR a0) a9) (ix3 b (0 : Fin 1) (⟨n, h⟩ : Fin 64)) else 0 := by
  unfold resR
  generalize keyRotated (keyNormed (partR a0) a9) = v
  pointwise
theorem partL_at (a0) (b : Fin 128) (k : Fin 128) : partL a0 (ix3 b (0 : Fin 1) k) = a0 (ix3 b (0 : Fin 1) (⟨512 + k, by omega⟩ : Fin 704)) := by
  pointwise [partL]
theorem partR_at (a0) (b : Fin 128) (k : Fin 64) : partR a0 (ix3 b (0 : Fin 1) k) = a0 (ix3 b (0 : Fin 1) (⟨640 + k, by omega⟩ : Fin 704)) := by
  pointwise [partR]

end Cert.Reference10Ideal.Value
end
-- ==== Proof.MlaStep.lean ====
module

public import proofs.«01_k».proof.Proof.Gen.Kernel10Ideal.Value
public import proofs.«01_k».proof.Proof.MlaBlk
public import proofs.«01_k».proof.Proof.RefMlaStep
public import Idealize.ShloMosaic.Lib.Pointwise
public import Idealize.ShloMosaic.Lib.Pipeline.ValueKit

@[expose] public section

set_option maxRecDepth 16384
noncomputable section
open Idealize.ShloMosaic Idealize.ShloMosaic.TcCoe Idealize.SL.Sem

namespace Cert.Kernel10Ideal.Value
open Cert.Kernel10Ideal Cert.Kernel10Ideal.Gen
open Cert.Reference6Ideal.Value (nrm rot)
open Cert.Reference10Ideal.Value (angle latent latent_at keyNormed keyNormed_at keyRotated keyRotated_at partL partL_at partR partR_at resL resL_at resR resR_at)
open Cert.Kernel6Ideal.Value (ext padded padded_at dite_step nrm_ext)
variable (m : (ℓ : Loc nD τ sig) → Buf (Elt Ideal) ℓ)

/-- The arguments the two claimed results depend on: the input projection, the latent's gain and the rotary key's. -/
abbrev A0 (c : Dev nD) : FVec Ideal S128x1x704 .f32 := m ((c : Thread nD τ).loc main_arg0)
abbrev A3 (c : Dev nD) : FVec Ideal S4x128 .f32 := m ((c : Thread nD τ).loc main_arg3)
abbrev A9 (c : Dev nD) : FVec Ideal S4x64 .f32 := m ((c : Thread nD τ).loc main_arg9)

/-- A line of operations followed by another. -/
theorem after_app (ops ops' : List (HloOp τ sig (Elt Ideal))) (W : Valuation τ sig (Elt Ideal)) :
    StableHlo.after (ops ++ ops') W = StableHlo.after ops' (StableHlo.after ops W) := by
  induction ops generalizing W with
  | nil => rfl
  | cons o os ih => exact ih _
theorem V_eq (c : Dev nD) (b) : V m c b = StableHlo.after hostOps0_4 (StableHlo.after hostOps0_3 (StableHlo.after hostOps0_2 (StableHlo.after hostOps0_1 (StableHlo.after hostOps0 (fun b => m (c, b)))))) b := by
  unfold V
  simp only [List.flatten_cons, List.flatten_nil, List.append_nil, after_app]

/-- The sample's input projection where the call's rows have it. -/
def laid (x : FVec Ideal S128x1x704 .f32) : FVec Ideal S128x1x3328 .f32 :=
  concatenate S128x1x3328 2 [⟨S128x1x2048, broadcastInDim S128x1x2048 ![] bcast_S_S128x1x2048 (constant (F := Ideal) S_ .f32 0x00000000#32)⟩, ⟨S128x1x512, extractStridedSlice S128x1x512 ![0, 0, 0] x slices_S128x1x704_S128x1x512_0_0_0⟩, ⟨S128x1x512, broadcastInDim S128x1x512 ![] bcast_S_S128x1x512 (constant (F := Ideal) S_ .f32 0x00000000#32)⟩, ⟨S128x1x192, extractStridedSlice S128x1x192 ![0, 0, 512] x slices_S128x1x704_S128x1x192_0_0_512⟩, ⟨S128x1x64, broadcastInDim S128x1x64 ![] bcast_S_S128x1x64 (constant (F := Ideal) S_ .f32 0x00000000#32)⟩] concatenates_S128x1x2048_S128x1x512_S128x1x512_S128x1x192_S128x1x64_S128x1x3328_d2
/-- Its last 256 columns: the 192 of latent and rotary key, then zeros. -/
theorem laid_at (x) (b : Fin 128) (n : Fin 3328) (hn : 3072 ≤ (n : ℕ)) : laid x (ix3 b (0 : Fin 1) n) =
    if h : (n : ℕ) < 3264 then x (ix3 b (0 : Fin 1) (⟨n - 2560, by omega⟩ : Fin 704)) else 0 := by
  pointwise [laid]
  repeat' refine dite_step (fun _ => ?_) fun _ => ?_
  all_goals symm
  repeat' refine dite_step (fun _ => ?_) fun _ => ?_
  all_goals first | omega | rfl | exact congrArg (fun j => x (ix3 b (0 : Fin 1) j)) (Fin.ext (by first | omega | rfl | (dsimp only; omega)))
theorem V_x (c : Dev nD) : V m c main_v6 = (shapeCast S128x3328 (laid (A0 m c)) shapeCasts_S128x1x3328_S128x3328 : FVec Ideal S128x3328 .f32) := by
  rw [V_eq]
  after_results
  rfl
theorem x_at (c : Dev nD) (b : Fin 128) (n : Fin 3328) : V m c main_v6 (ix2 b n) = laid (A0 m c) (ix3 b (0 : Fin 1) n) := by
  rw [V_x]
  generalize laid (A0 m c) = y
  pointwise

/-- The angle the call's tables are made of: every row at the sample's position. -/
def rowAngle : FVec Ideal S128x32 .f32 :=
  mulf (broadcastInDim S128x32 ![0, 1] bcast_S128x1_S128x32_0_1 (broadcastInDim S128x1 ![0] bcast_S128_S128x1_0 (sitofp .f32 (broadcastInDim S128 ![] bcast_S_S128 (constantI S_ 32 8192#32))))) (broadcastInDim S128x32 ![0, 1] bcast_S1x32_S128x32_0_1 (broadcastInDim S1x32 ![1] bcast_S32_S1x32_1 (Host.powf (broadcastInDim S32 ![] bcast_S_S32 (constant S_ .f32 0x461C4000#32)) (Host.divf (mulf (Host.negf (sitofp .f32 (iotaInDim S32 32 0))) (broadcastInDim S32 ![] bcast_S_S32 (constant S_ .f32 0x40000000#32))) (broadcastInDim S32 ![] bcast_S_S32 (constant S_ .f32 0x42800000#32))))))
theorem rowAngle_at (b : Fin 128) (j : Fin 32) : rowAngle (ix2 b j) = angle (ix2 (0 : Fin 1) j) := by
  pointwise [rowAngle, angle, hlo_ix]
  rw [show IntOp.addi 8192#32 0#32 = 8192#32 from by decide]
theorem cos_row (b : Fin 128) (j : Fin 32) : (Host.cos rowAngle : FVec Ideal S128x32 .f32) (ix2 b j) = (Host.cos angle : FVec Ideal Cert.Reference10Ideal.S1x32 .f32) (ix2 (0 : Fin 1) j) := by
  have h := rowAngle_at b j
  generalize rowAngle = u at h ⊢
  generalize angle = v at h ⊢
  pointwise
  rw [h]
theorem sin_row (b : Fin 128) (j : Fin 32) : (Host.sin rowAngle : FVec Ideal S128x32 .f32) (ix2 b j) = (Host.sin angle : FVec Ideal Cert.Reference10Ideal.S1x32 .f32) (ix2 (0 : Fin 1) j) := by
  have h := rowAngle_at b j
  generalize rowAngle = u at h ⊢
  generalize angle = v at h ⊢
  pointwise
  rw [h]

/-- The rotary tables: twice the 32 entries, then zeros. -/
def tables (v : FVec Ideal S128x32 .f32) : FVec Ideal S128x128 .f32 :=
  concatenate S128x128 1 [⟨S128x32, v⟩, ⟨S128x32, v⟩, ⟨S128x64, broadcastInDim S128x64 ![] bcast_S_S128x64 (constant (F := Ideal) S_ .f32 0x00000000#32)⟩] concatenates_S128x32_S128x32_S128x64_S128x128_d1
theorem tables_at (v) (b : Fin 128) (k : Fin 128) : tables v (ix2 b k) = ext (fun j => v (ix2 b (⟨(j : ℕ) % 32, by omega⟩ : Fin 32))) k := by
  unfold ext
  pointwise [tables]
  repeat' refine dite_step (fun _ => ?_) fun _ => ?_
  all_goals symm
  repeat' refine dite_step (fun _ => ?_) fun _ => ?_
  all_goals first | omega | rfl | exact congrArg (fun j => v (ix2 b j)) (Fin.ext (by first | omega | rfl | (dsimp only; omega)))
theorem V_cos (c : Dev nD) : V m c main_v25 = tables (Host.cos rowAngle) := by
  rw [V_eq]
  after_results
  rfl
theorem V_sin (c : Dev nD) : V m c main_v26 = tables (Host.sin rowAngle) := by
  rw [V_eq]
  after_results
  rfl
theorem kvg_at (c : Dev nD) (k : Fin 128) : V m c main_v58 (ix2 (0 : Fin 1) k) = A3 m c (ix2 (0 : Fin 4) k) := by
  rw [V_eq]
  entry_read
  pointwise [hlo_ix]
theorem krg_at (c : Dev nD) (k : Fin 128) : (V m c main_v70 : FVec Ideal S1x128 .f32) (ix2 (0 : Fin 1) k) = ext (fun j => A9 m c (ix2 (0 : Fin 4) j)) k := by
  rw [← padded_at, V_eq]
  after_results
  pointwise [hlo_ix]
  rfl

/-- The one grid point. -/
theorem idx : ∀ t : Fin cfg0.N,
    win0_1.index t = ![0, 24] ∧ win0_2.index t = ![0, 25] ∧ win0_3.index t = ![0, 0] ∧ win0_4.index t = ![0, 0]
      ∧ win0_7.index t = ![0, 0] ∧ win0_11.index t = ![0, 0] ∧ win0_17.index t = ![0, 0] ∧ win0_18.index t = ![0, 0] :=
  (by decide +kernel : ∀ t : Fin grid0.N, _)

/-- Its blocks, read where they lie in the arguments. -/
theorem ckv_at (c : Dev nD) (t : Fin cfg0.N) (r : Fin 128) (k : Fin 128) : iblk m c 1 t (ix2 r k) = partL (A0 m c) (ix3 r (0 : Fin 1) k) := by
  refine Eq.trans (b := V m c main_v6 (ix2 r (⟨3072 + k, by omega⟩ : Fin 3328))) ?_ ?_
  · blk_ext [iblk, (idx t).1]
    all_goals omega
  · rw [x_at, laid_at _ _ _ (by simp), dif_pos (by simp; omega), partL_at]
    exact congrArg (fun j => A0 m c (ix3 r (0 : Fin 1) j)) (Fin.ext (by dsimp only; omega))
theorem kr_at (c : Dev nD) (t : Fin cfg0.N) (r : Fin 128) (k : Fin 128) : iblk m c 2 t (ix2 r k) = ext (fun j => partR (A0 m c) (ix3 r (0 : Fin 1) j)) k := by
  refine Eq.trans (b := V m c main_v6 (ix2 r (⟨3200 + k, by omega⟩ : Fin 3328))) ?_ ?_
  · blk_ext [iblk, (idx t).2.1]
    all_goals omega
  · rw [x_at, laid_at _ _ _ (by simp; omega)]
    unfold ext
    refine dite_congr (propext ⟨fun h => by dsimp only at h; omega, fun h => by dsimp only; omega⟩) (fun h => ?_) fun _ => rfl
    refine Eq.trans ?_ (partR_at _ _ _).symm
    exact congrArg (fun j => A0 m c (ix3 r (0 : Fin 1) j)) (Fin.ext (by dsimp only; omega))
theorem cosb_at (c : Dev nD) (t : Fin cfg0.N) (r : Fin 128) (k : Fin 128) :
    k0_pay2 (F := Ideal) (iblk m c 3 t) (ix2 r k) = ext (fun j => (Host.cos angle : FVec Ideal Cert.Reference10Ideal.S1x32 .f32) (ix2 (0 : Fin 1) (⟨(j : ℕ) % 32, by omega⟩ : Fin 32))) k := by
  unfold k0_pay2
  rw [shapeCast_self]
  refine Eq.trans (b := V m c main_v25 (ix2 r k)) ?_ ?_
  · blk_ext [iblk, (idx t).2.2.1]
    all_goals omega
  · rw [V_cos, tables_at]
    simp only [cos_row]
theorem sinb_at (c : Dev nD) (t : Fin cfg0.N) (r : Fin 128) (k : Fin 128) :
    k0_pay3 (F := Ideal) (iblk m c 4 t) (ix2 r k) = ext (fun j => (Host.sin angle : FVec Ideal Cert.Reference10Ideal.S1x32 .f32) (ix2 (0 : Fin 1) (⟨(j : ℕ) % 32, by omega⟩ : Fin 32))) k := by
  unfold k0_pay3
  rw [shapeCast_self]
  refine Eq.trans (b := V m c main_v26 (ix2 r k)) ?_ ?_
  · blk_ext [iblk, (idx t).2.2.2.1]
    all_goals omega
  · rw [V_sin, tables_at]
    simp only [sin_row]
theorem kvgb_at (c : Dev nD) (t : Fin cfg0.N) (k : Fin 128) : iblk m c 7 t (ix2 (0 : Fin 1) k) = A3 m c (ix2 (0 : Fin 4) k) := by
  refine Eq.trans ?_ (kvg_at m c _)
  blk_ext [iblk, (idx t).2.2.2.2.1]
  all_goals omega
theorem krgb_at (c : Dev nD) (t : Fin cfg0.N) (k : Fin 128) : iblk m c 11 t (ix2 (0 : Fin 1) k) = ext (fun j => A9 m c (ix2 (0 : Fin 4) j)) k := by
  refine Eq.trans ?_ (krg_at m c _)
  blk_ext [iblk, (idx t).2.2.2.2.2.1]
  all_goals omega

/-- A block of 128 lanes normed by its rows, with a gain. -/
def normPiece (D : BitVec 32) (x : FVec Ideal S128x128 .f32) (g : Vec Ideal S1x128 .f32) : FVec Ideal S128x128 .f32 :=
  mulf (mulf x (broadcastTo S128x128 (rsqrt (addf (divf (shapeCast S128x1 (multiReduction .add [1] S128 (mulf x x) 0x00000000#32 reduces_S128x128_S128 (.inl rfl) rfl : FVec Ideal S128 .f32) shapeCasts_S128_S128x1 : FVec Ideal S128x1 .f32) (broadcast S128x1 (Scalar.ofBits .f32 D : Ideal .f32))) (broadcast S128x1 (Scalar.ofBits .f32 0x358637BD#32 : Ideal .f32)) : FVec Ideal S128x1 .f32)) broadcasts_S128x1_S128x128))
    (broadcastTo S128x128 (shapeCast S1x128 g shapeCasts_S1x128_S1x128) broadcasts_S1x128_S128x128)
/-- The rotary embedding of a block of 128 lanes, of which the tables keep 64. -/
def ropePiece (y C S : FVec Ideal S128x128 .f32) : FVec Ideal S128x128 .f32 :=
  addf (mulf y C) (mulf (select (cmpi .slt (iota .tc S128x128 32 [1] iota_S128x128_d1_w32) (broadcast S128x128 32#32))
    (subf (broadcast S128x128 (Scalar.ofBits .f32 0x00000000#32 : Ideal .f32)) (dynamicRotate 1 96#32 none y rotates_S128x128_d1))
    (dynamicRotate 1 32#32 none y rotates_S128x128_d1)) S)
theorem normPiece_at (D x g) (r : Fin 128) (d : Fin 128) :
    normPiece D x g (ix2 r d) = nrm D (fun j => x (ix2 r j)) (fun j => g (ix2 (0 : Fin 1) j)) d := by
  unfold nrm
  pointwise [normPiece]
theorem ropePiece_at (y C S) (r : Fin 128) (d : Fin 128) :
    ropePiece y C S (ix2 r d) = y (ix2 r d) * C (ix2 r d) + (if (d : ℕ) < 32 then 0 - y (ix2 r (⟨(d + 32) % 128, by omega⟩ : Fin 128)) else y (ix2 r (⟨(d + 96) % 128, by omega⟩ : Fin 128))) * S (ix2 r d) := by
  pointwise [ropePiece]
  have e1 : ((d : ℕ) + 128 - 96) % 128 = (d + 32) % 128 := by omega
  have e2 : ((d : ℕ) + 128 - 32) % 128 = (d + 96) % 128 := by omega
  have e3 : IntOp.cmpi CmpIPredicate.slt (BitVec.ofNat 32 (d : ℕ)) 32#32 = if (d : ℕ) < 32 then 1#1 else 0#1 := by
    revert d; decide +kernel
  simp only [e1, e2, e3]
  split <;> rfl
/-- The rotary embedding of 64 lanes and 64 zeros is that of the 64 lanes: a row of 64 lanes is a row of the prompt's block. -/
theorem rope_ext (y C S) (u : Fin 64 → EReal) (v w : Fin 32 → EReal) (r : Fin 128) (hy : ∀ d, y (ix2 r d) = ext u d)
    (hC : ∀ d, C (ix2 r d) = ext (fun j => v ⟨(j : ℕ) % 32, by omega⟩) d) (hS : ∀ d, S (ix2 r d) = ext (fun j => w ⟨(j : ℕ) % 32, by omega⟩) d) (d : Fin 128) :
    ropePiece y C S (ix2 r d) = ext (rot u v w) d := by
  have key := Cert.Kernel6Ideal.Value.rope_ext (fun i => ext u (i 1)) (fun i => ext (fun j => v ⟨(j : ℕ) % 32, by omega⟩) (i 1)) (fun i => ext (fun j => w ⟨(j : ℕ) % 32, by omega⟩) (i 1)) u v w (0 : Fin 256) (fun _ => rfl) (fun _ => rfl) (fun _ => rfl) d
  rw [Cert.Kernel6Ideal.Value.ropePiece_at] at key
  rw [ropePiece_at, hC, hS, hy, hy, hy]
  exact key

theorem pay8_at (x g) (r : Fin 128) (d : Fin 128) :
    k0_pay8 (F := Ideal) (k0_pay5 x) (k0_pay6 g) (k0_pay7 x) (ix2 r d) = nrm 0x43000000#32 (fun j => x (ix2 r j)) (fun j => g (ix2 (0 : Fin 1) j)) d := by
  unfold nrm
  pointwise [k0_pay8, k0_pay7, k0_pay6, k0_pay5]

/-- The two blocks the grid point writes: latent and rotated key. -/
theorem l_eq (c : Dev nD) (t : Fin cfg0.N) (r : Fin 128) (n : Fin 128) :
    (outsAt0 m c t).2.2.2.1 (ix2 r n) = resL (A0 m c) (A3 m c) (ix2 r n) := by
  unfold outsAt0
  dsimp only
  frame_out [out0_A_17]
  refine (pay8_at _ _ _ _).trans ?_
  rw [resL_at, latent_at]
  simp only [ckv_at, kvgb_at]
theorem rotary_at (c : Dev nD) (t : Fin cfg0.N) (r : Fin 128) (d : Fin 128) :
    ropePiece (normPiece 0x42800000#32 (shapeCast S128x128 (iblk m c 2 t) shapeCasts_S128x128_S128x128) (iblk m c 11 t)) (k0_pay2 (iblk m c 3 t)) (k0_pay3 (iblk m c 4 t)) (ix2 r d)
      = ext (fun j => keyRotated (keyNormed (partR (A0 m c)) (A9 m c)) (ix3 r (0 : Fin 1) j)) d := by
  refine Eq.trans (rope_ext _ _ _ (nrm 0x42800000#32 (fun j => partR (A0 m c) (ix3 r (0 : Fin 1) j)) (fun j => A9 m c (ix2 (0 : Fin 4) j)))
    (fun j => (Host.cos angle : FVec Ideal Cert.Reference10Ideal.S1x32 .f32) (ix2 (0 : Fin 1) j)) (fun j => (Host.sin angle : FVec Ideal Cert.Reference10Ideal.S1x32 .f32) (ix2 (0 : Fin 1) j)) r (fun d => ?_) (cosb_at m c t r) (sinb_at m c t r) d) ?_
  · have hx : ∀ d, (shapeCast S128x128 (iblk m c 2 t) shapeCasts_S128x128_S128x128 : FVec Ideal S128x128 .f32) (ix2 r d) = ext (fun j => partR (A0 m c) (ix3 r (0 : Fin 1) j)) d :=
      fun d => (congrFun (shapeCast_self _ _) _).trans (kr_at m c t r d)
    rw [normPiece_at]
    simp only [hx, krgb_at]
    exact nrm_ext _ _ _ _
  · congr 1
    funext j
    refine Eq.trans ?_ (keyRotated_at _ _ _).symm
    simp only [keyNormed_at]
theorem r_eq (c : Dev nD) (t : Fin cfg0.N) (r : Fin 128) (n : Fin 128) :
    (outsAt0 m c t).2.2.2.2 (ix2 r n) = resR (A0 m c) (A9 m c) (ix2 r n) := by
  unfold outsAt0
  dsimp only
  frame_out [out0_A_18]
  rw [resR_at]
  exact rotary_at m c t r n

/-- The two result arrays after the run are the reference's. -/
theorem final17 (c : Dev nD) : (dats m 0 c).arrAt 17 cfg0.N = resL (A0 m c) (A3 m c) := by
  refine (dats m 0 c).arrAt_eq_of_covers 17 _ (by decide +kernel) fun t _ y => ?_
  blk_simp
  rw [after0_17]
  refine (congrArg _ (eq_ix2 (n0 := 128) (n1 := 128) y)).trans ((l_eq m c t (y 0) (y 1)).trans (congrArg (resL (A0 m c) (A3 m c)) (Eq.symm ?_)))
  refine (eq_ix2 (n0 := 128) (n1 := 128) _).trans ((ix2_inj _ _ _ _).2 ⟨Fin.ext ?_, Fin.ext ?_⟩)
  · blk_simp [(idx t).2.2.2.2.2.2.1]
  · blk_simp [(idx t).2.2.2.2.2.2.1]
theorem final18 (c : Dev nD) : (dats m 0 c).arrAt 18 cfg0.N = resR (A0 m c) (A9 m c) := by
  refine (dats m 0 c).arrAt_eq_of_covers 18 _ (by decide +kernel) fun t _ y => ?_
  blk_simp
  rw [after0_18]
  refine (congrArg _ (eq_ix2 (n0 := 128) (n1 := 128) y)).trans ((r_eq m c t (y 0) (y 1)).trans (congrArg (resR (A0 m c) (A9 m c)) (Eq.symm ?_)))
  refine (eq_ix2 (n0 := 128) (n1 := 128) _).trans ((ix2_inj _ _ _ _).2 ⟨Fin.ext ?_, Fin.ext ?_⟩)
  · blk_simp [(idx t).2.2.2.2.2.2.2]
  · blk_simp [(idx t).2.2.2.2.2.2.2]

end Cert.Kernel10Ideal.Value
end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import proofs.«01_k».proof.Proof.Gen.Kernel9
public import proofs.«01_k».proof.Proof.Gen.Kernel9.Skeleton
public import proofs.«01_k».proof.Proof.Gen.Kernel9.Launch
public import proofs.«01_k».proof.Proof.Gen.Kernel9.Points
public import proofs.«01_k».proof.Proof.Gen.Kernel9.Frame
public import proofs.«01_k».proof.Proof.Gen.Kernel9Ideal
public import proofs.«01_k».proof.Proof.Gen.Kernel9Ideal.Skeleton
public import proofs.«01_k».proof.Proof.Gen.Kernel9Ideal.Launch
public import proofs.«01_k».proof.Proof.Gen.Kernel9Ideal.Points
public import proofs.«01_k».proof.Proof.Gen.Kernel9Ideal.Frame
public import proofs.«01_k».proof.Proof.Gen.Kernel9Ideal.Value
public import proofs.«01_k».proof.Proof.Gen.Reference9Ideal
public import proofs.«01_k».proof.Proof.Gen.Reference9Ideal.Run
public import proofs.«01_k».proof.Proof.Gen.Kernel10
public import proofs.«01_k».proof.Proof.Gen.Kernel10.Skeleton
public import proofs.«01_k».proof.Proof.Gen.Kernel10.Launch
public import proofs.«01_k».proof.Proof.Gen.Kernel10.Points
public import proofs.«01_k».proof.Proof.Gen.Kernel10.Frame
public import proofs.«01_k».proof.Proof.Gen.Kernel10Ideal
public import proofs.«01_k».proof.Proof.Gen.Kernel10Ideal.Skeleton
public import proofs.«01_k».proof.Proof.Gen.Kernel10Ideal.Launch
public import proofs.«01_k».proof.Proof.Gen.Kernel10Ideal.Points
public import proofs.«01_k».proof.Proof.Gen.Kernel10Ideal.Frame
public import proofs.«01_k».proof.Proof.Gen.Kernel10Ideal.Value
public import proofs.«01_k».proof.Proof.Gen.Reference10Ideal
public import proofs.«01_k».proof.Proof.Gen.Reference10Ideal.Run
public import Idealize.ShloMosaic.Adequacy
public import Idealize.ShloMosaic.Init
public import proofs.«01_k».proof.Proof.Gen.KernelIdeal.Value
public import proofs.«01_k».proof.Proof.Gen.ReferenceIdeal.Run
public import Idealize.ShloMosaic.Lib.Quiescent
public import proofs.«01_k».proof.Proof.Finite
public import proofs.«01_k».proof.Proof.Equation
public import proofs.«01_k».proof.Proof.Up
public import proofs.«01_k».proof.Proof.Down
public import proofs.«01_k».proof.Proof.Out
public import proofs.«01_k».proof.Proof.In
public import proofs.«01_k».proof.Proof.Mla
public import proofs.«01_k».proof.Proof.Step
public import proofs.«01_k».proof.Proof.DownStep
public import proofs.«01_k».proof.Proof.InStep
public import proofs.«01_k».proof.Proof.MlaStep

@[expose] public section

noncomputable section

namespace Cert.Proof

open Idealize.ShloMosaic Idealize.ShloMosaic.TcCoe Idealize.SL.Sem

/-- The reference runs to its end, its arguments unchanged and its counters at zero. -/
theorem frame_reference : Cert.quiescent_ReferenceIdeal (hReferenceIdeal := Cert.ReferenceIdeal.Gen.facts) := fun m g _ =>
  (θ_run _ _ _).mono (fun r h => ⟨fun c => (h c).2, sem_eq_zero_of_no_sems rfl r.2⟩) (Cert.ReferenceIdeal.Value.run m g)

/-- The precondition makes the queries and the keys real numbers. -/
theorem scores_real (m : (ℓ : Loc Cert.KernelIdeal.nD Cert.KernelIdeal.τ Cert.KernelIdeal.sig) → Buf (Elt Ideal) ℓ)
    (h : Cert.Pre_KernelIdeal_scores_finite (hPre_scores_finite := Cert.Pre_scores_finite.facts) m) (c : Dev Cert.KernelIdeal.nD) :
    Cert.ReferenceIdeal.Value.Finite (Cert.KernelIdeal.Value.QN m c) ∧ Cert.ReferenceIdeal.Value.Finite (Cert.KernelIdeal.Value.QR m c)
      ∧ Cert.ReferenceIdeal.Value.Finite (Cert.KernelIdeal.Value.KN m c) ∧ Cert.ReferenceIdeal.Value.Finite (Cert.KernelIdeal.Value.KR m c) := by
  obtain ⟨h0, h1, h2, h3⟩ := h c
  exact ⟨Cert.ReferenceIdeal.Value.finite_of_lt _ _ h0, Cert.ReferenceIdeal.Value.finite_of_lt _ _ h1,
    Cert.ReferenceIdeal.Value.finite_of_lt _ _ h2, Cert.ReferenceIdeal.Value.finite_of_lt _ _ h3⟩

/-- Kernel and reference compute the same attention: both end with the reference's result. -/
theorem attention : Cert.algebraic_KernelIdeal_ReferenceIdeal_pre_scores_finite (hKernelIdeal := Cert.KernelIdeal.Gen.facts)
    (hReferenceIdeal := Cert.ReferenceIdeal.Gen.facts) (hPre_scores_finite := Cert.Pre_scores_finite.facts) := by
  intro m g m' g' hpre hargs
  refine ⟨fun c => Cert.ReferenceIdeal.Value.res_main_v27 m' c, ?_, Cert.ReferenceIdeal.Value.run m' g'⟩
  refine (θ_run _ _ _).mono (fun r hr c => ⟨(hr c).1.trans ?_, (hr c).2⟩) (Cert.KernelIdeal.Value.run_blocks m g)
  obtain ⟨h0, h1, h2, h3⟩ := scores_real m hpre c
  obtain ⟨a0, a1, a2, a3, a4⟩ := hargs c
  rw [Cert.KernelIdeal.Value.final h0 h1 h2 h3]
  refine Eq.trans ?_ (Cert.ReferenceIdeal.Value.res_eq m' c).symm
  rw [a0, a1, a2, a3, a4]

/-- The references of the two FFN calls run to their ends, their arguments unchanged and their counters at zero. -/
theorem frame_reference2 : Cert.quiescent_Reference2Ideal (hReference2Ideal := Cert.Reference2Ideal.Gen.facts) := fun m g _ =>
  (θ_run _ _ _).mono (fun r h => ⟨fun c => (h c).2.2.2, sem_eq_zero_of_no_sems rfl r.2⟩) (Cert.Reference2Ideal.Value.run m g)
theorem frame_reference3 : Cert.quiescent_Reference3Ideal (hReference3Ideal := Cert.Reference3Ideal.Gen.facts) := fun m g _ =>
  (θ_run _ _ _).mono (fun r h => ⟨fun c => (h c).2, sem_eq_zero_of_no_sems rfl r.2⟩) (Cert.Reference3Ideal.Value.run m g)

/-- So do the references of the two projections around the mixers. -/
theorem frame_reference4 : Cert.quiescent_Reference4Ideal (hReference4Ideal := Cert.Reference4Ideal.Gen.facts) := fun m g _ =>
  (θ_run _ _ _).mono (fun r h => ⟨fun c => (h c).2, sem_eq_zero_of_no_sems rfl r.2⟩) (Cert.Reference4Ideal.Value.run m g)
theorem frame_reference5 : Cert.quiescent_Reference5Ideal (hReference5Ideal := Cert.Reference5Ideal.Gen.facts) := fun m g _ =>
  (θ_run _ _ _).mono (fun r h => ⟨fun c => (h c).2, sem_eq_zero_of_no_sems rfl r.2⟩) (Cert.Reference5Ideal.Value.run m g)

/-- The FFN's up call and its reference compute the same activation and the same two tails. -/
theorem ffn_up : Cert.algebraic_Kernel2Ideal_Reference2Ideal (hKernel2Ideal := Cert.Kernel2Ideal.Gen.facts) (hReference2Ideal := Cert.Reference2Ideal.Gen.facts) := by
  intro m g m' g' _ hargs
  refine ⟨_, _, _, ?_, Cert.Reference2Ideal.Value.run_named m' g'⟩
  refine (θ_run _ _ _).mono (fun r hr c => ⟨(hr c).1.trans ?_, (hr c).2.1.trans ?_, (hr c).2.2.1.trans ?_, (hr c).2.2.2⟩) (Cert.Kernel2Ideal.Value.run_blocks m g)
  all_goals
    obtain ⟨a0, a1, a2, a3, a4, a5, a6⟩ := hargs c
    have rows_eq : Cert.Reference2Ideal.Value.rows m' c = Cert.Kernel2Ideal.Value.UU m c := by
      unfold Cert.Reference2Ideal.Value.rows
      rw [a0, a1, a2, a3, a4]
  · rw [Cert.Kernel2Ideal.Value.final_act, rows_eq, a5, a6]
  · rw [Cert.Kernel2Ideal.Value.final_tailV, rows_eq]
  · rw [Cert.Kernel2Ideal.Value.final_tailG, rows_eq]

/-- The FFN's down call and its reference compute the same residual stream. -/
theorem ffn_down : Cert.algebraic_Kernel3Ideal_Reference3Ideal (hKernel3Ideal := Cert.Kernel3Ideal.Gen.facts) (hReference3Ideal := Cert.Reference3Ideal.Gen.facts) := by
  intro m g m' g' _ hargs
  refine ⟨_, ?_, Cert.Reference3Ideal.Value.run m' g'⟩
  refine (θ_run _ _ _).mono (fun r hr c => ⟨(hr c).1.trans ?_, (hr c).2⟩) (Cert.Kernel3Ideal.Value.run_blocks m g)
  obtain ⟨a0, a1, a2, a3⟩ := hargs c
  rw [Cert.Kernel3Ideal.Value.final, a0, a1, a2, a3]
  rfl

/-- The output projection's call and its reference compute the same residual stream. -/
theorem output_projection : Cert.algebraic_Kernel4Ideal_Reference4Ideal (hKernel4Ideal := Cert.Kernel4Ideal.Gen.facts) (hReference4Ideal := Cert.Reference4Ideal.Gen.facts) := by
  intro m g m' g' _ hargs
  refine ⟨_, ?_, Cert.Reference4Ideal.Value.run m' g'⟩
  refine (θ_run _ _ _).mono (fun r hr c => ⟨(hr c).1.trans ?_, (hr c).2⟩) (Cert.Kernel4Ideal.Value.run_blocks m g)
  obtain ⟨a0, a1, a2, a3, a4, a5⟩ := hargs c
  rw [Cert.Kernel4Ideal.Value.final, a0, a1, a2, a3, a4, a5]
  rfl

/-- The input projection's call and its reference compute the same projected rows. -/
theorem input_projection : Cert.algebraic_Kernel5Ideal_Reference5Ideal (hKernel5Ideal := Cert.Kernel5Ideal.Gen.facts) (hReference5Ideal := Cert.Reference5Ideal.Gen.facts) := by
  intro m g m' g' _ hargs
  refine ⟨fun c => Cert.Reference5Ideal.Value.res_main_v42 m' c, ?_, Cert.Reference5Ideal.Value.run m' g'⟩
  refine (θ_run _ _ _).mono (fun r hr c => ⟨(hr c).1.trans ?_, (hr c).2⟩) (Cert.Kernel5Ideal.Value.run_blocks m g)
  obtain ⟨a0, a1, a2, a3, a4⟩ := hargs c
  rw [Cert.Kernel5Ideal.Value.final]
  refine Eq.trans ?_ (Cert.Reference5Ideal.Value.res_eq m' c).symm
  rw [a0, a1, a2, a3, a4]

/-- The reference of the attention's projections runs to its end, its arguments unchanged and its counters at zero. -/
theorem frame_reference6 : Cert.quiescent_Reference6Ideal (hReference6Ideal := Cert.Reference6Ideal.Gen.facts) := fun m g _ =>
  (θ_run _ _ _).mono (fun r h => ⟨fun c => (h c).2.2.2.2.2, sem_eq_zero_of_no_sems rfl r.2⟩) (Cert.Reference6Ideal.Value.run m g)

/-- The call before the attention and its reference compute the same queries, keys, values, latents and rotated keys. -/
theorem mla_projection : Cert.algebraic_Kernel6Ideal_Reference6Ideal (hKernel6Ideal := Cert.Kernel6Ideal.Gen.facts) (hReference6Ideal := Cert.Reference6Ideal.Gen.facts) := by
  intro m g m' g' _ hargs
  refine ⟨_, _, _, _, _, ?_, (θ_run _ _ _).mono (fun r h c => ⟨(h c).1, (h c).2.1, (h c).2.2.1, (h c).2.2.2.1, (h c).2.2.2.2.1, ?_⟩) (Cert.Reference6Ideal.Value.run_named m' g')⟩
  · refine (θ_run _ _ _).mono (fun r hr c => ⟨(hr c).1.trans ?_, (hr c).2.1.trans ?_, (hr c).2.2.1.trans ?_, (hr c).2.2.2.1.trans ?_, (hr c).2.2.2.2.1.trans ?_, (hr c).2.2.2.2.2⟩) (Cert.Kernel6Ideal.Value.run_blocks m g)
    all_goals obtain ⟨a0, a1, a2, a3, a4, a5, a6, a7, a8, a9⟩ := hargs c
    · rw [Cert.Kernel6Ideal.Value.final14, a0, a1, a2, a6, a7]
    · rw [Cert.Kernel6Ideal.Value.final15, a0, a3, a4, a8, a9]
    · rw [Cert.Kernel6Ideal.Value.final16, a0, a3, a5]
    · rw [Cert.Kernel6Ideal.Value.final17, a0, a3]
    · rw [Cert.Kernel6Ideal.Value.final18, a0, a9]
  · simpa only [List.forall_mem_cons, List.not_mem_nil, false_imp_iff, implies_true, and_true] using (h c).2.2.2.2.2

/-- The reference of the sample's up projection runs to its end and changes no argument. -/
theorem frame_reference7 : Cert.quiescent_Reference7Ideal (hReference7Ideal := Cert.Reference7Ideal.Gen.facts) := fun m g _ =>
  (θ_run _ _ _).mono (fun r h => ⟨fun c => (h c).2.2.2, sem_eq_zero_of_no_sems rfl r.2⟩) (Cert.Reference7Ideal.Value.run m g)

/-- The sample's up call and its reference compute the same activation and the same two halves of the new row. -/
theorem ffn_up_step : Cert.algebraic_Kernel7Ideal_Reference7Ideal (hKernel7Ideal := Cert.Kernel7Ideal.Gen.facts) (hReference7Ideal := Cert.Reference7Ideal.Gen.facts) := by
  intro m g m' g' _ hargs
  refine ⟨_, _, _, ?_, Cert.Reference7Ideal.Value.run_named m' g'⟩
  refine (θ_run _ _ _).mono (fun r hr c => ⟨(hr c).1.trans ?_, (hr c).2.1.trans ?_, (hr c).2.2.1.trans ?_, (hr c).2.2.2⟩) (Cert.Kernel7Ideal.Value.run_blocks m g)
  all_goals
    obtain ⟨a0, a1, a2, a3, a4, a5, a6, a7⟩ := hargs c
    have rows_eq : Cert.Reference7Ideal.Value.rows m' c = Cert.Kernel7Ideal.Value.PP m c := by
      unfold Cert.Reference7Ideal.Value.rows
      rw [a0, a1, a2, a3, a4, a7]
  · rw [Cert.Kernel7Ideal.Value.final_act, rows_eq, a5, a6]
  · rw [Cert.Kernel7Ideal.Value.final_uv, rows_eq]
  · rw [Cert.Kernel7Ideal.Value.final_ug, rows_eq]

/-- The references of the sample's other calls run to their end and change no argument. -/
theorem frame_reference8 : Cert.quiescent_Reference8Ideal (hReference8Ideal := Cert.Reference8Ideal.Gen.facts) := fun m g _ =>
  (θ_run _ _ _).mono (fun r h => ⟨fun c => (h c).2, sem_eq_zero_of_no_sems rfl r.2⟩) (Cert.Reference8Ideal.Value.run m g)
theorem frame_reference9 : Cert.quiescent_Reference9Ideal (hReference9Ideal := Cert.Reference9Ideal.Gen.facts) := fun m g _ =>
  (θ_run _ _ _).mono (fun r h => ⟨fun c => (h c).2, sem_eq_zero_of_no_sems rfl r.2⟩) (Cert.Reference9Ideal.Value.run m g)
theorem frame_reference10 : Cert.quiescent_Reference10Ideal (hReference10Ideal := Cert.Reference10Ideal.Gen.facts) := fun m g _ =>
  (θ_run _ _ _).mono (fun r h => ⟨fun c => (h c).2.2, sem_eq_zero_of_no_sems rfl r.2⟩) (Cert.Reference10Ideal.Value.run m g)

/-- The sample's down call and its reference compute the same residual stream. -/
theorem ffn_down_step : Cert.algebraic_Kernel8Ideal_Reference8Ideal (hKernel8Ideal := Cert.Kernel8Ideal.Gen.facts) (hReference8Ideal := Cert.Reference8Ideal.Gen.facts) := by
  intro m g m' g' _ hargs
  refine ⟨_, ?_, Cert.Reference8Ideal.Value.run m' g'⟩
  refine (θ_run _ _ _).mono (fun r hr c => ⟨(hr c).1.trans ?_, (hr c).2⟩) (Cert.Kernel8Ideal.Value.run_blocks m g)
  obtain ⟨a0, a1, a2, a3⟩ := hargs c
  rw [Cert.Kernel8Ideal.Value.final, a0, a1, a2, a3]
  rfl

/-- The sample's input projection and its reference compute the same projected rows. -/
theorem input_projection_step : Cert.algebraic_Kernel9Ideal_Reference9Ideal (hKernel9Ideal := Cert.Kernel9Ideal.Gen.facts) (hReference9Ideal := Cert.Reference9Ideal.Gen.facts) := by
  intro m g m' g' _ hargs
  refine ⟨fun c => Cert.Reference9Ideal.Value.res_out0 m' c, ?_, Cert.Reference9Ideal.Value.run m' g'⟩
  refine (θ_run _ _ _).mono (fun r hr c => ⟨(hr c).1.trans ?_, (hr c).2⟩) (Cert.Kernel9Ideal.Value.run_blocks m g)
  obtain ⟨a0, a1, a2, a3, a4⟩ := hargs c
  rw [Cert.Kernel9Ideal.Value.final]
  refine Eq.trans ?_ (Cert.Reference9Ideal.Value.res_eq m' c).symm
  rw [a0, a1, a2, a3, a4]

/-- The sample's call before its attention and its reference compute the same latents and rotated keys. -/
theorem mla_projection_step : Cert.algebraic_Kernel10Ideal_Reference10Ideal (hKernel10Ideal := Cert.Kernel10Ideal.Gen.facts) (hReference10Ideal := Cert.Reference10Ideal.Gen.facts) := by
  intro m g m' g' _ hargs
  refine ⟨_, _, ?_, (θ_run _ _ _).mono (fun r h c => ⟨(h c).1, (h c).2.1, ?_⟩) (Cert.Reference10Ideal.Value.run_named m' g')⟩
  · refine (θ_run _ _ _).mono (fun r hr c => ⟨(hr c).2.2.2.1.trans ?_, (hr c).2.2.2.2.1.trans ?_, (hr c).2.2.2.2.2⟩) (Cert.Kernel10Ideal.Value.run_blocks m g)
    all_goals obtain ⟨a0, a1, a2, a3, a4, a5, a6, a7, a8, a9⟩ := hargs c
    · rw [Cert.Kernel10Ideal.Value.final17, a0, a3]
    · rw [Cert.Kernel10Ideal.Value.final18, a0, a9]
  · simpa only [List.forall_mem_cons, List.not_mem_nil, false_imp_iff, implies_true, and_true] using (h c).2.2

theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Kernel8.Gen.facts, Cert.Kernel8Ideal.Gen.facts, Cert.Reference8Ideal.Gen.facts,
    Cert.Kernel9.Gen.facts, Cert.Kernel9Ideal.Gen.facts, Cert.Reference9Ideal.Gen.facts,
    Cert.Kernel10.Gen.facts, Cert.Kernel10Ideal.Gen.facts, Cert.Reference10Ideal.Gen.facts, Cert.Pre_scores_finite.facts,
    fun m g _ => Cert.Kernel.Gen.frame m g, fun m g _ => Cert.KernelIdeal.Gen.frame m g, fun m g _ => Cert.KernelIdeal.Gen.frame m g,
    frame_reference, fun m g _ => frame_reference m g trivial,
    fun m g _ => Cert.Kernel2.Gen.frame m g, fun m g _ => Cert.Kernel2Ideal.Gen.frame m g, frame_reference2,
    fun m g _ => Cert.Kernel3.Gen.frame m g, fun m g _ => Cert.Kernel3Ideal.Gen.frame m g, frame_reference3,
    fun m g _ => Cert.Kernel4.Gen.frame m g, fun m g _ => Cert.Kernel4Ideal.Gen.frame m g, frame_reference4,
    fun m g _ => Cert.Kernel5.Gen.frame m g, fun m g _ => Cert.Kernel5Ideal.Gen.frame m g, frame_reference5,
    fun m g _ => Cert.Kernel6.Gen.frame m g, fun m g _ => Cert.Kernel6Ideal.Gen.frame m g, frame_reference6,
    fun m g _ => Cert.Kernel7.Gen.frame m g, fun m g _ => Cert.Kernel7Ideal.Gen.frame m g, frame_reference7,
    fun m g _ => Cert.Kernel8.Gen.frame m g, fun m g _ => Cert.Kernel8Ideal.Gen.frame m g, frame_reference8,
    fun m g _ => Cert.Kernel9.Gen.frame m g, fun m g _ => Cert.Kernel9Ideal.Gen.frame m g, frame_reference9,
    fun m g _ => Cert.Kernel10.Gen.frame m g, fun m g _ => Cert.Kernel10Ideal.Gen.frame m g, frame_reference10,
    trivial, attention, trivial, ffn_up, trivial, ffn_down, trivial, output_projection, trivial, input_projection, trivial, mla_projection, trivial, ffn_up_step,
    trivial, ffn_down_step, trivial, input_projection_step, trivial, mla_projection_step⟩

end Cert.Proof

end
